-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_balanced [hPre_balanced : Cert.Pre_balanced.Facts] (m : (ℓ : Loc Cert.KernelIdeal.nD Cert.KernelIdeal.τ Cert.KernelIdeal.sig) → Buf (Elt Ideal) ℓ) : Prop :=
  ∀ c : Dev Cert.KernelIdeal.nD,
    (Cert.Pre_balanced.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced [hPre_balanced : Cert.Pre_balanced.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_balanced [hKernelIdeal : Cert.KernelIdeal.Facts] [hPre_balanced : Cert.Pre_balanced.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_balanced m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_balanced [hReferenceIdeal : Cert.ReferenceIdeal.Facts] [hPre_balanced : Cert.Pre_balanced.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S4128x2x128 Cert.KernelIdeal.S4128x1x128
  ∧ IdealRules.bf16_pair.HalfStatement Cert.KernelIdeal.S8x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S512x2x128 Cert.KernelIdeal.S512x1x128
  ∧ IdealRules.bf16_pair.Statement Cert.KernelIdeal.S1024x128 Cert.KernelIdeal.S512x128

def algebraic_KernelIdeal_ReferenceIdeal_pre_balanced [hKernelIdeal : Cert.KernelIdeal.Facts] [hReferenceIdeal : Cert.ReferenceIdeal.Facts] [hPre_balanced : Cert.Pre_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_balanced m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_balanced : Cert.Pre_balanced.Facts),
    quiescent_Kernel (hKernel := hKernel) (hPre_in_range := hPre_in_range)
    ∧ quiescent_KernelIdeal (hKernelIdeal := hKernelIdeal) (hPre_in_range := hPre_in_range)
    ∧ quiescent_KernelIdeal_pre_balanced (hKernelIdeal := hKernelIdeal) (hPre_balanced := hPre_balanced)
    ∧ quiescent_ReferenceIdeal (hReferenceIdeal := hReferenceIdeal)
    ∧ quiescent_ReferenceIdeal_pre_balanced (hReferenceIdeal := hReferenceIdeal) (hPre_balanced := hPre_balanced)
    ∧ preserves_Kernel_KernelIdeal
    ∧ algebraic_KernelIdeal_ReferenceIdeal_pre_balanced (hKernelIdeal := hKernelIdeal) (hReferenceIdeal := hReferenceIdeal) (hPre_balanced := hPre_balanced)
-- ==== Pre_balanced.lean ====
abbrev S3072x1x16384 : Shape := ⟨3, ![3072, 1, 16384]⟩
abbrev S8192x18432 : Shape := ⟨2, ![8192, 18432]⟩
abbrev S128x18432 : Shape := ⟨2, ![128, 18432]⟩
abbrev S64x18432 : Shape := ⟨2, ![64, 18432]⟩
abbrev S16384 : Shape := ⟨1, ![16384]⟩
abbrev S16384x1 : Shape := ⟨2, ![16384, 1]⟩
abbrev S_ : Shape := ⟨0, ![]⟩

class Facts : Prop where
  bcast_S16384_S16384x1_0 : S16384.BroadcastsInDim S16384x1 (![0] : Fin 1 → Fin S16384x1.rank)
  bcast_S_S16384 : S_.BroadcastsInDim S16384 (![] : Fin 0 → Fin S16384.rank)
  gather_S16384_S16384x1_S16384_n_0_n_n_0_1_1_wf : GatherDims.WF S16384 S16384x1 S16384 [] [0] [] [0] [] 1 ![1]

variable [Facts]

def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def fn_argsort {F : FTy → Type} [FloatOps F] (arg0 : IVec S16384 32) : IVec S16384 32 :=
  let v0 : IVec S16384 32 := iotaInDim S16384 32 0
  let v1_0 : IVec S16384 32 := (fun x y => (Host.sort2 S16384 0 comparator_i32_i32_d0 x y).1) arg0 v0
  let v1_1 : IVec S16384 32 := (fun x y => (Host.sort2 S16384 0 comparator_i32_i32_d0 x y).2) arg0 v0
  v1_1

def fn_take {F : FTy → Type} [FloatOps F] (arg0 : IVec S16384 32) (arg1 : IVec S16384 32) : IVec S16384 32 :=
  let v0 : IVec S16384x1 32 := broadcastInDim S16384x1 ![0] bcast_S16384_S16384x1_0 arg1
  let v1 : IVec S16384 32 := (fun x i => Host.gather gather_S16384_S16384x1_S16384_n_0_n_n_0_1_1 x i) arg0 v0
  v1

def fn {F : FTy → Type} [FloatOps F] (main_arg0 : FVec F S3072x1x16384 .bf16) (main_arg1 : IVec S8192x18432 8) (main_arg2 : FVec F S128x18432 .bf16) (main_arg3 : IVec S64x18432 8) (main_arg4 : IVec S16384 32) : IVec S16384 1 :=
  let main_v0 : IVec S16384 32 := fn_argsort (F := F) main_arg4
  let main_v1 : IVec S16384 32 := fn_take (F := F) main_arg4 main_v0
  let main_v2 : IVec S16384 32 := iotaInDim S16384 32 0
  let main_c : IVec S_ 32 := constantI S_ 32 128#32
  let main_v3 : IVec S16384 32 := broadcastInDim S16384 ![] bcast_S_S16384 main_c
  let main_v4 : IVec S16384 32 := Host.divsi main_v2 main_v3
  let main_v5 : IVec S16384 1 := cmpi .eq main_v1 main_v4
  main_v5
-- ==== Pre_in_range.lean ====
abbrev S3072x1x16384 : Shape := ⟨3, ![3072, 1, 16384]⟩
abbrev S8192x18432 : Shape := ⟨2, ![8192, 18432]⟩
abbrev S128x18432 : Shape := ⟨2, ![128, 18432]⟩
abbrev S64x18432 : Shape := ⟨2, ![64, 18432]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S3072x1x16384 .bf16) (main_arg1 : IVec S8192x18432 8) (main_arg2 : FVec F S128x18432 .bf16) (main_arg3 : IVec S64x18432 8) (main_arg4 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg4 main_v0
  let main_c_0 : IVec S_ 32 := constantI S_ 32 128#32
  let main_v2 : IVec S16384 32 := broadcastInDim S16384 ![] bcast_S_S16384 main_c_0
  let main_v3 : IVec S16384 1 := cmpi .slt main_arg4 main_v2
  let main_v4 : IVec S16384 1 := andi main_v1 main_v3
  main_v4
-- ==== Kernel.lean ====
abbrev S3072x1x16384 : Shape := ⟨3, ![3072, 1, 16384]⟩
abbrev S8192x18432 : Shape := ⟨2, ![8192, 18432]⟩
abbrev S128x18432 : Shape := ⟨2, ![128, 18432]⟩
abbrev S64x18432 : Shape := ⟨2, ![64, 18432]⟩
abbrev S16384 : Shape := ⟨1, ![16384]⟩
abbrev S3072x16384 : Shape := ⟨2, ![3072, 16384]⟩
abbrev S256x32x144x128 : Shape := ⟨4, ![256, 32, 144, 128]⟩
abbrev S256x144x32x128 : Shape := ⟨4, ![256, 144, 32, 128]⟩
abbrev S_ : Shape := ⟨0, ![]⟩
abbrev S128x18x8x128 : Shape := ⟨4, ![128, 18, 8, 128]⟩
abbrev S3072x18432 : Shape := ⟨2, ![3072, 18432]⟩
abbrev S18x3072x8 : Shape := ⟨3, ![18, 3072, 8]⟩
abbrev S3072x1024 : Shape := ⟨2, ![3072, 1024]⟩
abbrev S16x8x32x128 : Shape := ⟨4, ![16, 8, 32, 128]⟩
abbrev S128x1x8x128 : Shape := ⟨4, ![128, 1, 8, 128]⟩
abbrev S1x3072x8 : Shape := ⟨3, ![1, 3072, 8]⟩
abbrev S4128x128 : Shape := ⟨2, ![4128, 128]⟩
abbrev S1x8x32x128 : Shape := ⟨4, ![1, 8, 32, 128]⟩
abbrev S8x32x128 : Shape := ⟨3, ![8, 32, 128]⟩
abbrev S8x8x128 : Shape := ⟨3, ![8, 8, 128]⟩
abbrev S8x1x128 : Shape := ⟨3, ![8, 1, 128]⟩
abbrev S8x128 : Shape := ⟨2, ![8, 128]⟩
abbrev S1 : Shape := ⟨1, ![1]⟩
abbrev S1x1x8x128 : Shape := ⟨4, ![1, 1, 8, 128]⟩
abbrev S16x128 : Shape := ⟨2, ![16, 128]⟩
abbrev S3644x128 : Shape := ⟨2, ![3644, 128]⟩
abbrev S512x128 : Shape := ⟨2, ![512, 128]⟩
abbrev S1024x128 : Shape := ⟨2, ![1024, 128]⟩
abbrev S1024x256 : Shape := ⟨2, ![1024, 256]⟩
abbrev S1024x1024 : Shape := ⟨2, ![1024, 1024]⟩
abbrev S256x128 : Shape := ⟨2, ![256, 128]⟩
abbrev S256 : Shape := ⟨1, ![256]⟩
abbrev S256x1 : Shape := ⟨2, ![256, 1]⟩
abbrev S256x8 : Shape := ⟨2, ![256, 8]⟩
abbrev S1x256x8 : Shape := ⟨3, ![1, 256, 8]⟩

abbrev nBuf : Space → Nat
  | .hbm => 23
  | .vmem => 14
  | .smem => 1
  | _ => 0

abbrev bufTy : (tb : Table) → Fin (tcTables nBuf tb) → BufTy
  | .hbm, ⟨0, _⟩ => ⟨S3072x1x16384, .bf16⟩
  | .hbm, ⟨1, _⟩ => ⟨S8192x18432, .i8⟩
  | .hbm, ⟨2, _⟩ => ⟨S128x18432, .bf16⟩
  | .hbm, ⟨3, _⟩ => ⟨S64x18432, .i8⟩
  | .hbm, ⟨4, _⟩ => ⟨S3072x16384, .bf16⟩
  | .hbm, ⟨5, _⟩ => ⟨S256x32x144x128, .i8⟩
  | .hbm, ⟨6, _⟩ => ⟨S256x144x32x128, .i8⟩
  | .hbm, ⟨7, _⟩ => ⟨S64x18432, .i32⟩
  | .hbm, ⟨8, _⟩ => ⟨S_, .i32⟩
  | .hbm, ⟨9, _⟩ => ⟨S64x18432, .i32⟩
  | .hbm, ⟨10, _⟩ => ⟨S64x18432, .i32⟩
  | .hbm, ⟨11, _⟩ => ⟨S_, .i32⟩
  | .hbm, ⟨12, _⟩ => ⟨S64x18432, .i32⟩
  | .hbm, ⟨13, _⟩ => ⟨S64x18432, .i32⟩
  | .hbm, ⟨14, _⟩ => ⟨S128x18432, .i32⟩
  | .hbm, ⟨15, _⟩ => ⟨S128x18432, .bf16⟩
  | .hbm, ⟨16, _⟩ => ⟨S_, .bf16⟩
  | .hbm, ⟨17, _⟩ => ⟨S128x18432, .bf16⟩
  | .hbm, ⟨18, _⟩ => ⟨S128x18432, .bf16⟩
  | .hbm, ⟨19, _⟩ => ⟨S128x18x8x128, .bf16⟩
  | .hbm, ⟨20, _⟩ => ⟨S128x18x8x128, .bf16⟩
  | .hbm, ⟨21, _⟩ => ⟨S3072x18432, .fp8e4m3⟩
  | .hbm, ⟨22, _⟩ => ⟨S18x3072x8, .f32⟩
  | .local _ .vmem, ⟨0, _⟩ => ⟨S3072x1024, .bf16⟩
  | .local _ .vmem, ⟨1, _⟩ => ⟨S3072x1024, .bf16⟩
  | .local _ .vmem, ⟨2, _⟩ => ⟨S16x8x32x128, .i8⟩
  | .local _ .vmem, ⟨3, _⟩ => ⟨S16x8x32x128, .i8⟩
  | .local _ .vmem, ⟨4, _⟩ => ⟨S128x1x8x128, .bf16⟩
  | .local _ .vmem, ⟨5, _⟩ => ⟨S128x1x8x128, .bf16⟩
  | .local _ .vmem, ⟨6, _⟩ => ⟨S128x1x8x128, .bf16⟩
  | .local _ .vmem, ⟨7, _⟩ => ⟨S128x1x8x128, .bf16⟩
  | .local _ .vmem, ⟨8, _⟩ => ⟨S3072x1024, .fp8e4m3⟩
  | .local _ .vmem, ⟨9, _⟩ => ⟨S3072x1024, .fp8e4m3⟩
  | .local _ .vmem, ⟨10, _⟩ => ⟨S1x3072x8, .f32⟩
  | .local _ .vmem, ⟨11, _⟩ => ⟨S1x3072x8, .f32⟩
  | .local _ .vmem, ⟨12, _⟩ => ⟨S3072x1024, .f32⟩
  | .local _ .vmem, ⟨13, _⟩ => ⟨S4128x128, .i32⟩
  | .local _ .smem, ⟨0, _⟩ => ⟨S16384, .i32⟩
  | _, _ => ⟨S3072x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![18, 16], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_i32 : BitVec 32 := 0#32
  let c1_i32 : BitVec 32 := 1#32
  let arg11 : BitVec 32 := Scf.iv c0_i32 c1_i32 k0_t1
  let v132 : Index := Scalar.indexCast arg11
  let c0_91 : Index := 0#32
  let c0_92 : Index := 0#32
  let c0_93 : Index := 0#32
  ![v132.toNat, 0, 0, 0]
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  v136
def k0_off2 (i : grid0.Coords) (k0_t1 : Fin k0_t1_loop.trips) : Fin 1 → Nat :=
  let arg1 : BitVec 32 := BitVec.ofNat 32 (i 1).val
  let c1024_i32 : BitVec 32 := 1024#32
  let v143 : BitVec 32 := Scalar.muli arg1 c1024_i32
  let c2_i32 : BitVec 32 := 2#32
  let c0_i32 : BitVec 32 := 0#32
  let c1_i32 : BitVec 32 := 1#32
  let arg11 : BitVec 32 := Scf.iv c0_i32 c1_i32 k0_t1
  let c32_i32_94 : BitVec 32 := 32#32
  let v140 : BitVec 32 := Scalar.muli arg11 c32_i32_94
  let c0_i32_95 : BitVec 32 := 0#32
  let v141 : BitVec 32 := Scalar.addi v140 c0_i32_95
  let c0_i32_96 : BitVec 32 := 0#32
  let v142 : BitVec 32 := Scalar.addi v141 c0_i32_96
  let v144 : BitVec 32 := Scalar.muli c2_i32 v142
  let v145 : BitVec 32 := Scalar.addi v143 v144
  let v146 : Index := Scalar.indexCast v145
  ![v146.toNat]
def k0_off3 (i : grid0.Coords) (k0_t1 : Fin k0_t1_loop.trips) : Fin 1 → Nat :=
  let arg1 : BitVec 32 := BitVec.ofNat 32 (i 1).val
  let c1024_i32_97 : BitVec 32 := 1024#32
  let v148 : BitVec 32 := Scalar.muli arg1 c1024_i32_97
  let c2_i32_98 : BitVec 32 := 2#32
  let c0_i32 : BitVec 32 := 0#32
  let c1_i32 : BitVec 32 := 1#32
  let arg11 : BitVec 32 := Scf.iv c0_i32 c1_i32 k0_t1
  let c32_i32_94 : BitVec 32 := 32#32
  let v140 : BitVec 32 := Scalar.muli arg11 c32_i32_94
  let c0_i32_95 : BitVec 32 := 0#32
  let v141 : BitVec 32 := Scalar.addi v140 c0_i32_95
  let c0_i32_96 : BitVec 32 := 0#32
  let v142 : BitVec 32 := Scalar.addi v141 c0_i32_96
  let v149 : BitVec 32 := Scalar.muli c2_i32_98 v142
  let v150 : BitVec 32 := Scalar.addi v148 v149
  let c1_i32_99 : BitVec 32 := 1#32
  let v151 : BitVec 32 := Scalar.addi v150 c1_i32_99
  let v152 : Index := Scalar.indexCast v151
  ![v152.toNat]
def k0_off4 (v147 : BitVec 32) : Fin 4 → Nat :=
  let v165 : Index := Scalar.indexCast v147
  let c0_102 : Index := 0#32
  let c0_103 : Index := 0#32
  let c0_104 : Index := 0#32
  ![v165.toNat, 0, 0, 0]

def k0_off5 (v153 : BitVec 32) : Fin 4 → Nat :=
  let v170 : Index := Scalar.indexCast v153
  let c0_105 : Index := 0#32
  let c0_106 : Index := 0#32
  let c0_107 : Index := 0#32
  ![v170.toNat, 0, 0, 0]

def k0_chk2 (v153 : BitVec 32) : Prop :=
  (∀ a, (k0_off5 v153) a + S1x1x8x128.size a ≤ S128x1x8x128.size a)
theorem k0_off5_inb : ∀ (v153 : BitVec 32) (k0_hw2 : k0_chk2 v153), ∀ a, (k0_off5 v153) a + S1x1x8x128.size a ≤ S128x1x8x128.size a := fun v153 k0_hw2 => k0_hw2

def k0_off6 (v147 : BitVec 32) : Fin 4 → Nat :=
  let v178 : Index := Scalar.indexCast v147
  let c0_109 : Index := 0#32
  let c0_110 : Index := 0#32
  let c0_111 : Index := 0#32
  ![v178.toNat, 0, 0, 0]

def k0_chk1 (v147 : BitVec 32) : Prop :=
  (∀ a, (k0_off4 v147) a + S1x1x8x128.size a ≤ S128x1x8x128.size a) ∧
  (∀ a, (k0_off6 v147) a + S1x1x8x128.size a ≤ S128x1x8x128.size a)
theorem k0_off4_inb : ∀ (v147 : BitVec 32) (k0_hw1 : k0_chk1 v147), ∀ a, (k0_off4 v147) a + S1x1x8x128.size a ≤ S128x1x8x128.size a := fun v147 k0_hw1 => k0_hw1.1
theorem k0_off6_inb : ∀ (v147 : BitVec 32) (k0_hw1 : k0_chk1 v147), ∀ a, (k0_off6 v147) a + S1x1x8x128.size a ≤ S128x1x8x128.size a := fun v147 k0_hw1 => k0_hw1.2

def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_116 : BitVec 32 := 0#32
  ![v137.toNat, 0]
def k0_off8 (i : grid0.Coords) (k0_t1 : Fin k0_t1_loop.trips) : Fin 1 → Nat :=
  let arg1 : BitVec 32 := BitVec.ofNat 32 (i 1).val
  let c1024_i32_122 : BitVec 32 := 1024#32
  let v204 : BitVec 32 := Scalar.muli arg1 c1024_i32_122
  let c2_i32_123 : BitVec 32 := 2#32
  let c0_i32 : BitVec 32 := 0#32
  let c1_i32 : BitVec 32 := 1#32
  let arg11 : BitVec 32 := Scf.iv c0_i32 c1_i32 k0_t1
  let c32_i32_119 : BitVec 32 := 32#32
  let v201 : BitVec 32 := Scalar.muli arg11 c32_i32_119
  let c0_i32_120 : BitVec 32 := 0#32
  let v202 : BitVec 32 := Scalar.addi v201 c0_i32_120
  let c1_i32_121 : BitVec 32 := 1#32
  let v203 : BitVec 32 := Scalar.addi v202 c1_i32_121
  let v205 : BitVec 32 := Scalar.muli c2_i32_123 v203
  let v206 : BitVec 32 := Scalar.addi v204 v205
  let v207 : Index := Scalar.indexCast v206
  ![v207.toNat]
def k0_off9 (i : grid0.Coords) (k0_t1 : Fin k0_t1_loop.trips) : Fin 1 → Nat :=
  let arg1 : BitVec 32 := BitVec.ofNat 32 (i 1).val
  let c1024_i32_124 : BitVec 32 := 1024#32
  let v209 : BitVec 32 := Scalar.muli arg1 c1024_i32_124
  let c2_i32_125 : BitVec 32 := 2#32
  let c0_i32 : BitVec 32 := 0#32
  let c1_i32 : BitVec 32 := 1#32
  let arg11 : BitVec 32 := Scf.iv c0_i32 c1_i32 k0_t1
  let c32_i32_119 : BitVec 32 := 32#32
  let v201 : BitVec 32 := Scalar.muli arg11 c32_i32_119
  let c0_i32_120 : BitVec 32 := 0#32
  let v202 : BitVec 32 := Scalar.addi v201 c0_i32_120
  let c1_i32_121 : BitVec 32 := 1#32
  let v203 : BitVec 32 := Scalar.addi v202 c1_i32_121
  let v210 : BitVec 32 := Scalar.muli c2_i32_125 v203
  let v211 : BitVec 32 := Scalar.addi v209 v210
  let c1_i32_126 : BitVec 32 := 1#32
  let v212 : BitVec 32 := Scalar.addi v211 c1_i32_126
  let v213 : Index := Scalar.indexCast v212
  ![v213.toNat]
def k0_off10 (v208 : BitVec 32) : Fin 4 → Nat :=
  let v226 : Index := Scalar.indexCast v208
  let c0_131 : Index := 0#32
  let c0_132 : Index := 0#32
  let c0_133 : Index := 0#32
  ![v226.toNat, 0, 0, 0]

def k0_off11 (v214 : BitVec 32) : Fin 4 → Nat :=
  let v231 : Index := Scalar.indexCast v214
  let c0_134 : Index := 0#32
  let c0_135 : Index := 0#32
  let c0_136 : Index := 0#32
  ![v231.toNat, 0, 0, 0]

def k0_chk4 (v214 : BitVec 32) : Prop :=
  (∀ a, (k0_off11 v214) a + S1x1x8x128.size a ≤ S128x1x8x128.size a)
theorem k0_off11_inb : ∀ (v214 : BitVec 32) (k0_hw4 : k0_chk4 v214), ∀ a, (k0_off11 v214) a + S1x1x8x128.size a ≤ S128x1x8x128.size a := fun v214 k0_hw4 => k0_hw4

def k0_off12 (v208 : BitVec 32) : Fin 4 → Nat :=
  let v239 : Index := Scalar.indexCast v208
  let c0_138 : Index := 0#32
  let c0_139 : Index := 0#32
  let c0_140 : Index := 0#32
  ![v239.toNat, 0, 0, 0]

def k0_chk3 (v208 : BitVec 32) : Prop :=
  (∀ a, (k0_off10 v208) a + S1x1x8x128.size a ≤ S128x1x8x128.size a) ∧
  (∀ a, (k0_off12 v208) a + S1x1x8x128.size a ≤ S128x1x8x128.size a)
theorem k0_off10_inb : ∀ (v208 : BitVec 32) (k0_hw3 : k0_chk3 v208), ∀ a, (k0_off10 v208) a + S1x1x8x128.size a ≤ S128x1x8x128.size a := fun v208 k0_hw3 => k0_hw3.1
theorem k0_off12_inb : ∀ (v208 : BitVec 32) (k0_hw3 : k0_chk3 v208), ∀ a, (k0_off12 v208) a + S1x1x8x128.size a ≤ S128x1x8x128.size a := fun v208 k0_hw3 => k0_hw3.2

def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_145 : BitVec 32 := 0#32
  ![v137.toNat, 0]
def k0_off14 (i : grid0.Coords) (k0_t1 : Fin k0_t1_loop.trips) : Fin 1 → Nat :=
  let arg1 : BitVec 32 := BitVec.ofNat 32 (i 1).val
  let c1024_i32_150 : BitVec 32 := 1024#32
  let v265 : BitVec 32 := Scalar.muli arg1 c1024_i32_150
  let c2_i32_151 : BitVec 32 := 2#32
  let c0_i32 : BitVec 32 := 0#32
  let c1_i32 : BitVec 32 := 1#32
  let arg11 : BitVec 32 := Scf.iv c0_i32 c1_i32 k0_t1
  let c32_i32_147 : BitVec 32 := 32#32
  let v262 : BitVec 32 := Scalar.muli arg11 c32_i32_147
  let c0_i32_148 : BitVec 32 := 0#32
  let v263 : BitVec 32 := Scalar.addi v262 c0_i32_148
  let c2_i32_149 : BitVec 32 := 2#32
  let v264 : BitVec 32 := Scalar.addi v263 c2_i32_149
  let v266 : BitVec 32 := Scalar.muli c2_i32_151 v264
  let v267 : BitVec 32 := Scalar.addi v265 v266
  let v268 : Index := Scalar.indexCast v267
  ![v268.toNat]
def k0_off15 (i : grid0.Coords) (k0_t1 : Fin k0_t1_loop.trips) : Fin 1 → Nat :=
  let arg1 : BitVec 32 := BitVec.ofNat 32 (i 1).val
  let c1024_i32_152 : BitVec 32 := 1024#32
  let v270 : BitVec 32 := Scalar.muli arg1 c1024_i32_152
  let c2_i32_153 : BitVec 32 := 2#32
  let c0_i32 : BitVec 32 := 0#32
  let c1_i32 : BitVec 32 := 1#32
  let arg11 : BitVec 32 := Scf.iv c0_i32 c1_i32 k0_t1
  let c32_i32_147 : BitVec 32 := 32#32
  let v262 : BitVec 32 := Scalar.muli arg11 c32_i32_147
  let c0_i32_148 : BitVec 32 := 0#32
  let v263 : BitVec 32 := Scalar.addi v262 c0_i32_148
  let c2_i32_149 : BitVec 32 := 2#32
  let v264 : BitVec 32 := Scalar.addi v263 c2_i32_149
  let v271 : BitVec 32 := Scalar.muli c2_i32_153 v264
  let v272 : BitVec 32 := Scalar.addi v270 v271
  let c1_i32_154 : BitVec 32 := 1#32
  let v273 : BitVec 32 := Scalar.addi v272 c1_i32_154
  let v274 : Index := Scalar.indexCast v273
  ![v274.toNat]
def k0_off16 (v269 : BitVec 32) : Fin 4 → Nat :=
  let v287 : Index := Scalar.indexCast v269
  let c0_160 : Index := 0#32
  let c0_161 : Index := 0#32
  let c0_162 : Index := 0#32
  ![v287.toNat, 0, 0, 0]

def k0_off17 (v275 : BitVec 32) : Fin 4 → Nat :=
  let v292 : Index := Scalar.indexCast v275
  let c0_163 : Index := 0#32
  let c0_164 : Index := 0#32
  let c0_165 : Index := 0#32
  ![v292.toNat, 0, 0, 0]

def k0_chk6 (v275 : BitVec 32) : Prop :=
  (∀ a, (k0_off17 v275) a + S1x1x8x128.size a ≤ S128x1x8x128.size a)
theorem k0_off17_inb : ∀ (v275 : BitVec 32) (k0_hw6 : k0_chk6 v275), ∀ a, (k0_off17 v275) a + S1x1x8x128.size a ≤ S128x1x8x128.size a := fun v275 k0_hw6 => k0_hw6

def k0_off18 (v269 : BitVec 32) : Fin 4 → Nat :=
  let v300 : Index := Scalar.indexCast v269
  let c0_167 : Index := 0#32
  let c0_168 : Index := 0#32
  let c0_169 : Index := 0#32
  ![v300.toNat, 0, 0, 0]

def k0_chk5 (v269 : BitVec 32) : Prop :=
  (∀ a, (k0_off16 v269) a + S1x1x8x128.size a ≤ S128x1x8x128.size a) ∧
  (∀ a, (k0_off18 v269) a + S1x1x8x128.size a ≤ S128x1x8x128.size a)
theorem k0_off16_inb : ∀ (v269 : BitVec 32) (k0_hw5 : k0_chk5 v269), ∀ a, (k0_off16 v269) a + S1x1x8x128.size a ≤ S128x1x8x128.size a := fun v269 k0_hw5 => k0_hw5.1
theorem k0_off18_inb : ∀ (v269 : BitVec 32) (k0_hw5 : k0_chk5 v269), ∀ a, (k0_off18 v269) a + S1x1x8x128.size a ≤ S128x1x8x128.size a := fun v269 k0_hw5 => k0_hw5.2

def k0_off19 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_174 : BitVec 32 := 0#32
  ![v137.toNat, 0]
def k0_off20 (i : grid0.Coords) (k0_t1 : Fin k0_t1_loop.trips) : Fin 1 → Nat :=
  let arg1 : BitVec 32 := BitVec.ofNat 32 (i 1).val
  let c1024_i32_178 : BitVec 32 := 1024#32
  let v326 : BitVec 32 := Scalar.muli arg1 c1024_i32_178
  let c2_i32_179 : BitVec 32 := 2#32
  let c0_i32 : BitVec 32 := 0#32
  let c1_i32 : BitVec 32 := 1#32
  let arg11 : BitVec 32 := Scf.iv c0_i32 c1_i32 k0_t1
  let c32_i32_176 : BitVec 32 := 32#32
  let v323 : BitVec 32 := Scalar.muli arg11 c32_i32_176
  let c0_i32_177 : BitVec 32 := 0#32
  let v324 : BitVec 32 := Scalar.addi v323 c0_i32_177
  let c3_i32 : BitVec 32 := 3#32
  let v325 : BitVec 32 := Scalar.addi v324 c3_i32
  let v327 : BitVec 32 := Scalar.muli c2_i32_179 v325
  let v328 : BitVec 32 := Scalar.addi v326 v327
  let v329 : Index := Scalar.indexCast v328
  ![v329.toNat]
def k0_off21 (i : grid0.Coords) (k0_t1 : Fin k0_t1_loop.trips) : Fin 1 → Nat :=
  let arg1 : BitVec 32 := BitVec.ofNat 32 (i 1).val
  let c1024_i32_180 : BitVec 32 := 1024#32
  let v331 : BitVec 32 := Scalar.muli arg1 c1024_i32_180
  let c2_i32_181 : BitVec 32 := 2#32
  let c0_i32 : BitVec 32 := 0#32
  let c1_i32 : BitVec 32 := 1#32
  let arg11 : BitVec 32 := Scf.iv c0_i32 c1_i32 k0_t1
  let c32_i32_176 : BitVec 32 := 32#32
  let v323 : BitVec 32 := Scalar.muli arg11 c32_i32_176
  let c0_i32_177 : BitVec 32 := 0#32
  let v324 : BitVec 32 := Scalar.addi v323 c0_i32_177
  let c3_i32 : BitVec 32 := 3#32
  let v325 : BitVec 32 := Scalar.addi v324 c3_i32
  let v332 : BitVec 32 := Scalar.muli c2_i32_181 v325
  let v333 : BitVec 32 := Scalar.addi v331 v332
  let c1_i32_182 : BitVec 32 := 1#32
  let v334 : BitVec 32 := Scalar.addi v333 c1_i32_182
  let v335 : Index := Scalar.indexCast v334
  ![v335.toNat]
def k0_off22 (v330 : BitVec 32) : Fin 4 → Nat :=
  let v348 : Index := Scalar.indexCast v330
  let c0_187 : Index := 0#32
  let c0_188 : Index := 0#32
  let c0_189 : Index := 0#32
  ![v348.toNat, 0, 0, 0]

def k0_off23 (v336 : BitVec 32) : Fin 4 → Nat :=
  let v353 : Index := Scalar.indexCast v336
  let c0_190 : Index := 0#32
  let c0_191 : Index := 0#32
  let c0_192 : Index := 0#32
  ![v353.toNat, 0, 0, 0]

def k0_chk8 (v336 : BitVec 32) : Prop :=
  (∀ a, (k0_off23 v336) a + S1x1x8x128.size a ≤ S128x1x8x128.size a)
theorem k0_off23_inb : ∀ (v336 : BitVec 32) (k0_hw8 : k0_chk8 v336), ∀ a, (k0_off23 v336) a + S1x1x8x128.size a ≤ S128x1x8x128.size a := fun v336 k0_hw8 => k0_hw8

def k0_off24 (v330 : BitVec 32) : Fin 4 → Nat :=
  let v361 : Index := Scalar.indexCast v330
  let c0_194 : Index := 0#32
  let c0_195 : Index := 0#32
  let c0_196 : Index := 0#32
  ![v361.toNat, 0, 0, 0]

def k0_chk7 (v330 : BitVec 32) : Prop :=
  (∀ a, (k0_off22 v330) a + S1x1x8x128.size a ≤ S128x1x8x128.size a) ∧
  (∀ a, (k0_off24 v330) a + S1x1x8x128.size a ≤ S128x1x8x128.size a)
theorem k0_off22_inb : ∀ (v330 : BitVec 32) (k0_hw7 : k0_chk7 v330), ∀ a, (k0_off22 v330) a + S1x1x8x128.size a ≤ S128x1x8x128.size a := fun v330 k0_hw7 => k0_hw7.1
theorem k0_off24_inb : ∀ (v330 : BitVec 32) (k0_hw7 : k0_chk7 v330), ∀ a, (k0_off24 v330) a + S1x1x8x128.size a ≤ S128x1x8x128.size a := fun v330 k0_hw7 => k0_hw7.2

def k0_off25 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_201 : BitVec 32 := 0#32
  ![v137.toNat, 0]
def k0_off26 (i : grid0.Coords) (k0_t1 : Fin k0_t1_loop.trips) : Fin 1 → Nat :=
  let arg1 : BitVec 32 := BitVec.ofNat 32 (i 1).val
  let c1024_i32_205 : BitVec 32 := 1024#32
  let v389 : BitVec 32 := Scalar.muli arg1 c1024_i32_205
  let c2_i32_206 : BitVec 32 := 2#32
  let c0_i32 : BitVec 32 := 0#32
  let c1_i32 : BitVec 32 := 1#32
  let arg11 : BitVec 32 := Scf.iv c0_i32 c1_i32 k0_t1
  let c32_i32_203 : BitVec 32 := 32#32
  let v386 : BitVec 32 := Scalar.muli arg11 c32_i32_203
  let c4_i32 : BitVec 32 := 4#32
  let v387 : BitVec 32 := Scalar.addi v386 c4_i32
  let c0_i32_204 : BitVec 32 := 0#32
  let v388 : BitVec 32 := Scalar.addi v387 c0_i32_204
  let v390 : BitVec 32 := Scalar.muli c2_i32_206 v388
  let v391 : BitVec 32 := Scalar.addi v389 v390
  let v392 : Index := Scalar.indexCast v391
  ![v392.toNat]
def k0_off27 (i : grid0.Coords) (k0_t1 : Fin k0_t1_loop.trips) : Fin 1 → Nat :=
  let arg1 : BitVec 32 := BitVec.ofNat 32 (i 1).val
  let c1024_i32_207 : BitVec 32 := 1024#32
  let v394 : BitVec 32 := Scalar.muli arg1 c1024_i32_207
  let c2_i32_208 : BitVec 32 := 2#32
  let c0_i32 : BitVec 32 := 0#32
  let c1_i32 : BitVec 32 := 1#32
  let arg11 : BitVec 32 := Scf.iv c0_i32 c1_i32 k0_t1
  let c32_i32_203 : BitVec 32 := 32#32
  let v386 : BitVec 32 := Scalar.muli arg11 c32_i32_203
  let c4_i32 : BitVec 32 := 4#32
  let v387 : BitVec 32 := Scalar.addi v386 c4_i32
  let c0_i32_204 : BitVec 32 := 0#32
  let v388 : BitVec 32 := Scalar.addi v387 c0_i32_204
  let v395 : BitVec 32 := Scalar.muli c2_i32_208 v388
  let v396 : BitVec 32 := Scalar.addi v394 v395
  let c1_i32_209 : BitVec 32 := 1#32
  let v397 : BitVec 32 := Scalar.addi v396 c1_i32_209
  let v398 : Index := Scalar.indexCast v397
  ![v398.toNat]
def k0_off28 (v393 : BitVec 32) : Fin 4 → Nat :=
  let v411 : Index := Scalar.indexCast v393
  let c0_215 : Index := 0#32
  let c0_216 : Index := 0#32
  let c0_217 : Index := 0#32
  ![v411.toNat, 0, 0, 0]

def k0_off29 (v399 : BitVec 32) : Fin 4 → Nat :=
  let v416 : Index := Scalar.indexCast v399
  let c0_218 : Index := 0#32
  let c0_219 : Index := 0#32
  let c0_220 : Index := 0#32
  ![v416.toNat, 0, 0, 0]

def k0_chk10 (v399 : BitVec 32) : Prop :=
  (∀ a, (k0_off29 v399) a + S1x1x8x128.size a ≤ S128x1x8x128.size a)
theorem k0_off29_inb : ∀ (v399 : BitVec 32) (k0_hw10 : k0_chk10 v399), ∀ a, (k0_off29 v399) a + S1x1x8x128.size a ≤ S128x1x8x128.size a := fun v399 k0_hw10 => k0_hw10

def k0_off30 (v393 : BitVec 32) : Fin 4 → Nat :=
  let v424 : Index := Scalar.indexCast v393
  let c0_222 : Index := 0#32
  let c0_223 : Index := 0#32
  let c0_224 : Index := 0#32
  ![v424.toNat, 0, 0, 0]

def k0_chk9 (v393 : BitVec 32) : Prop :=
  (∀ a, (k0_off28 v393) a + S1x1x8x128.size a ≤ S128x1x8x128.size a) ∧
  (∀ a, (k0_off30 v393) a + S1x1x8x128.size a ≤ S128x1x8x128.size a)
theorem k0_off28_inb : ∀ (v393 : BitVec 32) (k0_hw9 : k0_chk9 v393), ∀ a, (k0_off28 v393) a + S1x1x8x128.size a ≤ S128x1x8x128.size a := fun v393 k0_hw9 => k0_hw9.1
theorem k0_off30_inb : ∀ (v393 : BitVec 32) (k0_hw9 : k0_chk9 v393), ∀ a, (k0_off30 v393) a + S1x1x8x128.size a ≤ S128x1x8x128.size a := fun v393 k0_hw9 => k0_hw9.2

def k0_off31 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_229 : BitVec 32 := 0#32
  ![v137.toNat, 0]
def k0_off32 (i : grid0.Coords) (k0_t1 : Fin k0_t1_loop.trips) : Fin 1 → Nat :=
  let arg1 : BitVec 32 := BitVec.ofNat 32 (i 1).val
  let c1024_i32_234 : BitVec 32 := 1024#32
  let v450 : BitVec 32 := Scalar.muli arg1 c1024_i32_234
  let c2_i32_235 : BitVec 32 := 2#32
  let c0_i32 : BitVec 32 := 0#32
  let c1_i32 : BitVec 32 := 1#32
  let arg11 : BitVec 32 := Scf.iv c0_i32 c1_i32 k0_t1
  let c32_i32_231 : BitVec 32 := 32#32
  let v447 : BitVec 32 := Scalar.muli arg11 c32_i32_231
  let c4_i32_232 : BitVec 32 := 4#32
  let v448 : BitVec 32 := Scalar.addi v447 c4_i32_232
  let c1_i32_233 : BitVec 32 := 1#32
  let v449 : BitVec 32 := Scalar.addi v448 c1_i32_233
  let v451 : BitVec 32 := Scalar.muli c2_i32_235 v449
  let v452 : BitVec 32 := Scalar.addi v450 v451
  let v453 : Index := Scalar.indexCast v452
  ![v453.toNat]
def k0_off33 (i : grid0.Coords) (k0_t1 : Fin k0_t1_loop.trips) : Fin 1 → Nat :=
  let arg1 : BitVec 32 := BitVec.ofNat 32 (i 1).val
  let c1024_i32_236 : BitVec 32 := 1024#32
  let v455 : BitVec 32 := Scalar.muli arg1 c1024_i32_236
  let c2_i32_237 : BitVec 32 := 2#32
  let c0_i32 : BitVec 32 := 0#32
  let c1_i32 : BitVec 32 := 1#32
  let arg11 : BitVec 32 := Scf.iv c0_i32 c1_i32 k0_t1
  let c32_i32_231 : BitVec 32 := 32#32
  let v447 : BitVec 32 := Scalar.muli arg11 c32_i32_231
  let c4_i32_232 : BitVec 32 := 4#32
  let v448 : BitVec 32 := Scalar.addi v447 c4_i32_232
  let c1_i32_233 : BitVec 32 := 1#32
  let v449 : BitVec 32 := Scalar.addi v448 c1_i32_233
  let v456 : BitVec 32 := Scalar.muli c2_i32_237 v449
  let v457 : BitVec 32 := Scalar.addi v455 v456
  let c1_i32_238 : BitVec 32 := 1#32
  let v458 : BitVec 32 := Scalar.addi v457 c1_i32_238
  let v459 : Index := Scalar.indexCast v458
  ![v459.toNat]
def k0_off34 (v454 : BitVec 32) : Fin 4 → Nat :=
  let v472 : Index := Scalar.indexCast v454
  let c0_244 : Index := 0#32
  let c0_245 : Index := 0#32
  let c0_246 : Index := 0#32
  ![v472.toNat, 0, 0, 0]

def k0_off35 (v460 : BitVec 32) : Fin 4 → Nat :=
  let v477 : Index := Scalar.indexCast v460
  let c0_247 : Index := 0#32
  let c0_248 : Index := 0#32
  let c0_249 : Index := 0#32
  ![v477.toNat, 0, 0, 0]

def k0_chk12 (v460 : BitVec 32) : Prop :=
  (∀ a, (k0_off35 v460) a + S1x1x8x128.size a ≤ S128x1x8x128.size a)
theorem k0_off35_inb : ∀ (v460 : BitVec 32) (k0_hw12 : k0_chk12 v460), ∀ a, (k0_off35 v460) a + S1x1x8x128.size a ≤ S128x1x8x128.size a := fun v460 k0_hw12 => k0_hw12

def k0_off36 (v454 : BitVec 32) : Fin 4 → Nat :=
  let v485 : Index := Scalar.indexCast v454
  let c0_251 : Index := 0#32
  let c0_252 : Index := 0#32
  let c0_253 : Index := 0#32
  ![v485.toNat, 0, 0, 0]

def k0_chk11 (v454 : BitVec 32) : Prop :=
  (∀ a, (k0_off34 v454) a + S1x1x8x128.size a ≤ S128x1x8x128.size a) ∧
  (∀ a, (k0_off36 v454) a + S1x1x8x128.size a ≤ S128x1x8x128.size a)
theorem k0_off34_inb : ∀ (v454 : BitVec 32) (k0_hw11 : k0_chk11 v454), ∀ a, (k0_off34 v454) a + S1x1x8x128.size a ≤ S128x1x8x128.size a := fun v454 k0_hw11 => k0_hw11.1
theorem k0_off36_inb : ∀ (v454 : BitVec 32) (k0_hw11 : k0_chk11 v454), ∀ a, (k0_off36 v454) a + S1x1x8x128.size a ≤ S128x1x8x128.size a := fun v454 k0_hw11 => k0_hw11.2

def k0_off37 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_258 : BitVec 32 := 0#32
  ![v137.toNat, 0]
def k0_off38 (i : grid0.Coords) (k0_t1 : Fin k0_t1_loop.trips) : Fin 1 → Nat :=
  let arg1 : BitVec 32 := BitVec.ofNat 32 (i 1).val
  let c1024_i32_263 : BitVec 32 := 1024#32
  let v511 : BitVec 32 := Scalar.muli arg1 c1024_i32_263
  let c2_i32_264 : BitVec 32 := 2#32
  let c0_i32 : BitVec 32 := 0#32
  let c1_i32 : BitVec 32 := 1#32
  let arg11 : BitVec 32 := Scf.iv c0_i32 c1_i32 k0_t1
  let c32_i32_260 : BitVec 32 := 32#32
  let v508 : BitVec 32 := Scalar.muli arg11 c32_i32_260
  let c4_i32_261 : BitVec 32 := 4#32
  let v509 : BitVec 32 := Scalar.addi v508 c4_i32_261
  let c2_i32_262 : BitVec 32 := 2#32
  let v510 : BitVec 32 := Scalar.addi v509 c2_i32_262
  let v512 : BitVec 32 := Scalar.muli c2_i32_264 v510
  let v513 : BitVec 32 := Scalar.addi v511 v512
  let v514 : Index := Scalar.indexCast v513
  ![v514.toNat]
def k0_off39 (i : grid0.Coords) (k0_t1 : Fin k0_t1_loop.trips) : Fin 1 → Nat :=
  let arg1 : BitVec 32 := BitVec.ofNat 32 (i 1).val
  let c1024_i32_265 : BitVec 32 := 1024#32
  let v516 : BitVec 32 := Scalar.muli arg1 c1024_i32_265
  let c2_i32_266 : BitVec 32 := 2#32
  let c0_i32 : BitVec 32 := 0#32
  let c1_i32 : BitVec 32 := 1#32
  let arg11 : BitVec 32 := Scf.iv c0_i32 c1_i32 k0_t1
  let c32_i32_260 : BitVec 32 := 32#32
  let v508 : BitVec 32 := Scalar.muli arg11 c32_i32_260
  let c4_i32_261 : BitVec 32 := 4#32
  let v509 : BitVec 32 := Scalar.addi v508 c4_i32_261
  let c2_i32_262 : BitVec 32 := 2#32
  let v510 : BitVec 32 := Scalar.addi v509 c2_i32_262
  let v517 : BitVec 32 := Scalar.muli c2_i32_266 v510
  let v518 : BitVec 32 := Scalar.addi v516 v517
  let c1_i32_267 : BitVec 32 := 1#32
  let v519 : BitVec 32 := Scalar.addi v518 c1_i32_267
  let v520 : Index := Scalar.indexCast v519
  ![v520.toNat]
def k0_off40 (v515 : BitVec 32) : Fin 4 → Nat :=
  let v533 : Index := Scalar.indexCast v515
  let c0_273 : Index := 0#32
  let c0_274 : Index := 0#32
  let c0_275 : Index := 0#32
  ![v533.toNat, 0, 0, 0]

def k0_off41 (v521 : BitVec 32) : Fin 4 → Nat :=
  let v538 : Index := Scalar.indexCast v521
  let c0_276 : Index := 0#32
  let c0_277 : Index := 0#32
  let c0_278 : Index := 0#32
  ![v538.toNat, 0, 0, 0]

def k0_chk14 (v521 : BitVec 32) : Prop :=
  (∀ a, (k0_off41 v521) a + S1x1x8x128.size a ≤ S128x1x8x128.size a)
theorem k0_off41_inb : ∀ (v521 : BitVec 32) (k0_hw14 : k0_chk14 v521), ∀ a, (k0_off41 v521) a + S1x1x8x128.size a ≤ S128x1x8x128.size a := fun v521 k0_hw14 => k0_hw14

def k0_off42 (v515 : BitVec 32) : Fin 4 → Nat :=
  let v546 : Index := Scalar.indexCast v515
  let c0_280 : Index := 0#32
  let c0_281 : Index := 0#32
  let c0_282 : Index := 0#32
  ![v546.toNat, 0, 0, 0]

def k0_chk13 (v515 : BitVec 32) : Prop :=
  (∀ a, (k0_off40 v515) a + S1x1x8x128.size a ≤ S128x1x8x128.size a) ∧
  (∀ a, (k0_off42 v515) a + S1x1x8x128.size a ≤ S128x1x8x128.size a)
theorem k0_off40_inb : ∀ (v515 : BitVec 32) (k0_hw13 : k0_chk13 v515), ∀ a, (k0_off40 v515) a + S1x1x8x128.size a ≤ S128x1x8x128.size a := fun v515 k0_hw13 => k0_hw13.1
theorem k0_off42_inb : ∀ (v515 : BitVec 32) (k0_hw13 : k0_chk13 v515), ∀ a, (k0_off42 v515) a + S1x1x8x128.size a ≤ S128x1x8x128.size a := fun v515 k0_hw13 => k0_hw13.2

def k0_off43 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_287 : BitVec 32 := 0#32
  ![v137.toNat, 0]
def k0_off44 (i : grid0.Coords) (k0_t1 : Fin k0_t1_loop.trips) : Fin 1 → Nat :=
  let arg1 : BitVec 32 := BitVec.ofNat 32 (i 1).val
  let c1024_i32_292 : BitVec 32 := 1024#32
  let v572 : BitVec 32 := Scalar.muli arg1 c1024_i32_292
  let c2_i32_293 : BitVec 32 := 2#32
  let c0_i32 : BitVec 32 := 0#32
  let c1_i32 : BitVec 32 := 1#32
  let arg11 : BitVec 32 := Scf.iv c0_i32 c1_i32 k0_t1
  let c32_i32_289 : BitVec 32 := 32#32
  let v569 : BitVec 32 := Scalar.muli arg11 c32_i32_289
  let c4_i32_290 : BitVec 32 := 4#32
  let v570 : BitVec 32 := Scalar.addi v569 c4_i32_290
  let c3_i32_291 : BitVec 32 := 3#32
  let v571 : BitVec 32 := Scalar.addi v570 c3_i32_291
  let v573 : BitVec 32 := Scalar.muli c2_i32_293 v571
  let v574 : BitVec 32 := Scalar.addi v572 v573
  let v575 : Index := Scalar.indexCast v574
  ![v575.toNat]
def k0_off45 (i : grid0.Coords) (k0_t1 : Fin k0_t1_loop.trips) : Fin 1 → Nat :=
  let arg1 : BitVec 32 := BitVec.ofNat 32 (i 1).val
  let c1024_i32_294 : BitVec 32 := 1024#32
  let v577 : BitVec 32 := Scalar.muli arg1 c1024_i32_294
  let c2_i32_295 : BitVec 32 := 2#32
  let c0_i32 : BitVec 32 := 0#32
  let c1_i32 : BitVec 32 := 1#32
  let arg11 : BitVec 32 := Scf.iv c0_i32 c1_i32 k0_t1
  let c32_i32_289 : BitVec 32 := 32#32
  let v569 : BitVec 32 := Scalar.muli arg11 c32_i32_289
  let c4_i32_290 : BitVec 32 := 4#32
  let v570 : BitVec 32 := Scalar.addi v569 c4_i32_290
  let c3_i32_291 : BitVec 32 := 3#32
  let v571 : BitVec 32 := Scalar.addi v570 c3_i32_291
  let v578 : BitVec 32 := Scalar.muli c2_i32_295 v571
  let v579 : BitVec 32 := Scalar.addi v577 v578
  let c1_i32_296 : BitVec 32 := 1#32
  let v580 : BitVec 32 := Scalar.addi v579 c1_i32_296
  let v581 : Index := Scalar.indexCast v580
  ![v581.toNat]
def k0_off46 (v576 : BitVec 32) : Fin 4 → Nat :=
  let v594 : Index := Scalar.indexCast v576
  let c0_302 : Index := 0#32
  let c0_303 : Index := 0#32
  let c0_304 : Index := 0#32
  ![v594.toNat, 0, 0, 0]

def k0_off47 (v582 : BitVec 32) : Fin 4 → Nat :=
  let v599 : Index := Scalar.indexCast v582
  let c0_305 : Index := 0#32
  let c0_306 : Index := 0#32
  let c0_307 : Index := 0#32
  ![v599.toNat, 0, 0, 0]

def k0_chk16 (v582 : BitVec 32) : Prop :=
  (∀ a, (k0_off47 v582) a + S1x1x8x128.size a ≤ S128x1x8x128.size a)
theorem k0_off47_inb : ∀ (v582 : BitVec 32) (k0_hw16 : k0_chk16 v582), ∀ a, (k0_off47 v582) a + S1x1x8x128.size a ≤ S128x1x8x128.size a := fun v582 k0_hw16 => k0_hw16

def k0_off48 (v576 : BitVec 32) : Fin 4 → Nat :=
  let v607 : Index := Scalar.indexCast v576
  let c0_309 : Index := 0#32
  let c0_310 : Index := 0#32
  let c0_311 : Index := 0#32
  ![v607.toNat, 0, 0, 0]

def k0_chk15 (v576 : BitVec 32) : Prop :=
  (∀ a, (k0_off46 v576) a + S1x1x8x128.size a ≤ S128x1x8x128.size a) ∧
  (∀ a, (k0_off48 v576) a + S1x1x8x128.size a ≤ S128x1x8x128.size a)
theorem k0_off46_inb : ∀ (v576 : BitVec 32) (k0_hw15 : k0_chk15 v576), ∀ a, (k0_off46 v576) a + S1x1x8x128.size a ≤ S128x1x8x128.size a := fun v576 k0_hw15 => k0_hw15.1
theorem k0_off48_inb : ∀ (v576 : BitVec 32) (k0_hw15 : k0_chk15 v576), ∀ a, (k0_off48 v576) a + S1x1x8x128.size a ≤ S128x1x8x128.size a := fun v576 k0_hw15 => k0_hw15.2

def k0_off49 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_316 : BitVec 32 := 0#32
  ![v137.toNat, 0]
def k0_off50 (i : grid0.Coords) (k0_t1 : Fin k0_t1_loop.trips) : Fin 1 → Nat :=
  let arg1 : BitVec 32 := BitVec.ofNat 32 (i 1).val
  let c1024_i32_321 : BitVec 32 := 1024#32
  let v635 : BitVec 32 := Scalar.muli arg1 c1024_i32_321
  let c2_i32_322 : BitVec 32 := 2#32
  let c0_i32 : BitVec 32 := 0#32
  let c1_i32 : BitVec 32 := 1#32
  let arg11 : BitVec 32 := Scf.iv c0_i32 c1_i32 k0_t1
  let c32_i32_318 : BitVec 32 := 32#32
  let v632 : BitVec 32 := Scalar.muli arg11 c32_i32_318
  let c8_i32_319 : BitVec 32 := 8#32
  let v633 : BitVec 32 := Scalar.addi v632 c8_i32_319
  let c0_i32_320 : BitVec 32 := 0#32
  let v634 : BitVec 32 := Scalar.addi v633 c0_i32_320
  let v636 : BitVec 32 := Scalar.muli c2_i32_322 v634
  let v637 : BitVec 32 := Scalar.addi v635 v636
  let v638 : Index := Scalar.indexCast v637
  ![v638.toNat]
def k0_off51 (i : grid0.Coords) (k0_t1 : Fin k0_t1_loop.trips) : Fin 1 → Nat :=
  let arg1 : BitVec 32 := BitVec.ofNat 32 (i 1).val
  let c1024_i32_323 : BitVec 32 := 1024#32
  let v640 : BitVec 32 := Scalar.muli arg1 c1024_i32_323
  let c2_i32_324 : BitVec 32 := 2#32
  let c0_i32 : BitVec 32 := 0#32
  let c1_i32 : BitVec 32 := 1#32
  let arg11 : BitVec 32 := Scf.iv c0_i32 c1_i32 k0_t1
  let c32_i32_318 : BitVec 32 := 32#32
  let v632 : BitVec 32 := Scalar.muli arg11 c32_i32_318
  let c8_i32_319 : BitVec 32 := 8#32
  let v633 : BitVec 32 := Scalar.addi v632 c8_i32_319
  let c0_i32_320 : BitVec 32 := 0#32
  let v634 : BitVec 32 := Scalar.addi v633 c0_i32_320
  let v641 : BitVec 32 := Scalar.muli c2_i32_324 v634
  let v642 : BitVec 32 := Scalar.addi v640 v641
  let c1_i32_325 : BitVec 32 := 1#32
  let v643 : BitVec 32 := Scalar.addi v642 c1_i32_325
  let v644 : Index := Scalar.indexCast v643
  ![v644.toNat]
def k0_off52 (v639 : BitVec 32) : Fin 4 → Nat :=
  let v657 : Index := Scalar.indexCast v639
  let c0_331 : Index := 0#32
  let c0_332 : Index := 0#32
  let c0_333 : Index := 0#32
  ![v657.toNat, 0, 0, 0]

def k0_off53 (v645 : BitVec 32) : Fin 4 → Nat :=
  let v662 : Index := Scalar.indexCast v645
  let c0_334 : Index := 0#32
  let c0_335 : Index := 0#32
  let c0_336 : Index := 0#32
  ![v662.toNat, 0, 0, 0]

def k0_chk18 (v645 : BitVec 32) : Prop :=
  (∀ a, (k0_off53 v645) a + S1x1x8x128.size a ≤ S128x1x8x128.size a)
theorem k0_off53_inb : ∀ (v645 : BitVec 32) (k0_hw18 : k0_chk18 v645), ∀ a, (k0_off53 v645) a + S1x1x8x128.size a ≤ S128x1x8x128.size a := fun v645 k0_hw18 => k0_hw18

def k0_off54 (v639 : BitVec 32) : Fin 4 → Nat :=
  let v670 : Index := Scalar.indexCast v639
  let c0_338 : Index := 0#32
  let c0_339 : Index := 0#32
  let c0_340 : Index := 0#32
  ![v670.toNat, 0, 0, 0]

def k0_chk17 (v639 : BitVec 32) : Prop :=
  (∀ a, (k0_off52 v639) a + S1x1x8x128.size a ≤ S128x1x8x128.size a) ∧
  (∀ a, (k0_off54 v639) a + S1x1x8x128.size a ≤ S128x1x8x128.size a)
theorem k0_off52_inb : ∀ (v639 : BitVec 32) (k0_hw17 : k0_chk17 v639), ∀ a, (k0_off52 v639) a + S1x1x8x128.size a ≤ S128x1x8x128.size a := fun v639 k0_hw17 => k0_hw17.1
theorem k0_off54_inb : ∀ (v639 : BitVec 32) (k0_hw17 : k0_chk17 v639), ∀ a, (k0_off54 v639) a + S1x1x8x128.size a ≤ S128x1x8x128.size a := fun v639 k0_hw17 => k0_hw17.2

def k0_off55 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_345 : BitVec 32 := 0#32
  ![v137.toNat, 0]
def k0_off56 (i : grid0.Coords) (k0_t1 : Fin k0_t1_loop.trips) : Fin 1 → Nat :=
  let arg1 : BitVec 32 := BitVec.ofNat 32 (i 1).val
  let c1024_i32_350 : BitVec 32 := 1024#32
  let v696 : BitVec 32 := Scalar.muli arg1 c1024_i32_350
  let c2_i32_351 : BitVec 32 := 2#32
  let c0_i32 : BitVec 32 := 0#32
  let c1_i32 : BitVec 32 := 1#32
  let arg11 : BitVec 32 := Scf.iv c0_i32 c1_i32 k0_t1
  let c32_i32_347 : BitVec 32 := 32#32
  let v693 : BitVec 32 := Scalar.muli arg11 c32_i32_347
  let c8_i32_348 : BitVec 32 := 8#32
  let v694 : BitVec 32 := Scalar.addi v693 c8_i32_348
  let c1_i32_349 : BitVec 32 := 1#32
  let v695 : BitVec 32 := Scalar.addi v694 c1_i32_349
  let v697 : BitVec 32 := Scalar.muli c2_i32_351 v695
  let v698 : BitVec 32 := Scalar.addi v696 v697
  let v699 : Index := Scalar.indexCast v698
  ![v699.toNat]
def k0_off57 (i : grid0.Coords) (k0_t1 : Fin k0_t1_loop.trips) : Fin 1 → Nat :=
  let arg1 : BitVec 32 := BitVec.ofNat 32 (i 1).val
  let c1024_i32_352 : BitVec 32 := 1024#32
  let v701 : BitVec 32 := Scalar.muli arg1 c1024_i32_352
  let c2_i32_353 : BitVec 32 := 2#32
  let c0_i32 : BitVec 32 := 0#32
  let c1_i32 : BitVec 32 := 1#32
  let arg11 : BitVec 32 := Scf.iv c0_i32 c1_i32 k0_t1
  let c32_i32_347 : BitVec 32 := 32#32
  let v693 : BitVec 32 := Scalar.muli arg11 c32_i32_347
  let c8_i32_348 : BitVec 32 := 8#32
  let v694 : BitVec 32 := Scalar.addi v693 c8_i32_348
  let c1_i32_349 : BitVec 32 := 1#32
  let v695 : BitVec 32 := Scalar.addi v694 c1_i32_349
  let v702 : BitVec 32 := Scalar.muli c2_i32_353 v695
  let v703 : BitVec 32 := Scalar.addi v701 v702
  let c1_i32_354 : BitVec 32 := 1#32
  let v704 : BitVec 32 := Scalar.addi v703 c1_i32_354
  let v705 : Index := Scalar.indexCast v704
  ![v705.toNat]
def k0_off58 (v700 : BitVec 32) : Fin 4 → Nat :=
  let v718 : Index := Scalar.indexCast v700
  let c0_360 : Index := 0#32
  let c0_361 : Index := 0#32
  let c0_362 : Index := 0#32
  ![v718.toNat, 0, 0, 0]

def k0_off59 (v706 : BitVec 32) : Fin 4 → Nat :=
  let v723 : Index := Scalar.indexCast v706
  let c0_363 : Index := 0#32
  let c0_364 : Index := 0#32
  let c0_365 : Index := 0#32
  ![v723.toNat, 0, 0, 0]

def k0_chk20 (v706 : BitVec 32) : Prop :=
  (∀ a, (k0_off59 v706) a + S1x1x8x128.size a ≤ S128x1x8x128.size a)
theorem k0_off59_inb : ∀ (v706 : BitVec 32) (k0_hw20 : k0_chk20 v706), ∀ a, (k0_off59 v706) a + S1x1x8x128.size a ≤ S128x1x8x128.size a := fun v706 k0_hw20 => k0_hw20

def k0_off60 (v700 : BitVec 32) : Fin 4 → Nat :=
  let v731 : Index := Scalar.indexCast v700
  let c0_367 : Index := 0#32
  let c0_368 : Index := 0#32
  let c0_369 : Index := 0#32
  ![v731.toNat, 0, 0, 0]

def k0_chk19 (v700 : BitVec 32) : Prop :=
  (∀ a, (k0_off58 v700) a + S1x1x8x128.size a ≤ S128x1x8x128.size a) ∧
  (∀ a, (k0_off60 v700) a + S1x1x8x128.size a ≤ S128x1x8x128.size a)
theorem k0_off58_inb : ∀ (v700 : BitVec 32) (k0_hw19 : k0_chk19 v700), ∀ a, (k0_off58 v700) a + S1x1x8x128.size a ≤ S128x1x8x128.size a := fun v700 k0_hw19 => k0_hw19.1
theorem k0_off60_inb : ∀ (v700 : BitVec 32) (k0_hw19 : k0_chk19 v700), ∀ a, (k0_off60 v700) a + S1x1x8x128.size a ≤ S128x1x8x128.size a := fun v700 k0_hw19 => k0_hw19.2

def k0_off61 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_374 : BitVec 32 := 0#32
  ![v137.toNat, 0]
def k0_off62 (i : grid0.Coords) (k0_t1 : Fin k0_t1_loop.trips) : Fin 1 → Nat :=
  let arg1 : BitVec 32 := BitVec.ofNat 32 (i 1).val
  let c1024_i32_379 : BitVec 32 := 1024#32
  let v757 : BitVec 32 := Scalar.muli arg1 c1024_i32_379
  let c2_i32_380 : BitVec 32 := 2#32
  let c0_i32 : BitVec 32 := 0#32
  let c1_i32 : BitVec 32 := 1#32
  let arg11 : BitVec 32 := Scf.iv c0_i32 c1_i32 k0_t1
  let c32_i32_376 : BitVec 32 := 32#32
  let v754 : BitVec 32 := Scalar.muli arg11 c32_i32_376
  let c8_i32_377 : BitVec 32 := 8#32
  let v755 : BitVec 32 := Scalar.addi v754 c8_i32_377
  let c2_i32_378 : BitVec 32 := 2#32
  let v756 : BitVec 32 := Scalar.addi v755 c2_i32_378
  let v758 : BitVec 32 := Scalar.muli c2_i32_380 v756
  let v759 : BitVec 32 := Scalar.addi v757 v758
  let v760 : Index := Scalar.indexCast v759
  ![v760.toNat]
def k0_off63 (i : grid0.Coords) (k0_t1 : Fin k0_t1_loop.trips) : Fin 1 → Nat :=
  let arg1 : BitVec 32 := BitVec.ofNat 32 (i 1).val
  let c1024_i32_381 : BitVec 32 := 1024#32
  let v762 : BitVec 32 := Scalar.muli arg1 c1024_i32_381
  let c2_i32_382 : BitVec 32 := 2#32
  let c0_i32 : BitVec 32 := 0#32
  let c1_i32 : BitVec 32 := 1#32
  let arg11 : BitVec 32 := Scf.iv c0_i32 c1_i32 k0_t1
  let c32_i32_376 : BitVec 32 := 32#32
  let v754 : BitVec 32 := Scalar.muli arg11 c32_i32_376
  let c8_i32_377 : BitVec 32 := 8#32
  let v755 : BitVec 32 := Scalar.addi v754 c8_i32_377
  let c2_i32_378 : BitVec 32 := 2#32
  let v756 : BitVec 32 := Scalar.addi v755 c2_i32_378
  let v763 : BitVec 32 := Scalar.muli c2_i32_382 v756
  let v764 : BitVec 32 := Scalar.addi v762 v763
  let c1_i32_383 : BitVec 32 := 1#32
  let v765 : BitVec 32 := Scalar.addi v764 c1_i32_383
  let v766 : Index := Scalar.indexCast v765
  ![v766.toNat]
def k0_off64 (v761 : BitVec 32) : Fin 4 → Nat :=
  let v779 : Index := Scalar.indexCast v761
  let c0_389 : Index := 0#32
  let c0_390 : Index := 0#32
  let c0_391 : Index := 0#32
  ![v779.toNat, 0, 0, 0]

def k0_off65 (v767 : BitVec 32) : Fin 4 → Nat :=
  let v784 : Index := Scalar.indexCast v767
  let c0_392 : Index := 0#32
  let c0_393 : Index := 0#32
  let c0_394 : Index := 0#32
  ![v784.toNat, 0, 0, 0]

def k0_chk22 (v767 : BitVec 32) : Prop :=
  (∀ a, (k0_off65 v767) a + S1x1x8x128.size a ≤ S128x1x8x128.size a)
theorem k0_off65_inb : ∀ (v767 : BitVec 32) (k0_hw22 : k0_chk22 v767), ∀ a, (k0_off65 v767) a + S1x1x8x128.size a ≤ S128x1x8x128.size a := fun v767 k0_hw22 => k0_hw22

def k0_off66 (v761 : BitVec 32) : Fin 4 → Nat :=
  let v792 : Index := Scalar.indexCast v761
  let c0_396 : Index := 0#32
  let c0_397 : Index := 0#32
  let c0_398 : Index := 0#32
  ![v792.toNat, 0, 0, 0]

def k0_chk21 (v761 : BitVec 32) : Prop :=
  (∀ a, (k0_off64 v761) a + S1x1x8x128.size a ≤ S128x1x8x128.size a) ∧
  (∀ a, (k0_off66 v761) a + S1x1x8x128.size a ≤ S128x1x8x128.size a)
theorem k0_off64_inb : ∀ (v761 : BitVec 32) (k0_hw21 : k0_chk21 v761), ∀ a, (k0_off64 v761) a + S1x1x8x128.size a ≤ S128x1x8x128.size a := fun v761 k0_hw21 => k0_hw21.1
theorem k0_off66_inb : ∀ (v761 : BitVec 32) (k0_hw21 : k0_chk21 v761), ∀ a, (k0_off66 v761) a + S1x1x8x128.size a ≤ S128x1x8x128.size a := fun v761 k0_hw21 => k0_hw21.2

def k0_off67 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_403 : BitVec 32 := 0#32
  ![v137.toNat, 0]
def k0_off68 (i : grid0.Coords) (k0_t1 : Fin k0_t1_loop.trips) : Fin 1 → Nat :=
  let arg1 : BitVec 32 := BitVec.ofNat 32 (i 1).val
  let c1024_i32_408 : BitVec 32 := 1024#32
  let v818 : BitVec 32 := Scalar.muli arg1 c1024_i32_408
  let c2_i32_409 : BitVec 32 := 2#32
  let c0_i32 : BitVec 32 := 0#32
  let c1_i32 : BitVec 32 := 1#32
  let arg11 : BitVec 32 := Scf.iv c0_i32 c1_i32 k0_t1
  let c32_i32_405 : BitVec 32 := 32#32
  let v815 : BitVec 32 := Scalar.muli arg11 c32_i32_405
  let c8_i32_406 : BitVec 32 := 8#32
  let v816 : BitVec 32 := Scalar.addi v815 c8_i32_406
  let c3_i32_407 : BitVec 32 := 3#32
  let v817 : BitVec 32 := Scalar.addi v816 c3_i32_407
  let v819 : BitVec 32 := Scalar.muli c2_i32_409 v817
  let v820 : BitVec 32 := Scalar.addi v818 v819
  let v821 : Index := Scalar.indexCast v820
  ![v821.toNat]
def k0_off69 (i : grid0.Coords) (k0_t1 : Fin k0_t1_loop.trips) : Fin 1 → Nat :=
  let arg1 : BitVec 32 := BitVec.ofNat 32 (i 1).val
  let c1024_i32_410 : BitVec 32 := 1024#32
  let v823 : BitVec 32 := Scalar.muli arg1 c1024_i32_410
  let c2_i32_411 : BitVec 32 := 2#32
  let c0_i32 : BitVec 32 := 0#32
  let c1_i32 : BitVec 32 := 1#32
  let arg11 : BitVec 32 := Scf.iv c0_i32 c1_i32 k0_t1
  let c32_i32_405 : BitVec 32 := 32#32
  let v815 : BitVec 32 := Scalar.muli arg11 c32_i32_405
  let c8_i32_406 : BitVec 32 := 8#32
  let v816 : BitVec 32 := Scalar.addi v815 c8_i32_406
  let c3_i32_407 : BitVec 32 := 3#32
  let v817 : BitVec 32 := Scalar.addi v816 c3_i32_407
  let v824 : BitVec 32 := Scalar.muli c2_i32_411 v817
  let v825 : BitVec 32 := Scalar.addi v823 v824
  let c1_i32_412 : BitVec 32 := 1#32
  let v826 : BitVec 32 := Scalar.addi v825 c1_i32_412
  let v827 : Index := Scalar.indexCast v826
  ![v827.toNat]
def k0_off70 (v822 : BitVec 32) : Fin 4 → Nat :=
  let v840 : Index := Scalar.indexCast v822
  let c0_418 : Index := 0#32
  let c0_419 : Index := 0#32
  let c0_420 : Index := 0#32
  ![v840.toNat, 0, 0, 0]

def k0_off71 (v828 : BitVec 32) : Fin 4 → Nat :=
  let v845 : Index := Scalar.indexCast v828
  let c0_421 : Index := 0#32
  let c0_422 : Index := 0#32
  let c0_423 : Index := 0#32
  ![v845.toNat, 0, 0, 0]

def k0_chk24 (v828 : BitVec 32) : Prop :=
  (∀ a, (k0_off71 v828) a + S1x1x8x128.size a ≤ S128x1x8x128.size a)
theorem k0_off71_inb : ∀ (v828 : BitVec 32) (k0_hw24 : k0_chk24 v828), ∀ a, (k0_off71 v828) a + S1x1x8x128.size a ≤ S128x1x8x128.size a := fun v828 k0_hw24 => k0_hw24

def k0_off72 (v822 : BitVec 32) : Fin 4 → Nat :=
  let v853 : Index := Scalar.indexCast v822
  let c0_425 : Index := 0#32
  let c0_426 : Index := 0#32
  let c0_427 : Index := 0#32
  ![v853.toNat, 0, 0, 0]

def k0_chk23 (v822 : BitVec 32) : Prop :=
  (∀ a, (k0_off70 v822) a + S1x1x8x128.size a ≤ S128x1x8x128.size a) ∧
  (∀ a, (k0_off72 v822) a + S1x1x8x128.size a ≤ S128x1x8x128.size a)
theorem k0_off70_inb : ∀ (v822 : BitVec 32) (k0_hw23 : k0_chk23 v822), ∀ a, (k0_off70 v822) a + S1x1x8x128.size a ≤ S128x1x8x128.size a := fun v822 k0_hw23 => k0_hw23.1
theorem k0_off72_inb : ∀ (v822 : BitVec 32) (k0_hw23 : k0_chk23 v822), ∀ a, (k0_off72 v822) a + S1x1x8x128.size a ≤ S128x1x8x128.size a := fun v822 k0_hw23 => k0_hw23.2

def k0_off73 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_432 : BitVec 32 := 0#32
  ![v137.toNat, 0]
def k0_off74 (i : grid0.Coords) (k0_t1 : Fin k0_t1_loop.trips) : Fin 1 → Nat :=
  let arg1 : BitVec 32 := BitVec.ofNat 32 (i 1).val
  let c1024_i32_437 : BitVec 32 := 1024#32
  let v881 : BitVec 32 := Scalar.muli arg1 c1024_i32_437
  let c2_i32_438 : BitVec 32 := 2#32
  let c0_i32 : BitVec 32 := 0#32
  let c1_i32 : BitVec 32 := 1#32
  let arg11 : BitVec 32 := Scf.iv c0_i32 c1_i32 k0_t1
  let c32_i32_434 : BitVec 32 := 32#32
  let v878 : BitVec 32 := Scalar.muli arg11 c32_i32_434
  let c12_i32_435 : BitVec 32 := 12#32
  let v879 : BitVec 32 := Scalar.addi v878 c12_i32_435
  let c0_i32_436 : BitVec 32 := 0#32
  let v880 : BitVec 32 := Scalar.addi v879 c0_i32_436
  let v882 : BitVec 32 := Scalar.muli c2_i32_438 v880
  let v883 : BitVec 32 := Scalar.addi v881 v882
  let v884 : Index := Scalar.indexCast v883
  ![v884.toNat]
def k0_off75 (i : grid0.Coords) (k0_t1 : Fin k0_t1_loop.trips) : Fin 1 → Nat :=
  let arg1 : BitVec 32 := BitVec.ofNat 32 (i 1).val
  let c1024_i32_439 : BitVec 32 := 1024#32
  let v886 : BitVec 32 := Scalar.muli arg1 c1024_i32_439
  let c2_i32_440 : BitVec 32 := 2#32
  let c0_i32 : BitVec 32 := 0#32
  let c1_i32 : BitVec 32 := 1#32
  let arg11 : BitVec 32 := Scf.iv c0_i32 c1_i32 k0_t1
  let c32_i32_434 : BitVec 32 := 32#32
  let v878 : BitVec 32 := Scalar.muli arg11 c32_i32_434
  let c12_i32_435 : BitVec 32 := 12#32
  let v879 : BitVec 32 := Scalar.addi v878 c12_i32_435
  let c0_i32_436 : BitVec 32 := 0#32
  let v880 : BitVec 32 := Scalar.addi v879 c0_i32_436
  let v887 : BitVec 32 := Scalar.muli c2_i32_440 v880
  let v888 : BitVec 32 := Scalar.addi v886 v887
  let c1_i32_441 : BitVec 32 := 1#32
  let v889 : BitVec 32 := Scalar.addi v888 c1_i32_441
  let v890 : Index := Scalar.indexCast v889
  ![v890.toNat]
def k0_off76 (v885 : BitVec 32) : Fin 4 → Nat :=
  let v903 : Index := Scalar.indexCast v885
  let c0_447 : Index := 0#32
  let c0_448 : Index := 0#32
  let c0_449 : Index := 0#32
  ![v903.toNat, 0, 0, 0]

def k0_off77 (v891 : BitVec 32) : Fin 4 → Nat :=
  let v908 : Index := Scalar.indexCast v891
  let c0_450 : Index := 0#32
  let c0_451 : Index := 0#32
  let c0_452 : Index := 0#32
  ![v908.toNat, 0, 0, 0]

def k0_chk26 (v891 : BitVec 32) : Prop :=
  (∀ a, (k0_off77 v891) a + S1x1x8x128.size a ≤ S128x1x8x128.size a)
theorem k0_off77_inb : ∀ (v891 : BitVec 32) (k0_hw26 : k0_chk26 v891), ∀ a, (k0_off77 v891) a + S1x1x8x128.size a ≤ S128x1x8x128.size a := fun v891 k0_hw26 => k0_hw26

def k0_off78 (v885 : BitVec 32) : Fin 4 → Nat :=
  let v916 : Index := Scalar.indexCast v885
  let c0_454 : Index := 0#32
  let c0_455 : Index := 0#32
  let c0_456 : Index := 0#32
  ![v916.toNat, 0, 0, 0]

def k0_chk25 (v885 : BitVec 32) : Prop :=
  (∀ a, (k0_off76 v885) a + S1x1x8x128.size a ≤ S128x1x8x128.size a) ∧
  (∀ a, (k0_off78 v885) a + S1x1x8x128.size a ≤ S128x1x8x128.size a)
theorem k0_off76_inb : ∀ (v885 : BitVec 32) (k0_hw25 : k0_chk25 v885), ∀ a, (k0_off76 v885) a + S1x1x8x128.size a ≤ S128x1x8x128.size a := fun v885 k0_hw25 => k0_hw25.1
theorem k0_off78_inb : ∀ (v885 : BitVec 32) (k0_hw25 : k0_chk25 v885), ∀ a, (k0_off78 v885) a + S1x1x8x128.size a ≤ S128x1x8x128.size a := fun v885 k0_hw25 => k0_hw25.2

def k0_off79 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_461 : BitVec 32 := 0#32
  ![v137.toNat, 0]
def k0_off80 (i : grid0.Coords) (k0_t1 : Fin k0_t1_loop.trips) : Fin 1 → Nat :=
  let arg1 : BitVec 32 := BitVec.ofNat 32 (i 1).val
  let c1024_i32_466 : BitVec 32 := 1024#32
  let v942 : BitVec 32 := Scalar.muli arg1 c1024_i32_466
  let c2_i32_467 : BitVec 32 := 2#32
  let c0_i32 : BitVec 32 := 0#32
  let c1_i32 : BitVec 32 := 1#32
  let arg11 : BitVec 32 := Scf.iv c0_i32 c1_i32 k0_t1
  let c32_i32_463 : BitVec 32 := 32#32
  let v939 : BitVec 32 := Scalar.muli arg11 c32_i32_463
  let c12_i32_464 : BitVec 32 := 12#32
  let v940 : BitVec 32 := Scalar.addi v939 c12_i32_464
  let c1_i32_465 : BitVec 32 := 1#32
  let v941 : BitVec 32 := Scalar.addi v940 c1_i32_465
  let v943 : BitVec 32 := Scalar.muli c2_i32_467 v941
  let v944 : BitVec 32 := Scalar.addi v942 v943
  let v945 : Index := Scalar.indexCast v944
  ![v945.toNat]
def k0_off81 (i : grid0.Coords) (k0_t1 : Fin k0_t1_loop.trips) : Fin 1 → Nat :=
  let arg1 : BitVec 32 := BitVec.ofNat 32 (i 1).val
  let c1024_i32_468 : BitVec 32 := 1024#32
  let v947 : BitVec 32 := Scalar.muli arg1 c1024_i32_468
  let c2_i32_469 : BitVec 32 := 2#32
  let c0_i32 : BitVec 32 := 0#32
  let c1_i32 : BitVec 32 := 1#32
  let arg11 : BitVec 32 := Scf.iv c0_i32 c1_i32 k0_t1
  let c32_i32_463 : BitVec 32 := 32#32
  let v939 : BitVec 32 := Scalar.muli arg11 c32_i32_463
  let c12_i32_464 : BitVec 32 := 12#32
  let v940 : BitVec 32 := Scalar.addi v939 c12_i32_464
  let c1_i32_465 : BitVec 32 := 1#32
  let v941 : BitVec 32 := Scalar.addi v940 c1_i32_465
  let v948 : BitVec 32 := Scalar.muli c2_i32_469 v941
  let v949 : BitVec 32 := Scalar.addi v947 v948
  let c1_i32_470 : BitVec 32 := 1#32
  let v950 : BitVec 32 := Scalar.addi v949 c1_i32_470
  let v951 : Index := Scalar.indexCast v950
  ![v951.toNat]
def k0_off82 (v946 : BitVec 32) : Fin 4 → Nat :=
  let v964 : Index := Scalar.indexCast v946
  let c0_476 : Index := 0#32
  let c0_477 : Index := 0#32
  let c0_478 : Index := 0#32
  ![v964.toNat, 0, 0, 0]

def k0_off83 (v952 : BitVec 32) : Fin 4 → Nat :=
  let v969 : Index := Scalar.indexCast v952
  let c0_479 : Index := 0#32
  let c0_480 : Index := 0#32
  let c0_481 : Index := 0#32
  ![v969.toNat, 0, 0, 0]

def k0_chk28 (v952 : BitVec 32) : Prop :=
  (∀ a, (k0_off83 v952) a + S1x1x8x128.size a ≤ S128x1x8x128.size a)
theorem k0_off83_inb : ∀ (v952 : BitVec 32) (k0_hw28 : k0_chk28 v952), ∀ a, (k0_off83 v952) a + S1x1x8x128.size a ≤ S128x1x8x128.size a := fun v952 k0_hw28 => k0_hw28

def k0_off84 (v946 : BitVec 32) : Fin 4 → Nat :=
  let v977 : Index := Scalar.indexCast v946
  let c0_483 : Index := 0#32
  let c0_484 : Index := 0#32
  let c0_485 : Index := 0#32
  ![v977.toNat, 0, 0, 0]

def k0_chk27 (v946 : BitVec 32) : Prop :=
  (∀ a, (k0_off82 v946) a + S1x1x8x128.size a ≤ S128x1x8x128.size a) ∧
  (∀ a, (k0_off84 v946) a + S1x1x8x128.size a ≤ S128x1x8x128.size a)
theorem k0_off82_inb : ∀ (v946 : BitVec 32) (k0_hw27 : k0_chk27 v946), ∀ a, (k0_off82 v946) a + S1x1x8x128.size a ≤ S128x1x8x128.size a := fun v946 k0_hw27 => k0_hw27.1
theorem k0_off84_inb : ∀ (v946 : BitVec 32) (k0_hw27 : k0_chk27 v946), ∀ a, (k0_off84 v946) a + S1x1x8x128.size a ≤ S128x1x8x128.size a := fun v946 k0_hw27 => k0_hw27.2

def k0_off85 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_490 : BitVec 32 := 0#32
  ![v137.toNat, 0]
def k0_off86 (i : grid0.Coords) (k0_t1 : Fin k0_t1_loop.trips) : Fin 1 → Nat :=
  let arg1 : BitVec 32 := BitVec.ofNat 32 (i 1).val
  let c1024_i32_495 : BitVec 32 := 1024#32
  let v1003 : BitVec 32 := Scalar.muli arg1 c1024_i32_495
  let c2_i32_496 : BitVec 32 := 2#32
  let c0_i32 : BitVec 32 := 0#32
  let c1_i32 : BitVec 32 := 1#32
  let arg11 : BitVec 32 := Scf.iv c0_i32 c1_i32 k0_t1
  let c32_i32_492 : BitVec 32 := 32#32
  let v1000 : BitVec 32 := Scalar.muli arg11 c32_i32_492
  let c12_i32_493 : BitVec 32 := 12#32
  let v1001 : BitVec 32 := Scalar.addi v1000 c12_i32_493
  let c2_i32_494 : BitVec 32 := 2#32
  let v1002 : BitVec 32 := Scalar.addi v1001 c2_i32_494
  let v1004 : BitVec 32 := Scalar.muli c2_i32_496 v1002
  let v1005 : BitVec 32 := Scalar.addi v1003 v1004
  let v1006 : Index := Scalar.indexCast v1005
  ![v1006.toNat]
def k0_off87 (i : grid0.Coords) (k0_t1 : Fin k0_t1_loop.trips) : Fin 1 → Nat :=
  let arg1 : BitVec 32 := BitVec.ofNat 32 (i 1).val
  let c1024_i32_497 : BitVec 32 := 1024#32
  let v1008 : BitVec 32 := Scalar.muli arg1 c1024_i32_497
  let c2_i32_498 : BitVec 32 := 2#32
  let c0_i32 : BitVec 32 := 0#32
  let c1_i32 : BitVec 32 := 1#32
  let arg11 : BitVec 32 := Scf.iv c0_i32 c1_i32 k0_t1
  let c32_i32_492 : BitVec 32 := 32#32
  let v1000 : BitVec 32 := Scalar.muli arg11 c32_i32_492
  let c12_i32_493 : BitVec 32 := 12#32
  let v1001 : BitVec 32 := Scalar.addi v1000 c12_i32_493
  let c2_i32_494 : BitVec 32 := 2#32
  let v1002 : BitVec 32 := Scalar.addi v1001 c2_i32_494
  let v1009 : BitVec 32 := Scalar.muli c2_i32_498 v1002
  let v1010 : BitVec 32 := Scalar.addi v1008 v1009
  let c1_i32_499 : BitVec 32 := 1#32
  let v1011 : BitVec 32 := Scalar.addi v1010 c1_i32_499
  let v1012 : Index := Scalar.indexCast v1011
  ![v1012.toNat]
def k0_off88 (v1007 : BitVec 32) : Fin 4 → Nat :=
  let v1025 : Index := Scalar.indexCast v1007
  let c0_505 : Index := 0#32
  let c0_506 : Index := 0#32
  let c0_507 : Index := 0#32
  ![v1025.toNat, 0, 0, 0]

def k0_off89 (v1013 : BitVec 32) : Fin 4 → Nat :=
  let v1030 : Index := Scalar.indexCast v1013
  let c0_508 : Index := 0#32
  let c0_509 : Index := 0#32
  let c0_510 : Index := 0#32
  ![v1030.toNat, 0, 0, 0]

def k0_chk30 (v1013 : BitVec 32) : Prop :=
  (∀ a, (k0_off89 v1013) a + S1x1x8x128.size a ≤ S128x1x8x128.size a)
theorem k0_off89_inb : ∀ (v1013 : BitVec 32) (k0_hw30 : k0_chk30 v1013), ∀ a, (k0_off89 v1013) a + S1x1x8x128.size a ≤ S128x1x8x128.size a := fun v1013 k0_hw30 => k0_hw30

def k0_off90 (v1007 : BitVec 32) : Fin 4 → Nat :=
  let v1038 : Index := Scalar.indexCast v1007
  let c0_512 : Index := 0#32
  let c0_513 : Index := 0#32
  let c0_514 : Index := 0#32
  ![v1038.toNat, 0, 0, 0]

def k0_chk29 (v1007 : BitVec 32) : Prop :=
  (∀ a, (k0_off88 v1007) a + S1x1x8x128.size a ≤ S128x1x8x128.size a) ∧
  (∀ a, (k0_off90 v1007) a + S1x1x8x128.size a ≤ S128x1x8x128.size a)
theorem k0_off88_inb : ∀ (v1007 : BitVec 32) (k0_hw29 : k0_chk29 v1007), ∀ a, (k0_off88 v1007) a + S1x1x8x128.size a ≤ S128x1x8x128.size a := fun v1007 k0_hw29 => k0_hw29.1
theorem k0_off90_inb : ∀ (v1007 : BitVec 32) (k0_hw29 : k0_chk29 v1007), ∀ a, (k0_off90 v1007) a + S1x1x8x128.size a ≤ S128x1x8x128.size a := fun v1007 k0_hw29 => k0_hw29.2

def k0_off91 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_519 : BitVec 32 := 0#32
  ![v137.toNat, 0]
def k0_off92 (i : grid0.Coords) (k0_t1 : Fin k0_t1_loop.trips) : Fin 1 → Nat :=
  let arg1 : BitVec 32 := BitVec.ofNat 32 (i 1).val
  let c1024_i32_524 : BitVec 32 := 1024#32
  let v1064 : BitVec 32 := Scalar.muli arg1 c1024_i32_524
  let c2_i32_525 : BitVec 32 := 2#32
  let c0_i32 : BitVec 32 := 0#32
  let c1_i32 : BitVec 32 := 1#32
  let arg11 : BitVec 32 := Scf.iv c0_i32 c1_i32 k0_t1
  let c32_i32_521 : BitVec 32 := 32#32
  let v1061 : BitVec 32 := Scalar.muli arg11 c32_i32_521
  let c12_i32_522 : BitVec 32 := 12#32
  let v1062 : BitVec 32 := Scalar.addi v1061 c12_i32_522
  let c3_i32_523 : BitVec 32 := 3#32
  let v1063 : BitVec 32 := Scalar.addi v1062 c3_i32_523
  let v1065 : BitVec 32 := Scalar.muli c2_i32_525 v1063
  let v1066 : BitVec 32 := Scalar.addi v1064 v1065
  let v1067 : Index := Scalar.indexCast v1066
  ![v1067.toNat]
def k0_off93 (i : grid0.Coords) (k0_t1 : Fin k0_t1_loop.trips) : Fin 1 → Nat :=
  let arg1 : BitVec 32 := BitVec.ofNat 32 (i 1).val
  let c1024_i32_526 : BitVec 32 := 1024#32
  let v1069 : BitVec 32 := Scalar.muli arg1 c1024_i32_526
  let c2_i32_527 : BitVec 32 := 2#32
  let c0_i32 : BitVec 32 := 0#32
  let c1_i32 : BitVec 32 := 1#32
  let arg11 : BitVec 32 := Scf.iv c0_i32 c1_i32 k0_t1
  let c32_i32_521 : BitVec 32 := 32#32
  let v1061 : BitVec 32 := Scalar.muli arg11 c32_i32_521
  let c12_i32_522 : BitVec 32 := 12#32
  let v1062 : BitVec 32 := Scalar.addi v1061 c12_i32_522
  let c3_i32_523 : BitVec 32 := 3#32
  let v1063 : BitVec 32 := Scalar.addi v1062 c3_i32_523
  let v1070 : BitVec 32 := Scalar.muli c2_i32_527 v1063
  let v1071 : BitVec 32 := Scalar.addi v1069 v1070
  let c1_i32_528 : BitVec 32 := 1#32
  let v1072 : BitVec 32 := Scalar.addi v1071 c1_i32_528
  let v1073 : Index := Scalar.indexCast v1072
  ![v1073.toNat]
def k0_off94 (v1068 : BitVec 32) : Fin 4 → Nat :=
  let v1086 : Index := Scalar.indexCast v1068
  let c0_534 : Index := 0#32
  let c0_535 : Index := 0#32
  let c0_536 : Index := 0#32
  ![v1086.toNat, 0, 0, 0]

def k0_off95 (v1074 : BitVec 32) : Fin 4 → Nat :=
  let v1091 : Index := Scalar.indexCast v1074
  let c0_537 : Index := 0#32
  let c0_538 : Index := 0#32
  let c0_539 : Index := 0#32
  ![v1091.toNat, 0, 0, 0]

def k0_chk32 (v1074 : BitVec 32) : Prop :=
  (∀ a, (k0_off95 v1074) a + S1x1x8x128.size a ≤ S128x1x8x128.size a)
theorem k0_off95_inb : ∀ (v1074 : BitVec 32) (k0_hw32 : k0_chk32 v1074), ∀ a, (k0_off95 v1074) a + S1x1x8x128.size a ≤ S128x1x8x128.size a := fun v1074 k0_hw32 => k0_hw32

def k0_off96 (v1068 : BitVec 32) : Fin 4 → Nat :=
  let v1099 : Index := Scalar.indexCast v1068
  let c0_541 : Index := 0#32
  let c0_542 : Index := 0#32
  let c0_543 : Index := 0#32
  ![v1099.toNat, 0, 0, 0]

def k0_chk31 (v1068 : BitVec 32) : Prop :=
  (∀ a, (k0_off94 v1068) a + S1x1x8x128.size a ≤ S128x1x8x128.size a) ∧
  (∀ a, (k0_off96 v1068) a + S1x1x8x128.size a ≤ S128x1x8x128.size a)
theorem k0_off94_inb : ∀ (v1068 : BitVec 32) (k0_hw31 : k0_chk31 v1068), ∀ a, (k0_off94 v1068) a + S1x1x8x128.size a ≤ S128x1x8x128.size a := fun v1068 k0_hw31 => k0_hw31.1
theorem k0_off96_inb : ∀ (v1068 : BitVec 32) (k0_hw31 : k0_chk31 v1068), ∀ a, (k0_off96 v1068) a + S1x1x8x128.size a ≤ S128x1x8x128.size a := fun v1068 k0_hw31 => k0_hw31.2

def k0_off97 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_548 : BitVec 32 := 0#32
  ![v137.toNat, 0]
def k0_off98 (i : grid0.Coords) (k0_t1 : Fin k0_t1_loop.trips) : Fin 1 → Nat :=
  let arg1 : BitVec 32 := BitVec.ofNat 32 (i 1).val
  let c1024_i32_553 : BitVec 32 := 1024#32
  let v1127 : BitVec 32 := Scalar.muli arg1 c1024_i32_553
  let c2_i32_554 : BitVec 32 := 2#32
  let c0_i32 : BitVec 32 := 0#32
  let c1_i32 : BitVec 32 := 1#32
  let arg11 : BitVec 32 := Scf.iv c0_i32 c1_i32 k0_t1
  let c32_i32_550 : BitVec 32 := 32#32
  let v1124 : BitVec 32 := Scalar.muli arg11 c32_i32_550
  let c16_i32_551 : BitVec 32 := 16#32
  let v1125 : BitVec 32 := Scalar.addi v1124 c16_i32_551
  let c0_i32_552 : BitVec 32 := 0#32
  let v1126 : BitVec 32 := Scalar.addi v1125 c0_i32_552
  let v1128 : BitVec 32 := Scalar.muli c2_i32_554 v1126
  let v1129 : BitVec 32 := Scalar.addi v1127 v1128
  let v1130 : Index := Scalar.indexCast v1129
  ![v1130.toNat]
def k0_off99 (i : grid0.Coords) (k0_t1 : Fin k0_t1_loop.trips) : Fin 1 → Nat :=
  let arg1 : BitVec 32 := BitVec.ofNat 32 (i 1).val
  let c1024_i32_555 : BitVec 32 := 1024#32
  let v1132 : BitVec 32 := Scalar.muli arg1 c1024_i32_555
  let c2_i32_556 : BitVec 32 := 2#32
  let c0_i32 : BitVec 32 := 0#32
  let c1_i32 : BitVec 32 := 1#32
  let arg11 : BitVec 32 := Scf.iv c0_i32 c1_i32 k0_t1
  let c32_i32_550 : BitVec 32 := 32#32
  let v1124 : BitVec 32 := Scalar.muli arg11 c32_i32_550
  let c16_i32_551 : BitVec 32 := 16#32
  let v1125 : BitVec 32 := Scalar.addi v1124 c16_i32_551
  let c0_i32_552 : BitVec 32 := 0#32
  let v1126 : BitVec 32 := Scalar.addi v1125 c0_i32_552
  let v1133 : BitVec 32 := Scalar.muli c2_i32_556 v1126
  let v1134 : BitVec 32 := Scalar.addi v1132 v1133
  let c1_i32_557 : BitVec 32 := 1#32
  let v1135 : BitVec 32 := Scalar.addi v1134 c1_i32_557
  let v1136 : Index := Scalar.indexCast v1135
  ![v1136.toNat]
def k0_off100 (v1131 : BitVec 32) : Fin 4 → Nat :=
  let v1149 : Index := Scalar.indexCast v1131
  let c0_563 : Index := 0#32
  let c0_564 : Index := 0#32
  let c0_565 : Index := 0#32
  ![v1149.toNat, 0, 0, 0]

def k0_off101 (v1137 : BitVec 32) : Fin 4 → Nat :=
  let v1154 : Index := Scalar.indexCast v1137
  let c0_566 : Index := 0#32
  let c0_567 : Index := 0#32
  let c0_568 : Index := 0#32
  ![v1154.toNat, 0, 0, 0]

def k0_chk34 (v1137 : BitVec 32) : Prop :=
  (∀ a, (k0_off101 v1137) a + S1x1x8x128.size a ≤ S128x1x8x128.size a)
theorem k0_off101_inb : ∀ (v1137 : BitVec 32) (k0_hw34 : k0_chk34 v1137), ∀ a, (k0_off101 v1137) a + S1x1x8x128.size a ≤ S128x1x8x128.size a := fun v1137 k0_hw34 => k0_hw34

def k0_off102 (v1131 : BitVec 32) : Fin 4 → Nat :=
  let v1162 : Index := Scalar.indexCast v1131
  let c0_570 : Index := 0#32
  let c0_571 : Index := 0#32
  let c0_572 : Index := 0#32
  ![v1162.toNat, 0, 0, 0]

def k0_chk33 (v1131 : BitVec 32) : Prop :=
  (∀ a, (k0_off100 v1131) a + S1x1x8x128.size a ≤ S128x1x8x128.size a) ∧
  (∀ a, (k0_off102 v1131) a + S1x1x8x128.size a ≤ S128x1x8x128.size a)
theorem k0_off100_inb : ∀ (v1131 : BitVec 32) (k0_hw33 : k0_chk33 v1131), ∀ a, (k0_off100 v1131) a + S1x1x8x128.size a ≤ S128x1x8x128.size a := fun v1131 k0_hw33 => k0_hw33.1
theorem k0_off102_inb : ∀ (v1131 : BitVec 32) (k0_hw33 : k0_chk33 v1131), ∀ a, (k0_off102 v1131) a + S1x1x8x128.size a ≤ S128x1x8x128.size a := fun v1131 k0_hw33 => k0_hw33.2

def k0_off103 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_577 : BitVec 32 := 0#32
  ![v137.toNat, 0]
def k0_off104 (i : grid0.Coords) (k0_t1 : Fin k0_t1_loop.trips) : Fin 1 → Nat :=
  let arg1 : BitVec 32 := BitVec.ofNat 32 (i 1).val
  let c1024_i32_582 : BitVec 32 := 1024#32
  let v1188 : BitVec 32 := Scalar.muli arg1 c1024_i32_582
  let c2_i32_583 : BitVec 32 := 2#32
  let c0_i32 : BitVec 32 := 0#32
  let c1_i32 : BitVec 32 := 1#32
  let arg11 : BitVec 32 := Scf.iv c0_i32 c1_i32 k0_t1
  let c32_i32_579 : BitVec 32 := 32#32
  let v1185 : BitVec 32 := Scalar.muli arg11 c32_i32_579
  let c16_i32_580 : BitVec 32 := 16#32
  let v1186 : BitVec 32 := Scalar.addi v1185 c16_i32_580
  let c1_i32_581 : BitVec 32 := 1#32
  let v1187 : BitVec 32 := Scalar.addi v1186 c1_i32_581
  let v1189 : BitVec 32 := Scalar.muli c2_i32_583 v1187
  let v1190 : BitVec 32 := Scalar.addi v1188 v1189
  let v1191 : Index := Scalar.indexCast v1190
  ![v1191.toNat]
def k0_off105 (i : grid0.Coords) (k0_t1 : Fin k0_t1_loop.trips) : Fin 1 → Nat :=
  let arg1 : BitVec 32 := BitVec.ofNat 32 (i 1).val
  let c1024_i32_584 : BitVec 32 := 1024#32
  let v1193 : BitVec 32 := Scalar.muli arg1 c1024_i32_584
  let c2_i32_585 : BitVec 32 := 2#32
  let c0_i32 : BitVec 32 := 0#32
  let c1_i32 : BitVec 32 := 1#32
  let arg11 : BitVec 32 := Scf.iv c0_i32 c1_i32 k0_t1
  let c32_i32_579 : BitVec 32 := 32#32
  let v1185 : BitVec 32 := Scalar.muli arg11 c32_i32_579
  let c16_i32_580 : BitVec 32 := 16#32
  let v1186 : BitVec 32 := Scalar.addi v1185 c16_i32_580
  let c1_i32_581 : BitVec 32 := 1#32
  let v1187 : BitVec 32 := Scalar.addi v1186 c1_i32_581
  let v1194 : BitVec 32 := Scalar.muli c2_i32_585 v1187
  let v1195 : BitVec 32 := Scalar.addi v1193 v1194
  let c1_i32_586 : BitVec 32 := 1#32
  let v1196 : BitVec 32 := Scalar.addi v1195 c1_i32_586
  let v1197 : Index := Scalar.indexCast v1196
  ![v1197.toNat]
def k0_off106 (v1192 : BitVec 32) : Fin 4 → Nat :=
  let v1210 : Index := Scalar.indexCast v1192
  let c0_592 : Index := 0#32
  let c0_593 : Index := 0#32
  let c0_594 : Index := 0#32
  ![v1210.toNat, 0, 0, 0]

def k0_off107 (v1198 : BitVec 32) : Fin 4 → Nat :=
  let v1215 : Index := Scalar.indexCast v1198
  let c0_595 : Index := 0#32
  let c0_596 : Index := 0#32
  let c0_597 : Index := 0#32
  ![v1215.toNat, 0, 0, 0]

def k0_chk36 (v1198 : BitVec 32) : Prop :=
  (∀ a, (k0_off107 v1198) a + S1x1x8x128.size a ≤ S128x1x8x128.size a)
theorem k0_off107_inb : ∀ (v1198 : BitVec 32) (k0_hw36 : k0_chk36 v1198), ∀ a, (k0_off107 v1198) a + S1x1x8x128.size a ≤ S128x1x8x128.size a := fun v1198 k0_hw36 => k0_hw36

def k0_off108 (v1192 : BitVec 32) : Fin 4 → Nat :=
  let v1223 : Index := Scalar.indexCast v1192
  let c0_599 : Index := 0#32
  let c0_600 : Index := 0#32
  let c0_601 : Index := 0#32
  ![v1223.toNat, 0, 0, 0]

def k0_chk35 (v1192 : BitVec 32) : Prop :=
  (∀ a, (k0_off106 v1192) a + S1x1x8x128.size a ≤ S128x1x8x128.size a) ∧
  (∀ a, (k0_off108 v1192) a + S1x1x8x128.size a ≤ S128x1x8x128.size a)
theorem k0_off106_inb : ∀ (v1192 : BitVec 32) (k0_hw35 : k0_chk35 v1192), ∀ a, (k0_off106 v1192) a + S1x1x8x128.size a ≤ S128x1x8x128.size a := fun v1192 k0_hw35 => k0_hw35.1
theorem k0_off108_inb : ∀ (v1192 : BitVec 32) (k0_hw35 : k0_chk35 v1192), ∀ a, (k0_off108 v1192) a + S1x1x8x128.size a ≤ S128x1x8x128.size a := fun v1192 k0_hw35 => k0_hw35.2

def k0_off109 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_606 : BitVec 32 := 0#32
  ![v137.toNat, 0]
def k0_off110 (i : grid0.Coords) (k0_t1 : Fin k0_t1_loop.trips) : Fin 1 → Nat :=
  let arg1 : BitVec 32 := BitVec.ofNat 32 (i 1).val
  let c1024_i32_611 : BitVec 32 := 1024#32
  let v1249 : BitVec 32 := Scalar.muli arg1 c1024_i32_611
  let c2_i32_612 : BitVec 32 := 2#32
  let c0_i32 : BitVec 32 := 0#32
  let c1_i32 : BitVec 32 := 1#32
  let arg11 : BitVec 32 := Scf.iv c0_i32 c1_i32 k0_t1
  let c32_i32_608 : BitVec 32 := 32#32
  let v1246 : BitVec 32 := Scalar.muli arg11 c32_i32_608
  let c16_i32_609 : BitVec 32 := 16#32
  let v1247 : BitVec 32 := Scalar.addi v1246 c16_i32_609
  let c2_i32_610 : BitVec 32 := 2#32
  let v1248 : BitVec 32 := Scalar.addi v1247 c2_i32_610
  let v1250 : BitVec 32 := Scalar.muli c2_i32_612 v1248
  let v1251 : BitVec 32 := Scalar.addi v1249 v1250
  let v1252 : Index := Scalar.indexCast v1251
  ![v1252.toNat]
def k0_off111 (i : grid0.Coords) (k0_t1 : Fin k0_t1_loop.trips) : Fin 1 → Nat :=
  let arg1 : BitVec 32 := BitVec.ofNat 32 (i 1).val
  let c1024_i32_613 : BitVec 32 := 1024#32
  let v1254 : BitVec 32 := Scalar.muli arg1 c1024_i32_613
  let c2_i32_614 : BitVec 32 := 2#32
  let c0_i32 : BitVec 32 := 0#32
  let c1_i32 : BitVec 32 := 1#32
  let arg11 : BitVec 32 := Scf.iv c0_i32 c1_i32 k0_t1
  let c32_i32_608 : BitVec 32 := 32#32
  let v1246 : BitVec 32 := Scalar.muli arg11 c32_i32_608
  let c16_i32_609 : BitVec 32 := 16#32
  let v1247 : BitVec 32 := Scalar.addi v1246 c16_i32_609
  let c2_i32_610 : BitVec 32 := 2#32
  let v1248 : BitVec 32 := Scalar.addi v1247 c2_i32_610
  let v1255 : BitVec 32 := Scalar.muli c2_i32_614 v1248
  let v1256 : BitVec 32 := Scalar.addi v1254 v1255
  let c1_i32_615 : BitVec 32 := 1#32
  let v1257 : BitVec 32 := Scalar.addi v1256 c1_i32_615
  let v1258 : Index := Scalar.indexCast v1257
  ![v1258.toNat]
def k0_off112 (v1253 : BitVec 32) : Fin 4 → Nat :=
  let v1271 : Index := Scalar.indexCast v1253
  let c0_621 : Index := 0#32
  let c0_622 : Index := 0#32
  let c0_623 : Index := 0#32
  ![v1271.toNat, 0, 0, 0]

def k0_off113 (v1259 : BitVec 32) : Fin 4 → Nat :=
  let v1276 : Index := Scalar.indexCast v1259
  let c0_624 : Index := 0#32
  let c0_625 : Index := 0#32
  let c0_626 : Index := 0#32
  ![v1276.toNat, 0, 0, 0]

def k0_chk38 (v1259 : BitVec 32) : Prop :=
  (∀ a, (k0_off113 v1259) a + S1x1x8x128.size a ≤ S128x1x8x128.size a)
theorem k0_off113_inb : ∀ (v1259 : BitVec 32) (k0_hw38 : k0_chk38 v1259), ∀ a, (k0_off113 v1259) a + S1x1x8x128.size a ≤ S128x1x8x128.size a := fun v1259 k0_hw38 => k0_hw38

def k0_off114 (v1253 : BitVec 32) : Fin 4 → Nat :=
  let v1284 : Index := Scalar.indexCast v1253
  let c0_628 : Index := 0#32
  let c0_629 : Index := 0#32
  let c0_630 : Index := 0#32
  ![v1284.toNat, 0, 0, 0]

def k0_chk37 (v1253 : BitVec 32) : Prop :=
  (∀ a, (k0_off112 v1253) a + S1x1x8x128.size a ≤ S128x1x8x128.size a) ∧
  (∀ a, (k0_off114 v1253) a + S1x1x8x128.size a ≤ S128x1x8x128.size a)
theorem k0_off112_inb : ∀ (v1253 : BitVec 32) (k0_hw37 : k0_chk37 v1253), ∀ a, (k0_off112 v1253) a + S1x1x8x128.size a ≤ S128x1x8x128.size a := fun v1253 k0_hw37 => k0_hw37.1
theorem k0_off114_inb : ∀ (v1253 : BitVec 32) (k0_hw37 : k0_chk37 v1253), ∀ a, (k0_off114 v1253) a + S1x1x8x128.size a ≤ S128x1x8x128.size a := fun v1253 k0_hw37 => k0_hw37.2

def k0_off115 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_635 : BitVec 32 := 0#32
  ![v137.toNat, 0]
def k0_off116 (i : grid0.Coords) (k0_t1 : Fin k0_t1_loop.trips) : Fin 1 → Nat :=
  let arg1 : BitVec 32 := BitVec.ofNat 32 (i 1).val
  let c1024_i32_640 : BitVec 32 := 1024#32
  let v1310 : BitVec 32 := Scalar.muli arg1 c1024_i32_640
  let c2_i32_641 : BitVec 32 := 2#32
  let c0_i32 : BitVec 32 := 0#32
  let c1_i32 : BitVec 32 := 1#32
  let arg11 : BitVec 32 := Scf.iv c0_i32 c1_i32 k0_t1
  let c32_i32_637 : BitVec 32 := 32#32
  let v1307 : BitVec 32 := Scalar.muli arg11 c32_i32_637
  let c16_i32_638 : BitVec 32 := 16#32
  let v1308 : BitVec 32 := Scalar.addi v1307 c16_i32_638
  let c3_i32_639 : BitVec 32 := 3#32
  let v1309 : BitVec 32 := Scalar.addi v1308 c3_i32_639
  let v1311 : BitVec 32 := Scalar.muli c2_i32_641 v1309
  let v1312 : BitVec 32 := Scalar.addi v1310 v1311
  let v1313 : Index := Scalar.indexCast v1312
  ![v1313.toNat]
def k0_off117 (i : grid0.Coords) (k0_t1 : Fin k0_t1_loop.trips) : Fin 1 → Nat :=
  let arg1 : BitVec 32 := BitVec.ofNat 32 (i 1).val
  let c1024_i32_642 : BitVec 32 := 1024#32
  let v1315 : BitVec 32 := Scalar.muli arg1 c1024_i32_642
  let c2_i32_643 : BitVec 32 := 2#32
  let c0_i32 : BitVec 32 := 0#32
  let c1_i32 : BitVec 32 := 1#32
  let arg11 : BitVec 32 := Scf.iv c0_i32 c1_i32 k0_t1
  let c32_i32_637 : BitVec 32 := 32#32
  let v1307 : BitVec 32 := Scalar.muli arg11 c32_i32_637
  let c16_i32_638 : BitVec 32 := 16#32
  let v1308 : BitVec 32 := Scalar.addi v1307 c16_i32_638
  let c3_i32_639 : BitVec 32 := 3#32
  let v1309 : BitVec 32 := Scalar.addi v1308 c3_i32_639
  let v1316 : BitVec 32 := Scalar.muli c2_i32_643 v1309
  let v1317 : BitVec 32 := Scalar.addi v1315 v1316
  let c1_i32_644 : BitVec 32 := 1#32
  let v1318 : BitVec 32 := Scalar.addi v1317 c1_i32_644
  let v1319 : Index := Scalar.indexCast v1318
  ![v1319.toNat]
def k0_off118 (v1314 : BitVec 32) : Fin 4 → Nat :=
  let v1332 : Index := Scalar.indexCast v1314
  let c0_650 : Index := 0#32
  let c0_651 : Index := 0#32
  let c0_652 : Index := 0#32
  ![v1332.toNat, 0, 0, 0]

def k0_off119 (v1320 : BitVec 32) : Fin 4 → Nat :=
  let v1337 : Index := Scalar.indexCast v1320
  let c0_653 : Index := 0#32
  let c0_654 : Index := 0#32
  let c0_655 : Index := 0#32
  ![v1337.toNat, 0, 0, 0]

def k0_chk40 (v1320 : BitVec 32) : Prop :=
  (∀ a, (k0_off119 v1320) a + S1x1x8x128.size a ≤ S128x1x8x128.size a)
theorem k0_off119_inb : ∀ (v1320 : BitVec 32) (k0_hw40 : k0_chk40 v1320), ∀ a, (k0_off119 v1320) a + S1x1x8x128.size a ≤ S128x1x8x128.size a := fun v1320 k0_hw40 => k0_hw40

def k0_off120 (v1314 : BitVec 32) : Fin 4 → Nat :=
  let v1345 : Index := Scalar.indexCast v1314
  let c0_657 : Index := 0#32
  let c0_658 : Index := 0#32
  let c0_659 : Index := 0#32
  ![v1345.toNat, 0, 0, 0]

def k0_chk39 (v1314 : BitVec 32) : Prop :=
  (∀ a, (k0_off118 v1314) a + S1x1x8x128.size a ≤ S128x1x8x128.size a) ∧
  (∀ a, (k0_off120 v1314) a + S1x1x8x128.size a ≤ S128x1x8x128.size a)
theorem k0_off118_inb : ∀ (v1314 : BitVec 32) (k0_hw39 : k0_chk39 v1314), ∀ a, (k0_off118 v1314) a + S1x1x8x128.size a ≤ S128x1x8x128.size a := fun v1314 k0_hw39 => k0_hw39.1
theorem k0_off120_inb : ∀ (v1314 : BitVec 32) (k0_hw39 : k0_chk39 v1314), ∀ a, (k0_off120 v1314) a + S1x1x8x128.size a ≤ S128x1x8x128.size a := fun v1314 k0_hw39 => k0_hw39.2

def k0_off121 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_664 : BitVec 32 := 0#32
  ![v137.toNat, 0]
def k0_off122 (i : grid0.Coords) (k0_t1 : Fin k0_t1_loop.trips) : Fin 1 → Nat :=
  let arg1 : BitVec 32 := BitVec.ofNat 32 (i 1).val
  let c1024_i32_668 : BitVec 32 := 1024#32
  let v1373 : BitVec 32 := Scalar.muli arg1 c1024_i32_668
  let c2_i32_669 : BitVec 32 := 2#32
  let c0_i32 : BitVec 32 := 0#32
  let c1_i32 : BitVec 32 := 1#32
  let arg11 : BitVec 32 := Scf.iv c0_i32 c1_i32 k0_t1
  let c32_i32_666 : BitVec 32 := 32#32
  let v1370 : BitVec 32 := Scalar.muli arg11 c32_i32_666
  let c20_i32 : BitVec 32 := 20#32
  let v1371 : BitVec 32 := Scalar.addi v1370 c20_i32
  let c0_i32_667 : BitVec 32 := 0#32
  let v1372 : BitVec 32 := Scalar.addi v1371 c0_i32_667
  let v1374 : BitVec 32 := Scalar.muli c2_i32_669 v1372
  let v1375 : BitVec 32 := Scalar.addi v1373 v1374
  let v1376 : Index := Scalar.indexCast v1375
  ![v1376.toNat]
def k0_off123 (i : grid0.Coords) (k0_t1 : Fin k0_t1_loop.trips) : Fin 1 → Nat :=
  let arg1 : BitVec 32 := BitVec.ofNat 32 (i 1).val
  let c1024_i32_670 : BitVec 32 := 1024#32
  let v1378 : BitVec 32 := Scalar.muli arg1 c1024_i32_670
  let c2_i32_671 : BitVec 32 := 2#32
  let c0_i32 : BitVec 32 := 0#32
  let c1_i32 : BitVec 32 := 1#32
  let arg11 : BitVec 32 := Scf.iv c0_i32 c1_i32 k0_t1
  let c32_i32_666 : BitVec 32 := 32#32
  let v1370 : BitVec 32 := Scalar.muli arg11 c32_i32_666
  let c20_i32 : BitVec 32 := 20#32
  let v1371 : BitVec 32 := Scalar.addi v1370 c20_i32
  let c0_i32_667 : BitVec 32 := 0#32
  let v1372 : BitVec 32 := Scalar.addi v1371 c0_i32_667
  let v1379 : BitVec 32 := Scalar.muli c2_i32_671 v1372
  let v1380 : BitVec 32 := Scalar.addi v1378 v1379
  let c1_i32_672 : BitVec 32 := 1#32
  let v1381 : BitVec 32 := Scalar.addi v1380 c1_i32_672
  let v1382 : Index := Scalar.indexCast v1381
  ![v1382.toNat]
def k0_off124 (v1377 : BitVec 32) : Fin 4 → Nat :=
  let v1395 : Index := Scalar.indexCast v1377
  let c0_678 : Index := 0#32
  let c0_679 : Index := 0#32
  let c0_680 : Index := 0#32
  ![v1395.toNat, 0, 0, 0]

def k0_off125 (v1383 : BitVec 32) : Fin 4 → Nat :=
  let v1400 : Index := Scalar.indexCast v1383
  let c0_681 : Index := 0#32
  let c0_682 : Index := 0#32
  let c0_683 : Index := 0#32
  ![v1400.toNat, 0, 0, 0]

def k0_chk42 (v1383 : BitVec 32) : Prop :=
  (∀ a, (k0_off125 v1383) a + S1x1x8x128.size a ≤ S128x1x8x128.size a)
theorem k0_off125_inb : ∀ (v1383 : BitVec 32) (k0_hw42 : k0_chk42 v1383), ∀ a, (k0_off125 v1383) a + S1x1x8x128.size a ≤ S128x1x8x128.size a := fun v1383 k0_hw42 => k0_hw42

def k0_off126 (v1377 : BitVec 32) : Fin 4 → Nat :=
  let v1408 : Index := Scalar.indexCast v1377
  let c0_685 : Index := 0#32
  let c0_686 : Index := 0#32
  let c0_687 : Index := 0#32
  ![v1408.toNat, 0, 0, 0]

def k0_chk41 (v1377 : BitVec 32) : Prop :=
  (∀ a, (k0_off124 v1377) a + S1x1x8x128.size a ≤ S128x1x8x128.size a) ∧
  (∀ a, (k0_off126 v1377) a + S1x1x8x128.size a ≤ S128x1x8x128.size a)
theorem k0_off124_inb : ∀ (v1377 : BitVec 32) (k0_hw41 : k0_chk41 v1377), ∀ a, (k0_off124 v1377) a + S1x1x8x128.size a ≤ S128x1x8x128.size a := fun v1377 k0_hw41 => k0_hw41.1
theorem k0_off126_inb : ∀ (v1377 : BitVec 32) (k0_hw41 : k0_chk41 v1377), ∀ a, (k0_off126 v1377) a + S1x1x8x128.size a ≤ S128x1x8x128.size a := fun v1377 k0_hw41 => k0_hw41.2

def k0_off127 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_692 : BitVec 32 := 0#32
  ![v137.toNat, 0]
def k0_off128 (i : grid0.Coords) (k0_t1 : Fin k0_t1_loop.trips) : Fin 1 → Nat :=
  let arg1 : BitVec 32 := BitVec.ofNat 32 (i 1).val
  let c1024_i32_697 : BitVec 32 := 1024#32
  let v1434 : BitVec 32 := Scalar.muli arg1 c1024_i32_697
  let c2_i32_698 : BitVec 32 := 2#32
  let c0_i32 : BitVec 32 := 0#32
  let c1_i32 : BitVec 32 := 1#32
  let arg11 : BitVec 32 := Scf.iv c0_i32 c1_i32 k0_t1
  let c32_i32_694 : BitVec 32 := 32#32
  let v1431 : BitVec 32 := Scalar.muli arg11 c32_i32_694
  let c20_i32_695 : BitVec 32 := 20#32
  let v1432 : BitVec 32 := Scalar.addi v1431 c20_i32_695
  let c1_i32_696 : BitVec 32 := 1#32
  let v1433 : BitVec 32 := Scalar.addi v1432 c1_i32_696
  let v1435 : BitVec 32 := Scalar.muli c2_i32_698 v1433
  let v1436 : BitVec 32 := Scalar.addi v1434 v1435
  let v1437 : Index := Scalar.indexCast v1436
  ![v1437.toNat]
def k0_off129 (i : grid0.Coords) (k0_t1 : Fin k0_t1_loop.trips) : Fin 1 → Nat :=
  let arg1 : BitVec 32 := BitVec.ofNat 32 (i 1).val
  let c1024_i32_699 : BitVec 32 := 1024#32
  let v1439 : BitVec 32 := Scalar.muli arg1 c1024_i32_699
  let c2_i32_700 : BitVec 32 := 2#32
  let c0_i32 : BitVec 32 := 0#32
  let c1_i32 : BitVec 32 := 1#32
  let arg11 : BitVec 32 := Scf.iv c0_i32 c1_i32 k0_t1
  let c32_i32_694 : BitVec 32 := 32#32
  let v1431 : BitVec 32 := Scalar.muli arg11 c32_i32_694
  let c20_i32_695 : BitVec 32 := 20#32
  let v1432 : BitVec 32 := Scalar.addi v1431 c20_i32_695
  let c1_i32_696 : BitVec 32 := 1#32
  let v1433 : BitVec 32 := Scalar.addi v1432 c1_i32_696
  let v1440 : BitVec 32 := Scalar.muli c2_i32_700 v1433
  let v1441 : BitVec 32 := Scalar.addi v1439 v1440
  let c1_i32_701 : BitVec 32 := 1#32
  let v1442 : BitVec 32 := Scalar.addi v1441 c1_i32_701
  let v1443 : Index := Scalar.indexCast v1442
  ![v1443.toNat]
def k0_off130 (v1438 : BitVec 32) : Fin 4 → Nat :=
  let v1456 : Index := Scalar.indexCast v1438
  let c0_707 : Index := 0#32
  let c0_708 : Index := 0#32
  let c0_709 : Index := 0#32
  ![v1456.toNat, 0, 0, 0]

def k0_off131 (v1444 : BitVec 32) : Fin 4 → Nat :=
  let v1461 : Index := Scalar.indexCast v1444
  let c0_710 : Index := 0#32
  let c0_711 : Index := 0#32
  let c0_712 : Index := 0#32
  ![v1461.toNat, 0, 0, 0]

def k0_chk44 (v1444 : BitVec 32) : Prop :=
  (∀ a, (k0_off131 v1444) a + S1x1x8x128.size a ≤ S128x1x8x128.size a)
theorem k0_off131_inb : ∀ (v1444 : BitVec 32) (k0_hw44 : k0_chk44 v1444), ∀ a, (k0_off131 v1444) a + S1x1x8x128.size a ≤ S128x1x8x128.size a := fun v1444 k0_hw44 => k0_hw44

def k0_off132 (v1438 : BitVec 32) : Fin 4 → Nat :=
  let v1469 : Index := Scalar.indexCast v1438
  let c0_714 : Index := 0#32
  let c0_715 : Index := 0#32
  let c0_716 : Index := 0#32
  ![v1469.toNat, 0, 0, 0]

def k0_chk43 (v1438 : BitVec 32) : Prop :=
  (∀ a, (k0_off130 v1438) a + S1x1x8x128.size a ≤ S128x1x8x128.size a) ∧
  (∀ a, (k0_off132 v1438) a + S1x1x8x128.size a ≤ S128x1x8x128.size a)
theorem k0_off130_inb : ∀ (v1438 : BitVec 32) (k0_hw43 : k0_chk43 v1438), ∀ a, (k0_off130 v1438) a + S1x1x8x128.size a ≤ S128x1x8x128.size a := fun v1438 k0_hw43 => k0_hw43.1
theorem k0_off132_inb : ∀ (v1438 : BitVec 32) (k0_hw43 : k0_chk43 v1438), ∀ a, (k0_off132 v1438) a + S1x1x8x128.size a ≤ S128x1x8x128.size a := fun v1438 k0_hw43 => k0_hw43.2

def k0_off133 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_721 : BitVec 32 := 0#32
  ![v137.toNat, 0]
def k0_off134 (i : grid0.Coords) (k0_t1 : Fin k0_t1_loop.trips) : Fin 1 → Nat :=
  let arg1 : BitVec 32 := BitVec.ofNat 32 (i 1).val
  let c1024_i32_726 : BitVec 32 := 1024#32
  let v1495 : BitVec 32 := Scalar.muli arg1 c1024_i32_726
  let c2_i32_727 : BitVec 32 := 2#32
  let c0_i32 : BitVec 32 := 0#32
  let c1_i32 : BitVec 32 := 1#32
  let arg11 : BitVec 32 := Scf.iv c0_i32 c1_i32 k0_t1
  let c32_i32_723 : BitVec 32 := 32#32
  let v1492 : BitVec 32 := Scalar.muli arg11 c32_i32_723
  let c20_i32_724 : BitVec 32 := 20#32
  let v1493 : BitVec 32 := Scalar.addi v1492 c20_i32_724
  let c2_i32_725 : BitVec 32 := 2#32
  let v1494 : BitVec 32 := Scalar.addi v1493 c2_i32_725
  let v1496 : BitVec 32 := Scalar.muli c2_i32_727 v1494
  let v1497 : BitVec 32 := Scalar.addi v1495 v1496
  let v1498 : Index := Scalar.indexCast v1497
  ![v1498.toNat]
def k0_off135 (i : grid0.Coords) (k0_t1 : Fin k0_t1_loop.trips) : Fin 1 → Nat :=
  let arg1 : BitVec 32 := BitVec.ofNat 32 (i 1).val
  let c1024_i32_728 : BitVec 32 := 1024#32
  let v1500 : BitVec 32 := Scalar.muli arg1 c1024_i32_728
  let c2_i32_729 : BitVec 32 := 2#32
  let c0_i32 : BitVec 32 := 0#32
  let c1_i32 : BitVec 32 := 1#32
  let arg11 : BitVec 32 := Scf.iv c0_i32 c1_i32 k0_t1
  let c32_i32_723 : BitVec 32 := 32#32
  let v1492 : BitVec 32 := Scalar.muli arg11 c32_i32_723
  let c20_i32_724 : BitVec 32 := 20#32
  let v1493 : BitVec 32 := Scalar.addi v1492 c20_i32_724
  let c2_i32_725 : BitVec 32 := 2#32
  let v1494 : BitVec 32 := Scalar.addi v1493 c2_i32_725
  let v1501 : BitVec 32 := Scalar.muli c2_i32_729 v1494
  let v1502 : BitVec 32 := Scalar.addi v1500 v1501
  let c1_i32_730 : BitVec 32 := 1#32
  let v1503 : BitVec 32 := Scalar.addi v1502 c1_i32_730
  let v1504 : Index := Scalar.indexCast v1503
  ![v1504.toNat]
def k0_off136 (v1499 : BitVec 32) : Fin 4 → Nat :=
  let v1517 : Index := Scalar.indexCast v1499
  let c0_736 : Index := 0#32
  let c0_737 : Index := 0#32
  let c0_738 : Index := 0#32
  ![v1517.toNat, 0, 0, 0]

def k0_off137 (v1505 : BitVec 32) : Fin 4 → Nat :=
  let v1522 : Index := Scalar.indexCast v1505
  let c0_739 : Index := 0#32
  let c0_740 : Index := 0#32
  let c0_741 : Index := 0#32
  ![v1522.toNat, 0, 0, 0]

def k0_chk46 (v1505 : BitVec 32) : Prop :=
  (∀ a, (k0_off137 v1505) a + S1x1x8x128.size a ≤ S128x1x8x128.size a)
theorem k0_off137_inb : ∀ (v1505 : BitVec 32) (k0_hw46 : k0_chk46 v1505), ∀ a, (k0_off137 v1505) a + S1x1x8x128.size a ≤ S128x1x8x128.size a := fun v1505 k0_hw46 => k0_hw46

def k0_off138 (v1499 : BitVec 32) : Fin 4 → Nat :=
  let v1530 : Index := Scalar.indexCast v1499
  let c0_743 : Index := 0#32
  let c0_744 : Index := 0#32
  let c0_745 : Index := 0#32
  ![v1530.toNat, 0, 0, 0]

def k0_chk45 (v1499 : BitVec 32) : Prop :=
  (∀ a, (k0_off136 v1499) a + S1x1x8x128.size a ≤ S128x1x8x128.size a) ∧
  (∀ a, (k0_off138 v1499) a + S1x1x8x128.size a ≤ S128x1x8x128.size a)
theorem k0_off136_inb : ∀ (v1499 : BitVec 32) (k0_hw45 : k0_chk45 v1499), ∀ a, (k0_off136 v1499) a + S1x1x8x128.size a ≤ S128x1x8x128.size a := fun v1499 k0_hw45 => k0_hw45.1
theorem k0_off138_inb : ∀ (v1499 : BitVec 32) (k0_hw45 : k0_chk45 v1499), ∀ a, (k0_off138 v1499) a + S1x1x8x128.size a ≤ S128x1x8x128.size a := fun v1499 k0_hw45 => k0_hw45.2

def k0_off139 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_750 : BitVec 32 := 0#32
  ![v137.toNat, 0]
def k0_off140 (i : grid0.Coords) (k0_t1 : Fin k0_t1_loop.trips) : Fin 1 → Nat :=
  let arg1 : BitVec 32 := BitVec.ofNat 32 (i 1).val
  let c1024_i32_755 : BitVec 32 := 1024#32
  let v1556 : BitVec 32 := Scalar.muli arg1 c1024_i32_755
  let c2_i32_756 : BitVec 32 := 2#32
  let c0_i32 : BitVec 32 := 0#32
  let c1_i32 : BitVec 32 := 1#32
  let arg11 : BitVec 32 := Scf.iv c0_i32 c1_i32 k0_t1
  let c32_i32_752 : BitVec 32 := 32#32
  let v1553 : BitVec 32 := Scalar.muli arg11 c32_i32_752
  let c20_i32_753 : BitVec 32 := 20#32
  let v1554 : BitVec 32 := Scalar.addi v1553 c20_i32_753
  let c3_i32_754 : BitVec 32 := 3#32
  let v1555 : BitVec 32 := Scalar.addi v1554 c3_i32_754
  let v1557 : BitVec 32 := Scalar.muli c2_i32_756 v1555
  let v1558 : BitVec 32 := Scalar.addi v1556 v1557
  let v1559 : Index := Scalar.indexCast v1558
  ![v1559.toNat]
def k0_off141 (i : grid0.Coords) (k0_t1 : Fin k0_t1_loop.trips) : Fin 1 → Nat :=
  let arg1 : BitVec 32 := BitVec.ofNat 32 (i 1).val
  let c1024_i32_757 : BitVec 32 := 1024#32
  let v1561 : BitVec 32 := Scalar.muli arg1 c1024_i32_757
  let c2_i32_758 : BitVec 32 := 2#32
  let c0_i32 : BitVec 32 := 0#32
  let c1_i32 : BitVec 32 := 1#32
  let arg11 : BitVec 32 := Scf.iv c0_i32 c1_i32 k0_t1
  let c32_i32_752 : BitVec 32 := 32#32
  let v1553 : BitVec 32 := Scalar.muli arg11 c32_i32_752
  let c20_i32_753 : BitVec 32 := 20#32
  let v1554 : BitVec 32 := Scalar.addi v1553 c20_i32_753
  let c3_i32_754 : BitVec 32 := 3#32
  let v1555 : BitVec 32 := Scalar.addi v1554 c3_i32_754
  let v1562 : BitVec 32 := Scalar.muli c2_i32_758 v1555
  let v1563 : BitVec 32 := Scalar.addi v1561 v1562
  let c1_i32_759 : BitVec 32 := 1#32
  let v1564 : BitVec 32 := Scalar.addi v1563 c1_i32_759
  let v1565 : Index := Scalar.indexCast v1564
  ![v1565.toNat]
def k0_off142 (v1560 : BitVec 32) : Fin 4 → Nat :=
  let v1578 : Index := Scalar.indexCast v1560
  let c0_765 : Index := 0#32
  let c0_766 : Index := 0#32
  let c0_767 : Index := 0#32
  ![v1578.toNat, 0, 0, 0]

def k0_off143 (v1566 : BitVec 32) : Fin 4 → Nat :=
  let v1583 : Index := Scalar.indexCast v1566
  let c0_768 : Index := 0#32
  let c0_769 : Index := 0#32
  let c0_770 : Index := 0#32
  ![v1583.toNat, 0, 0, 0]

def k0_chk48 (v1566 : BitVec 32) : Prop :=
  (∀ a, (k0_off143 v1566) a + S1x1x8x128.size a ≤ S128x1x8x128.size a)
theorem k0_off143_inb : ∀ (v1566 : BitVec 32) (k0_hw48 : k0_chk48 v1566), ∀ a, (k0_off143 v1566) a + S1x1x8x128.size a ≤ S128x1x8x128.size a := fun v1566 k0_hw48 => k0_hw48

def k0_off144 (v1560 : BitVec 32) : Fin 4 → Nat :=
  let v1591 : Index := Scalar.indexCast v1560
  let c0_772 : Index := 0#32
  let c0_773 : Index := 0#32
  let c0_774 : Index := 0#32
  ![v1591.toNat, 0, 0, 0]

def k0_chk47 (v1560 : BitVec 32) : Prop :=
  (∀ a, (k0_off142 v1560) a + S1x1x8x128.size a ≤ S128x1x8x128.size a) ∧
  (∀ a, (k0_off144 v1560) a + S1x1x8x128.size a ≤ S128x1x8x128.size a)
theorem k0_off142_inb : ∀ (v1560 : BitVec 32) (k0_hw47 : k0_chk47 v1560), ∀ a, (k0_off142 v1560) a + S1x1x8x128.size a ≤ S128x1x8x128.size a := fun v1560 k0_hw47 => k0_hw47.1
theorem k0_off144_inb : ∀ (v1560 : BitVec 32) (k0_hw47 : k0_chk47 v1560), ∀ a, (k0_off144 v1560) a + S1x1x8x128.size a ≤ S128x1x8x128.size a := fun v1560 k0_hw47 => k0_hw47.2

def k0_off145 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_779 : BitVec 32 := 0#32
  ![v137.toNat, 0]
def k0_off146 (i : grid0.Coords) (k0_t1 : Fin k0_t1_loop.trips) : Fin 1 → Nat :=
  let arg1 : BitVec 32 := BitVec.ofNat 32 (i 1).val
  let c1024_i32_784 : BitVec 32 := 1024#32
  let v1619 : BitVec 32 := Scalar.muli arg1 c1024_i32_784
  let c2_i32_785 : BitVec 32 := 2#32
  let c0_i32 : BitVec 32 := 0#32
  let c1_i32 : BitVec 32 := 1#32
  let arg11 : BitVec 32 := Scf.iv c0_i32 c1_i32 k0_t1
  let c32_i32_781 : BitVec 32 := 32#32
  let v1616 : BitVec 32 := Scalar.muli arg11 c32_i32_781
  let c24_i32_782 : BitVec 32 := 24#32
  let v1617 : BitVec 32 := Scalar.addi v1616 c24_i32_782
  let c0_i32_783 : BitVec 32 := 0#32
  let v1618 : BitVec 32 := Scalar.addi v1617 c0_i32_783
  let v1620 : BitVec 32 := Scalar.muli c2_i32_785 v1618
  let v1621 : BitVec 32 := Scalar.addi v1619 v1620
  let v1622 : Index := Scalar.indexCast v1621
  ![v1622.toNat]
def k0_off147 (i : grid0.Coords) (k0_t1 : Fin k0_t1_loop.trips) : Fin 1 → Nat :=
  let arg1 : BitVec 32 := BitVec.ofNat 32 (i 1).val
  let c1024_i32_786 : BitVec 32 := 1024#32
  let v1624 : BitVec 32 := Scalar.muli arg1 c1024_i32_786
  let c2_i32_787 : BitVec 32 := 2#32
  let c0_i32 : BitVec 32 := 0#32
  let c1_i32 : BitVec 32 := 1#32
  let arg11 : BitVec 32 := Scf.iv c0_i32 c1_i32 k0_t1
  let c32_i32_781 : BitVec 32 := 32#32
  let v1616 : BitVec 32 := Scalar.muli arg11 c32_i32_781
  let c24_i32_782 : BitVec 32 := 24#32
  let v1617 : BitVec 32 := Scalar.addi v1616 c24_i32_782
  let c0_i32_783 : BitVec 32 := 0#32
  let v1618 : BitVec 32 := Scalar.addi v1617 c0_i32_783
  let v1625 : BitVec 32 := Scalar.muli c2_i32_787 v1618
  let v1626 : BitVec 32 := Scalar.addi v1624 v1625
  let c1_i32_788 : BitVec 32 := 1#32
  let v1627 : BitVec 32 := Scalar.addi v1626 c1_i32_788
  let v1628 : Index := Scalar.indexCast v1627
  ![v1628.toNat]
def k0_off148 (v1623 : BitVec 32) : Fin 4 → Nat :=
  let v1641 : Index := Scalar.indexCast v1623
  let c0_794 : Index := 0#32
  let c0_795 : Index := 0#32
  let c0_796 : Index := 0#32
  ![v1641.toNat, 0, 0, 0]

def k0_off149 (v1629 : BitVec 32) : Fin 4 → Nat :=
  let v1646 : Index := Scalar.indexCast v1629
  let c0_797 : Index := 0#32
  let c0_798 : Index := 0#32
  let c0_799 : Index := 0#32
  ![v1646.toNat, 0, 0, 0]

def k0_chk50 (v1629 : BitVec 32) : Prop :=
  (∀ a, (k0_off149 v1629) a + S1x1x8x128.size a ≤ S128x1x8x128.size a)
theorem k0_off149_inb : ∀ (v1629 : BitVec 32) (k0_hw50 : k0_chk50 v1629), ∀ a, (k0_off149 v1629) a + S1x1x8x128.size a ≤ S128x1x8x128.size a := fun v1629 k0_hw50 => k0_hw50

def k0_off150 (v1623 : BitVec 32) : Fin 4 → Nat :=
  let v1654 : Index := Scalar.indexCast v1623
  let c0_801 : Index := 0#32
  let c0_802 : Index := 0#32
  let c0_803 : Index := 0#32
  ![v1654.toNat, 0, 0, 0]

def k0_chk49 (v1623 : BitVec 32) : Prop :=
  (∀ a, (k0_off148 v1623) a + S1x1x8x128.size a ≤ S128x1x8x128.size a) ∧
  (∀ a, (k0_off150 v1623) a + S1x1x8x128.size a ≤ S128x1x8x128.size a)
theorem k0_off148_inb : ∀ (v1623 : BitVec 32) (k0_hw49 : k0_chk49 v1623), ∀ a, (k0_off148 v1623) a + S1x1x8x128.size a ≤ S128x1x8x128.size a := fun v1623 k0_hw49 => k0_hw49.1
theorem k0_off150_inb : ∀ (v1623 : BitVec 32) (k0_hw49 : k0_chk49 v1623), ∀ a, (k0_off150 v1623) a + S1x1x8x128.size a ≤ S128x1x8x128.size a := fun v1623 k0_hw49 => k0_hw49.2

def k0_off151 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_808 : BitVec 32 := 0#32
  ![v137.toNat, 0]
def k0_off152 (i : grid0.Coords) (k0_t1 : Fin k0_t1_loop.trips) : Fin 1 → Nat :=
  let arg1 : BitVec 32 := BitVec.ofNat 32 (i 1).val
  let c1024_i32_813 : BitVec 32 := 1024#32
  let v1680 : BitVec 32 := Scalar.muli arg1 c1024_i32_813
  let c2_i32_814 : BitVec 32 := 2#32
  let c0_i32 : BitVec 32 := 0#32
  let c1_i32 : BitVec 32 := 1#32
  let arg11 : BitVec 32 := Scf.iv c0_i32 c1_i32 k0_t1
  let c32_i32_810 : BitVec 32 := 32#32
  let v1677 : BitVec 32 := Scalar.muli arg11 c32_i32_810
  let c24_i32_811 : BitVec 32 := 24#32
  let v1678 : BitVec 32 := Scalar.addi v1677 c24_i32_811
  let c1_i32_812 : BitVec 32 := 1#32
  let v1679 : BitVec 32 := Scalar.addi v1678 c1_i32_812
  let v1681 : BitVec 32 := Scalar.muli c2_i32_814 v1679
  let v1682 : BitVec 32 := Scalar.addi v1680 v1681
  let v1683 : Index := Scalar.indexCast v1682
  ![v1683.toNat]
def k0_off153 (i : grid0.Coords) (k0_t1 : Fin k0_t1_loop.trips) : Fin 1 → Nat :=
  let arg1 : BitVec 32 := BitVec.ofNat 32 (i 1).val
  let c1024_i32_815 : BitVec 32 := 1024#32
  let v1685 : BitVec 32 := Scalar.muli arg1 c1024_i32_815
  let c2_i32_816 : BitVec 32 := 2#32
  let c0_i32 : BitVec 32 := 0#32
  let c1_i32 : BitVec 32 := 1#32
  let arg11 : BitVec 32 := Scf.iv c0_i32 c1_i32 k0_t1
  let c32_i32_810 : BitVec 32 := 32#32
  let v1677 : BitVec 32 := Scalar.muli arg11 c32_i32_810
  let c24_i32_811 : BitVec 32 := 24#32
  let v1678 : BitVec 32 := Scalar.addi v1677 c24_i32_811
  let c1_i32_812 : BitVec 32 := 1#32
  let v1679 : BitVec 32 := Scalar.addi v1678 c1_i32_812
  let v1686 : BitVec 32 := Scalar.muli c2_i32_816 v1679
  let v1687 : BitVec 32 := Scalar.addi v1685 v1686
  let c1_i32_817 : BitVec 32 := 1#32
  let v1688 : BitVec 32 := Scalar.addi v1687 c1_i32_817
  let v1689 : Index := Scalar.indexCast v1688
  ![v1689.toNat]
def k0_off154 (v1684 : BitVec 32) : Fin 4 → Nat :=
  let v1702 : Index := Scalar.indexCast v1684
  let c0_823 : Index := 0#32
  let c0_824 : Index := 0#32
  let c0_825 : Index := 0#32
  ![v1702.toNat, 0, 0, 0]

def k0_off155 (v1690 : BitVec 32) : Fin 4 → Nat :=
  let v1707 : Index := Scalar.indexCast v1690
  let c0_826 : Index := 0#32
  let c0_827 : Index := 0#32
  let c0_828 : Index := 0#32
  ![v1707.toNat, 0, 0, 0]

def k0_chk52 (v1690 : BitVec 32) : Prop :=
  (∀ a, (k0_off155 v1690) a + S1x1x8x128.size a ≤ S128x1x8x128.size a)
theorem k0_off155_inb : ∀ (v1690 : BitVec 32) (k0_hw52 : k0_chk52 v1690), ∀ a, (k0_off155 v1690) a + S1x1x8x128.size a ≤ S128x1x8x128.size a := fun v1690 k0_hw52 => k0_hw52

def k0_off156 (v1684 : BitVec 32) : Fin 4 → Nat :=
  let v1715 : Index := Scalar.indexCast v1684
  let c0_830 : Index := 0#32
  let c0_831 : Index := 0#32
  let c0_832 : Index := 0#32
  ![v1715.toNat, 0, 0, 0]

def k0_chk51 (v1684 : BitVec 32) : Prop :=
  (∀ a, (k0_off154 v1684) a + S1x1x8x128.size a ≤ S128x1x8x128.size a) ∧
  (∀ a, (k0_off156 v1684) a + S1x1x8x128.size a ≤ S128x1x8x128.size a)
theorem k0_off154_inb : ∀ (v1684 : BitVec 32) (k0_hw51 : k0_chk51 v1684), ∀ a, (k0_off154 v1684) a + S1x1x8x128.size a ≤ S128x1x8x128.size a := fun v1684 k0_hw51 => k0_hw51.1
theorem k0_off156_inb : ∀ (v1684 : BitVec 32) (k0_hw51 : k0_chk51 v1684), ∀ a, (k0_off156 v1684) a + S1x1x8x128.size a ≤ S128x1x8x128.size a := fun v1684 k0_hw51 => k0_hw51.2

def k0_off157 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_837 : BitVec 32 := 0#32
  ![v137.toNat, 0]
def k0_off158 (i : grid0.Coords) (k0_t1 : Fin k0_t1_loop.trips) : Fin 1 → Nat :=
  let arg1 : BitVec 32 := BitVec.ofNat 32 (i 1).val
  let c1024_i32_842 : BitVec 32 := 1024#32
  let v1741 : BitVec 32 := Scalar.muli arg1 c1024_i32_842
  let c2_i32_843 : BitVec 32 := 2#32
  let c0_i32 : BitVec 32 := 0#32
  let c1_i32 : BitVec 32 := 1#32
  let arg11 : BitVec 32 := Scf.iv c0_i32 c1_i32 k0_t1
  let c32_i32_839 : BitVec 32 := 32#32
  let v1738 : BitVec 32 := Scalar.muli arg11 c32_i32_839
  let c24_i32_840 : BitVec 32 := 24#32
  let v1739 : BitVec 32 := Scalar.addi v1738 c24_i32_840
  let c2_i32_841 : BitVec 32 := 2#32
  let v1740 : BitVec 32 := Scalar.addi v1739 c2_i32_841
  let v1742 : BitVec 32 := Scalar.muli c2_i32_843 v1740
  let v1743 : BitVec 32 := Scalar.addi v1741 v1742
  let v1744 : Index := Scalar.indexCast v1743
  ![v1744.toNat]
def k0_off159 (i : grid0.Coords) (k0_t1 : Fin k0_t1_loop.trips) : Fin 1 → Nat :=
  let arg1 : BitVec 32 := BitVec.ofNat 32 (i 1).val
  let c1024_i32_844 : BitVec 32 := 1024#32
  let v1746 : BitVec 32 := Scalar.muli arg1 c1024_i32_844
  let c2_i32_845 : BitVec 32 := 2#32
  let c0_i32 : BitVec 32 := 0#32
  let c1_i32 : BitVec 32 := 1#32
  let arg11 : BitVec 32 := Scf.iv c0_i32 c1_i32 k0_t1
  let c32_i32_839 : BitVec 32 := 32#32
  let v1738 : BitVec 32 := Scalar.muli arg11 c32_i32_839
  let c24_i32_840 : BitVec 32 := 24#32
  let v1739 : BitVec 32 := Scalar.addi v1738 c24_i32_840
  let c2_i32_841 : BitVec 32 := 2#32
  let v1740 : BitVec 32 := Scalar.addi v1739 c2_i32_841
  let v1747 : BitVec 32 := Scalar.muli c2_i32_845 v1740
  let v1748 : BitVec 32 := Scalar.addi v1746 v1747
  let c1_i32_846 : BitVec 32 := 1#32
  let v1749 : BitVec 32 := Scalar.addi v1748 c1_i32_846
  let v1750 : Index := Scalar.indexCast v1749
  ![v1750.toNat]
def k0_off160 (v1745 : BitVec 32) : Fin 4 → Nat :=
  let v1763 : Index := Scalar.indexCast v1745
  let c0_852 : Index := 0#32
  let c0_853 : Index := 0#32
  let c0_854 : Index := 0#32
  ![v1763.toNat, 0, 0, 0]

def k0_off161 (v1751 : BitVec 32) : Fin 4 → Nat :=
  let v1768 : Index := Scalar.indexCast v1751
  let c0_855 : Index := 0#32
  let c0_856 : Index := 0#32
  let c0_857 : Index := 0#32
  ![v1768.toNat, 0, 0, 0]

def k0_chk54 (v1751 : BitVec 32) : Prop :=
  (∀ a, (k0_off161 v1751) a + S1x1x8x128.size a ≤ S128x1x8x128.size a)
theorem k0_off161_inb : ∀ (v1751 : BitVec 32) (k0_hw54 : k0_chk54 v1751), ∀ a, (k0_off161 v1751) a + S1x1x8x128.size a ≤ S128x1x8x128.size a := fun v1751 k0_hw54 => k0_hw54

def k0_off162 (v1745 : BitVec 32) : Fin 4 → Nat :=
  let v1776 : Index := Scalar.indexCast v1745
  let c0_859 : Index := 0#32
  let c0_860 : Index := 0#32
  let c0_861 : Index := 0#32
  ![v1776.toNat, 0, 0, 0]

def k0_chk53 (v1745 : BitVec 32) : Prop :=
  (∀ a, (k0_off160 v1745) a + S1x1x8x128.size a ≤ S128x1x8x128.size a) ∧
  (∀ a, (k0_off162 v1745) a + S1x1x8x128.size a ≤ S128x1x8x128.size a)
theorem k0_off160_inb : ∀ (v1745 : BitVec 32) (k0_hw53 : k0_chk53 v1745), ∀ a, (k0_off160 v1745) a + S1x1x8x128.size a ≤ S128x1x8x128.size a := fun v1745 k0_hw53 => k0_hw53.1
theorem k0_off162_inb : ∀ (v1745 : BitVec 32) (k0_hw53 : k0_chk53 v1745), ∀ a, (k0_off162 v1745) a + S1x1x8x128.size a ≤ S128x1x8x128.size a := fun v1745 k0_hw53 => k0_hw53.2

def k0_off163 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_866 : BitVec 32 := 0#32
  ![v137.toNat, 0]
def k0_off164 (i : grid0.Coords) (k0_t1 : Fin k0_t1_loop.trips) : Fin 1 → Nat :=
  let arg1 : BitVec 32 := BitVec.ofNat 32 (i 1).val
  let c1024_i32_871 : BitVec 32 := 1024#32
  let v1802 : BitVec 32 := Scalar.muli arg1 c1024_i32_871
  let c2_i32_872 : BitVec 32 := 2#32
  let c0_i32 : BitVec 32 := 0#32
  let c1_i32 : BitVec 32 := 1#32
  let arg11 : BitVec 32 := Scf.iv c0_i32 c1_i32 k0_t1
  let c32_i32_868 : BitVec 32 := 32#32
  let v1799 : BitVec 32 := Scalar.muli arg11 c32_i32_868
  let c24_i32_869 : BitVec 32 := 24#32
  let v1800 : BitVec 32 := Scalar.addi v1799 c24_i32_869
  let c3_i32_870 : BitVec 32 := 3#32
  let v1801 : BitVec 32 := Scalar.addi v1800 c3_i32_870
  let v1803 : BitVec 32 := Scalar.muli c2_i32_872 v1801
  let v1804 : BitVec 32 := Scalar.addi v1802 v1803
  let v1805 : Index := Scalar.indexCast v1804
  ![v1805.toNat]
def k0_off165 (i : grid0.Coords) (k0_t1 : Fin k0_t1_loop.trips) : Fin 1 → Nat :=
  let arg1 : BitVec 32 := BitVec.ofNat 32 (i 1).val
  let c1024_i32_873 : BitVec 32 := 1024#32
  let v1807 : BitVec 32 := Scalar.muli arg1 c1024_i32_873
  let c2_i32_874 : BitVec 32 := 2#32
  let c0_i32 : BitVec 32 := 0#32
  let c1_i32 : BitVec 32 := 1#32
  let arg11 : BitVec 32 := Scf.iv c0_i32 c1_i32 k0_t1
  let c32_i32_868 : BitVec 32 := 32#32
  let v1799 : BitVec 32 := Scalar.muli arg11 c32_i32_868
  let c24_i32_869 : BitVec 32 := 24#32
  let v1800 : BitVec 32 := Scalar.addi v1799 c24_i32_869
  let c3_i32_870 : BitVec 32 := 3#32
  let v1801 : BitVec 32 := Scalar.addi v1800 c3_i32_870
  let v1808 : BitVec 32 := Scalar.muli c2_i32_874 v1801
  let v1809 : BitVec 32 := Scalar.addi v1807 v1808
  let c1_i32_875 : BitVec 32 := 1#32
  let v1810 : BitVec 32 := Scalar.addi v1809 c1_i32_875
  let v1811 : Index := Scalar.indexCast v1810
  ![v1811.toNat]
def k0_off166 (v1806 : BitVec 32) : Fin 4 → Nat :=
  let v1824 : Index := Scalar.indexCast v1806
  let c0_881 : Index := 0#32
  let c0_882 : Index := 0#32
  let c0_883 : Index := 0#32
  ![v1824.toNat, 0, 0, 0]

def k0_off167 (v1812 : BitVec 32) : Fin 4 → Nat :=
  let v1829 : Index := Scalar.indexCast v1812
  let c0_884 : Index := 0#32
  let c0_885 : Index := 0#32
  let c0_886 : Index := 0#32
  ![v1829.toNat, 0, 0, 0]

def k0_chk56 (v1812 : BitVec 32) : Prop :=
  (∀ a, (k0_off167 v1812) a + S1x1x8x128.size a ≤ S128x1x8x128.size a)
theorem k0_off167_inb : ∀ (v1812 : BitVec 32) (k0_hw56 : k0_chk56 v1812), ∀ a, (k0_off167 v1812) a + S1x1x8x128.size a ≤ S128x1x8x128.size a := fun v1812 k0_hw56 => k0_hw56

def k0_off168 (v1806 : BitVec 32) : Fin 4 → Nat :=
  let v1837 : Index := Scalar.indexCast v1806
  let c0_888 : Index := 0#32
  let c0_889 : Index := 0#32
  let c0_890 : Index := 0#32
  ![v1837.toNat, 0, 0, 0]

def k0_chk55 (v1806 : BitVec 32) : Prop :=
  (∀ a, (k0_off166 v1806) a + S1x1x8x128.size a ≤ S128x1x8x128.size a) ∧
  (∀ a, (k0_off168 v1806) a + S1x1x8x128.size a ≤ S128x1x8x128.size a)
theorem k0_off166_inb : ∀ (v1806 : BitVec 32) (k0_hw55 : k0_chk55 v1806), ∀ a, (k0_off166 v1806) a + S1x1x8x128.size a ≤ S128x1x8x128.size a := fun v1806 k0_hw55 => k0_hw55.1
theorem k0_off168_inb : ∀ (v1806 : BitVec 32) (k0_hw55 : k0_chk55 v1806), ∀ a, (k0_off168 v1806) a + S1x1x8x128.size a ≤ S128x1x8x128.size a := fun v1806 k0_hw55 => k0_hw55.2

def k0_off169 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_895 : BitVec 32 := 0#32
  ![v137.toNat, 0]
def k0_off170 (i : grid0.Coords) (k0_t1 : Fin k0_t1_loop.trips) : Fin 1 → Nat :=
  let arg1 : BitVec 32 := BitVec.ofNat 32 (i 1).val
  let c1024_i32_899 : BitVec 32 := 1024#32
  let v1865 : BitVec 32 := Scalar.muli arg1 c1024_i32_899
  let c2_i32_900 : BitVec 32 := 2#32
  let c0_i32 : BitVec 32 := 0#32
  let c1_i32 : BitVec 32 := 1#32
  let arg11 : BitVec 32 := Scf.iv c0_i32 c1_i32 k0_t1
  let c32_i32_897 : BitVec 32 := 32#32
  let v1862 : BitVec 32 := Scalar.muli arg11 c32_i32_897
  let c28_i32 : BitVec 32 := 28#32
  let v1863 : BitVec 32 := Scalar.addi v1862 c28_i32
  let c0_i32_898 : BitVec 32 := 0#32
  let v1864 : BitVec 32 := Scalar.addi v1863 c0_i32_898
  let v1866 : BitVec 32 := Scalar.muli c2_i32_900 v1864
  let v1867 : BitVec 32 := Scalar.addi v1865 v1866
  let v1868 : Index := Scalar.indexCast v1867
  ![v1868.toNat]
def k0_off171 (i : grid0.Coords) (k0_t1 : Fin k0_t1_loop.trips) : Fin 1 → Nat :=
  let arg1 : BitVec 32 := BitVec.ofNat 32 (i 1).val
  let c1024_i32_901 : BitVec 32 := 1024#32
  let v1870 : BitVec 32 := Scalar.muli arg1 c1024_i32_901
  let c2_i32_902 : BitVec 32 := 2#32
  let c0_i32 : BitVec 32 := 0#32
  let c1_i32 : BitVec 32 := 1#32
  let arg11 : BitVec 32 := Scf.iv c0_i32 c1_i32 k0_t1
  let c32_i32_897 : BitVec 32 := 32#32
  let v1862 : BitVec 32 := Scalar.muli arg11 c32_i32_897
  let c28_i32 : BitVec 32 := 28#32
  let v1863 : BitVec 32 := Scalar.addi v1862 c28_i32
  let c0_i32_898 : BitVec 32 := 0#32
  let v1864 : BitVec 32 := Scalar.addi v1863 c0_i32_898
  let v1871 : BitVec 32 := Scalar.muli c2_i32_902 v1864
  let v1872 : BitVec 32 := Scalar.addi v1870 v1871
  let c1_i32_903 : BitVec 32 := 1#32
  let v1873 : BitVec 32 := Scalar.addi v1872 c1_i32_903
  let v1874 : Index := Scalar.indexCast v1873
  ![v1874.toNat]
def k0_off172 (v1869 : BitVec 32) : Fin 4 → Nat :=
  let v1887 : Index := Scalar.indexCast v1869
  let c0_909 : Index := 0#32
  let c0_910 : Index := 0#32
  let c0_911 : Index := 0#32
  ![v1887.toNat, 0, 0, 0]

def k0_off173 (v1875 : BitVec 32) : Fin 4 → Nat :=
  let v1892 : Index := Scalar.indexCast v1875
  let c0_912 : Index := 0#32
  let c0_913 : Index := 0#32
  let c0_914 : Index := 0#32
  ![v1892.toNat, 0, 0, 0]

def k0_chk58 (v1875 : BitVec 32) : Prop :=
  (∀ a, (k0_off173 v1875) a + S1x1x8x128.size a ≤ S128x1x8x128.size a)
theorem k0_off173_inb : ∀ (v1875 : BitVec 32) (k0_hw58 : k0_chk58 v1875), ∀ a, (k0_off173 v1875) a + S1x1x8x128.size a ≤ S128x1x8x128.size a := fun v1875 k0_hw58 => k0_hw58

def k0_off174 (v1869 : BitVec 32) : Fin 4 → Nat :=
  let v1900 : Index := Scalar.indexCast v1869
  let c0_916 : Index := 0#32
  let c0_917 : Index := 0#32
  let c0_918 : Index := 0#32
  ![v1900.toNat, 0, 0, 0]

def k0_chk57 (v1869 : BitVec 32) : Prop :=
  (∀ a, (k0_off172 v1869) a + S1x1x8x128.size a ≤ S128x1x8x128.size a) ∧
  (∀ a, (k0_off174 v1869) a + S1x1x8x128.size a ≤ S128x1x8x128.size a)
theorem k0_off172_inb : ∀ (v1869 : BitVec 32) (k0_hw57 : k0_chk57 v1869), ∀ a, (k0_off172 v1869) a + S1x1x8x128.size a ≤ S128x1x8x128.size a := fun v1869 k0_hw57 => k0_hw57.1
theorem k0_off174_inb : ∀ (v1869 : BitVec 32) (k0_hw57 : k0_chk57 v1869), ∀ a, (k0_off174 v1869) a + S1x1x8x128.size a ≤ S128x1x8x128.size a := fun v1869 k0_hw57 => k0_hw57.2

def k0_off175 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_923 : BitVec 32 := 0#32
  ![v137.toNat, 0]
def k0_off176 (i : grid0.Coords) (k0_t1 : Fin k0_t1_loop.trips) : Fin 1 → Nat :=
  let arg1 : BitVec 32 := BitVec.ofNat 32 (i 1).val
  let c1024_i32_928 : BitVec 32 := 1024#32
  let v1926 : BitVec 32 := Scalar.muli arg1 c1024_i32_928
  let c2_i32_929 : BitVec 32 := 2#32
  let c0_i32 : BitVec 32 := 0#32
  let c1_i32 : BitVec 32 := 1#32
  let arg11 : BitVec 32 := Scf.iv c0_i32 c1_i32 k0_t1
  let c32_i32_925 : BitVec 32 := 32#32
  let v1923 : BitVec 32 := Scalar.muli arg11 c32_i32_925
  let c28_i32_926 : BitVec 32 := 28#32
  let v1924 : BitVec 32 := Scalar.addi v1923 c28_i32_926
  let c1_i32_927 : BitVec 32 := 1#32
  let v1925 : BitVec 32 := Scalar.addi v1924 c1_i32_927
  let v1927 : BitVec 32 := Scalar.muli c2_i32_929 v1925
  let v1928 : BitVec 32 := Scalar.addi v1926 v1927
  let v1929 : Index := Scalar.indexCast v1928
  ![v1929.toNat]
def k0_off177 (i : grid0.Coords) (k0_t1 : Fin k0_t1_loop.trips) : Fin 1 → Nat :=
  let arg1 : BitVec 32 := BitVec.ofNat 32 (i 1).val
  let c1024_i32_930 : BitVec 32 := 1024#32
  let v1931 : BitVec 32 := Scalar.muli arg1 c1024_i32_930
  let c2_i32_931 : BitVec 32 := 2#32
  let c0_i32 : BitVec 32 := 0#32
  let c1_i32 : BitVec 32 := 1#32
  let arg11 : BitVec 32 := Scf.iv c0_i32 c1_i32 k0_t1
  let c32_i32_925 : BitVec 32 := 32#32
  let v1923 : BitVec 32 := Scalar.muli arg11 c32_i32_925
  let c28_i32_926 : BitVec 32 := 28#32
  let v1924 : BitVec 32 := Scalar.addi v1923 c28_i32_926
  let c1_i32_927 : BitVec 32 := 1#32
  let v1925 : BitVec 32 := Scalar.addi v1924 c1_i32_927
  let v1932 : BitVec 32 := Scalar.muli c2_i32_931 v1925
  let v1933 : BitVec 32 := Scalar.addi v1931 v1932
  let c1_i32_932 : BitVec 32 := 1#32
  let v1934 : BitVec 32 := Scalar.addi v1933 c1_i32_932
  let v1935 : Index := Scalar.indexCast v1934
  ![v1935.toNat]
def k0_off178 (v1930 : BitVec 32) : Fin 4 → Nat :=
  let v1948 : Index := Scalar.indexCast v1930
  let c0_938 : Index := 0#32
  let c0_939 : Index := 0#32
  let c0_940 : Index := 0#32
  ![v1948.toNat, 0, 0, 0]

def k0_off179 (v1936 : BitVec 32) : Fin 4 → Nat :=
  let v1953 : Index := Scalar.indexCast v1936
  let c0_941 : Index := 0#32
  let c0_942 : Index := 0#32
  let c0_943 : Index := 0#32
  ![v1953.toNat, 0, 0, 0]

def k0_chk60 (v1936 : BitVec 32) : Prop :=
  (∀ a, (k0_off179 v1936) a + S1x1x8x128.size a ≤ S128x1x8x128.size a)
theorem k0_off179_inb : ∀ (v1936 : BitVec 32) (k0_hw60 : k0_chk60 v1936), ∀ a, (k0_off179 v1936) a + S1x1x8x128.size a ≤ S128x1x8x128.size a := fun v1936 k0_hw60 => k0_hw60

def k0_off180 (v1930 : BitVec 32) : Fin 4 → Nat :=
  let v1961 : Index := Scalar.indexCast v1930
  let c0_945 : Index := 0#32
  let c0_946 : Index := 0#32
  let c0_947 : Index := 0#32
  ![v1961.toNat, 0, 0, 0]

def k0_chk59 (v1930 : BitVec 32) : Prop :=
  (∀ a, (k0_off178 v1930) a + S1x1x8x128.size a ≤ S128x1x8x128.size a) ∧
  (∀ a, (k0_off180 v1930) a + S1x1x8x128.size a ≤ S128x1x8x128.size a)
theorem k0_off178_inb : ∀ (v1930 : BitVec 32) (k0_hw59 : k0_chk59 v1930), ∀ a, (k0_off178 v1930) a + S1x1x8x128.size a ≤ S128x1x8x128.size a := fun v1930 k0_hw59 => k0_hw59.1
theorem k0_off180_inb : ∀ (v1930 : BitVec 32) (k0_hw59 : k0_chk59 v1930), ∀ a, (k0_off180 v1930) a + S1x1x8x128.size a ≤ S128x1x8x128.size a := fun v1930 k0_hw59 => k0_hw59.2

def k0_off181 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_952 : BitVec 32 := 0#32
  ![v137.toNat, 0]
def k0_off182 (i : grid0.Coords) (k0_t1 : Fin k0_t1_loop.trips) : Fin 1 → Nat :=
  let arg1 : BitVec 32 := BitVec.ofNat 32 (i 1).val
  let c1024_i32_957 : BitVec 32 := 1024#32
  let v1987 : BitVec 32 := Scalar.muli arg1 c1024_i32_957
  let c2_i32_958 : BitVec 32 := 2#32
  let c0_i32 : BitVec 32 := 0#32
  let c1_i32 : BitVec 32 := 1#32
  let arg11 : BitVec 32 := Scf.iv c0_i32 c1_i32 k0_t1
  let c32_i32_954 : BitVec 32 := 32#32
  let v1984 : BitVec 32 := Scalar.muli arg11 c32_i32_954
  let c28_i32_955 : BitVec 32 := 28#32
  let v1985 : BitVec 32 := Scalar.addi v1984 c28_i32_955
  let c2_i32_956 : BitVec 32 := 2#32
  let v1986 : BitVec 32 := Scalar.addi v1985 c2_i32_956
  let v1988 : BitVec 32 := Scalar.muli c2_i32_958 v1986
  let v1989 : BitVec 32 := Scalar.addi v1987 v1988
  let v1990 : Index := Scalar.indexCast v1989
  ![v1990.toNat]
def k0_off183 (i : grid0.Coords) (k0_t1 : Fin k0_t1_loop.trips) : Fin 1 → Nat :=
  let arg1 : BitVec 32 := BitVec.ofNat 32 (i 1).val
  let c1024_i32_959 : BitVec 32 := 1024#32
  let v1992 : BitVec 32 := Scalar.muli arg1 c1024_i32_959
  let c2_i32_960 : BitVec 32 := 2#32
  let c0_i32 : BitVec 32 := 0#32
  let c1_i32 : BitVec 32 := 1#32
  let arg11 : BitVec 32 := Scf.iv c0_i32 c1_i32 k0_t1
  let c32_i32_954 : BitVec 32 := 32#32
  let v1984 : BitVec 32 := Scalar.muli arg11 c32_i32_954
  let c28_i32_955 : BitVec 32 := 28#32
  let v1985 : BitVec 32 := Scalar.addi v1984 c28_i32_955
  let c2_i32_956 : BitVec 32 := 2#32
  let v1986 : BitVec 32 := Scalar.addi v1985 c2_i32_956
  let v1993 : BitVec 32 := Scalar.muli c2_i32_960 v1986
  let v1994 : BitVec 32 := Scalar.addi v1992 v1993
  let c1_i32_961 : BitVec 32 := 1#32
  let v1995 : BitVec 32 := Scalar.addi v1994 c1_i32_961
  let v1996 : Index := Scalar.indexCast v1995
  ![v1996.toNat]
def k0_off184 (v1991 : BitVec 32) : Fin 4 → Nat :=
  let v2009 : Index := Scalar.indexCast v1991
  let c0_967 : Index := 0#32
  let c0_968 : Index := 0#32
  let c0_969 : Index := 0#32
  ![v2009.toNat, 0, 0, 0]

def k0_off185 (v1997 : BitVec 32) : Fin 4 → Nat :=
  let v2014 : Index := Scalar.indexCast v1997
  let c0_970 : Index := 0#32
  let c0_971 : Index := 0#32
  let c0_972 : Index := 0#32
  ![v2014.toNat, 0, 0, 0]

def k0_chk62 (v1997 : BitVec 32) : Prop :=
  (∀ a, (k0_off185 v1997) a + S1x1x8x128.size a ≤ S128x1x8x128.size a)
theorem k0_off185_inb : ∀ (v1997 : BitVec 32) (k0_hw62 : k0_chk62 v1997), ∀ a, (k0_off185 v1997) a + S1x1x8x128.size a ≤ S128x1x8x128.size a := fun v1997 k0_hw62 => k0_hw62

def k0_off186 (v1991 : BitVec 32) : Fin 4 → Nat :=
  let v2022 : Index := Scalar.indexCast v1991
  let c0_974 : Index := 0#32
  let c0_975 : Index := 0#32
  let c0_976 : Index := 0#32
  ![v2022.toNat, 0, 0, 0]

def k0_chk61 (v1991 : BitVec 32) : Prop :=
  (∀ a, (k0_off184 v1991) a + S1x1x8x128.size a ≤ S128x1x8x128.size a) ∧
  (∀ a, (k0_off186 v1991) a + S1x1x8x128.size a ≤ S128x1x8x128.size a)
theorem k0_off184_inb : ∀ (v1991 : BitVec 32) (k0_hw61 : k0_chk61 v1991), ∀ a, (k0_off184 v1991) a + S1x1x8x128.size a ≤ S128x1x8x128.size a := fun v1991 k0_hw61 => k0_hw61.1
theorem k0_off186_inb : ∀ (v1991 : BitVec 32) (k0_hw61 : k0_chk61 v1991), ∀ a, (k0_off186 v1991) a + S1x1x8x128.size a ≤ S128x1x8x128.size a := fun v1991 k0_hw61 => k0_hw61.2

def k0_off187 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_981 : BitVec 32 := 0#32
  ![v137.toNat, 0]
def k0_off188 (i : grid0.Coords) (k0_t1 : Fin k0_t1_loop.trips) : Fin 1 → Nat :=
  let arg1 : BitVec 32 := BitVec.ofNat 32 (i 1).val
  let c1024_i32_986 : BitVec 32 := 1024#32
  let v2048 : BitVec 32 := Scalar.muli arg1 c1024_i32_986
  let c2_i32_987 : BitVec 32 := 2#32
  let c0_i32 : BitVec 32 := 0#32
  let c1_i32 : BitVec 32 := 1#32
  let arg11 : BitVec 32 := Scf.iv c0_i32 c1_i32 k0_t1
  let c32_i32_983 : BitVec 32 := 32#32
  let v2045 : BitVec 32 := Scalar.muli arg11 c32_i32_983
  let c28_i32_984 : BitVec 32 := 28#32
  let v2046 : BitVec 32 := Scalar.addi v2045 c28_i32_984
  let c3_i32_985 : BitVec 32 := 3#32
  let v2047 : BitVec 32 := Scalar.addi v2046 c3_i32_985
  let v2049 : BitVec 32 := Scalar.muli c2_i32_987 v2047
  let v2050 : BitVec 32 := Scalar.addi v2048 v2049
  let v2051 : Index := Scalar.indexCast v2050
  ![v2051.toNat]
def k0_off189 (i : grid0.Coords) (k0_t1 : Fin k0_t1_loop.trips) : Fin 1 → Nat :=
  let arg1 : BitVec 32 := BitVec.ofNat 32 (i 1).val
  let c1024_i32_988 : BitVec 32 := 1024#32
  let v2053 : BitVec 32 := Scalar.muli arg1 c1024_i32_988
  let c2_i32_989 : BitVec 32 := 2#32
  let c0_i32 : BitVec 32 := 0#32
  let c1_i32 : BitVec 32 := 1#32
  let arg11 : BitVec 32 := Scf.iv c0_i32 c1_i32 k0_t1
  let c32_i32_983 : BitVec 32 := 32#32
  let v2045 : BitVec 32 := Scalar.muli arg11 c32_i32_983
  let c28_i32_984 : BitVec 32 := 28#32
  let v2046 : BitVec 32 := Scalar.addi v2045 c28_i32_984
  let c3_i32_985 : BitVec 32 := 3#32
  let v2047 : BitVec 32 := Scalar.addi v2046 c3_i32_985
  let v2054 : BitVec 32 := Scalar.muli c2_i32_989 v2047
  let v2055 : BitVec 32 := Scalar.addi v2053 v2054
  let c1_i32_990 : BitVec 32 := 1#32
  let v2056 : BitVec 32 := Scalar.addi v2055 c1_i32_990
  let v2057 : Index := Scalar.indexCast v2056
  ![v2057.toNat]
def k0_off190 (v2052 : BitVec 32) : Fin 4 → Nat :=
  let v2070 : Index := Scalar.indexCast v2052
  let c0_996 : Index := 0#32
  let c0_997 : Index := 0#32
  let c0_998 : Index := 0#32
  ![v2070.toNat, 0, 0, 0]

def k0_off191 (v2058 : BitVec 32) : Fin 4 → Nat :=
  let v2075 : Index := Scalar.indexCast v2058
  let c0_999 : Index := 0#32
  let c0_1000 : Index := 0#32
  let c0_1001 : Index := 0#32
  ![v2075.toNat, 0, 0, 0]

def k0_chk64 (v2058 : BitVec 32) : Prop :=
  (∀ a, (k0_off191 v2058) a + S1x1x8x128.size a ≤ S128x1x8x128.size a)
theorem k0_off191_inb : ∀ (v2058 : BitVec 32) (k0_hw64 : k0_chk64 v2058), ∀ a, (k0_off191 v2058) a + S1x1x8x128.size a ≤ S128x1x8x128.size a := fun v2058 k0_hw64 => k0_hw64

def k0_off192 (v2052 : BitVec 32) : Fin 4 → Nat :=
  let v2083 : Index := Scalar.indexCast v2052
  let c0_1003 : Index := 0#32
  let c0_1004 : Index := 0#32
  let c0_1005 : Index := 0#32
  ![v2083.toNat, 0, 0, 0]

def k0_chk63 (v2052 : BitVec 32) : Prop :=
  (∀ a, (k0_off190 v2052) a + S1x1x8x128.size a ≤ S128x1x8x128.size a) ∧
  (∀ a, (k0_off192 v2052) a + S1x1x8x128.size a ≤ S128x1x8x128.size a)
theorem k0_off190_inb : ∀ (v2052 : BitVec 32) (k0_hw63 : k0_chk63 v2052), ∀ a, (k0_off190 v2052) a + S1x1x8x128.size a ≤ S128x1x8x128.size a := fun v2052 k0_hw63 => k0_hw63.1
theorem k0_off192_inb : ∀ (v2052 : BitVec 32) (k0_hw63 : k0_chk63 v2052), ∀ a, (k0_off192 v2052) a + S1x1x8x128.size a ≤ S128x1x8x128.size a := fun v2052 k0_hw63 => k0_hw63.2

def k0_off193 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_1010 : BitVec 32 := 0#32
  ![v137.toNat, 0]
def k0_cond25 (i : grid0.Coords) : BitVec 1 :=
  let arg1 : BitVec 32 := BitVec.ofNat 32 (i 1).val
  let c15_i32 : BitVec 32 := 15#32
  let v129 : BitVec 1 := Scalar.cmpi .eq arg1 c15_i32
  let v130 : BitVec 32 := Scalar.extui v129
  let c0_i32_90 : BitVec 32 := 0#32
  let v131 : BitVec 1 := Scalar.cmpi .ne v130 c0_i32_90
  v131

@[reducible] def k0_t2_loop : Scf.Loop 32 :=
  let c0_i32_91 : BitVec 32 := 0#32
  let c12_i32 : BitVec 32 := 12#32
  let v132 : BitVec 32 := Scalar.addi c0_i32_91 c12_i32
  let c1_i32_92 : BitVec 32 := 1#32
  ⟨c0_i32_91, v132, c1_i32_92⟩
def k0_off194 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v134 : Index := Scalar.indexCast v133
  let c0_94 : Index := 0#32
  ![v134.toNat, 0]
def k0_off195 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v225 : Index := Scalar.indexCast v133
  let c128 : Index := 128#32
  ![v225.toNat, 128]
def k0_off196 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v316 : Index := Scalar.indexCast v133
  let c256 : Index := 256#32
  ![v316.toNat, 256]
def k0_off197 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v407 : Index := Scalar.indexCast v133
  let c384 : Index := 384#32
  ![v407.toNat, 384]
def k0_off198 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v498 : Index := Scalar.indexCast v133
  let c512 : Index := 512#32
  ![v498.toNat, 512]
def k0_off199 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v589 : Index := Scalar.indexCast v133
  let c640 : Index := 640#32
  ![v589.toNat, 640]
def k0_off200 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v680 : Index := Scalar.indexCast v133
  let c768 : Index := 768#32
  ![v680.toNat, 768]
def k0_off201 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v771 : Index := Scalar.indexCast v133
  let c896 : Index := 896#32
  ![v771.toNat, 896]
def k0_off202 (k0_t2 : Fin k0_t2_loop.trips) : Fin 3 → Nat :=
  let c0_325 : Index := 0#32
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v863 : Index := Scalar.indexCast v133
  let c0_326 : Index := 0#32
  ![0, v863.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3072x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x8x32x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3072x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3072x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S3072x1x16384 : Shape := ⟨3, ![3072, 1, 16384]⟩
abbrev S8192x18432 : Shape := ⟨2, ![8192, 18432]⟩
abbrev S128x18432 : Shape := ⟨2, ![128, 18432]⟩
abbrev S64x18432 : Shape := ⟨2, ![64, 18432]⟩
abbrev S16384 : Shape := ⟨1, ![16384]⟩
abbrev S3072x16384 : Shape := ⟨2, ![3072, 16384]⟩
abbrev S256x32x144x128 : Shape := ⟨4, ![256, 32, 144, 128]⟩
abbrev S256x144x32x128 : Shape := ⟨4, ![256, 144, 32, 128]⟩
abbrev S_ : Shape := ⟨0, ![]⟩
abbrev S128x18x8x128 : Shape := ⟨4, ![128, 18, 8, 128]⟩
abbrev S3072x18432 : Shape := ⟨2, ![3072, 18432]⟩
abbrev S18x3072x8 : Shape := ⟨3, ![18, 3072, 8]⟩
abbrev S3072x1024 : Shape := ⟨2, ![3072, 1024]⟩
abbrev S16x8x32x128 : Shape := ⟨4, ![16, 8, 32, 128]⟩
abbrev S128x1x8x128 : Shape := ⟨4, ![128, 1, 8, 128]⟩
abbrev S1x3072x8 : Shape := ⟨3, ![1, 3072, 8]⟩
abbrev S4128x128 : Shape := ⟨2, ![4128, 128]⟩
abbrev S4128x2x128 : Shape := ⟨3, ![4128, 2, 128]⟩
abbrev S4128x1x128 : Shape := ⟨3, ![4128, 1, 128]⟩
abbrev S1x8x32x128 : Shape := ⟨4, ![1, 8, 32, 128]⟩
abbrev S8x32x128 : Shape := ⟨3, ![8, 32, 128]⟩
abbrev S8x8x128 : Shape := ⟨3, ![8, 8, 128]⟩
abbrev S8x1x128 : Shape := ⟨3, ![8, 1, 128]⟩
abbrev S8x128 : Shape := ⟨2, ![8, 128]⟩
abbrev S1 : Shape := ⟨1, ![1]⟩
abbrev S1x1x8x128 : Shape := ⟨4, ![1, 1, 8, 128]⟩
abbrev S16x128 : Shape := ⟨2, ![16, 128]⟩
abbrev S3644x2x128 : Shape := ⟨3, ![3644, 2, 128]⟩
abbrev S8x2x128 : Shape := ⟨3, ![8, 2, 128]⟩
abbrev S512x128 : Shape := ⟨2, ![512, 128]⟩
abbrev S512x2x128 : Shape := ⟨3, ![512, 2, 128]⟩
abbrev S512x1x128 : Shape := ⟨3, ![512, 1, 128]⟩
abbrev S1024x128 : Shape := ⟨2, ![1024, 128]⟩
abbrev S1024x256 : Shape := ⟨2, ![1024, 256]⟩
abbrev S1024x1024 : Shape := ⟨2, ![1024, 1024]⟩
abbrev S256x128 : Shape := ⟨2, ![256, 128]⟩
abbrev S256 : Shape := ⟨1, ![256]⟩
abbrev S256x1 : Shape := ⟨2, ![256, 1]⟩
abbrev S256x8 : Shape := ⟨2, ![256, 8]⟩
abbrev S1x256x8 : Shape := ⟨3, ![1, 256, 8]⟩

abbrev nBuf : Space → Nat
  | .hbm => 23
  | .vmem => 14
  | .smem => 1
  | _ => 0

abbrev bufTy : (tb : Table) → Fin (tcTables nBuf tb) → BufTy
  | .hbm, ⟨0, _⟩ => ⟨S3072x1x16384, .bf16⟩
  | .hbm, ⟨1, _⟩ => ⟨S8192x18432, .i8⟩
  | .hbm, ⟨2, _⟩ => ⟨S128x18432, .bf16⟩
  | .hbm, ⟨3, _⟩ => ⟨S64x18432, .i8⟩
  | .hbm, ⟨4, _⟩ => ⟨S3072x16384, .bf16⟩
  | .hbm, ⟨5, _⟩ => ⟨S256x32x144x128, .i8⟩
  | .hbm, ⟨6, _⟩ => ⟨S256x144x32x128, .i8⟩
  | .hbm, ⟨7, _⟩ => ⟨S64x18432, .i32⟩
  | .hbm, ⟨8, _⟩ => ⟨S_, .i32⟩
  | .hbm, ⟨9, _⟩ => ⟨S64x18432, .i32⟩
  | .hbm, ⟨10, _⟩ => ⟨S64x18432, .i32⟩
  | .hbm, ⟨11, _⟩ => ⟨S_, .i32⟩
  | .hbm, ⟨12, _⟩ => ⟨S64x18432, .i32⟩
  | .hbm, ⟨13, _⟩ => ⟨S64x18432, .i32⟩
  | .hbm, ⟨14, _⟩ => ⟨S128x18432, .i32⟩
  | .hbm, ⟨15, _⟩ => ⟨S128x18432, .bf16⟩
  | .hbm, ⟨16, _⟩ => ⟨S_, .bf16⟩
  | .hbm, ⟨17, _⟩ => ⟨S128x18432, .bf16⟩
  | .hbm, ⟨18, _⟩ => ⟨S128x18432, .bf16⟩
  | .hbm, ⟨19, _⟩ => ⟨S128x18x8x128, .bf16⟩
  | .hbm, ⟨20, _⟩ => ⟨S128x18x8x128, .bf16⟩
  | .hbm, ⟨21, _⟩ => ⟨S3072x18432, .fp8e4m3⟩
  | .hbm, ⟨22, _⟩ => ⟨S18x3072x8, .f32⟩
  | .local _ .vmem, ⟨0, _⟩ => ⟨S3072x1024, .bf16⟩
  | .local _ .vmem, ⟨1, _⟩ => ⟨S3072x1024, .bf16⟩
  | .local _ .vmem, ⟨2, _⟩ => ⟨S16x8x32x128, .i8⟩
  | .local _ .vmem, ⟨3, _⟩ => ⟨S16x8x32x128, .i8⟩
  | .local _ .vmem, ⟨4, _⟩ => ⟨S128x1x8x128, .bf16⟩
  | .local _ .vmem, ⟨5, _⟩ => ⟨S128x1x8x128, .bf16⟩
  | .local _ .vmem, ⟨6, _⟩ => ⟨S128x1x8x128, .bf16⟩
  | .local _ .vmem, ⟨7, _⟩ => ⟨S128x1x8x128, .bf16⟩
  | .local _ .vmem, ⟨8, _⟩ => ⟨S3072x1024, .fp8e4m3⟩
  | .local _ .vmem, ⟨9, _⟩ => ⟨S3072x1024, .fp8e4m3⟩
  | .local _ .vmem, ⟨10, _⟩ => ⟨S1x3072x8, .f32⟩
  | .local _ .vmem, ⟨11, _⟩ => ⟨S1x3072x8, .f32⟩
  | .local _ .vmem, ⟨12, _⟩ => ⟨S3072x1024, .f32⟩
  | .local _ .vmem, ⟨13, _⟩ => ⟨S4128x2x128, .bf16⟩
  | .local _ .smem, ⟨0, _⟩ => ⟨S16384, .i32⟩
  | _, _ => ⟨S3072x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![18, 16], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_i32 : BitVec 32 := 0#32
  let c1_i32 : BitVec 32 := 1#32
  let arg11 : BitVec 32 := Scf.iv c0_i32 c1_i32 k0_t1
  let v132 : Index := Scalar.indexCast arg11
  let c0_91 : Index := 0#32
  let c0_92 : Index := 0#32
  let c0_93 : Index := 0#32
  ![v132.toNat, 0, 0, 0]
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  v136
def k0_off2 (i : grid0.Coords) (k0_t1 : Fin k0_t1_loop.trips) : Fin 1 → Nat :=
  let arg1 : BitVec 32 := BitVec.ofNat 32 (i 1).val
  let c1024_i32 : BitVec 32 := 1024#32
  let v143 : BitVec 32 := Scalar.muli arg1 c1024_i32
  let c2_i32 : BitVec 32 := 2#32
  let c0_i32 : BitVec 32 := 0#32
  let c1_i32 : BitVec 32 := 1#32
  let arg11 : BitVec 32 := Scf.iv c0_i32 c1_i32 k0_t1
  let c32_i32_94 : BitVec 32 := 32#32
  let v140 : BitVec 32 := Scalar.muli arg11 c32_i32_94
  let c0_i32_95 : BitVec 32 := 0#32
  let v141 : BitVec 32 := Scalar.addi v140 c0_i32_95
  let c0_i32_96 : BitVec 32 := 0#32
  let v142 : BitVec 32 := Scalar.addi v141 c0_i32_96
  let v144 : BitVec 32 := Scalar.muli c2_i32 v142
  let v145 : BitVec 32 := Scalar.addi v143 v144
  let v146 : Index := Scalar.indexCast v145
  ![v146.toNat]
def k0_off3 (i : grid0.Coords) (k0_t1 : Fin k0_t1_loop.trips) : Fin 1 → Nat :=
  let arg1 : BitVec 32 := BitVec.ofNat 32 (i 1).val
  let c1024_i32_97 : BitVec 32 := 1024#32
  let v148 : BitVec 32 := Scalar.muli arg1 c1024_i32_97
  let c2_i32_98 : BitVec 32 := 2#32
  let c0_i32 : BitVec 32 := 0#32
  let c1_i32 : BitVec 32 := 1#32
  let arg11 : BitVec 32 := Scf.iv c0_i32 c1_i32 k0_t1
  let c32_i32_94 : BitVec 32 := 32#32
  let v140 : BitVec 32 := Scalar.muli arg11 c32_i32_94
  let c0_i32_95 : BitVec 32 := 0#32
  let v141 : BitVec 32 := Scalar.addi v140 c0_i32_95
  let c0_i32_96 : BitVec 32 := 0#32
  let v142 : BitVec 32 := Scalar.addi v141 c0_i32_96
  let v149 : BitVec 32 := Scalar.muli c2_i32_98 v142
  let v150 : BitVec 32 := Scalar.addi v148 v149
  let c1_i32_99 : BitVec 32 := 1#32
  let v151 : BitVec 32 := Scalar.addi v150 c1_i32_99
  let v152 : Index := Scalar.indexCast v151
  ![v152.toNat]
def k0_off4 (v147 : BitVec 32) : Fin 4 → Nat :=
  let v165 : Index := Scalar.indexCast v147
  let c0_102 : Index := 0#32
  let c0_103 : Index := 0#32
  let c0_104 : Index := 0#32
  ![v165.toNat, 0, 0, 0]

def k0_off5 (v153 : BitVec 32) : Fin 4 → Nat :=
  let v170 : Index := Scalar.indexCast v153
  let c0_105 : Index := 0#32
  let c0_106 : Index := 0#32
  let c0_107 : Index := 0#32
  ![v170.toNat, 0, 0, 0]

def k0_chk2 (v153 : BitVec 32) : Prop :=
  (∀ a, (k0_off5 v153) a + S1x1x8x128.size a ≤ S128x1x8x128.size a)
theorem k0_off5_inb : ∀ (v153 : BitVec 32) (k0_hw2 : k0_chk2 v153), ∀ a, (k0_off5 v153) a + S1x1x8x128.size a ≤ S128x1x8x128.size a := fun v153 k0_hw2 => k0_hw2

def k0_off6 (v147 : BitVec 32) : Fin 4 → Nat :=
  let v178 : Index := Scalar.indexCast v147
  let c0_109 : Index := 0#32
  let c0_110 : Index := 0#32
  let c0_111 : Index := 0#32
  ![v178.toNat, 0, 0, 0]

def k0_chk1 (v147 : BitVec 32) : Prop :=
  (∀ a, (k0_off4 v147) a + S1x1x8x128.size a ≤ S128x1x8x128.size a) ∧
  (∀ a, (k0_off6 v147) a + S1x1x8x128.size a ≤ S128x1x8x128.size a)
theorem k0_off4_inb : ∀ (v147 : BitVec 32) (k0_hw1 : k0_chk1 v147), ∀ a, (k0_off4 v147) a + S1x1x8x128.size a ≤ S128x1x8x128.size a := fun v147 k0_hw1 => k0_hw1.1
theorem k0_off6_inb : ∀ (v147 : BitVec 32) (k0_hw1 : k0_chk1 v147), ∀ a, (k0_off6 v147) a + S1x1x8x128.size a ≤ S128x1x8x128.size a := fun v147 k0_hw1 => k0_hw1.2

def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_116 : BitVec 32 := 0#32
  ![v137.toNat, 0, 0]
def k0_off8 (i : grid0.Coords) (k0_t1 : Fin k0_t1_loop.trips) : Fin 1 → Nat :=
  let arg1 : BitVec 32 := BitVec.ofNat 32 (i 1).val
  let c1024_i32_122 : BitVec 32 := 1024#32
  let v204 : BitVec 32 := Scalar.muli arg1 c1024_i32_122
  let c2_i32_123 : BitVec 32 := 2#32
  let c0_i32 : BitVec 32 := 0#32
  let c1_i32 : BitVec 32 := 1#32
  let arg11 : BitVec 32 := Scf.iv c0_i32 c1_i32 k0_t1
  let c32_i32_119 : BitVec 32 := 32#32
  let v201 : BitVec 32 := Scalar.muli arg11 c32_i32_119
  let c0_i32_120 : BitVec 32 := 0#32
  let v202 : BitVec 32 := Scalar.addi v201 c0_i32_120
  let c1_i32_121 : BitVec 32 := 1#32
  let v203 : BitVec 32 := Scalar.addi v202 c1_i32_121
  let v205 : BitVec 32 := Scalar.muli c2_i32_123 v203
  let v206 : BitVec 32 := Scalar.addi v204 v205
  let v207 : Index := Scalar.indexCast v206
  ![v207.toNat]
def k0_off9 (i : grid0.Coords) (k0_t1 : Fin k0_t1_loop.trips) : Fin 1 → Nat :=
  let arg1 : BitVec 32 := BitVec.ofNat 32 (i 1).val
  let c1024_i32_124 : BitVec 32 := 1024#32
  let v209 : BitVec 32 := Scalar.muli arg1 c1024_i32_124
  let c2_i32_125 : BitVec 32 := 2#32
  let c0_i32 : BitVec 32 := 0#32
  let c1_i32 : BitVec 32 := 1#32
  let arg11 : BitVec 32 := Scf.iv c0_i32 c1_i32 k0_t1
  let c32_i32_119 : BitVec 32 := 32#32
  let v201 : BitVec 32 := Scalar.muli arg11 c32_i32_119
  let c0_i32_120 : BitVec 32 := 0#32
  let v202 : BitVec 32 := Scalar.addi v201 c0_i32_120
  let c1_i32_121 : BitVec 32 := 1#32
  let v203 : BitVec 32 := Scalar.addi v202 c1_i32_121
  let v210 : BitVec 32 := Scalar.muli c2_i32_125 v203
  let v211 : BitVec 32 := Scalar.addi v209 v210
  let c1_i32_126 : BitVec 32 := 1#32
  let v212 : BitVec 32 := Scalar.addi v211 c1_i32_126
  let v213 : Index := Scalar.indexCast v212
  ![v213.toNat]
def k0_off10 (v208 : BitVec 32) : Fin 4 → Nat :=
  let v226 : Index := Scalar.indexCast v208
  let c0_131 : Index := 0#32
  let c0_132 : Index := 0#32
  let c0_133 : Index := 0#32
  ![v226.toNat, 0, 0, 0]

def k0_off11 (v214 : BitVec 32) : Fin 4 → Nat :=
  let v231 : Index := Scalar.indexCast v214
  let c0_134 : Index := 0#32
  let c0_135 : Index := 0#32
  let c0_136 : Index := 0#32
  ![v231.toNat, 0, 0, 0]

def k0_chk4 (v214 : BitVec 32) : Prop :=
  (∀ a, (k0_off11 v214) a + S1x1x8x128.size a ≤ S128x1x8x128.size a)
theorem k0_off11_inb : ∀ (v214 : BitVec 32) (k0_hw4 : k0_chk4 v214), ∀ a, (k0_off11 v214) a + S1x1x8x128.size a ≤ S128x1x8x128.size a := fun v214 k0_hw4 => k0_hw4

def k0_off12 (v208 : BitVec 32) : Fin 4 → Nat :=
  let v239 : Index := Scalar.indexCast v208
  let c0_138 : Index := 0#32
  let c0_139 : Index := 0#32
  let c0_140 : Index := 0#32
  ![v239.toNat, 0, 0, 0]

def k0_chk3 (v208 : BitVec 32) : Prop :=
  (∀ a, (k0_off10 v208) a + S1x1x8x128.size a ≤ S128x1x8x128.size a) ∧
  (∀ a, (k0_off12 v208) a + S1x1x8x128.size a ≤ S128x1x8x128.size a)
theorem k0_off10_inb : ∀ (v208 : BitVec 32) (k0_hw3 : k0_chk3 v208), ∀ a, (k0_off10 v208) a + S1x1x8x128.size a ≤ S128x1x8x128.size a := fun v208 k0_hw3 => k0_hw3.1
theorem k0_off12_inb : ∀ (v208 : BitVec 32) (k0_hw3 : k0_chk3 v208), ∀ a, (k0_off12 v208) a + S1x1x8x128.size a ≤ S128x1x8x128.size a := fun v208 k0_hw3 => k0_hw3.2

def k0_off13 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_145 : BitVec 32 := 0#32
  ![v137.toNat, 0, 0]
def k0_off14 (i : grid0.Coords) (k0_t1 : Fin k0_t1_loop.trips) : Fin 1 → Nat :=
  let arg1 : BitVec 32 := BitVec.ofNat 32 (i 1).val
  let c1024_i32_150 : BitVec 32 := 1024#32
  let v265 : BitVec 32 := Scalar.muli arg1 c1024_i32_150
  let c2_i32_151 : BitVec 32 := 2#32
  let c0_i32 : BitVec 32 := 0#32
  let c1_i32 : BitVec 32 := 1#32
  let arg11 : BitVec 32 := Scf.iv c0_i32 c1_i32 k0_t1
  let c32_i32_147 : BitVec 32 := 32#32
  let v262 : BitVec 32 := Scalar.muli arg11 c32_i32_147
  let c0_i32_148 : BitVec 32 := 0#32
  let v263 : BitVec 32 := Scalar.addi v262 c0_i32_148
  let c2_i32_149 : BitVec 32 := 2#32
  let v264 : BitVec 32 := Scalar.addi v263 c2_i32_149
  let v266 : BitVec 32 := Scalar.muli c2_i32_151 v264
  let v267 : BitVec 32 := Scalar.addi v265 v266
  let v268 : Index := Scalar.indexCast v267
  ![v268.toNat]
def k0_off15 (i : grid0.Coords) (k0_t1 : Fin k0_t1_loop.trips) : Fin 1 → Nat :=
  let arg1 : BitVec 32 := BitVec.ofNat 32 (i 1).val
  let c1024_i32_152 : BitVec 32 := 1024#32
  let v270 : BitVec 32 := Scalar.muli arg1 c1024_i32_152
  let c2_i32_153 : BitVec 32 := 2#32
  let c0_i32 : BitVec 32 := 0#32
  let c1_i32 : BitVec 32 := 1#32
  let arg11 : BitVec 32 := Scf.iv c0_i32 c1_i32 k0_t1
  let c32_i32_147 : BitVec 32 := 32#32
  let v262 : BitVec 32 := Scalar.muli arg11 c32_i32_147
  let c0_i32_148 : BitVec 32 := 0#32
  let v263 : BitVec 32 := Scalar.addi v262 c0_i32_148
  let c2_i32_149 : BitVec 32 := 2#32
  let v264 : BitVec 32 := Scalar.addi v263 c2_i32_149
  let v271 : BitVec 32 := Scalar.muli c2_i32_153 v264
  let v272 : BitVec 32 := Scalar.addi v270 v271
  let c1_i32_154 : BitVec 32 := 1#32
  let v273 : BitVec 32 := Scalar.addi v272 c1_i32_154
  let v274 : Index := Scalar.indexCast v273
  ![v274.toNat]
def k0_off16 (v269 : BitVec 32) : Fin 4 → Nat :=
  let v287 : Index := Scalar.indexCast v269
  let c0_160 : Index := 0#32
  let c0_161 : Index := 0#32
  let c0_162 : Index := 0#32
  ![v287.toNat, 0, 0, 0]

def k0_off17 (v275 : BitVec 32) : Fin 4 → Nat :=
  let v292 : Index := Scalar.indexCast v275
  let c0_163 : Index := 0#32
  let c0_164 : Index := 0#32
  let c0_165 : Index := 0#32
  ![v292.toNat, 0, 0, 0]

def k0_chk6 (v275 : BitVec 32) : Prop :=
  (∀ a, (k0_off17 v275) a + S1x1x8x128.size a ≤ S128x1x8x128.size a)
theorem k0_off17_inb : ∀ (v275 : BitVec 32) (k0_hw6 : k0_chk6 v275), ∀ a, (k0_off17 v275) a + S1x1x8x128.size a ≤ S128x1x8x128.size a := fun v275 k0_hw6 => k0_hw6

def k0_off18 (v269 : BitVec 32) : Fin 4 → Nat :=
  let v300 : Index := Scalar.indexCast v269
  let c0_167 : Index := 0#32
  let c0_168 : Index := 0#32
  let c0_169 : Index := 0#32
  ![v300.toNat, 0, 0, 0]

def k0_chk5 (v269 : BitVec 32) : Prop :=
  (∀ a, (k0_off16 v269) a + S1x1x8x128.size a ≤ S128x1x8x128.size a) ∧
  (∀ a, (k0_off18 v269) a + S1x1x8x128.size a ≤ S128x1x8x128.size a)
theorem k0_off16_inb : ∀ (v269 : BitVec 32) (k0_hw5 : k0_chk5 v269), ∀ a, (k0_off16 v269) a + S1x1x8x128.size a ≤ S128x1x8x128.size a := fun v269 k0_hw5 => k0_hw5.1
theorem k0_off18_inb : ∀ (v269 : BitVec 32) (k0_hw5 : k0_chk5 v269), ∀ a, (k0_off18 v269) a + S1x1x8x128.size a ≤ S128x1x8x128.size a := fun v269 k0_hw5 => k0_hw5.2

def k0_off19 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_174 : BitVec 32 := 0#32
  ![v137.toNat, 0, 0]
def k0_off20 (i : grid0.Coords) (k0_t1 : Fin k0_t1_loop.trips) : Fin 1 → Nat :=
  let arg1 : BitVec 32 := BitVec.ofNat 32 (i 1).val
  let c1024_i32_178 : BitVec 32 := 1024#32
  let v326 : BitVec 32 := Scalar.muli arg1 c1024_i32_178
  let c2_i32_179 : BitVec 32 := 2#32
  let c0_i32 : BitVec 32 := 0#32
  let c1_i32 : BitVec 32 := 1#32
  let arg11 : BitVec 32 := Scf.iv c0_i32 c1_i32 k0_t1
  let c32_i32_176 : BitVec 32 := 32#32
  let v323 : BitVec 32 := Scalar.muli arg11 c32_i32_176
  let c0_i32_177 : BitVec 32 := 0#32
  let v324 : BitVec 32 := Scalar.addi v323 c0_i32_177
  let c3_i32 : BitVec 32 := 3#32
  let v325 : BitVec 32 := Scalar.addi v324 c3_i32
  let v327 : BitVec 32 := Scalar.muli c2_i32_179 v325
  let v328 : BitVec 32 := Scalar.addi v326 v327
  let v329 : Index := Scalar.indexCast v328
  ![v329.toNat]
def k0_off21 (i : grid0.Coords) (k0_t1 : Fin k0_t1_loop.trips) : Fin 1 → Nat :=
  let arg1 : BitVec 32 := BitVec.ofNat 32 (i 1).val
  let c1024_i32_180 : BitVec 32 := 1024#32
  let v331 : BitVec 32 := Scalar.muli arg1 c1024_i32_180
  let c2_i32_181 : BitVec 32 := 2#32
  let c0_i32 : BitVec 32 := 0#32
  let c1_i32 : BitVec 32 := 1#32
  let arg11 : BitVec 32 := Scf.iv c0_i32 c1_i32 k0_t1
  let c32_i32_176 : BitVec 32 := 32#32
  let v323 : BitVec 32 := Scalar.muli arg11 c32_i32_176
  let c0_i32_177 : BitVec 32 := 0#32
  let v324 : BitVec 32 := Scalar.addi v323 c0_i32_177
  let c3_i32 : BitVec 32 := 3#32
  let v325 : BitVec 32 := Scalar.addi v324 c3_i32
  let v332 : BitVec 32 := Scalar.muli c2_i32_181 v325
  let v333 : BitVec 32 := Scalar.addi v331 v332
  let c1_i32_182 : BitVec 32 := 1#32
  let v334 : BitVec 32 := Scalar.addi v333 c1_i32_182
  let v335 : Index := Scalar.indexCast v334
  ![v335.toNat]
def k0_off22 (v330 : BitVec 32) : Fin 4 → Nat :=
  let v348 : Index := Scalar.indexCast v330
  let c0_187 : Index := 0#32
  let c0_188 : Index := 0#32
  let c0_189 : Index := 0#32
  ![v348.toNat, 0, 0, 0]

def k0_off23 (v336 : BitVec 32) : Fin 4 → Nat :=
  let v353 : Index := Scalar.indexCast v336
  let c0_190 : Index := 0#32
  let c0_191 : Index := 0#32
  let c0_192 : Index := 0#32
  ![v353.toNat, 0, 0, 0]

def k0_chk8 (v336 : BitVec 32) : Prop :=
  (∀ a, (k0_off23 v336) a + S1x1x8x128.size a ≤ S128x1x8x128.size a)
theorem k0_off23_inb : ∀ (v336 : BitVec 32) (k0_hw8 : k0_chk8 v336), ∀ a, (k0_off23 v336) a + S1x1x8x128.size a ≤ S128x1x8x128.size a := fun v336 k0_hw8 => k0_hw8

def k0_off24 (v330 : BitVec 32) : Fin 4 → Nat :=
  let v361 : Index := Scalar.indexCast v330
  let c0_194 : Index := 0#32
  let c0_195 : Index := 0#32
  let c0_196 : Index := 0#32
  ![v361.toNat, 0, 0, 0]

def k0_chk7 (v330 : BitVec 32) : Prop :=
  (∀ a, (k0_off22 v330) a + S1x1x8x128.size a ≤ S128x1x8x128.size a) ∧
  (∀ a, (k0_off24 v330) a + S1x1x8x128.size a ≤ S128x1x8x128.size a)
theorem k0_off22_inb : ∀ (v330 : BitVec 32) (k0_hw7 : k0_chk7 v330), ∀ a, (k0_off22 v330) a + S1x1x8x128.size a ≤ S128x1x8x128.size a := fun v330 k0_hw7 => k0_hw7.1
theorem k0_off24_inb : ∀ (v330 : BitVec 32) (k0_hw7 : k0_chk7 v330), ∀ a, (k0_off24 v330) a + S1x1x8x128.size a ≤ S128x1x8x128.size a := fun v330 k0_hw7 => k0_hw7.2

def k0_off25 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_201 : BitVec 32 := 0#32
  ![v137.toNat, 0, 0]
def k0_off26 (i : grid0.Coords) (k0_t1 : Fin k0_t1_loop.trips) : Fin 1 → Nat :=
  let arg1 : BitVec 32 := BitVec.ofNat 32 (i 1).val
  let c1024_i32_205 : BitVec 32 := 1024#32
  let v389 : BitVec 32 := Scalar.muli arg1 c1024_i32_205
  let c2_i32_206 : BitVec 32 := 2#32
  let c0_i32 : BitVec 32 := 0#32
  let c1_i32 : BitVec 32 := 1#32
  let arg11 : BitVec 32 := Scf.iv c0_i32 c1_i32 k0_t1
  let c32_i32_203 : BitVec 32 := 32#32
  let v386 : BitVec 32 := Scalar.muli arg11 c32_i32_203
  let c4_i32 : BitVec 32 := 4#32
  let v387 : BitVec 32 := Scalar.addi v386 c4_i32
  let c0_i32_204 : BitVec 32 := 0#32
  let v388 : BitVec 32 := Scalar.addi v387 c0_i32_204
  let v390 : BitVec 32 := Scalar.muli c2_i32_206 v388
  let v391 : BitVec 32 := Scalar.addi v389 v390
  let v392 : Index := Scalar.indexCast v391
  ![v392.toNat]
def k0_off27 (i : grid0.Coords) (k0_t1 : Fin k0_t1_loop.trips) : Fin 1 → Nat :=
  let arg1 : BitVec 32 := BitVec.ofNat 32 (i 1).val
  let c1024_i32_207 : BitVec 32 := 1024#32
  let v394 : BitVec 32 := Scalar.muli arg1 c1024_i32_207
  let c2_i32_208 : BitVec 32 := 2#32
  let c0_i32 : BitVec 32 := 0#32
  let c1_i32 : BitVec 32 := 1#32
  let arg11 : BitVec 32 := Scf.iv c0_i32 c1_i32 k0_t1
  let c32_i32_203 : BitVec 32 := 32#32
  let v386 : BitVec 32 := Scalar.muli arg11 c32_i32_203
  let c4_i32 : BitVec 32 := 4#32
  let v387 : BitVec 32 := Scalar.addi v386 c4_i32
  let c0_i32_204 : BitVec 32 := 0#32
  let v388 : BitVec 32 := Scalar.addi v387 c0_i32_204
  let v395 : BitVec 32 := Scalar.muli c2_i32_208 v388
  let v396 : BitVec 32 := Scalar.addi v394 v395
  let c1_i32_209 : BitVec 32 := 1#32
  let v397 : BitVec 32 := Scalar.addi v396 c1_i32_209
  let v398 : Index := Scalar.indexCast v397
  ![v398.toNat]
def k0_off28 (v393 : BitVec 32) : Fin 4 → Nat :=
  let v411 : Index := Scalar.indexCast v393
  let c0_215 : Index := 0#32
  let c0_216 : Index := 0#32
  let c0_217 : Index := 0#32
  ![v411.toNat, 0, 0, 0]

def k0_off29 (v399 : BitVec 32) : Fin 4 → Nat :=
  let v416 : Index := Scalar.indexCast v399
  let c0_218 : Index := 0#32
  let c0_219 : Index := 0#32
  let c0_220 : Index := 0#32
  ![v416.toNat, 0, 0, 0]

def k0_chk10 (v399 : BitVec 32) : Prop :=
  (∀ a, (k0_off29 v399) a + S1x1x8x128.size a ≤ S128x1x8x128.size a)
theorem k0_off29_inb : ∀ (v399 : BitVec 32) (k0_hw10 : k0_chk10 v399), ∀ a, (k0_off29 v399) a + S1x1x8x128.size a ≤ S128x1x8x128.size a := fun v399 k0_hw10 => k0_hw10

def k0_off30 (v393 : BitVec 32) : Fin 4 → Nat :=
  let v424 : Index := Scalar.indexCast v393
  let c0_222 : Index := 0#32
  let c0_223 : Index := 0#32
  let c0_224 : Index := 0#32
  ![v424.toNat, 0, 0, 0]

def k0_chk9 (v393 : BitVec 32) : Prop :=
  (∀ a, (k0_off28 v393) a + S1x1x8x128.size a ≤ S128x1x8x128.size a) ∧
  (∀ a, (k0_off30 v393) a + S1x1x8x128.size a ≤ S128x1x8x128.size a)
theorem k0_off28_inb : ∀ (v393 : BitVec 32) (k0_hw9 : k0_chk9 v393), ∀ a, (k0_off28 v393) a + S1x1x8x128.size a ≤ S128x1x8x128.size a := fun v393 k0_hw9 => k0_hw9.1
theorem k0_off30_inb : ∀ (v393 : BitVec 32) (k0_hw9 : k0_chk9 v393), ∀ a, (k0_off30 v393) a + S1x1x8x128.size a ≤ S128x1x8x128.size a := fun v393 k0_hw9 => k0_hw9.2

def k0_off31 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_229 : BitVec 32 := 0#32
  ![v137.toNat, 0, 0]
def k0_off32 (i : grid0.Coords) (k0_t1 : Fin k0_t1_loop.trips) : Fin 1 → Nat :=
  let arg1 : BitVec 32 := BitVec.ofNat 32 (i 1).val
  let c1024_i32_234 : BitVec 32 := 1024#32
  let v450 : BitVec 32 := Scalar.muli arg1 c1024_i32_234
  let c2_i32_235 : BitVec 32 := 2#32
  let c0_i32 : BitVec 32 := 0#32
  let c1_i32 : BitVec 32 := 1#32
  let arg11 : BitVec 32 := Scf.iv c0_i32 c1_i32 k0_t1
  let c32_i32_231 : BitVec 32 := 32#32
  let v447 : BitVec 32 := Scalar.muli arg11 c32_i32_231
  let c4_i32_232 : BitVec 32 := 4#32
  let v448 : BitVec 32 := Scalar.addi v447 c4_i32_232
  let c1_i32_233 : BitVec 32 := 1#32
  let v449 : BitVec 32 := Scalar.addi v448 c1_i32_233
  let v451 : BitVec 32 := Scalar.muli c2_i32_235 v449
  let v452 : BitVec 32 := Scalar.addi v450 v451
  let v453 : Index := Scalar.indexCast v452
  ![v453.toNat]
def k0_off33 (i : grid0.Coords) (k0_t1 : Fin k0_t1_loop.trips) : Fin 1 → Nat :=
  let arg1 : BitVec 32 := BitVec.ofNat 32 (i 1).val
  let c1024_i32_236 : BitVec 32 := 1024#32
  let v455 : BitVec 32 := Scalar.muli arg1 c1024_i32_236
  let c2_i32_237 : BitVec 32 := 2#32
  let c0_i32 : BitVec 32 := 0#32
  let c1_i32 : BitVec 32 := 1#32
  let arg11 : BitVec 32 := Scf.iv c0_i32 c1_i32 k0_t1
  let c32_i32_231 : BitVec 32 := 32#32
  let v447 : BitVec 32 := Scalar.muli arg11 c32_i32_231
  let c4_i32_232 : BitVec 32 := 4#32
  let v448 : BitVec 32 := Scalar.addi v447 c4_i32_232
  let c1_i32_233 : BitVec 32 := 1#32
  let v449 : BitVec 32 := Scalar.addi v448 c1_i32_233
  let v456 : BitVec 32 := Scalar.muli c2_i32_237 v449
  let v457 : BitVec 32 := Scalar.addi v455 v456
  let c1_i32_238 : BitVec 32 := 1#32
  let v458 : BitVec 32 := Scalar.addi v457 c1_i32_238
  let v459 : Index := Scalar.indexCast v458
  ![v459.toNat]
def k0_off34 (v454 : BitVec 32) : Fin 4 → Nat :=
  let v472 : Index := Scalar.indexCast v454
  let c0_244 : Index := 0#32
  let c0_245 : Index := 0#32
  let c0_246 : Index := 0#32
  ![v472.toNat, 0, 0, 0]

def k0_off35 (v460 : BitVec 32) : Fin 4 → Nat :=
  let v477 : Index := Scalar.indexCast v460
  let c0_247 : Index := 0#32
  let c0_248 : Index := 0#32
  let c0_249 : Index := 0#32
  ![v477.toNat, 0, 0, 0]

def k0_chk12 (v460 : BitVec 32) : Prop :=
  (∀ a, (k0_off35 v460) a + S1x1x8x128.size a ≤ S128x1x8x128.size a)
theorem k0_off35_inb : ∀ (v460 : BitVec 32) (k0_hw12 : k0_chk12 v460), ∀ a, (k0_off35 v460) a + S1x1x8x128.size a ≤ S128x1x8x128.size a := fun v460 k0_hw12 => k0_hw12

def k0_off36 (v454 : BitVec 32) : Fin 4 → Nat :=
  let v485 : Index := Scalar.indexCast v454
  let c0_251 : Index := 0#32
  let c0_252 : Index := 0#32
  let c0_253 : Index := 0#32
  ![v485.toNat, 0, 0, 0]

def k0_chk11 (v454 : BitVec 32) : Prop :=
  (∀ a, (k0_off34 v454) a + S1x1x8x128.size a ≤ S128x1x8x128.size a) ∧
  (∀ a, (k0_off36 v454) a + S1x1x8x128.size a ≤ S128x1x8x128.size a)
theorem k0_off34_inb : ∀ (v454 : BitVec 32) (k0_hw11 : k0_chk11 v454), ∀ a, (k0_off34 v454) a + S1x1x8x128.size a ≤ S128x1x8x128.size a := fun v454 k0_hw11 => k0_hw11.1
theorem k0_off36_inb : ∀ (v454 : BitVec 32) (k0_hw11 : k0_chk11 v454), ∀ a, (k0_off36 v454) a + S1x1x8x128.size a ≤ S128x1x8x128.size a := fun v454 k0_hw11 => k0_hw11.2

def k0_off37 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_258 : BitVec 32 := 0#32
  ![v137.toNat, 0, 0]
def k0_off38 (i : grid0.Coords) (k0_t1 : Fin k0_t1_loop.trips) : Fin 1 → Nat :=
  let arg1 : BitVec 32 := BitVec.ofNat 32 (i 1).val
  let c1024_i32_263 : BitVec 32 := 1024#32
  let v511 : BitVec 32 := Scalar.muli arg1 c1024_i32_263
  let c2_i32_264 : BitVec 32 := 2#32
  let c0_i32 : BitVec 32 := 0#32
  let c1_i32 : BitVec 32 := 1#32
  let arg11 : BitVec 32 := Scf.iv c0_i32 c1_i32 k0_t1
  let c32_i32_260 : BitVec 32 := 32#32
  let v508 : BitVec 32 := Scalar.muli arg11 c32_i32_260
  let c4_i32_261 : BitVec 32 := 4#32
  let v509 : BitVec 32 := Scalar.addi v508 c4_i32_261
  let c2_i32_262 : BitVec 32 := 2#32
  let v510 : BitVec 32 := Scalar.addi v509 c2_i32_262
  let v512 : BitVec 32 := Scalar.muli c2_i32_264 v510
  let v513 : BitVec 32 := Scalar.addi v511 v512
  let v514 : Index := Scalar.indexCast v513
  ![v514.toNat]
def k0_off39 (i : grid0.Coords) (k0_t1 : Fin k0_t1_loop.trips) : Fin 1 → Nat :=
  let arg1 : BitVec 32 := BitVec.ofNat 32 (i 1).val
  let c1024_i32_265 : BitVec 32 := 1024#32
  let v516 : BitVec 32 := Scalar.muli arg1 c1024_i32_265
  let c2_i32_266 : BitVec 32 := 2#32
  let c0_i32 : BitVec 32 := 0#32
  let c1_i32 : BitVec 32 := 1#32
  let arg11 : BitVec 32 := Scf.iv c0_i32 c1_i32 k0_t1
  let c32_i32_260 : BitVec 32 := 32#32
  let v508 : BitVec 32 := Scalar.muli arg11 c32_i32_260
  let c4_i32_261 : BitVec 32 := 4#32
  let v509 : BitVec 32 := Scalar.addi v508 c4_i32_261
  let c2_i32_262 : BitVec 32 := 2#32
  let v510 : BitVec 32 := Scalar.addi v509 c2_i32_262
  let v517 : BitVec 32 := Scalar.muli c2_i32_266 v510
  let v518 : BitVec 32 := Scalar.addi v516 v517
  let c1_i32_267 : BitVec 32 := 1#32
  let v519 : BitVec 32 := Scalar.addi v518 c1_i32_267
  let v520 : Index := Scalar.indexCast v519
  ![v520.toNat]
def k0_off40 (v515 : BitVec 32) : Fin 4 → Nat :=
  let v533 : Index := Scalar.indexCast v515
  let c0_273 : Index := 0#32
  let c0_274 : Index := 0#32
  let c0_275 : Index := 0#32
  ![v533.toNat, 0, 0, 0]

def k0_off41 (v521 : BitVec 32) : Fin 4 → Nat :=
  let v538 : Index := Scalar.indexCast v521
  let c0_276 : Index := 0#32
  let c0_277 : Index := 0#32
  let c0_278 : Index := 0#32
  ![v538.toNat, 0, 0, 0]

def k0_chk14 (v521 : BitVec 32) : Prop :=
  (∀ a, (k0_off41 v521) a + S1x1x8x128.size a ≤ S128x1x8x128.size a)
theorem k0_off41_inb : ∀ (v521 : BitVec 32) (k0_hw14 : k0_chk14 v521), ∀ a, (k0_off41 v521) a + S1x1x8x128.size a ≤ S128x1x8x128.size a := fun v521 k0_hw14 => k0_hw14

def k0_off42 (v515 : BitVec 32) : Fin 4 → Nat :=
  let v546 : Index := Scalar.indexCast v515
  let c0_280 : Index := 0#32
  let c0_281 : Index := 0#32
  let c0_282 : Index := 0#32
  ![v546.toNat, 0, 0, 0]

def k0_chk13 (v515 : BitVec 32) : Prop :=
  (∀ a, (k0_off40 v515) a + S1x1x8x128.size a ≤ S128x1x8x128.size a) ∧
  (∀ a, (k0_off42 v515) a + S1x1x8x128.size a ≤ S128x1x8x128.size a)
theorem k0_off40_inb : ∀ (v515 : BitVec 32) (k0_hw13 : k0_chk13 v515), ∀ a, (k0_off40 v515) a + S1x1x8x128.size a ≤ S128x1x8x128.size a := fun v515 k0_hw13 => k0_hw13.1
theorem k0_off42_inb : ∀ (v515 : BitVec 32) (k0_hw13 : k0_chk13 v515), ∀ a, (k0_off42 v515) a + S1x1x8x128.size a ≤ S128x1x8x128.size a := fun v515 k0_hw13 => k0_hw13.2

def k0_off43 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_287 : BitVec 32 := 0#32
  ![v137.toNat, 0, 0]
def k0_off44 (i : grid0.Coords) (k0_t1 : Fin k0_t1_loop.trips) : Fin 1 → Nat :=
  let arg1 : BitVec 32 := BitVec.ofNat 32 (i 1).val
  let c1024_i32_292 : BitVec 32 := 1024#32
  let v572 : BitVec 32 := Scalar.muli arg1 c1024_i32_292
  let c2_i32_293 : BitVec 32 := 2#32
  let c0_i32 : BitVec 32 := 0#32
  let c1_i32 : BitVec 32 := 1#32
  let arg11 : BitVec 32 := Scf.iv c0_i32 c1_i32 k0_t1
  let c32_i32_289 : BitVec 32 := 32#32
  let v569 : BitVec 32 := Scalar.muli arg11 c32_i32_289
  let c4_i32_290 : BitVec 32 := 4#32
  let v570 : BitVec 32 := Scalar.addi v569 c4_i32_290
  let c3_i32_291 : BitVec 32 := 3#32
  let v571 : BitVec 32 := Scalar.addi v570 c3_i32_291
  let v573 : BitVec 32 := Scalar.muli c2_i32_293 v571
  let v574 : BitVec 32 := Scalar.addi v572 v573
  let v575 : Index := Scalar.indexCast v574
  ![v575.toNat]
def k0_off45 (i : grid0.Coords) (k0_t1 : Fin k0_t1_loop.trips) : Fin 1 → Nat :=
  let arg1 : BitVec 32 := BitVec.ofNat 32 (i 1).val
  let c1024_i32_294 : BitVec 32 := 1024#32
  let v577 : BitVec 32 := Scalar.muli arg1 c1024_i32_294
  let c2_i32_295 : BitVec 32 := 2#32
  let c0_i32 : BitVec 32 := 0#32
  let c1_i32 : BitVec 32 := 1#32
  let arg11 : BitVec 32 := Scf.iv c0_i32 c1_i32 k0_t1
  let c32_i32_289 : BitVec 32 := 32#32
  let v569 : BitVec 32 := Scalar.muli arg11 c32_i32_289
  let c4_i32_290 : BitVec 32 := 4#32
  let v570 : BitVec 32 := Scalar.addi v569 c4_i32_290
  let c3_i32_291 : BitVec 32 := 3#32
  let v571 : BitVec 32 := Scalar.addi v570 c3_i32_291
  let v578 : BitVec 32 := Scalar.muli c2_i32_295 v571
  let v579 : BitVec 32 := Scalar.addi v577 v578
  let c1_i32_296 : BitVec 32 := 1#32
  let v580 : BitVec 32 := Scalar.addi v579 c1_i32_296
  let v581 : Index := Scalar.indexCast v580
  ![v581.toNat]
def k0_off46 (v576 : BitVec 32) : Fin 4 → Nat :=
  let v594 : Index := Scalar.indexCast v576
  let c0_302 : Index := 0#32
  let c0_303 : Index := 0#32
  let c0_304 : Index := 0#32
  ![v594.toNat, 0, 0, 0]

def k0_off47 (v582 : BitVec 32) : Fin 4 → Nat :=
  let v599 : Index := Scalar.indexCast v582
  let c0_305 : Index := 0#32
  let c0_306 : Index := 0#32
  let c0_307 : Index := 0#32
  ![v599.toNat, 0, 0, 0]

def k0_chk16 (v582 : BitVec 32) : Prop :=
  (∀ a, (k0_off47 v582) a + S1x1x8x128.size a ≤ S128x1x8x128.size a)
theorem k0_off47_inb : ∀ (v582 : BitVec 32) (k0_hw16 : k0_chk16 v582), ∀ a, (k0_off47 v582) a + S1x1x8x128.size a ≤ S128x1x8x128.size a := fun v582 k0_hw16 => k0_hw16

def k0_off48 (v576 : BitVec 32) : Fin 4 → Nat :=
  let v607 : Index := Scalar.indexCast v576
  let c0_309 : Index := 0#32
  let c0_310 : Index := 0#32
  let c0_311 : Index := 0#32
  ![v607.toNat, 0, 0, 0]

def k0_chk15 (v576 : BitVec 32) : Prop :=
  (∀ a, (k0_off46 v576) a + S1x1x8x128.size a ≤ S128x1x8x128.size a) ∧
  (∀ a, (k0_off48 v576) a + S1x1x8x128.size a ≤ S128x1x8x128.size a)
theorem k0_off46_inb : ∀ (v576 : BitVec 32) (k0_hw15 : k0_chk15 v576), ∀ a, (k0_off46 v576) a + S1x1x8x128.size a ≤ S128x1x8x128.size a := fun v576 k0_hw15 => k0_hw15.1
theorem k0_off48_inb : ∀ (v576 : BitVec 32) (k0_hw15 : k0_chk15 v576), ∀ a, (k0_off48 v576) a + S1x1x8x128.size a ≤ S128x1x8x128.size a := fun v576 k0_hw15 => k0_hw15.2

def k0_off49 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_316 : BitVec 32 := 0#32
  ![v137.toNat, 0, 0]
def k0_off50 (i : grid0.Coords) (k0_t1 : Fin k0_t1_loop.trips) : Fin 1 → Nat :=
  let arg1 : BitVec 32 := BitVec.ofNat 32 (i 1).val
  let c1024_i32_321 : BitVec 32 := 1024#32
  let v635 : BitVec 32 := Scalar.muli arg1 c1024_i32_321
  let c2_i32_322 : BitVec 32 := 2#32
  let c0_i32 : BitVec 32 := 0#32
  let c1_i32 : BitVec 32 := 1#32
  let arg11 : BitVec 32 := Scf.iv c0_i32 c1_i32 k0_t1
  let c32_i32_318 : BitVec 32 := 32#32
  let v632 : BitVec 32 := Scalar.muli arg11 c32_i32_318
  let c8_i32_319 : BitVec 32 := 8#32
  let v633 : BitVec 32 := Scalar.addi v632 c8_i32_319
  let c0_i32_320 : BitVec 32 := 0#32
  let v634 : BitVec 32 := Scalar.addi v633 c0_i32_320
  let v636 : BitVec 32 := Scalar.muli c2_i32_322 v634
  let v637 : BitVec 32 := Scalar.addi v635 v636
  let v638 : Index := Scalar.indexCast v637
  ![v638.toNat]
def k0_off51 (i : grid0.Coords) (k0_t1 : Fin k0_t1_loop.trips) : Fin 1 → Nat :=
  let arg1 : BitVec 32 := BitVec.ofNat 32 (i 1).val
  let c1024_i32_323 : BitVec 32 := 1024#32
  let v640 : BitVec 32 := Scalar.muli arg1 c1024_i32_323
  let c2_i32_324 : BitVec 32 := 2#32
  let c0_i32 : BitVec 32 := 0#32
  let c1_i32 : BitVec 32 := 1#32
  let arg11 : BitVec 32 := Scf.iv c0_i32 c1_i32 k0_t1
  let c32_i32_318 : BitVec 32 := 32#32
  let v632 : BitVec 32 := Scalar.muli arg11 c32_i32_318
  let c8_i32_319 : BitVec 32 := 8#32
  let v633 : BitVec 32 := Scalar.addi v632 c8_i32_319
  let c0_i32_320 : BitVec 32 := 0#32
  let v634 : BitVec 32 := Scalar.addi v633 c0_i32_320
  let v641 : BitVec 32 := Scalar.muli c2_i32_324 v634
  let v642 : BitVec 32 := Scalar.addi v640 v641
  let c1_i32_325 : BitVec 32 := 1#32
  let v643 : BitVec 32 := Scalar.addi v642 c1_i32_325
  let v644 : Index := Scalar.indexCast v643
  ![v644.toNat]
def k0_off52 (v639 : BitVec 32) : Fin 4 → Nat :=
  let v657 : Index := Scalar.indexCast v639
  let c0_331 : Index := 0#32
  let c0_332 : Index := 0#32
  let c0_333 : Index := 0#32
  ![v657.toNat, 0, 0, 0]

def k0_off53 (v645 : BitVec 32) : Fin 4 → Nat :=
  let v662 : Index := Scalar.indexCast v645
  let c0_334 : Index := 0#32
  let c0_335 : Index := 0#32
  let c0_336 : Index := 0#32
  ![v662.toNat, 0, 0, 0]

def k0_chk18 (v645 : BitVec 32) : Prop :=
  (∀ a, (k0_off53 v645) a + S1x1x8x128.size a ≤ S128x1x8x128.size a)
theorem k0_off53_inb : ∀ (v645 : BitVec 32) (k0_hw18 : k0_chk18 v645), ∀ a, (k0_off53 v645) a + S1x1x8x128.size a ≤ S128x1x8x128.size a := fun v645 k0_hw18 => k0_hw18

def k0_off54 (v639 : BitVec 32) : Fin 4 → Nat :=
  let v670 : Index := Scalar.indexCast v639
  let c0_338 : Index := 0#32
  let c0_339 : Index := 0#32
  let c0_340 : Index := 0#32
  ![v670.toNat, 0, 0, 0]

def k0_chk17 (v639 : BitVec 32) : Prop :=
  (∀ a, (k0_off52 v639) a + S1x1x8x128.size a ≤ S128x1x8x128.size a) ∧
  (∀ a, (k0_off54 v639) a + S1x1x8x128.size a ≤ S128x1x8x128.size a)
theorem k0_off52_inb : ∀ (v639 : BitVec 32) (k0_hw17 : k0_chk17 v639), ∀ a, (k0_off52 v639) a + S1x1x8x128.size a ≤ S128x1x8x128.size a := fun v639 k0_hw17 => k0_hw17.1
theorem k0_off54_inb : ∀ (v639 : BitVec 32) (k0_hw17 : k0_chk17 v639), ∀ a, (k0_off54 v639) a + S1x1x8x128.size a ≤ S128x1x8x128.size a := fun v639 k0_hw17 => k0_hw17.2

def k0_off55 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_345 : BitVec 32 := 0#32
  ![v137.toNat, 0, 0]
def k0_off56 (i : grid0.Coords) (k0_t1 : Fin k0_t1_loop.trips) : Fin 1 → Nat :=
  let arg1 : BitVec 32 := BitVec.ofNat 32 (i 1).val
  let c1024_i32_350 : BitVec 32 := 1024#32
  let v696 : BitVec 32 := Scalar.muli arg1 c1024_i32_350
  let c2_i32_351 : BitVec 32 := 2#32
  let c0_i32 : BitVec 32 := 0#32
  let c1_i32 : BitVec 32 := 1#32
  let arg11 : BitVec 32 := Scf.iv c0_i32 c1_i32 k0_t1
  let c32_i32_347 : BitVec 32 := 32#32
  let v693 : BitVec 32 := Scalar.muli arg11 c32_i32_347
  let c8_i32_348 : BitVec 32 := 8#32
  let v694 : BitVec 32 := Scalar.addi v693 c8_i32_348
  let c1_i32_349 : BitVec 32 := 1#32
  let v695 : BitVec 32 := Scalar.addi v694 c1_i32_349
  let v697 : BitVec 32 := Scalar.muli c2_i32_351 v695
  let v698 : BitVec 32 := Scalar.addi v696 v697
  let v699 : Index := Scalar.indexCast v698
  ![v699.toNat]
def k0_off57 (i : grid0.Coords) (k0_t1 : Fin k0_t1_loop.trips) : Fin 1 → Nat :=
  let arg1 : BitVec 32 := BitVec.ofNat 32 (i 1).val
  let c1024_i32_352 : BitVec 32 := 1024#32
  let v701 : BitVec 32 := Scalar.muli arg1 c1024_i32_352
  let c2_i32_353 : BitVec 32 := 2#32
  let c0_i32 : BitVec 32 := 0#32
  let c1_i32 : BitVec 32 := 1#32
  let arg11 : BitVec 32 := Scf.iv c0_i32 c1_i32 k0_t1
  let c32_i32_347 : BitVec 32 := 32#32
  let v693 : BitVec 32 := Scalar.muli arg11 c32_i32_347
  let c8_i32_348 : BitVec 32 := 8#32
  let v694 : BitVec 32 := Scalar.addi v693 c8_i32_348
  let c1_i32_349 : BitVec 32 := 1#32
  let v695 : BitVec 32 := Scalar.addi v694 c1_i32_349
  let v702 : BitVec 32 := Scalar.muli c2_i32_353 v695
  let v703 : BitVec 32 := Scalar.addi v701 v702
  let c1_i32_354 : BitVec 32 := 1#32
  let v704 : BitVec 32 := Scalar.addi v703 c1_i32_354
  let v705 : Index := Scalar.indexCast v704
  ![v705.toNat]
def k0_off58 (v700 : BitVec 32) : Fin 4 → Nat :=
  let v718 : Index := Scalar.indexCast v700
  let c0_360 : Index := 0#32
  let c0_361 : Index := 0#32
  let c0_362 : Index := 0#32
  ![v718.toNat, 0, 0, 0]

def k0_off59 (v706 : BitVec 32) : Fin 4 → Nat :=
  let v723 : Index := Scalar.indexCast v706
  let c0_363 : Index := 0#32
  let c0_364 : Index := 0#32
  let c0_365 : Index := 0#32
  ![v723.toNat, 0, 0, 0]

def k0_chk20 (v706 : BitVec 32) : Prop :=
  (∀ a, (k0_off59 v706) a + S1x1x8x128.size a ≤ S128x1x8x128.size a)
theorem k0_off59_inb : ∀ (v706 : BitVec 32) (k0_hw20 : k0_chk20 v706), ∀ a, (k0_off59 v706) a + S1x1x8x128.size a ≤ S128x1x8x128.size a := fun v706 k0_hw20 => k0_hw20

def k0_off60 (v700 : BitVec 32) : Fin 4 → Nat :=
  let v731 : Index := Scalar.indexCast v700
  let c0_367 : Index := 0#32
  let c0_368 : Index := 0#32
  let c0_369 : Index := 0#32
  ![v731.toNat, 0, 0, 0]

def k0_chk19 (v700 : BitVec 32) : Prop :=
  (∀ a, (k0_off58 v700) a + S1x1x8x128.size a ≤ S128x1x8x128.size a) ∧
  (∀ a, (k0_off60 v700) a + S1x1x8x128.size a ≤ S128x1x8x128.size a)
theorem k0_off58_inb : ∀ (v700 : BitVec 32) (k0_hw19 : k0_chk19 v700), ∀ a, (k0_off58 v700) a + S1x1x8x128.size a ≤ S128x1x8x128.size a := fun v700 k0_hw19 => k0_hw19.1
theorem k0_off60_inb : ∀ (v700 : BitVec 32) (k0_hw19 : k0_chk19 v700), ∀ a, (k0_off60 v700) a + S1x1x8x128.size a ≤ S128x1x8x128.size a := fun v700 k0_hw19 => k0_hw19.2

def k0_off61 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_374 : BitVec 32 := 0#32
  ![v137.toNat, 0, 0]
def k0_off62 (i : grid0.Coords) (k0_t1 : Fin k0_t1_loop.trips) : Fin 1 → Nat :=
  let arg1 : BitVec 32 := BitVec.ofNat 32 (i 1).val
  let c1024_i32_379 : BitVec 32 := 1024#32
  let v757 : BitVec 32 := Scalar.muli arg1 c1024_i32_379
  let c2_i32_380 : BitVec 32 := 2#32
  let c0_i32 : BitVec 32 := 0#32
  let c1_i32 : BitVec 32 := 1#32
  let arg11 : BitVec 32 := Scf.iv c0_i32 c1_i32 k0_t1
  let c32_i32_376 : BitVec 32 := 32#32
  let v754 : BitVec 32 := Scalar.muli arg11 c32_i32_376
  let c8_i32_377 : BitVec 32 := 8#32
  let v755 : BitVec 32 := Scalar.addi v754 c8_i32_377
  let c2_i32_378 : BitVec 32 := 2#32
  let v756 : BitVec 32 := Scalar.addi v755 c2_i32_378
  let v758 : BitVec 32 := Scalar.muli c2_i32_380 v756
  let v759 : BitVec 32 := Scalar.addi v757 v758
  let v760 : Index := Scalar.indexCast v759
  ![v760.toNat]
def k0_off63 (i : grid0.Coords) (k0_t1 : Fin k0_t1_loop.trips) : Fin 1 → Nat :=
  let arg1 : BitVec 32 := BitVec.ofNat 32 (i 1).val
  let c1024_i32_381 : BitVec 32 := 1024#32
  let v762 : BitVec 32 := Scalar.muli arg1 c1024_i32_381
  let c2_i32_382 : BitVec 32 := 2#32
  let c0_i32 : BitVec 32 := 0#32
  let c1_i32 : BitVec 32 := 1#32
  let arg11 : BitVec 32 := Scf.iv c0_i32 c1_i32 k0_t1
  let c32_i32_376 : BitVec 32 := 32#32
  let v754 : BitVec 32 := Scalar.muli arg11 c32_i32_376
  let c8_i32_377 : BitVec 32 := 8#32
  let v755 : BitVec 32 := Scalar.addi v754 c8_i32_377
  let c2_i32_378 : BitVec 32 := 2#32
  let v756 : BitVec 32 := Scalar.addi v755 c2_i32_378
  let v763 : BitVec 32 := Scalar.muli c2_i32_382 v756
  let v764 : BitVec 32 := Scalar.addi v762 v763
  let c1_i32_383 : BitVec 32 := 1#32
  let v765 : BitVec 32 := Scalar.addi v764 c1_i32_383
  let v766 : Index := Scalar.indexCast v765
  ![v766.toNat]
def k0_off64 (v761 : BitVec 32) : Fin 4 → Nat :=
  let v779 : Index := Scalar.indexCast v761
  let c0_389 : Index := 0#32
  let c0_390 : Index := 0#32
  let c0_391 : Index := 0#32
  ![v779.toNat, 0, 0, 0]

def k0_off65 (v767 : BitVec 32) : Fin 4 → Nat :=
  let v784 : Index := Scalar.indexCast v767
  let c0_392 : Index := 0#32
  let c0_393 : Index := 0#32
  let c0_394 : Index := 0#32
  ![v784.toNat, 0, 0, 0]

def k0_chk22 (v767 : BitVec 32) : Prop :=
  (∀ a, (k0_off65 v767) a + S1x1x8x128.size a ≤ S128x1x8x128.size a)
theorem k0_off65_inb : ∀ (v767 : BitVec 32) (k0_hw22 : k0_chk22 v767), ∀ a, (k0_off65 v767) a + S1x1x8x128.size a ≤ S128x1x8x128.size a := fun v767 k0_hw22 => k0_hw22

def k0_off66 (v761 : BitVec 32) : Fin 4 → Nat :=
  let v792 : Index := Scalar.indexCast v761
  let c0_396 : Index := 0#32
  let c0_397 : Index := 0#32
  let c0_398 : Index := 0#32
  ![v792.toNat, 0, 0, 0]

def k0_chk21 (v761 : BitVec 32) : Prop :=
  (∀ a, (k0_off64 v761) a + S1x1x8x128.size a ≤ S128x1x8x128.size a) ∧
  (∀ a, (k0_off66 v761) a + S1x1x8x128.size a ≤ S128x1x8x128.size a)
theorem k0_off64_inb : ∀ (v761 : BitVec 32) (k0_hw21 : k0_chk21 v761), ∀ a, (k0_off64 v761) a + S1x1x8x128.size a ≤ S128x1x8x128.size a := fun v761 k0_hw21 => k0_hw21.1
theorem k0_off66_inb : ∀ (v761 : BitVec 32) (k0_hw21 : k0_chk21 v761), ∀ a, (k0_off66 v761) a + S1x1x8x128.size a ≤ S128x1x8x128.size a := fun v761 k0_hw21 => k0_hw21.2

def k0_off67 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_403 : BitVec 32 := 0#32
  ![v137.toNat, 0, 0]
def k0_off68 (i : grid0.Coords) (k0_t1 : Fin k0_t1_loop.trips) : Fin 1 → Nat :=
  let arg1 : BitVec 32 := BitVec.ofNat 32 (i 1).val
  let c1024_i32_408 : BitVec 32 := 1024#32
  let v818 : BitVec 32 := Scalar.muli arg1 c1024_i32_408
  let c2_i32_409 : BitVec 32 := 2#32
  let c0_i32 : BitVec 32 := 0#32
  let c1_i32 : BitVec 32 := 1#32
  let arg11 : BitVec 32 := Scf.iv c0_i32 c1_i32 k0_t1
  let c32_i32_405 : BitVec 32 := 32#32
  let v815 : BitVec 32 := Scalar.muli arg11 c32_i32_405
  let c8_i32_406 : BitVec 32 := 8#32
  let v816 : BitVec 32 := Scalar.addi v815 c8_i32_406
  let c3_i32_407 : BitVec 32 := 3#32
  let v817 : BitVec 32 := Scalar.addi v816 c3_i32_407
  let v819 : BitVec 32 := Scalar.muli c2_i32_409 v817
  let v820 : BitVec 32 := Scalar.addi v818 v819
  let v821 : Index := Scalar.indexCast v820
  ![v821.toNat]
def k0_off69 (i : grid0.Coords) (k0_t1 : Fin k0_t1_loop.trips) : Fin 1 → Nat :=
  let arg1 : BitVec 32 := BitVec.ofNat 32 (i 1).val
  let c1024_i32_410 : BitVec 32 := 1024#32
  let v823 : BitVec 32 := Scalar.muli arg1 c1024_i32_410
  let c2_i32_411 : BitVec 32 := 2#32
  let c0_i32 : BitVec 32 := 0#32
  let c1_i32 : BitVec 32 := 1#32
  let arg11 : BitVec 32 := Scf.iv c0_i32 c1_i32 k0_t1
  let c32_i32_405 : BitVec 32 := 32#32
  let v815 : BitVec 32 := Scalar.muli arg11 c32_i32_405
  let c8_i32_406 : BitVec 32 := 8#32
  let v816 : BitVec 32 := Scalar.addi v815 c8_i32_406
  let c3_i32_407 : BitVec 32 := 3#32
  let v817 : BitVec 32 := Scalar.addi v816 c3_i32_407
  let v824 : BitVec 32 := Scalar.muli c2_i32_411 v817
  let v825 : BitVec 32 := Scalar.addi v823 v824
  let c1_i32_412 : BitVec 32 := 1#32
  let v826 : BitVec 32 := Scalar.addi v825 c1_i32_412
  let v827 : Index := Scalar.indexCast v826
  ![v827.toNat]
def k0_off70 (v822 : BitVec 32) : Fin 4 → Nat :=
  let v840 : Index := Scalar.indexCast v822
  let c0_418 : Index := 0#32
  let c0_419 : Index := 0#32
  let c0_420 : Index := 0#32
  ![v840.toNat, 0, 0, 0]

def k0_off71 (v828 : BitVec 32) : Fin 4 → Nat :=
  let v845 : Index := Scalar.indexCast v828
  let c0_421 : Index := 0#32
  let c0_422 : Index := 0#32
  let c0_423 : Index := 0#32
  ![v845.toNat, 0, 0, 0]

def k0_chk24 (v828 : BitVec 32) : Prop :=
  (∀ a, (k0_off71 v828) a + S1x1x8x128.size a ≤ S128x1x8x128.size a)
theorem k0_off71_inb : ∀ (v828 : BitVec 32) (k0_hw24 : k0_chk24 v828), ∀ a, (k0_off71 v828) a + S1x1x8x128.size a ≤ S128x1x8x128.size a := fun v828 k0_hw24 => k0_hw24

def k0_off72 (v822 : BitVec 32) : Fin 4 → Nat :=
  let v853 : Index := Scalar.indexCast v822
  let c0_425 : Index := 0#32
  let c0_426 : Index := 0#32
  let c0_427 : Index := 0#32
  ![v853.toNat, 0, 0, 0]

def k0_chk23 (v822 : BitVec 32) : Prop :=
  (∀ a, (k0_off70 v822) a + S1x1x8x128.size a ≤ S128x1x8x128.size a) ∧
  (∀ a, (k0_off72 v822) a + S1x1x8x128.size a ≤ S128x1x8x128.size a)
theorem k0_off70_inb : ∀ (v822 : BitVec 32) (k0_hw23 : k0_chk23 v822), ∀ a, (k0_off70 v822) a + S1x1x8x128.size a ≤ S128x1x8x128.size a := fun v822 k0_hw23 => k0_hw23.1
theorem k0_off72_inb : ∀ (v822 : BitVec 32) (k0_hw23 : k0_chk23 v822), ∀ a, (k0_off72 v822) a + S1x1x8x128.size a ≤ S128x1x8x128.size a := fun v822 k0_hw23 => k0_hw23.2

def k0_off73 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_432 : BitVec 32 := 0#32
  ![v137.toNat, 0, 0]
def k0_off74 (i : grid0.Coords) (k0_t1 : Fin k0_t1_loop.trips) : Fin 1 → Nat :=
  let arg1 : BitVec 32 := BitVec.ofNat 32 (i 1).val
  let c1024_i32_437 : BitVec 32 := 1024#32
  let v881 : BitVec 32 := Scalar.muli arg1 c1024_i32_437
  let c2_i32_438 : BitVec 32 := 2#32
  let c0_i32 : BitVec 32 := 0#32
  let c1_i32 : BitVec 32 := 1#32
  let arg11 : BitVec 32 := Scf.iv c0_i32 c1_i32 k0_t1
  let c32_i32_434 : BitVec 32 := 32#32
  let v878 : BitVec 32 := Scalar.muli arg11 c32_i32_434
  let c12_i32_435 : BitVec 32 := 12#32
  let v879 : BitVec 32 := Scalar.addi v878 c12_i32_435
  let c0_i32_436 : BitVec 32 := 0#32
  let v880 : BitVec 32 := Scalar.addi v879 c0_i32_436
  let v882 : BitVec 32 := Scalar.muli c2_i32_438 v880
  let v883 : BitVec 32 := Scalar.addi v881 v882
  let v884 : Index := Scalar.indexCast v883
  ![v884.toNat]
def k0_off75 (i : grid0.Coords) (k0_t1 : Fin k0_t1_loop.trips) : Fin 1 → Nat :=
  let arg1 : BitVec 32 := BitVec.ofNat 32 (i 1).val
  let c1024_i32_439 : BitVec 32 := 1024#32
  let v886 : BitVec 32 := Scalar.muli arg1 c1024_i32_439
  let c2_i32_440 : BitVec 32 := 2#32
  let c0_i32 : BitVec 32 := 0#32
  let c1_i32 : BitVec 32 := 1#32
  let arg11 : BitVec 32 := Scf.iv c0_i32 c1_i32 k0_t1
  let c32_i32_434 : BitVec 32 := 32#32
  let v878 : BitVec 32 := Scalar.muli arg11 c32_i32_434
  let c12_i32_435 : BitVec 32 := 12#32
  let v879 : BitVec 32 := Scalar.addi v878 c12_i32_435
  let c0_i32_436 : BitVec 32 := 0#32
  let v880 : BitVec 32 := Scalar.addi v879 c0_i32_436
  let v887 : BitVec 32 := Scalar.muli c2_i32_440 v880
  let v888 : BitVec 32 := Scalar.addi v886 v887
  let c1_i32_441 : BitVec 32 := 1#32
  let v889 : BitVec 32 := Scalar.addi v888 c1_i32_441
  let v890 : Index := Scalar.indexCast v889
  ![v890.toNat]
def k0_off76 (v885 : BitVec 32) : Fin 4 → Nat :=
  let v903 : Index := Scalar.indexCast v885
  let c0_447 : Index := 0#32
  let c0_448 : Index := 0#32
  let c0_449 : Index := 0#32
  ![v903.toNat, 0, 0, 0]

def k0_off77 (v891 : BitVec 32) : Fin 4 → Nat :=
  let v908 : Index := Scalar.indexCast v891
  let c0_450 : Index := 0#32
  let c0_451 : Index := 0#32
  let c0_452 : Index := 0#32
  ![v908.toNat, 0, 0, 0]

def k0_chk26 (v891 : BitVec 32) : Prop :=
  (∀ a, (k0_off77 v891) a + S1x1x8x128.size a ≤ S128x1x8x128.size a)
theorem k0_off77_inb : ∀ (v891 : BitVec 32) (k0_hw26 : k0_chk26 v891), ∀ a, (k0_off77 v891) a + S1x1x8x128.size a ≤ S128x1x8x128.size a := fun v891 k0_hw26 => k0_hw26

def k0_off78 (v885 : BitVec 32) : Fin 4 → Nat :=
  let v916 : Index := Scalar.indexCast v885
  let c0_454 : Index := 0#32
  let c0_455 : Index := 0#32
  let c0_456 : Index := 0#32
  ![v916.toNat, 0, 0, 0]

def k0_chk25 (v885 : BitVec 32) : Prop :=
  (∀ a, (k0_off76 v885) a + S1x1x8x128.size a ≤ S128x1x8x128.size a) ∧
  (∀ a, (k0_off78 v885) a + S1x1x8x128.size a ≤ S128x1x8x128.size a)
theorem k0_off76_inb : ∀ (v885 : BitVec 32) (k0_hw25 : k0_chk25 v885), ∀ a, (k0_off76 v885) a + S1x1x8x128.size a ≤ S128x1x8x128.size a := fun v885 k0_hw25 => k0_hw25.1
theorem k0_off78_inb : ∀ (v885 : BitVec 32) (k0_hw25 : k0_chk25 v885), ∀ a, (k0_off78 v885) a + S1x1x8x128.size a ≤ S128x1x8x128.size a := fun v885 k0_hw25 => k0_hw25.2

def k0_off79 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_461 : BitVec 32 := 0#32
  ![v137.toNat, 0, 0]
def k0_off80 (i : grid0.Coords) (k0_t1 : Fin k0_t1_loop.trips) : Fin 1 → Nat :=
  let arg1 : BitVec 32 := BitVec.ofNat 32 (i 1).val
  let c1024_i32_466 : BitVec 32 := 1024#32
  let v942 : BitVec 32 := Scalar.muli arg1 c1024_i32_466
  let c2_i32_467 : BitVec 32 := 2#32
  let c0_i32 : BitVec 32 := 0#32
  let c1_i32 : BitVec 32 := 1#32
  let arg11 : BitVec 32 := Scf.iv c0_i32 c1_i32 k0_t1
  let c32_i32_463 : BitVec 32 := 32#32
  let v939 : BitVec 32 := Scalar.muli arg11 c32_i32_463
  let c12_i32_464 : BitVec 32 := 12#32
  let v940 : BitVec 32 := Scalar.addi v939 c12_i32_464
  let c1_i32_465 : BitVec 32 := 1#32
  let v941 : BitVec 32 := Scalar.addi v940 c1_i32_465
  let v943 : BitVec 32 := Scalar.muli c2_i32_467 v941
  let v944 : BitVec 32 := Scalar.addi v942 v943
  let v945 : Index := Scalar.indexCast v944
  ![v945.toNat]
def k0_off81 (i : grid0.Coords) (k0_t1 : Fin k0_t1_loop.trips) : Fin 1 → Nat :=
  let arg1 : BitVec 32 := BitVec.ofNat 32 (i 1).val
  let c1024_i32_468 : BitVec 32 := 1024#32
  let v947 : BitVec 32 := Scalar.muli arg1 c1024_i32_468
  let c2_i32_469 : BitVec 32 := 2#32
  let c0_i32 : BitVec 32 := 0#32
  let c1_i32 : BitVec 32 := 1#32
  let arg11 : BitVec 32 := Scf.iv c0_i32 c1_i32 k0_t1
  let c32_i32_463 : BitVec 32 := 32#32
  let v939 : BitVec 32 := Scalar.muli arg11 c32_i32_463
  let c12_i32_464 : BitVec 32 := 12#32
  let v940 : BitVec 32 := Scalar.addi v939 c12_i32_464
  let c1_i32_465 : BitVec 32 := 1#32
  let v941 : BitVec 32 := Scalar.addi v940 c1_i32_465
  let v948 : BitVec 32 := Scalar.muli c2_i32_469 v941
  let v949 : BitVec 32 := Scalar.addi v947 v948
  let c1_i32_470 : BitVec 32 := 1#32
  let v950 : BitVec 32 := Scalar.addi v949 c1_i32_470
  let v951 : Index := Scalar.indexCast v950
  ![v951.toNat]
def k0_off82 (v946 : BitVec 32) : Fin 4 → Nat :=
  let v964 : Index := Scalar.indexCast v946
  let c0_476 : Index := 0#32
  let c0_477 : Index := 0#32
  let c0_478 : Index := 0#32
  ![v964.toNat, 0, 0, 0]

def k0_off83 (v952 : BitVec 32) : Fin 4 → Nat :=
  let v969 : Index := Scalar.indexCast v952
  let c0_479 : Index := 0#32
  let c0_480 : Index := 0#32
  let c0_481 : Index := 0#32
  ![v969.toNat, 0, 0, 0]

def k0_chk28 (v952 : BitVec 32) : Prop :=
  (∀ a, (k0_off83 v952) a + S1x1x8x128.size a ≤ S128x1x8x128.size a)
theorem k0_off83_inb : ∀ (v952 : BitVec 32) (k0_hw28 : k0_chk28 v952), ∀ a, (k0_off83 v952) a + S1x1x8x128.size a ≤ S128x1x8x128.size a := fun v952 k0_hw28 => k0_hw28

def k0_off84 (v946 : BitVec 32) : Fin 4 → Nat :=
  let v977 : Index := Scalar.indexCast v946
  let c0_483 : Index := 0#32
  let c0_484 : Index := 0#32
  let c0_485 : Index := 0#32
  ![v977.toNat, 0, 0, 0]

def k0_chk27 (v946 : BitVec 32) : Prop :=
  (∀ a, (k0_off82 v946) a + S1x1x8x128.size a ≤ S128x1x8x128.size a) ∧
  (∀ a, (k0_off84 v946) a + S1x1x8x128.size a ≤ S128x1x8x128.size a)
theorem k0_off82_inb : ∀ (v946 : BitVec 32) (k0_hw27 : k0_chk27 v946), ∀ a, (k0_off82 v946) a + S1x1x8x128.size a ≤ S128x1x8x128.size a := fun v946 k0_hw27 => k0_hw27.1
theorem k0_off84_inb : ∀ (v946 : BitVec 32) (k0_hw27 : k0_chk27 v946), ∀ a, (k0_off84 v946) a + S1x1x8x128.size a ≤ S128x1x8x128.size a := fun v946 k0_hw27 => k0_hw27.2

def k0_off85 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_490 : BitVec 32 := 0#32
  ![v137.toNat, 0, 0]
def k0_off86 (i : grid0.Coords) (k0_t1 : Fin k0_t1_loop.trips) : Fin 1 → Nat :=
  let arg1 : BitVec 32 := BitVec.ofNat 32 (i 1).val
  let c1024_i32_495 : BitVec 32 := 1024#32
  let v1003 : BitVec 32 := Scalar.muli arg1 c1024_i32_495
  let c2_i32_496 : BitVec 32 := 2#32
  let c0_i32 : BitVec 32 := 0#32
  let c1_i32 : BitVec 32 := 1#32
  let arg11 : BitVec 32 := Scf.iv c0_i32 c1_i32 k0_t1
  let c32_i32_492 : BitVec 32 := 32#32
  let v1000 : BitVec 32 := Scalar.muli arg11 c32_i32_492
  let c12_i32_493 : BitVec 32 := 12#32
  let v1001 : BitVec 32 := Scalar.addi v1000 c12_i32_493
  let c2_i32_494 : BitVec 32 := 2#32
  let v1002 : BitVec 32 := Scalar.addi v1001 c2_i32_494
  let v1004 : BitVec 32 := Scalar.muli c2_i32_496 v1002
  let v1005 : BitVec 32 := Scalar.addi v1003 v1004
  let v1006 : Index := Scalar.indexCast v1005
  ![v1006.toNat]
def k0_off87 (i : grid0.Coords) (k0_t1 : Fin k0_t1_loop.trips) : Fin 1 → Nat :=
  let arg1 : BitVec 32 := BitVec.ofNat 32 (i 1).val
  let c1024_i32_497 : BitVec 32 := 1024#32
  let v1008 : BitVec 32 := Scalar.muli arg1 c1024_i32_497
  let c2_i32_498 : BitVec 32 := 2#32
  let c0_i32 : BitVec 32 := 0#32
  let c1_i32 : BitVec 32 := 1#32
  let arg11 : BitVec 32 := Scf.iv c0_i32 c1_i32 k0_t1
  let c32_i32_492 : BitVec 32 := 32#32
  let v1000 : BitVec 32 := Scalar.muli arg11 c32_i32_492
  let c12_i32_493 : BitVec 32 := 12#32
  let v1001 : BitVec 32 := Scalar.addi v1000 c12_i32_493
  let c2_i32_494 : BitVec 32 := 2#32
  let v1002 : BitVec 32 := Scalar.addi v1001 c2_i32_494
  let v1009 : BitVec 32 := Scalar.muli c2_i32_498 v1002
  let v1010 : BitVec 32 := Scalar.addi v1008 v1009
  let c1_i32_499 : BitVec 32 := 1#32
  let v1011 : BitVec 32 := Scalar.addi v1010 c1_i32_499
  let v1012 : Index := Scalar.indexCast v1011
  ![v1012.toNat]
def k0_off88 (v1007 : BitVec 32) : Fin 4 → Nat :=
  let v1025 : Index := Scalar.indexCast v1007
  let c0_505 : Index := 0#32
  let c0_506 : Index := 0#32
  let c0_507 : Index := 0#32
  ![v1025.toNat, 0, 0, 0]

def k0_off89 (v1013 : BitVec 32) : Fin 4 → Nat :=
  let v1030 : Index := Scalar.indexCast v1013
  let c0_508 : Index := 0#32
  let c0_509 : Index := 0#32
  let c0_510 : Index := 0#32
  ![v1030.toNat, 0, 0, 0]

def k0_chk30 (v1013 : BitVec 32) : Prop :=
  (∀ a, (k0_off89 v1013) a + S1x1x8x128.size a ≤ S128x1x8x128.size a)
theorem k0_off89_inb : ∀ (v1013 : BitVec 32) (k0_hw30 : k0_chk30 v1013), ∀ a, (k0_off89 v1013) a + S1x1x8x128.size a ≤ S128x1x8x128.size a := fun v1013 k0_hw30 => k0_hw30

def k0_off90 (v1007 : BitVec 32) : Fin 4 → Nat :=
  let v1038 : Index := Scalar.indexCast v1007
  let c0_512 : Index := 0#32
  let c0_513 : Index := 0#32
  let c0_514 : Index := 0#32
  ![v1038.toNat, 0, 0, 0]

def k0_chk29 (v1007 : BitVec 32) : Prop :=
  (∀ a, (k0_off88 v1007) a + S1x1x8x128.size a ≤ S128x1x8x128.size a) ∧
  (∀ a, (k0_off90 v1007) a + S1x1x8x128.size a ≤ S128x1x8x128.size a)
theorem k0_off88_inb : ∀ (v1007 : BitVec 32) (k0_hw29 : k0_chk29 v1007), ∀ a, (k0_off88 v1007) a + S1x1x8x128.size a ≤ S128x1x8x128.size a := fun v1007 k0_hw29 => k0_hw29.1
theorem k0_off90_inb : ∀ (v1007 : BitVec 32) (k0_hw29 : k0_chk29 v1007), ∀ a, (k0_off90 v1007) a + S1x1x8x128.size a ≤ S128x1x8x128.size a := fun v1007 k0_hw29 => k0_hw29.2

def k0_off91 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_519 : BitVec 32 := 0#32
  ![v137.toNat, 0, 0]
def k0_off92 (i : grid0.Coords) (k0_t1 : Fin k0_t1_loop.trips) : Fin 1 → Nat :=
  let arg1 : BitVec 32 := BitVec.ofNat 32 (i 1).val
  let c1024_i32_524 : BitVec 32 := 1024#32
  let v1064 : BitVec 32 := Scalar.muli arg1 c1024_i32_524
  let c2_i32_525 : BitVec 32 := 2#32
  let c0_i32 : BitVec 32 := 0#32
  let c1_i32 : BitVec 32 := 1#32
  let arg11 : BitVec 32 := Scf.iv c0_i32 c1_i32 k0_t1
  let c32_i32_521 : BitVec 32 := 32#32
  let v1061 : BitVec 32 := Scalar.muli arg11 c32_i32_521
  let c12_i32_522 : BitVec 32 := 12#32
  let v1062 : BitVec 32 := Scalar.addi v1061 c12_i32_522
  let c3_i32_523 : BitVec 32 := 3#32
  let v1063 : BitVec 32 := Scalar.addi v1062 c3_i32_523
  let v1065 : BitVec 32 := Scalar.muli c2_i32_525 v1063
  let v1066 : BitVec 32 := Scalar.addi v1064 v1065
  let v1067 : Index := Scalar.indexCast v1066
  ![v1067.toNat]
def k0_off93 (i : grid0.Coords) (k0_t1 : Fin k0_t1_loop.trips) : Fin 1 → Nat :=
  let arg1 : BitVec 32 := BitVec.ofNat 32 (i 1).val
  let c1024_i32_526 : BitVec 32 := 1024#32
  let v1069 : BitVec 32 := Scalar.muli arg1 c1024_i32_526
  let c2_i32_527 : BitVec 32 := 2#32
  let c0_i32 : BitVec 32 := 0#32
  let c1_i32 : BitVec 32 := 1#32
  let arg11 : BitVec 32 := Scf.iv c0_i32 c1_i32 k0_t1
  let c32_i32_521 : BitVec 32 := 32#32
  let v1061 : BitVec 32 := Scalar.muli arg11 c32_i32_521
  let c12_i32_522 : BitVec 32 := 12#32
  let v1062 : BitVec 32 := Scalar.addi v1061 c12_i32_522
  let c3_i32_523 : BitVec 32 := 3#32
  let v1063 : BitVec 32 := Scalar.addi v1062 c3_i32_523
  let v1070 : BitVec 32 := Scalar.muli c2_i32_527 v1063
  let v1071 : BitVec 32 := Scalar.addi v1069 v1070
  let c1_i32_528 : BitVec 32 := 1#32
  let v1072 : BitVec 32 := Scalar.addi v1071 c1_i32_528
  let v1073 : Index := Scalar.indexCast v1072
  ![v1073.toNat]
def k0_off94 (v1068 : BitVec 32) : Fin 4 → Nat :=
  let v1086 : Index := Scalar.indexCast v1068
  let c0_534 : Index := 0#32
  let c0_535 : Index := 0#32
  let c0_536 : Index := 0#32
  ![v1086.toNat, 0, 0, 0]

def k0_off95 (v1074 : BitVec 32) : Fin 4 → Nat :=
  let v1091 : Index := Scalar.indexCast v1074
  let c0_537 : Index := 0#32
  let c0_538 : Index := 0#32
  let c0_539 : Index := 0#32
  ![v1091.toNat, 0, 0, 0]

def k0_chk32 (v1074 : BitVec 32) : Prop :=
  (∀ a, (k0_off95 v1074) a + S1x1x8x128.size a ≤ S128x1x8x128.size a)
theorem k0_off95_inb : ∀ (v1074 : BitVec 32) (k0_hw32 : k0_chk32 v1074), ∀ a, (k0_off95 v1074) a + S1x1x8x128.size a ≤ S128x1x8x128.size a := fun v1074 k0_hw32 => k0_hw32

def k0_off96 (v1068 : BitVec 32) : Fin 4 → Nat :=
  let v1099 : Index := Scalar.indexCast v1068
  let c0_541 : Index := 0#32
  let c0_542 : Index := 0#32
  let c0_543 : Index := 0#32
  ![v1099.toNat, 0, 0, 0]

def k0_chk31 (v1068 : BitVec 32) : Prop :=
  (∀ a, (k0_off94 v1068) a + S1x1x8x128.size a ≤ S128x1x8x128.size a) ∧
  (∀ a, (k0_off96 v1068) a + S1x1x8x128.size a ≤ S128x1x8x128.size a)
theorem k0_off94_inb : ∀ (v1068 : BitVec 32) (k0_hw31 : k0_chk31 v1068), ∀ a, (k0_off94 v1068) a + S1x1x8x128.size a ≤ S128x1x8x128.size a := fun v1068 k0_hw31 => k0_hw31.1
theorem k0_off96_inb : ∀ (v1068 : BitVec 32) (k0_hw31 : k0_chk31 v1068), ∀ a, (k0_off96 v1068) a + S1x1x8x128.size a ≤ S128x1x8x128.size a := fun v1068 k0_hw31 => k0_hw31.2

def k0_off97 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_548 : BitVec 32 := 0#32
  ![v137.toNat, 0, 0]
def k0_off98 (i : grid0.Coords) (k0_t1 : Fin k0_t1_loop.trips) : Fin 1 → Nat :=
  let arg1 : BitVec 32 := BitVec.ofNat 32 (i 1).val
  let c1024_i32_553 : BitVec 32 := 1024#32
  let v1127 : BitVec 32 := Scalar.muli arg1 c1024_i32_553
  let c2_i32_554 : BitVec 32 := 2#32
  let c0_i32 : BitVec 32 := 0#32
  let c1_i32 : BitVec 32 := 1#32
  let arg11 : BitVec 32 := Scf.iv c0_i32 c1_i32 k0_t1
  let c32_i32_550 : BitVec 32 := 32#32
  let v1124 : BitVec 32 := Scalar.muli arg11 c32_i32_550
  let c16_i32_551 : BitVec 32 := 16#32
  let v1125 : BitVec 32 := Scalar.addi v1124 c16_i32_551
  let c0_i32_552 : BitVec 32 := 0#32
  let v1126 : BitVec 32 := Scalar.addi v1125 c0_i32_552
  let v1128 : BitVec 32 := Scalar.muli c2_i32_554 v1126
  let v1129 : BitVec 32 := Scalar.addi v1127 v1128
  let v1130 : Index := Scalar.indexCast v1129
  ![v1130.toNat]
def k0_off99 (i : grid0.Coords) (k0_t1 : Fin k0_t1_loop.trips) : Fin 1 → Nat :=
  let arg1 : BitVec 32 := BitVec.ofNat 32 (i 1).val
  let c1024_i32_555 : BitVec 32 := 1024#32
  let v1132 : BitVec 32 := Scalar.muli arg1 c1024_i32_555
  let c2_i32_556 : BitVec 32 := 2#32
  let c0_i32 : BitVec 32 := 0#32
  let c1_i32 : BitVec 32 := 1#32
  let arg11 : BitVec 32 := Scf.iv c0_i32 c1_i32 k0_t1
  let c32_i32_550 : BitVec 32 := 32#32
  let v1124 : BitVec 32 := Scalar.muli arg11 c32_i32_550
  let c16_i32_551 : BitVec 32 := 16#32
  let v1125 : BitVec 32 := Scalar.addi v1124 c16_i32_551
  let c0_i32_552 : BitVec 32 := 0#32
  let v1126 : BitVec 32 := Scalar.addi v1125 c0_i32_552
  let v1133 : BitVec 32 := Scalar.muli c2_i32_556 v1126
  let v1134 : BitVec 32 := Scalar.addi v1132 v1133
  let c1_i32_557 : BitVec 32 := 1#32
  let v1135 : BitVec 32 := Scalar.addi v1134 c1_i32_557
  let v1136 : Index := Scalar.indexCast v1135
  ![v1136.toNat]
def k0_off100 (v1131 : BitVec 32) : Fin 4 → Nat :=
  let v1149 : Index := Scalar.indexCast v1131
  let c0_563 : Index := 0#32
  let c0_564 : Index := 0#32
  let c0_565 : Index := 0#32
  ![v1149.toNat, 0, 0, 0]

def k0_off101 (v1137 : BitVec 32) : Fin 4 → Nat :=
  let v1154 : Index := Scalar.indexCast v1137
  let c0_566 : Index := 0#32
  let c0_567 : Index := 0#32
  let c0_568 : Index := 0#32
  ![v1154.toNat, 0, 0, 0]

def k0_chk34 (v1137 : BitVec 32) : Prop :=
  (∀ a, (k0_off101 v1137) a + S1x1x8x128.size a ≤ S128x1x8x128.size a)
theorem k0_off101_inb : ∀ (v1137 : BitVec 32) (k0_hw34 : k0_chk34 v1137), ∀ a, (k0_off101 v1137) a + S1x1x8x128.size a ≤ S128x1x8x128.size a := fun v1137 k0_hw34 => k0_hw34

def k0_off102 (v1131 : BitVec 32) : Fin 4 → Nat :=
  let v1162 : Index := Scalar.indexCast v1131
  let c0_570 : Index := 0#32
  let c0_571 : Index := 0#32
  let c0_572 : Index := 0#32
  ![v1162.toNat, 0, 0, 0]

def k0_chk33 (v1131 : BitVec 32) : Prop :=
  (∀ a, (k0_off100 v1131) a + S1x1x8x128.size a ≤ S128x1x8x128.size a) ∧
  (∀ a, (k0_off102 v1131) a + S1x1x8x128.size a ≤ S128x1x8x128.size a)
theorem k0_off100_inb : ∀ (v1131 : BitVec 32) (k0_hw33 : k0_chk33 v1131), ∀ a, (k0_off100 v1131) a + S1x1x8x128.size a ≤ S128x1x8x128.size a := fun v1131 k0_hw33 => k0_hw33.1
theorem k0_off102_inb : ∀ (v1131 : BitVec 32) (k0_hw33 : k0_chk33 v1131), ∀ a, (k0_off102 v1131) a + S1x1x8x128.size a ≤ S128x1x8x128.size a := fun v1131 k0_hw33 => k0_hw33.2

def k0_off103 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_577 : BitVec 32 := 0#32
  ![v137.toNat, 0, 0]
def k0_off104 (i : grid0.Coords) (k0_t1 : Fin k0_t1_loop.trips) : Fin 1 → Nat :=
  let arg1 : BitVec 32 := BitVec.ofNat 32 (i 1).val
  let c1024_i32_582 : BitVec 32 := 1024#32
  let v1188 : BitVec 32 := Scalar.muli arg1 c1024_i32_582
  let c2_i32_583 : BitVec 32 := 2#32
  let c0_i32 : BitVec 32 := 0#32
  let c1_i32 : BitVec 32 := 1#32
  let arg11 : BitVec 32 := Scf.iv c0_i32 c1_i32 k0_t1
  let c32_i32_579 : BitVec 32 := 32#32
  let v1185 : BitVec 32 := Scalar.muli arg11 c32_i32_579
  let c16_i32_580 : BitVec 32 := 16#32
  let v1186 : BitVec 32 := Scalar.addi v1185 c16_i32_580
  let c1_i32_581 : BitVec 32 := 1#32
  let v1187 : BitVec 32 := Scalar.addi v1186 c1_i32_581
  let v1189 : BitVec 32 := Scalar.muli c2_i32_583 v1187
  let v1190 : BitVec 32 := Scalar.addi v1188 v1189
  let v1191 : Index := Scalar.indexCast v1190
  ![v1191.toNat]
def k0_off105 (i : grid0.Coords) (k0_t1 : Fin k0_t1_loop.trips) : Fin 1 → Nat :=
  let arg1 : BitVec 32 := BitVec.ofNat 32 (i 1).val
  let c1024_i32_584 : BitVec 32 := 1024#32
  let v1193 : BitVec 32 := Scalar.muli arg1 c1024_i32_584
  let c2_i32_585 : BitVec 32 := 2#32
  let c0_i32 : BitVec 32 := 0#32
  let c1_i32 : BitVec 32 := 1#32
  let arg11 : BitVec 32 := Scf.iv c0_i32 c1_i32 k0_t1
  let c32_i32_579 : BitVec 32 := 32#32
  let v1185 : BitVec 32 := Scalar.muli arg11 c32_i32_579
  let c16_i32_580 : BitVec 32 := 16#32
  let v1186 : BitVec 32 := Scalar.addi v1185 c16_i32_580
  let c1_i32_581 : BitVec 32 := 1#32
  let v1187 : BitVec 32 := Scalar.addi v1186 c1_i32_581
  let v1194 : BitVec 32 := Scalar.muli c2_i32_585 v1187
  let v1195 : BitVec 32 := Scalar.addi v1193 v1194
  let c1_i32_586 : BitVec 32 := 1#32
  let v1196 : BitVec 32 := Scalar.addi v1195 c1_i32_586
  let v1197 : Index := Scalar.indexCast v1196
  ![v1197.toNat]
def k0_off106 (v1192 : BitVec 32) : Fin 4 → Nat :=
  let v1210 : Index := Scalar.indexCast v1192
  let c0_592 : Index := 0#32
  let c0_593 : Index := 0#32
  let c0_594 : Index := 0#32
  ![v1210.toNat, 0, 0, 0]

def k0_off107 (v1198 : BitVec 32) : Fin 4 → Nat :=
  let v1215 : Index := Scalar.indexCast v1198
  let c0_595 : Index := 0#32
  let c0_596 : Index := 0#32
  let c0_597 : Index := 0#32
  ![v1215.toNat, 0, 0, 0]

def k0_chk36 (v1198 : BitVec 32) : Prop :=
  (∀ a, (k0_off107 v1198) a + S1x1x8x128.size a ≤ S128x1x8x128.size a)
theorem k0_off107_inb : ∀ (v1198 : BitVec 32) (k0_hw36 : k0_chk36 v1198), ∀ a, (k0_off107 v1198) a + S1x1x8x128.size a ≤ S128x1x8x128.size a := fun v1198 k0_hw36 => k0_hw36

def k0_off108 (v1192 : BitVec 32) : Fin 4 → Nat :=
  let v1223 : Index := Scalar.indexCast v1192
  let c0_599 : Index := 0#32
  let c0_600 : Index := 0#32
  let c0_601 : Index := 0#32
  ![v1223.toNat, 0, 0, 0]

def k0_chk35 (v1192 : BitVec 32) : Prop :=
  (∀ a, (k0_off106 v1192) a + S1x1x8x128.size a ≤ S128x1x8x128.size a) ∧
  (∀ a, (k0_off108 v1192) a + S1x1x8x128.size a ≤ S128x1x8x128.size a)
theorem k0_off106_inb : ∀ (v1192 : BitVec 32) (k0_hw35 : k0_chk35 v1192), ∀ a, (k0_off106 v1192) a + S1x1x8x128.size a ≤ S128x1x8x128.size a := fun v1192 k0_hw35 => k0_hw35.1
theorem k0_off108_inb : ∀ (v1192 : BitVec 32) (k0_hw35 : k0_chk35 v1192), ∀ a, (k0_off108 v1192) a + S1x1x8x128.size a ≤ S128x1x8x128.size a := fun v1192 k0_hw35 => k0_hw35.2

def k0_off109 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_606 : BitVec 32 := 0#32
  ![v137.toNat, 0, 0]
def k0_off110 (i : grid0.Coords) (k0_t1 : Fin k0_t1_loop.trips) : Fin 1 → Nat :=
  let arg1 : BitVec 32 := BitVec.ofNat 32 (i 1).val
  let c1024_i32_611 : BitVec 32 := 1024#32
  let v1249 : BitVec 32 := Scalar.muli arg1 c1024_i32_611
  let c2_i32_612 : BitVec 32 := 2#32
  let c0_i32 : BitVec 32 := 0#32
  let c1_i32 : BitVec 32 := 1#32
  let arg11 : BitVec 32 := Scf.iv c0_i32 c1_i32 k0_t1
  let c32_i32_608 : BitVec 32 := 32#32
  let v1246 : BitVec 32 := Scalar.muli arg11 c32_i32_608
  let c16_i32_609 : BitVec 32 := 16#32
  let v1247 : BitVec 32 := Scalar.addi v1246 c16_i32_609
  let c2_i32_610 : BitVec 32 := 2#32
  let v1248 : BitVec 32 := Scalar.addi v1247 c2_i32_610
  let v1250 : BitVec 32 := Scalar.muli c2_i32_612 v1248
  let v1251 : BitVec 32 := Scalar.addi v1249 v1250
  let v1252 : Index := Scalar.indexCast v1251
  ![v1252.toNat]
def k0_off111 (i : grid0.Coords) (k0_t1 : Fin k0_t1_loop.trips) : Fin 1 → Nat :=
  let arg1 : BitVec 32 := BitVec.ofNat 32 (i 1).val
  let c1024_i32_613 : BitVec 32 := 1024#32
  let v1254 : BitVec 32 := Scalar.muli arg1 c1024_i32_613
  let c2_i32_614 : BitVec 32 := 2#32
  let c0_i32 : BitVec 32 := 0#32
  let c1_i32 : BitVec 32 := 1#32
  let arg11 : BitVec 32 := Scf.iv c0_i32 c1_i32 k0_t1
  let c32_i32_608 : BitVec 32 := 32#32
  let v1246 : BitVec 32 := Scalar.muli arg11 c32_i32_608
  let c16_i32_609 : BitVec 32 := 16#32
  let v1247 : BitVec 32 := Scalar.addi v1246 c16_i32_609
  let c2_i32_610 : BitVec 32 := 2#32
  let v1248 : BitVec 32 := Scalar.addi v1247 c2_i32_610
  let v1255 : BitVec 32 := Scalar.muli c2_i32_614 v1248
  let v1256 : BitVec 32 := Scalar.addi v1254 v1255
  let c1_i32_615 : BitVec 32 := 1#32
  let v1257 : BitVec 32 := Scalar.addi v1256 c1_i32_615
  let v1258 : Index := Scalar.indexCast v1257
  ![v1258.toNat]
def k0_off112 (v1253 : BitVec 32) : Fin 4 → Nat :=
  let v1271 : Index := Scalar.indexCast v1253
  let c0_621 : Index := 0#32
  let c0_622 : Index := 0#32
  let c0_623 : Index := 0#32
  ![v1271.toNat, 0, 0, 0]

def k0_off113 (v1259 : BitVec 32) : Fin 4 → Nat :=
  let v1276 : Index := Scalar.indexCast v1259
  let c0_624 : Index := 0#32
  let c0_625 : Index := 0#32
  let c0_626 : Index := 0#32
  ![v1276.toNat, 0, 0, 0]

def k0_chk38 (v1259 : BitVec 32) : Prop :=
  (∀ a, (k0_off113 v1259) a + S1x1x8x128.size a ≤ S128x1x8x128.size a)
theorem k0_off113_inb : ∀ (v1259 : BitVec 32) (k0_hw38 : k0_chk38 v1259), ∀ a, (k0_off113 v1259) a + S1x1x8x128.size a ≤ S128x1x8x128.size a := fun v1259 k0_hw38 => k0_hw38

def k0_off114 (v1253 : BitVec 32) : Fin 4 → Nat :=
  let v1284 : Index := Scalar.indexCast v1253
  let c0_628 : Index := 0#32
  let c0_629 : Index := 0#32
  let c0_630 : Index := 0#32
  ![v1284.toNat, 0, 0, 0]

def k0_chk37 (v1253 : BitVec 32) : Prop :=
  (∀ a, (k0_off112 v1253) a + S1x1x8x128.size a ≤ S128x1x8x128.size a) ∧
  (∀ a, (k0_off114 v1253) a + S1x1x8x128.size a ≤ S128x1x8x128.size a)
theorem k0_off112_inb : ∀ (v1253 : BitVec 32) (k0_hw37 : k0_chk37 v1253), ∀ a, (k0_off112 v1253) a + S1x1x8x128.size a ≤ S128x1x8x128.size a := fun v1253 k0_hw37 => k0_hw37.1
theorem k0_off114_inb : ∀ (v1253 : BitVec 32) (k0_hw37 : k0_chk37 v1253), ∀ a, (k0_off114 v1253) a + S1x1x8x128.size a ≤ S128x1x8x128.size a := fun v1253 k0_hw37 => k0_hw37.2

def k0_off115 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_635 : BitVec 32 := 0#32
  ![v137.toNat, 0, 0]
def k0_off116 (i : grid0.Coords) (k0_t1 : Fin k0_t1_loop.trips) : Fin 1 → Nat :=
  let arg1 : BitVec 32 := BitVec.ofNat 32 (i 1).val
  let c1024_i32_640 : BitVec 32 := 1024#32
  let v1310 : BitVec 32 := Scalar.muli arg1 c1024_i32_640
  let c2_i32_641 : BitVec 32 := 2#32
  let c0_i32 : BitVec 32 := 0#32
  let c1_i32 : BitVec 32 := 1#32
  let arg11 : BitVec 32 := Scf.iv c0_i32 c1_i32 k0_t1
  let c32_i32_637 : BitVec 32 := 32#32
  let v1307 : BitVec 32 := Scalar.muli arg11 c32_i32_637
  let c16_i32_638 : BitVec 32 := 16#32
  let v1308 : BitVec 32 := Scalar.addi v1307 c16_i32_638
  let c3_i32_639 : BitVec 32 := 3#32
  let v1309 : BitVec 32 := Scalar.addi v1308 c3_i32_639
  let v1311 : BitVec 32 := Scalar.muli c2_i32_641 v1309
  let v1312 : BitVec 32 := Scalar.addi v1310 v1311
  let v1313 : Index := Scalar.indexCast v1312
  ![v1313.toNat]
def k0_off117 (i : grid0.Coords) (k0_t1 : Fin k0_t1_loop.trips) : Fin 1 → Nat :=
  let arg1 : BitVec 32 := BitVec.ofNat 32 (i 1).val
  let c1024_i32_642 : BitVec 32 := 1024#32
  let v1315 : BitVec 32 := Scalar.muli arg1 c1024_i32_642
  let c2_i32_643 : BitVec 32 := 2#32
  let c0_i32 : BitVec 32 := 0#32
  let c1_i32 : BitVec 32 := 1#32
  let arg11 : BitVec 32 := Scf.iv c0_i32 c1_i32 k0_t1
  let c32_i32_637 : BitVec 32 := 32#32
  let v1307 : BitVec 32 := Scalar.muli arg11 c32_i32_637
  let c16_i32_638 : BitVec 32 := 16#32
  let v1308 : BitVec 32 := Scalar.addi v1307 c16_i32_638
  let c3_i32_639 : BitVec 32 := 3#32
  let v1309 : BitVec 32 := Scalar.addi v1308 c3_i32_639
  let v1316 : BitVec 32 := Scalar.muli c2_i32_643 v1309
  let v1317 : BitVec 32 := Scalar.addi v1315 v1316
  let c1_i32_644 : BitVec 32 := 1#32
  let v1318 : BitVec 32 := Scalar.addi v1317 c1_i32_644
  let v1319 : Index := Scalar.indexCast v1318
  ![v1319.toNat]
def k0_off118 (v1314 : BitVec 32) : Fin 4 → Nat :=
  let v1332 : Index := Scalar.indexCast v1314
  let c0_650 : Index := 0#32
  let c0_651 : Index := 0#32
  let c0_652 : Index := 0#32
  ![v1332.toNat, 0, 0, 0]

def k0_off119 (v1320 : BitVec 32) : Fin 4 → Nat :=
  let v1337 : Index := Scalar.indexCast v1320
  let c0_653 : Index := 0#32
  let c0_654 : Index := 0#32
  let c0_655 : Index := 0#32
  ![v1337.toNat, 0, 0, 0]

def k0_chk40 (v1320 : BitVec 32) : Prop :=
  (∀ a, (k0_off119 v1320) a + S1x1x8x128.size a ≤ S128x1x8x128.size a)
theorem k0_off119_inb : ∀ (v1320 : BitVec 32) (k0_hw40 : k0_chk40 v1320), ∀ a, (k0_off119 v1320) a + S1x1x8x128.size a ≤ S128x1x8x128.size a := fun v1320 k0_hw40 => k0_hw40

def k0_off120 (v1314 : BitVec 32) : Fin 4 → Nat :=
  let v1345 : Index := Scalar.indexCast v1314
  let c0_657 : Index := 0#32
  let c0_658 : Index := 0#32
  let c0_659 : Index := 0#32
  ![v1345.toNat, 0, 0, 0]

def k0_chk39 (v1314 : BitVec 32) : Prop :=
  (∀ a, (k0_off118 v1314) a + S1x1x8x128.size a ≤ S128x1x8x128.size a) ∧
  (∀ a, (k0_off120 v1314) a + S1x1x8x128.size a ≤ S128x1x8x128.size a)
theorem k0_off118_inb : ∀ (v1314 : BitVec 32) (k0_hw39 : k0_chk39 v1314), ∀ a, (k0_off118 v1314) a + S1x1x8x128.size a ≤ S128x1x8x128.size a := fun v1314 k0_hw39 => k0_hw39.1
theorem k0_off120_inb : ∀ (v1314 : BitVec 32) (k0_hw39 : k0_chk39 v1314), ∀ a, (k0_off120 v1314) a + S1x1x8x128.size a ≤ S128x1x8x128.size a := fun v1314 k0_hw39 => k0_hw39.2

def k0_off121 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_664 : BitVec 32 := 0#32
  ![v137.toNat, 0, 0]
def k0_off122 (i : grid0.Coords) (k0_t1 : Fin k0_t1_loop.trips) : Fin 1 → Nat :=
  let arg1 : BitVec 32 := BitVec.ofNat 32 (i 1).val
  let c1024_i32_668 : BitVec 32 := 1024#32
  let v1373 : BitVec 32 := Scalar.muli arg1 c1024_i32_668
  let c2_i32_669 : BitVec 32 := 2#32
  let c0_i32 : BitVec 32 := 0#32
  let c1_i32 : BitVec 32 := 1#32
  let arg11 : BitVec 32 := Scf.iv c0_i32 c1_i32 k0_t1
  let c32_i32_666 : BitVec 32 := 32#32
  let v1370 : BitVec 32 := Scalar.muli arg11 c32_i32_666
  let c20_i32 : BitVec 32 := 20#32
  let v1371 : BitVec 32 := Scalar.addi v1370 c20_i32
  let c0_i32_667 : BitVec 32 := 0#32
  let v1372 : BitVec 32 := Scalar.addi v1371 c0_i32_667
  let v1374 : BitVec 32 := Scalar.muli c2_i32_669 v1372
  let v1375 : BitVec 32 := Scalar.addi v1373 v1374
  let v1376 : Index := Scalar.indexCast v1375
  ![v1376.toNat]
def k0_off123 (i : grid0.Coords) (k0_t1 : Fin k0_t1_loop.trips) : Fin 1 → Nat :=
  let arg1 : BitVec 32 := BitVec.ofNat 32 (i 1).val
  let c1024_i32_670 : BitVec 32 := 1024#32
  let v1378 : BitVec 32 := Scalar.muli arg1 c1024_i32_670
  let c2_i32_671 : BitVec 32 := 2#32
  let c0_i32 : BitVec 32 := 0#32
  let c1_i32 : BitVec 32 := 1#32
  let arg11 : BitVec 32 := Scf.iv c0_i32 c1_i32 k0_t1
  let c32_i32_666 : BitVec 32 := 32#32
  let v1370 : BitVec 32 := Scalar.muli arg11 c32_i32_666
  let c20_i32 : BitVec 32 := 20#32
  let v1371 : BitVec 32 := Scalar.addi v1370 c20_i32
  let c0_i32_667 : BitVec 32 := 0#32
  let v1372 : BitVec 32 := Scalar.addi v1371 c0_i32_667
  let v1379 : BitVec 32 := Scalar.muli c2_i32_671 v1372
  let v1380 : BitVec 32 := Scalar.addi v1378 v1379
  let c1_i32_672 : BitVec 32 := 1#32
  let v1381 : BitVec 32 := Scalar.addi v1380 c1_i32_672
  let v1382 : Index := Scalar.indexCast v1381
  ![v1382.toNat]
def k0_off124 (v1377 : BitVec 32) : Fin 4 → Nat :=
  let v1395 : Index := Scalar.indexCast v1377
  let c0_678 : Index := 0#32
  let c0_679 : Index := 0#32
  let c0_680 : Index := 0#32
  ![v1395.toNat, 0, 0, 0]

def k0_off125 (v1383 : BitVec 32) : Fin 4 → Nat :=
  let v1400 : Index := Scalar.indexCast v1383
  let c0_681 : Index := 0#32
  let c0_682 : Index := 0#32
  let c0_683 : Index := 0#32
  ![v1400.toNat, 0, 0, 0]

def k0_chk42 (v1383 : BitVec 32) : Prop :=
  (∀ a, (k0_off125 v1383) a + S1x1x8x128.size a ≤ S128x1x8x128.size a)
theorem k0_off125_inb : ∀ (v1383 : BitVec 32) (k0_hw42 : k0_chk42 v1383), ∀ a, (k0_off125 v1383) a + S1x1x8x128.size a ≤ S128x1x8x128.size a := fun v1383 k0_hw42 => k0_hw42

def k0_off126 (v1377 : BitVec 32) : Fin 4 → Nat :=
  let v1408 : Index := Scalar.indexCast v1377
  let c0_685 : Index := 0#32
  let c0_686 : Index := 0#32
  let c0_687 : Index := 0#32
  ![v1408.toNat, 0, 0, 0]

def k0_chk41 (v1377 : BitVec 32) : Prop :=
  (∀ a, (k0_off124 v1377) a + S1x1x8x128.size a ≤ S128x1x8x128.size a) ∧
  (∀ a, (k0_off126 v1377) a + S1x1x8x128.size a ≤ S128x1x8x128.size a)
theorem k0_off124_inb : ∀ (v1377 : BitVec 32) (k0_hw41 : k0_chk41 v1377), ∀ a, (k0_off124 v1377) a + S1x1x8x128.size a ≤ S128x1x8x128.size a := fun v1377 k0_hw41 => k0_hw41.1
theorem k0_off126_inb : ∀ (v1377 : BitVec 32) (k0_hw41 : k0_chk41 v1377), ∀ a, (k0_off126 v1377) a + S1x1x8x128.size a ≤ S128x1x8x128.size a := fun v1377 k0_hw41 => k0_hw41.2

def k0_off127 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_692 : BitVec 32 := 0#32
  ![v137.toNat, 0, 0]
def k0_off128 (i : grid0.Coords) (k0_t1 : Fin k0_t1_loop.trips) : Fin 1 → Nat :=
  let arg1 : BitVec 32 := BitVec.ofNat 32 (i 1).val
  let c1024_i32_697 : BitVec 32 := 1024#32
  let v1434 : BitVec 32 := Scalar.muli arg1 c1024_i32_697
  let c2_i32_698 : BitVec 32 := 2#32
  let c0_i32 : BitVec 32 := 0#32
  let c1_i32 : BitVec 32 := 1#32
  let arg11 : BitVec 32 := Scf.iv c0_i32 c1_i32 k0_t1
  let c32_i32_694 : BitVec 32 := 32#32
  let v1431 : BitVec 32 := Scalar.muli arg11 c32_i32_694
  let c20_i32_695 : BitVec 32 := 20#32
  let v1432 : BitVec 32 := Scalar.addi v1431 c20_i32_695
  let c1_i32_696 : BitVec 32 := 1#32
  let v1433 : BitVec 32 := Scalar.addi v1432 c1_i32_696
  let v1435 : BitVec 32 := Scalar.muli c2_i32_698 v1433
  let v1436 : BitVec 32 := Scalar.addi v1434 v1435
  let v1437 : Index := Scalar.indexCast v1436
  ![v1437.toNat]
def k0_off129 (i : grid0.Coords) (k0_t1 : Fin k0_t1_loop.trips) : Fin 1 → Nat :=
  let arg1 : BitVec 32 := BitVec.ofNat 32 (i 1).val
  let c1024_i32_699 : BitVec 32 := 1024#32
  let v1439 : BitVec 32 := Scalar.muli arg1 c1024_i32_699
  let c2_i32_700 : BitVec 32 := 2#32
  let c0_i32 : BitVec 32 := 0#32
  let c1_i32 : BitVec 32 := 1#32
  let arg11 : BitVec 32 := Scf.iv c0_i32 c1_i32 k0_t1
  let c32_i32_694 : BitVec 32 := 32#32
  let v1431 : BitVec 32 := Scalar.muli arg11 c32_i32_694
  let c20_i32_695 : BitVec 32 := 20#32
  let v1432 : BitVec 32 := Scalar.addi v1431 c20_i32_695
  let c1_i32_696 : BitVec 32 := 1#32
  let v1433 : BitVec 32 := Scalar.addi v1432 c1_i32_696
  let v1440 : BitVec 32 := Scalar.muli c2_i32_700 v1433
  let v1441 : BitVec 32 := Scalar.addi v1439 v1440
  let c1_i32_701 : BitVec 32 := 1#32
  let v1442 : BitVec 32 := Scalar.addi v1441 c1_i32_701
  let v1443 : Index := Scalar.indexCast v1442
  ![v1443.toNat]
def k0_off130 (v1438 : BitVec 32) : Fin 4 → Nat :=
  let v1456 : Index := Scalar.indexCast v1438
  let c0_707 : Index := 0#32
  let c0_708 : Index := 0#32
  let c0_709 : Index := 0#32
  ![v1456.toNat, 0, 0, 0]

def k0_off131 (v1444 : BitVec 32) : Fin 4 → Nat :=
  let v1461 : Index := Scalar.indexCast v1444
  let c0_710 : Index := 0#32
  let c0_711 : Index := 0#32
  let c0_712 : Index := 0#32
  ![v1461.toNat, 0, 0, 0]

def k0_chk44 (v1444 : BitVec 32) : Prop :=
  (∀ a, (k0_off131 v1444) a + S1x1x8x128.size a ≤ S128x1x8x128.size a)
theorem k0_off131_inb : ∀ (v1444 : BitVec 32) (k0_hw44 : k0_chk44 v1444), ∀ a, (k0_off131 v1444) a + S1x1x8x128.size a ≤ S128x1x8x128.size a := fun v1444 k0_hw44 => k0_hw44

def k0_off132 (v1438 : BitVec 32) : Fin 4 → Nat :=
  let v1469 : Index := Scalar.indexCast v1438
  let c0_714 : Index := 0#32
  let c0_715 : Index := 0#32
  let c0_716 : Index := 0#32
  ![v1469.toNat, 0, 0, 0]

def k0_chk43 (v1438 : BitVec 32) : Prop :=
  (∀ a, (k0_off130 v1438) a + S1x1x8x128.size a ≤ S128x1x8x128.size a) ∧
  (∀ a, (k0_off132 v1438) a + S1x1x8x128.size a ≤ S128x1x8x128.size a)
theorem k0_off130_inb : ∀ (v1438 : BitVec 32) (k0_hw43 : k0_chk43 v1438), ∀ a, (k0_off130 v1438) a + S1x1x8x128.size a ≤ S128x1x8x128.size a := fun v1438 k0_hw43 => k0_hw43.1
theorem k0_off132_inb : ∀ (v1438 : BitVec 32) (k0_hw43 : k0_chk43 v1438), ∀ a, (k0_off132 v1438) a + S1x1x8x128.size a ≤ S128x1x8x128.size a := fun v1438 k0_hw43 => k0_hw43.2

def k0_off133 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_721 : BitVec 32 := 0#32
  ![v137.toNat, 0, 0]
def k0_off134 (i : grid0.Coords) (k0_t1 : Fin k0_t1_loop.trips) : Fin 1 → Nat :=
  let arg1 : BitVec 32 := BitVec.ofNat 32 (i 1).val
  let c1024_i32_726 : BitVec 32 := 1024#32
  let v1495 : BitVec 32 := Scalar.muli arg1 c1024_i32_726
  let c2_i32_727 : BitVec 32 := 2#32
  let c0_i32 : BitVec 32 := 0#32
  let c1_i32 : BitVec 32 := 1#32
  let arg11 : BitVec 32 := Scf.iv c0_i32 c1_i32 k0_t1
  let c32_i32_723 : BitVec 32 := 32#32
  let v1492 : BitVec 32 := Scalar.muli arg11 c32_i32_723
  let c20_i32_724 : BitVec 32 := 20#32
  let v1493 : BitVec 32 := Scalar.addi v1492 c20_i32_724
  let c2_i32_725 : BitVec 32 := 2#32
  let v1494 : BitVec 32 := Scalar.addi v1493 c2_i32_725
  let v1496 : BitVec 32 := Scalar.muli c2_i32_727 v1494
  let v1497 : BitVec 32 := Scalar.addi v1495 v1496
  let v1498 : Index := Scalar.indexCast v1497
  ![v1498.toNat]
def k0_off135 (i : grid0.Coords) (k0_t1 : Fin k0_t1_loop.trips) : Fin 1 → Nat :=
  let arg1 : BitVec 32 := BitVec.ofNat 32 (i 1).val
  let c1024_i32_728 : BitVec 32 := 1024#32
  let v1500 : BitVec 32 := Scalar.muli arg1 c1024_i32_728
  let c2_i32_729 : BitVec 32 := 2#32
  let c0_i32 : BitVec 32 := 0#32
  let c1_i32 : BitVec 32 := 1#32
  let arg11 : BitVec 32 := Scf.iv c0_i32 c1_i32 k0_t1
  let c32_i32_723 : BitVec 32 := 32#32
  let v1492 : BitVec 32 := Scalar.muli arg11 c32_i32_723
  let c20_i32_724 : BitVec 32 := 20#32
  let v1493 : BitVec 32 := Scalar.addi v1492 c20_i32_724
  let c2_i32_725 : BitVec 32 := 2#32
  let v1494 : BitVec 32 := Scalar.addi v1493 c2_i32_725
  let v1501 : BitVec 32 := Scalar.muli c2_i32_729 v1494
  let v1502 : BitVec 32 := Scalar.addi v1500 v1501
  let c1_i32_730 : BitVec 32 := 1#32
  let v1503 : BitVec 32 := Scalar.addi v1502 c1_i32_730
  let v1504 : Index := Scalar.indexCast v1503
  ![v1504.toNat]
def k0_off136 (v1499 : BitVec 32) : Fin 4 → Nat :=
  let v1517 : Index := Scalar.indexCast v1499
  let c0_736 : Index := 0#32
  let c0_737 : Index := 0#32
  let c0_738 : Index := 0#32
  ![v1517.toNat, 0, 0, 0]

def k0_off137 (v1505 : BitVec 32) : Fin 4 → Nat :=
  let v1522 : Index := Scalar.indexCast v1505
  let c0_739 : Index := 0#32
  let c0_740 : Index := 0#32
  let c0_741 : Index := 0#32
  ![v1522.toNat, 0, 0, 0]

def k0_chk46 (v1505 : BitVec 32) : Prop :=
  (∀ a, (k0_off137 v1505) a + S1x1x8x128.size a ≤ S128x1x8x128.size a)
theorem k0_off137_inb : ∀ (v1505 : BitVec 32) (k0_hw46 : k0_chk46 v1505), ∀ a, (k0_off137 v1505) a + S1x1x8x128.size a ≤ S128x1x8x128.size a := fun v1505 k0_hw46 => k0_hw46

def k0_off138 (v1499 : BitVec 32) : Fin 4 → Nat :=
  let v1530 : Index := Scalar.indexCast v1499
  let c0_743 : Index := 0#32
  let c0_744 : Index := 0#32
  let c0_745 : Index := 0#32
  ![v1530.toNat, 0, 0, 0]

def k0_chk45 (v1499 : BitVec 32) : Prop :=
  (∀ a, (k0_off136 v1499) a + S1x1x8x128.size a ≤ S128x1x8x128.size a) ∧
  (∀ a, (k0_off138 v1499) a + S1x1x8x128.size a ≤ S128x1x8x128.size a)
theorem k0_off136_inb : ∀ (v1499 : BitVec 32) (k0_hw45 : k0_chk45 v1499), ∀ a, (k0_off136 v1499) a + S1x1x8x128.size a ≤ S128x1x8x128.size a := fun v1499 k0_hw45 => k0_hw45.1
theorem k0_off138_inb : ∀ (v1499 : BitVec 32) (k0_hw45 : k0_chk45 v1499), ∀ a, (k0_off138 v1499) a + S1x1x8x128.size a ≤ S128x1x8x128.size a := fun v1499 k0_hw45 => k0_hw45.2

def k0_off139 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_750 : BitVec 32 := 0#32
  ![v137.toNat, 0, 0]
def k0_off140 (i : grid0.Coords) (k0_t1 : Fin k0_t1_loop.trips) : Fin 1 → Nat :=
  let arg1 : BitVec 32 := BitVec.ofNat 32 (i 1).val
  let c1024_i32_755 : BitVec 32 := 1024#32
  let v1556 : BitVec 32 := Scalar.muli arg1 c1024_i32_755
  let c2_i32_756 : BitVec 32 := 2#32
  let c0_i32 : BitVec 32 := 0#32
  let c1_i32 : BitVec 32 := 1#32
  let arg11 : BitVec 32 := Scf.iv c0_i32 c1_i32 k0_t1
  let c32_i32_752 : BitVec 32 := 32#32
  let v1553 : BitVec 32 := Scalar.muli arg11 c32_i32_752
  let c20_i32_753 : BitVec 32 := 20#32
  let v1554 : BitVec 32 := Scalar.addi v1553 c20_i32_753
  let c3_i32_754 : BitVec 32 := 3#32
  let v1555 : BitVec 32 := Scalar.addi v1554 c3_i32_754
  let v1557 : BitVec 32 := Scalar.muli c2_i32_756 v1555
  let v1558 : BitVec 32 := Scalar.addi v1556 v1557
  let v1559 : Index := Scalar.indexCast v1558
  ![v1559.toNat]
def k0_off141 (i : grid0.Coords) (k0_t1 : Fin k0_t1_loop.trips) : Fin 1 → Nat :=
  let arg1 : BitVec 32 := BitVec.ofNat 32 (i 1).val
  let c1024_i32_757 : BitVec 32 := 1024#32
  let v1561 : BitVec 32 := Scalar.muli arg1 c1024_i32_757
  let c2_i32_758 : BitVec 32 := 2#32
  let c0_i32 : BitVec 32 := 0#32
  let c1_i32 : BitVec 32 := 1#32
  let arg11 : BitVec 32 := Scf.iv c0_i32 c1_i32 k0_t1
  let c32_i32_752 : BitVec 32 := 32#32
  let v1553 : BitVec 32 := Scalar.muli arg11 c32_i32_752
  let c20_i32_753 : BitVec 32 := 20#32
  let v1554 : BitVec 32 := Scalar.addi v1553 c20_i32_753
  let c3_i32_754 : BitVec 32 := 3#32
  let v1555 : BitVec 32 := Scalar.addi v1554 c3_i32_754
  let v1562 : BitVec 32 := Scalar.muli c2_i32_758 v1555
  let v1563 : BitVec 32 := Scalar.addi v1561 v1562
  let c1_i32_759 : BitVec 32 := 1#32
  let v1564 : BitVec 32 := Scalar.addi v1563 c1_i32_759
  let v1565 : Index := Scalar.indexCast v1564
  ![v1565.toNat]
def k0_off142 (v1560 : BitVec 32) : Fin 4 → Nat :=
  let v1578 : Index := Scalar.indexCast v1560
  let c0_765 : Index := 0#32
  let c0_766 : Index := 0#32
  let c0_767 : Index := 0#32
  ![v1578.toNat, 0, 0, 0]

def k0_off143 (v1566 : BitVec 32) : Fin 4 → Nat :=
  let v1583 : Index := Scalar.indexCast v1566
  let c0_768 : Index := 0#32
  let c0_769 : Index := 0#32
  let c0_770 : Index := 0#32
  ![v1583.toNat, 0, 0, 0]

def k0_chk48 (v1566 : BitVec 32) : Prop :=
  (∀ a, (k0_off143 v1566) a + S1x1x8x128.size a ≤ S128x1x8x128.size a)
theorem k0_off143_inb : ∀ (v1566 : BitVec 32) (k0_hw48 : k0_chk48 v1566), ∀ a, (k0_off143 v1566) a + S1x1x8x128.size a ≤ S128x1x8x128.size a := fun v1566 k0_hw48 => k0_hw48

def k0_off144 (v1560 : BitVec 32) : Fin 4 → Nat :=
  let v1591 : Index := Scalar.indexCast v1560
  let c0_772 : Index := 0#32
  let c0_773 : Index := 0#32
  let c0_774 : Index := 0#32
  ![v1591.toNat, 0, 0, 0]

def k0_chk47 (v1560 : BitVec 32) : Prop :=
  (∀ a, (k0_off142 v1560) a + S1x1x8x128.size a ≤ S128x1x8x128.size a) ∧
  (∀ a, (k0_off144 v1560) a + S1x1x8x128.size a ≤ S128x1x8x128.size a)
theorem k0_off142_inb : ∀ (v1560 : BitVec 32) (k0_hw47 : k0_chk47 v1560), ∀ a, (k0_off142 v1560) a + S1x1x8x128.size a ≤ S128x1x8x128.size a := fun v1560 k0_hw47 => k0_hw47.1
theorem k0_off144_inb : ∀ (v1560 : BitVec 32) (k0_hw47 : k0_chk47 v1560), ∀ a, (k0_off144 v1560) a + S1x1x8x128.size a ≤ S128x1x8x128.size a := fun v1560 k0_hw47 => k0_hw47.2

def k0_off145 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_779 : BitVec 32 := 0#32
  ![v137.toNat, 0, 0]
def k0_off146 (i : grid0.Coords) (k0_t1 : Fin k0_t1_loop.trips) : Fin 1 → Nat :=
  let arg1 : BitVec 32 := BitVec.ofNat 32 (i 1).val
  let c1024_i32_784 : BitVec 32 := 1024#32
  let v1619 : BitVec 32 := Scalar.muli arg1 c1024_i32_784
  let c2_i32_785 : BitVec 32 := 2#32
  let c0_i32 : BitVec 32 := 0#32
  let c1_i32 : BitVec 32 := 1#32
  let arg11 : BitVec 32 := Scf.iv c0_i32 c1_i32 k0_t1
  let c32_i32_781 : BitVec 32 := 32#32
  let v1616 : BitVec 32 := Scalar.muli arg11 c32_i32_781
  let c24_i32_782 : BitVec 32 := 24#32
  let v1617 : BitVec 32 := Scalar.addi v1616 c24_i32_782
  let c0_i32_783 : BitVec 32 := 0#32
  let v1618 : BitVec 32 := Scalar.addi v1617 c0_i32_783
  let v1620 : BitVec 32 := Scalar.muli c2_i32_785 v1618
  let v1621 : BitVec 32 := Scalar.addi v1619 v1620
  let v1622 : Index := Scalar.indexCast v1621
  ![v1622.toNat]
def k0_off147 (i : grid0.Coords) (k0_t1 : Fin k0_t1_loop.trips) : Fin 1 → Nat :=
  let arg1 : BitVec 32 := BitVec.ofNat 32 (i 1).val
  let c1024_i32_786 : BitVec 32 := 1024#32
  let v1624 : BitVec 32 := Scalar.muli arg1 c1024_i32_786
  let c2_i32_787 : BitVec 32 := 2#32
  let c0_i32 : BitVec 32 := 0#32
  let c1_i32 : BitVec 32 := 1#32
  let arg11 : BitVec 32 := Scf.iv c0_i32 c1_i32 k0_t1
  let c32_i32_781 : BitVec 32 := 32#32
  let v1616 : BitVec 32 := Scalar.muli arg11 c32_i32_781
  let c24_i32_782 : BitVec 32 := 24#32
  let v1617 : BitVec 32 := Scalar.addi v1616 c24_i32_782
  let c0_i32_783 : BitVec 32 := 0#32
  let v1618 : BitVec 32 := Scalar.addi v1617 c0_i32_783
  let v1625 : BitVec 32 := Scalar.muli c2_i32_787 v1618
  let v1626 : BitVec 32 := Scalar.addi v1624 v1625
  let c1_i32_788 : BitVec 32 := 1#32
  let v1627 : BitVec 32 := Scalar.addi v1626 c1_i32_788
  let v1628 : Index := Scalar.indexCast v1627
  ![v1628.toNat]
def k0_off148 (v1623 : BitVec 32) : Fin 4 → Nat :=
  let v1641 : Index := Scalar.indexCast v1623
  let c0_794 : Index := 0#32
  let c0_795 : Index := 0#32
  let c0_796 : Index := 0#32
  ![v1641.toNat, 0, 0, 0]

def k0_off149 (v1629 : BitVec 32) : Fin 4 → Nat :=
  let v1646 : Index := Scalar.indexCast v1629
  let c0_797 : Index := 0#32
  let c0_798 : Index := 0#32
  let c0_799 : Index := 0#32
  ![v1646.toNat, 0, 0, 0]

def k0_chk50 (v1629 : BitVec 32) : Prop :=
  (∀ a, (k0_off149 v1629) a + S1x1x8x128.size a ≤ S128x1x8x128.size a)
theorem k0_off149_inb : ∀ (v1629 : BitVec 32) (k0_hw50 : k0_chk50 v1629), ∀ a, (k0_off149 v1629) a + S1x1x8x128.size a ≤ S128x1x8x128.size a := fun v1629 k0_hw50 => k0_hw50

def k0_off150 (v1623 : BitVec 32) : Fin 4 → Nat :=
  let v1654 : Index := Scalar.indexCast v1623
  let c0_801 : Index := 0#32
  let c0_802 : Index := 0#32
  let c0_803 : Index := 0#32
  ![v1654.toNat, 0, 0, 0]

def k0_chk49 (v1623 : BitVec 32) : Prop :=
  (∀ a, (k0_off148 v1623) a + S1x1x8x128.size a ≤ S128x1x8x128.size a) ∧
  (∀ a, (k0_off150 v1623) a + S1x1x8x128.size a ≤ S128x1x8x128.size a)
theorem k0_off148_inb : ∀ (v1623 : BitVec 32) (k0_hw49 : k0_chk49 v1623), ∀ a, (k0_off148 v1623) a + S1x1x8x128.size a ≤ S128x1x8x128.size a := fun v1623 k0_hw49 => k0_hw49.1
theorem k0_off150_inb : ∀ (v1623 : BitVec 32) (k0_hw49 : k0_chk49 v1623), ∀ a, (k0_off150 v1623) a + S1x1x8x128.size a ≤ S128x1x8x128.size a := fun v1623 k0_hw49 => k0_hw49.2

def k0_off151 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_808 : BitVec 32 := 0#32
  ![v137.toNat, 0, 0]
def k0_off152 (i : grid0.Coords) (k0_t1 : Fin k0_t1_loop.trips) : Fin 1 → Nat :=
  let arg1 : BitVec 32 := BitVec.ofNat 32 (i 1).val
  let c1024_i32_813 : BitVec 32 := 1024#32
  let v1680 : BitVec 32 := Scalar.muli arg1 c1024_i32_813
  let c2_i32_814 : BitVec 32 := 2#32
  let c0_i32 : BitVec 32 := 0#32
  let c1_i32 : BitVec 32 := 1#32
  let arg11 : BitVec 32 := Scf.iv c0_i32 c1_i32 k0_t1
  let c32_i32_810 : BitVec 32 := 32#32
  let v1677 : BitVec 32 := Scalar.muli arg11 c32_i32_810
  let c24_i32_811 : BitVec 32 := 24#32
  let v1678 : BitVec 32 := Scalar.addi v1677 c24_i32_811
  let c1_i32_812 : BitVec 32 := 1#32
  let v1679 : BitVec 32 := Scalar.addi v1678 c1_i32_812
  let v1681 : BitVec 32 := Scalar.muli c2_i32_814 v1679
  let v1682 : BitVec 32 := Scalar.addi v1680 v1681
  let v1683 : Index := Scalar.indexCast v1682
  ![v1683.toNat]
def k0_off153 (i : grid0.Coords) (k0_t1 : Fin k0_t1_loop.trips) : Fin 1 → Nat :=
  let arg1 : BitVec 32 := BitVec.ofNat 32 (i 1).val
  let c1024_i32_815 : BitVec 32 := 1024#32
  let v1685 : BitVec 32 := Scalar.muli arg1 c1024_i32_815
  let c2_i32_816 : BitVec 32 := 2#32
  let c0_i32 : BitVec 32 := 0#32
  let c1_i32 : BitVec 32 := 1#32
  let arg11 : BitVec 32 := Scf.iv c0_i32 c1_i32 k0_t1
  let c32_i32_810 : BitVec 32 := 32#32
  let v1677 : BitVec 32 := Scalar.muli arg11 c32_i32_810
  let c24_i32_811 : BitVec 32 := 24#32
  let v1678 : BitVec 32 := Scalar.addi v1677 c24_i32_811
  let c1_i32_812 : BitVec 32 := 1#32
  let v1679 : BitVec 32 := Scalar.addi v1678 c1_i32_812
  let v1686 : BitVec 32 := Scalar.muli c2_i32_816 v1679
  let v1687 : BitVec 32 := Scalar.addi v1685 v1686
  let c1_i32_817 : BitVec 32 := 1#32
  let v1688 : BitVec 32 := Scalar.addi v1687 c1_i32_817
  let v1689 : Index := Scalar.indexCast v1688
  ![v1689.toNat]
def k0_off154 (v1684 : BitVec 32) : Fin 4 → Nat :=
  let v1702 : Index := Scalar.indexCast v1684
  let c0_823 : Index := 0#32
  let c0_824 : Index := 0#32
  let c0_825 : Index := 0#32
  ![v1702.toNat, 0, 0, 0]

def k0_off155 (v1690 : BitVec 32) : Fin 4 → Nat :=
  let v1707 : Index := Scalar.indexCast v1690
  let c0_826 : Index := 0#32
  let c0_827 : Index := 0#32
  let c0_828 : Index := 0#32
  ![v1707.toNat, 0, 0, 0]

def k0_chk52 (v1690 : BitVec 32) : Prop :=
  (∀ a, (k0_off155 v1690) a + S1x1x8x128.size a ≤ S128x1x8x128.size a)
theorem k0_off155_inb : ∀ (v1690 : BitVec 32) (k0_hw52 : k0_chk52 v1690), ∀ a, (k0_off155 v1690) a + S1x1x8x128.size a ≤ S128x1x8x128.size a := fun v1690 k0_hw52 => k0_hw52

def k0_off156 (v1684 : BitVec 32) : Fin 4 → Nat :=
  let v1715 : Index := Scalar.indexCast v1684
  let c0_830 : Index := 0#32
  let c0_831 : Index := 0#32
  let c0_832 : Index := 0#32
  ![v1715.toNat, 0, 0, 0]

def k0_chk51 (v1684 : BitVec 32) : Prop :=
  (∀ a, (k0_off154 v1684) a + S1x1x8x128.size a ≤ S128x1x8x128.size a) ∧
  (∀ a, (k0_off156 v1684) a + S1x1x8x128.size a ≤ S128x1x8x128.size a)
theorem k0_off154_inb : ∀ (v1684 : BitVec 32) (k0_hw51 : k0_chk51 v1684), ∀ a, (k0_off154 v1684) a + S1x1x8x128.size a ≤ S128x1x8x128.size a := fun v1684 k0_hw51 => k0_hw51.1
theorem k0_off156_inb : ∀ (v1684 : BitVec 32) (k0_hw51 : k0_chk51 v1684), ∀ a, (k0_off156 v1684) a + S1x1x8x128.size a ≤ S128x1x8x128.size a := fun v1684 k0_hw51 => k0_hw51.2

def k0_off157 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_837 : BitVec 32 := 0#32
  ![v137.toNat, 0, 0]
def k0_off158 (i : grid0.Coords) (k0_t1 : Fin k0_t1_loop.trips) : Fin 1 → Nat :=
  let arg1 : BitVec 32 := BitVec.ofNat 32 (i 1).val
  let c1024_i32_842 : BitVec 32 := 1024#32
  let v1741 : BitVec 32 := Scalar.muli arg1 c1024_i32_842
  let c2_i32_843 : BitVec 32 := 2#32
  let c0_i32 : BitVec 32 := 0#32
  let c1_i32 : BitVec 32 := 1#32
  let arg11 : BitVec 32 := Scf.iv c0_i32 c1_i32 k0_t1
  let c32_i32_839 : BitVec 32 := 32#32
  let v1738 : BitVec 32 := Scalar.muli arg11 c32_i32_839
  let c24_i32_840 : BitVec 32 := 24#32
  let v1739 : BitVec 32 := Scalar.addi v1738 c24_i32_840
  let c2_i32_841 : BitVec 32 := 2#32
  let v1740 : BitVec 32 := Scalar.addi v1739 c2_i32_841
  let v1742 : BitVec 32 := Scalar.muli c2_i32_843 v1740
  let v1743 : BitVec 32 := Scalar.addi v1741 v1742
  let v1744 : Index := Scalar.indexCast v1743
  ![v1744.toNat]
def k0_off159 (i : grid0.Coords) (k0_t1 : Fin k0_t1_loop.trips) : Fin 1 → Nat :=
  let arg1 : BitVec 32 := BitVec.ofNat 32 (i 1).val
  let c1024_i32_844 : BitVec 32 := 1024#32
  let v1746 : BitVec 32 := Scalar.muli arg1 c1024_i32_844
  let c2_i32_845 : BitVec 32 := 2#32
  let c0_i32 : BitVec 32 := 0#32
  let c1_i32 : BitVec 32 := 1#32
  let arg11 : BitVec 32 := Scf.iv c0_i32 c1_i32 k0_t1
  let c32_i32_839 : BitVec 32 := 32#32
  let v1738 : BitVec 32 := Scalar.muli arg11 c32_i32_839
  let c24_i32_840 : BitVec 32 := 24#32
  let v1739 : BitVec 32 := Scalar.addi v1738 c24_i32_840
  let c2_i32_841 : BitVec 32 := 2#32
  let v1740 : BitVec 32 := Scalar.addi v1739 c2_i32_841
  let v1747 : BitVec 32 := Scalar.muli c2_i32_845 v1740
  let v1748 : BitVec 32 := Scalar.addi v1746 v1747
  let c1_i32_846 : BitVec 32 := 1#32
  let v1749 : BitVec 32 := Scalar.addi v1748 c1_i32_846
  let v1750 : Index := Scalar.indexCast v1749
  ![v1750.toNat]
def k0_off160 (v1745 : BitVec 32) : Fin 4 → Nat :=
  let v1763 : Index := Scalar.indexCast v1745
  let c0_852 : Index := 0#32
  let c0_853 : Index := 0#32
  let c0_854 : Index := 0#32
  ![v1763.toNat, 0, 0, 0]

def k0_off161 (v1751 : BitVec 32) : Fin 4 → Nat :=
  let v1768 : Index := Scalar.indexCast v1751
  let c0_855 : Index := 0#32
  let c0_856 : Index := 0#32
  let c0_857 : Index := 0#32
  ![v1768.toNat, 0, 0, 0]

def k0_chk54 (v1751 : BitVec 32) : Prop :=
  (∀ a, (k0_off161 v1751) a + S1x1x8x128.size a ≤ S128x1x8x128.size a)
theorem k0_off161_inb : ∀ (v1751 : BitVec 32) (k0_hw54 : k0_chk54 v1751), ∀ a, (k0_off161 v1751) a + S1x1x8x128.size a ≤ S128x1x8x128.size a := fun v1751 k0_hw54 => k0_hw54

def k0_off162 (v1745 : BitVec 32) : Fin 4 → Nat :=
  let v1776 : Index := Scalar.indexCast v1745
  let c0_859 : Index := 0#32
  let c0_860 : Index := 0#32
  let c0_861 : Index := 0#32
  ![v1776.toNat, 0, 0, 0]

def k0_chk53 (v1745 : BitVec 32) : Prop :=
  (∀ a, (k0_off160 v1745) a + S1x1x8x128.size a ≤ S128x1x8x128.size a) ∧
  (∀ a, (k0_off162 v1745) a + S1x1x8x128.size a ≤ S128x1x8x128.size a)
theorem k0_off160_inb : ∀ (v1745 : BitVec 32) (k0_hw53 : k0_chk53 v1745), ∀ a, (k0_off160 v1745) a + S1x1x8x128.size a ≤ S128x1x8x128.size a := fun v1745 k0_hw53 => k0_hw53.1
theorem k0_off162_inb : ∀ (v1745 : BitVec 32) (k0_hw53 : k0_chk53 v1745), ∀ a, (k0_off162 v1745) a + S1x1x8x128.size a ≤ S128x1x8x128.size a := fun v1745 k0_hw53 => k0_hw53.2

def k0_off163 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_866 : BitVec 32 := 0#32
  ![v137.toNat, 0, 0]
def k0_off164 (i : grid0.Coords) (k0_t1 : Fin k0_t1_loop.trips) : Fin 1 → Nat :=
  let arg1 : BitVec 32 := BitVec.ofNat 32 (i 1).val
  let c1024_i32_871 : BitVec 32 := 1024#32
  let v1802 : BitVec 32 := Scalar.muli arg1 c1024_i32_871
  let c2_i32_872 : BitVec 32 := 2#32
  let c0_i32 : BitVec 32 := 0#32
  let c1_i32 : BitVec 32 := 1#32
  let arg11 : BitVec 32 := Scf.iv c0_i32 c1_i32 k0_t1
  let c32_i32_868 : BitVec 32 := 32#32
  let v1799 : BitVec 32 := Scalar.muli arg11 c32_i32_868
  let c24_i32_869 : BitVec 32 := 24#32
  let v1800 : BitVec 32 := Scalar.addi v1799 c24_i32_869
  let c3_i32_870 : BitVec 32 := 3#32
  let v1801 : BitVec 32 := Scalar.addi v1800 c3_i32_870
  let v1803 : BitVec 32 := Scalar.muli c2_i32_872 v1801
  let v1804 : BitVec 32 := Scalar.addi v1802 v1803
  let v1805 : Index := Scalar.indexCast v1804
  ![v1805.toNat]
def k0_off165 (i : grid0.Coords) (k0_t1 : Fin k0_t1_loop.trips) : Fin 1 → Nat :=
  let arg1 : BitVec 32 := BitVec.ofNat 32 (i 1).val
  let c1024_i32_873 : BitVec 32 := 1024#32
  let v1807 : BitVec 32 := Scalar.muli arg1 c1024_i32_873
  let c2_i32_874 : BitVec 32 := 2#32
  let c0_i32 : BitVec 32 := 0#32
  let c1_i32 : BitVec 32 := 1#32
  let arg11 : BitVec 32 := Scf.iv c0_i32 c1_i32 k0_t1
  let c32_i32_868 : BitVec 32 := 32#32
  let v1799 : BitVec 32 := Scalar.muli arg11 c32_i32_868
  let c24_i32_869 : BitVec 32 := 24#32
  let v1800 : BitVec 32 := Scalar.addi v1799 c24_i32_869
  let c3_i32_870 : BitVec 32 := 3#32
  let v1801 : BitVec 32 := Scalar.addi v1800 c3_i32_870
  let v1808 : BitVec 32 := Scalar.muli c2_i32_874 v1801
  let v1809 : BitVec 32 := Scalar.addi v1807 v1808
  let c1_i32_875 : BitVec 32 := 1#32
  let v1810 : BitVec 32 := Scalar.addi v1809 c1_i32_875
  let v1811 : Index := Scalar.indexCast v1810
  ![v1811.toNat]
def k0_off166 (v1806 : BitVec 32) : Fin 4 → Nat :=
  let v1824 : Index := Scalar.indexCast v1806
  let c0_881 : Index := 0#32
  let c0_882 : Index := 0#32
  let c0_883 : Index := 0#32
  ![v1824.toNat, 0, 0, 0]

def k0_off167 (v1812 : BitVec 32) : Fin 4 → Nat :=
  let v1829 : Index := Scalar.indexCast v1812
  let c0_884 : Index := 0#32
  let c0_885 : Index := 0#32
  let c0_886 : Index := 0#32
  ![v1829.toNat, 0, 0, 0]

def k0_chk56 (v1812 : BitVec 32) : Prop :=
  (∀ a, (k0_off167 v1812) a + S1x1x8x128.size a ≤ S128x1x8x128.size a)
theorem k0_off167_inb : ∀ (v1812 : BitVec 32) (k0_hw56 : k0_chk56 v1812), ∀ a, (k0_off167 v1812) a + S1x1x8x128.size a ≤ S128x1x8x128.size a := fun v1812 k0_hw56 => k0_hw56

def k0_off168 (v1806 : BitVec 32) : Fin 4 → Nat :=
  let v1837 : Index := Scalar.indexCast v1806
  let c0_888 : Index := 0#32
  let c0_889 : Index := 0#32
  let c0_890 : Index := 0#32
  ![v1837.toNat, 0, 0, 0]

def k0_chk55 (v1806 : BitVec 32) : Prop :=
  (∀ a, (k0_off166 v1806) a + S1x1x8x128.size a ≤ S128x1x8x128.size a) ∧
  (∀ a, (k0_off168 v1806) a + S1x1x8x128.size a ≤ S128x1x8x128.size a)
theorem k0_off166_inb : ∀ (v1806 : BitVec 32) (k0_hw55 : k0_chk55 v1806), ∀ a, (k0_off166 v1806) a + S1x1x8x128.size a ≤ S128x1x8x128.size a := fun v1806 k0_hw55 => k0_hw55.1
theorem k0_off168_inb : ∀ (v1806 : BitVec 32) (k0_hw55 : k0_chk55 v1806), ∀ a, (k0_off168 v1806) a + S1x1x8x128.size a ≤ S128x1x8x128.size a := fun v1806 k0_hw55 => k0_hw55.2

def k0_off169 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_895 : BitVec 32 := 0#32
  ![v137.toNat, 0, 0]
def k0_off170 (i : grid0.Coords) (k0_t1 : Fin k0_t1_loop.trips) : Fin 1 → Nat :=
  let arg1 : BitVec 32 := BitVec.ofNat 32 (i 1).val
  let c1024_i32_899 : BitVec 32 := 1024#32
  let v1865 : BitVec 32 := Scalar.muli arg1 c1024_i32_899
  let c2_i32_900 : BitVec 32 := 2#32
  let c0_i32 : BitVec 32 := 0#32
  let c1_i32 : BitVec 32 := 1#32
  let arg11 : BitVec 32 := Scf.iv c0_i32 c1_i32 k0_t1
  let c32_i32_897 : BitVec 32 := 32#32
  let v1862 : BitVec 32 := Scalar.muli arg11 c32_i32_897
  let c28_i32 : BitVec 32 := 28#32
  let v1863 : BitVec 32 := Scalar.addi v1862 c28_i32
  let c0_i32_898 : BitVec 32 := 0#32
  let v1864 : BitVec 32 := Scalar.addi v1863 c0_i32_898
  let v1866 : BitVec 32 := Scalar.muli c2_i32_900 v1864
  let v1867 : BitVec 32 := Scalar.addi v1865 v1866
  let v1868 : Index := Scalar.indexCast v1867
  ![v1868.toNat]
def k0_off171 (i : grid0.Coords) (k0_t1 : Fin k0_t1_loop.trips) : Fin 1 → Nat :=
  let arg1 : BitVec 32 := BitVec.ofNat 32 (i 1).val
  let c1024_i32_901 : BitVec 32 := 1024#32
  let v1870 : BitVec 32 := Scalar.muli arg1 c1024_i32_901
  let c2_i32_902 : BitVec 32 := 2#32
  let c0_i32 : BitVec 32 := 0#32
  let c1_i32 : BitVec 32 := 1#32
  let arg11 : BitVec 32 := Scf.iv c0_i32 c1_i32 k0_t1
  let c32_i32_897 : BitVec 32 := 32#32
  let v1862 : BitVec 32 := Scalar.muli arg11 c32_i32_897
  let c28_i32 : BitVec 32 := 28#32
  let v1863 : BitVec 32 := Scalar.addi v1862 c28_i32
  let c0_i32_898 : BitVec 32 := 0#32
  let v1864 : BitVec 32 := Scalar.addi v1863 c0_i32_898
  let v1871 : BitVec 32 := Scalar.muli c2_i32_902 v1864
  let v1872 : BitVec 32 := Scalar.addi v1870 v1871
  let c1_i32_903 : BitVec 32 := 1#32
  let v1873 : BitVec 32 := Scalar.addi v1872 c1_i32_903
  let v1874 : Index := Scalar.indexCast v1873
  ![v1874.toNat]
def k0_off172 (v1869 : BitVec 32) : Fin 4 → Nat :=
  let v1887 : Index := Scalar.indexCast v1869
  let c0_909 : Index := 0#32
  let c0_910 : Index := 0#32
  let c0_911 : Index := 0#32
  ![v1887.toNat, 0, 0, 0]

def k0_off173 (v1875 : BitVec 32) : Fin 4 → Nat :=
  let v1892 : Index := Scalar.indexCast v1875
  let c0_912 : Index := 0#32
  let c0_913 : Index := 0#32
  let c0_914 : Index := 0#32
  ![v1892.toNat, 0, 0, 0]

def k0_chk58 (v1875 : BitVec 32) : Prop :=
  (∀ a, (k0_off173 v1875) a + S1x1x8x128.size a ≤ S128x1x8x128.size a)
theorem k0_off173_inb : ∀ (v1875 : BitVec 32) (k0_hw58 : k0_chk58 v1875), ∀ a, (k0_off173 v1875) a + S1x1x8x128.size a ≤ S128x1x8x128.size a := fun v1875 k0_hw58 => k0_hw58

def k0_off174 (v1869 : BitVec 32) : Fin 4 → Nat :=
  let v1900 : Index := Scalar.indexCast v1869
  let c0_916 : Index := 0#32
  let c0_917 : Index := 0#32
  let c0_918 : Index := 0#32
  ![v1900.toNat, 0, 0, 0]

def k0_chk57 (v1869 : BitVec 32) : Prop :=
  (∀ a, (k0_off172 v1869) a + S1x1x8x128.size a ≤ S128x1x8x128.size a) ∧
  (∀ a, (k0_off174 v1869) a + S1x1x8x128.size a ≤ S128x1x8x128.size a)
theorem k0_off172_inb : ∀ (v1869 : BitVec 32) (k0_hw57 : k0_chk57 v1869), ∀ a, (k0_off172 v1869) a + S1x1x8x128.size a ≤ S128x1x8x128.size a := fun v1869 k0_hw57 => k0_hw57.1
theorem k0_off174_inb : ∀ (v1869 : BitVec 32) (k0_hw57 : k0_chk57 v1869), ∀ a, (k0_off174 v1869) a + S1x1x8x128.size a ≤ S128x1x8x128.size a := fun v1869 k0_hw57 => k0_hw57.2

def k0_off175 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_923 : BitVec 32 := 0#32
  ![v137.toNat, 0, 0]
def k0_off176 (i : grid0.Coords) (k0_t1 : Fin k0_t1_loop.trips) : Fin 1 → Nat :=
  let arg1 : BitVec 32 := BitVec.ofNat 32 (i 1).val
  let c1024_i32_928 : BitVec 32 := 1024#32
  let v1926 : BitVec 32 := Scalar.muli arg1 c1024_i32_928
  let c2_i32_929 : BitVec 32 := 2#32
  let c0_i32 : BitVec 32 := 0#32
  let c1_i32 : BitVec 32 := 1#32
  let arg11 : BitVec 32 := Scf.iv c0_i32 c1_i32 k0_t1
  let c32_i32_925 : BitVec 32 := 32#32
  let v1923 : BitVec 32 := Scalar.muli arg11 c32_i32_925
  let c28_i32_926 : BitVec 32 := 28#32
  let v1924 : BitVec 32 := Scalar.addi v1923 c28_i32_926
  let c1_i32_927 : BitVec 32 := 1#32
  let v1925 : BitVec 32 := Scalar.addi v1924 c1_i32_927
  let v1927 : BitVec 32 := Scalar.muli c2_i32_929 v1925
  let v1928 : BitVec 32 := Scalar.addi v1926 v1927
  let v1929 : Index := Scalar.indexCast v1928
  ![v1929.toNat]
def k0_off177 (i : grid0.Coords) (k0_t1 : Fin k0_t1_loop.trips) : Fin 1 → Nat :=
  let arg1 : BitVec 32 := BitVec.ofNat 32 (i 1).val
  let c1024_i32_930 : BitVec 32 := 1024#32
  let v1931 : BitVec 32 := Scalar.muli arg1 c1024_i32_930
  let c2_i32_931 : BitVec 32 := 2#32
  let c0_i32 : BitVec 32 := 0#32
  let c1_i32 : BitVec 32 := 1#32
  let arg11 : BitVec 32 := Scf.iv c0_i32 c1_i32 k0_t1
  let c32_i32_925 : BitVec 32 := 32#32
  let v1923 : BitVec 32 := Scalar.muli arg11 c32_i32_925
  let c28_i32_926 : BitVec 32 := 28#32
  let v1924 : BitVec 32 := Scalar.addi v1923 c28_i32_926
  let c1_i32_927 : BitVec 32 := 1#32
  let v1925 : BitVec 32 := Scalar.addi v1924 c1_i32_927
  let v1932 : BitVec 32 := Scalar.muli c2_i32_931 v1925
  let v1933 : BitVec 32 := Scalar.addi v1931 v1932
  let c1_i32_932 : BitVec 32 := 1#32
  let v1934 : BitVec 32 := Scalar.addi v1933 c1_i32_932
  let v1935 : Index := Scalar.indexCast v1934
  ![v1935.toNat]
def k0_off178 (v1930 : BitVec 32) : Fin 4 → Nat :=
  let v1948 : Index := Scalar.indexCast v1930
  let c0_938 : Index := 0#32
  let c0_939 : Index := 0#32
  let c0_940 : Index := 0#32
  ![v1948.toNat, 0, 0, 0]

def k0_off179 (v1936 : BitVec 32) : Fin 4 → Nat :=
  let v1953 : Index := Scalar.indexCast v1936
  let c0_941 : Index := 0#32
  let c0_942 : Index := 0#32
  let c0_943 : Index := 0#32
  ![v1953.toNat, 0, 0, 0]

def k0_chk60 (v1936 : BitVec 32) : Prop :=
  (∀ a, (k0_off179 v1936) a + S1x1x8x128.size a ≤ S128x1x8x128.size a)
theorem k0_off179_inb : ∀ (v1936 : BitVec 32) (k0_hw60 : k0_chk60 v1936), ∀ a, (k0_off179 v1936) a + S1x1x8x128.size a ≤ S128x1x8x128.size a := fun v1936 k0_hw60 => k0_hw60

def k0_off180 (v1930 : BitVec 32) : Fin 4 → Nat :=
  let v1961 : Index := Scalar.indexCast v1930
  let c0_945 : Index := 0#32
  let c0_946 : Index := 0#32
  let c0_947 : Index := 0#32
  ![v1961.toNat, 0, 0, 0]

def k0_chk59 (v1930 : BitVec 32) : Prop :=
  (∀ a, (k0_off178 v1930) a + S1x1x8x128.size a ≤ S128x1x8x128.size a) ∧
  (∀ a, (k0_off180 v1930) a + S1x1x8x128.size a ≤ S128x1x8x128.size a)
theorem k0_off178_inb : ∀ (v1930 : BitVec 32) (k0_hw59 : k0_chk59 v1930), ∀ a, (k0_off178 v1930) a + S1x1x8x128.size a ≤ S128x1x8x128.size a := fun v1930 k0_hw59 => k0_hw59.1
theorem k0_off180_inb : ∀ (v1930 : BitVec 32) (k0_hw59 : k0_chk59 v1930), ∀ a, (k0_off180 v1930) a + S1x1x8x128.size a ≤ S128x1x8x128.size a := fun v1930 k0_hw59 => k0_hw59.2

def k0_off181 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_952 : BitVec 32 := 0#32
  ![v137.toNat, 0, 0]
def k0_off182 (i : grid0.Coords) (k0_t1 : Fin k0_t1_loop.trips) : Fin 1 → Nat :=
  let arg1 : BitVec 32 := BitVec.ofNat 32 (i 1).val
  let c1024_i32_957 : BitVec 32 := 1024#32
  let v1987 : BitVec 32 := Scalar.muli arg1 c1024_i32_957
  let c2_i32_958 : BitVec 32 := 2#32
  let c0_i32 : BitVec 32 := 0#32
  let c1_i32 : BitVec 32 := 1#32
  let arg11 : BitVec 32 := Scf.iv c0_i32 c1_i32 k0_t1
  let c32_i32_954 : BitVec 32 := 32#32
  let v1984 : BitVec 32 := Scalar.muli arg11 c32_i32_954
  let c28_i32_955 : BitVec 32 := 28#32
  let v1985 : BitVec 32 := Scalar.addi v1984 c28_i32_955
  let c2_i32_956 : BitVec 32 := 2#32
  let v1986 : BitVec 32 := Scalar.addi v1985 c2_i32_956
  let v1988 : BitVec 32 := Scalar.muli c2_i32_958 v1986
  let v1989 : BitVec 32 := Scalar.addi v1987 v1988
  let v1990 : Index := Scalar.indexCast v1989
  ![v1990.toNat]
def k0_off183 (i : grid0.Coords) (k0_t1 : Fin k0_t1_loop.trips) : Fin 1 → Nat :=
  let arg1 : BitVec 32 := BitVec.ofNat 32 (i 1).val
  let c1024_i32_959 : BitVec 32 := 1024#32
  let v1992 : BitVec 32 := Scalar.muli arg1 c1024_i32_959
  let c2_i32_960 : BitVec 32 := 2#32
  let c0_i32 : BitVec 32 := 0#32
  let c1_i32 : BitVec 32 := 1#32
  let arg11 : BitVec 32 := Scf.iv c0_i32 c1_i32 k0_t1
  let c32_i32_954 : BitVec 32 := 32#32
  let v1984 : BitVec 32 := Scalar.muli arg11 c32_i32_954
  let c28_i32_955 : BitVec 32 := 28#32
  let v1985 : BitVec 32 := Scalar.addi v1984 c28_i32_955
  let c2_i32_956 : BitVec 32 := 2#32
  let v1986 : BitVec 32 := Scalar.addi v1985 c2_i32_956
  let v1993 : BitVec 32 := Scalar.muli c2_i32_960 v1986
  let v1994 : BitVec 32 := Scalar.addi v1992 v1993
  let c1_i32_961 : BitVec 32 := 1#32
  let v1995 : BitVec 32 := Scalar.addi v1994 c1_i32_961
  let v1996 : Index := Scalar.indexCast v1995
  ![v1996.toNat]
def k0_off184 (v1991 : BitVec 32) : Fin 4 → Nat :=
  let v2009 : Index := Scalar.indexCast v1991
  let c0_967 : Index := 0#32
  let c0_968 : Index := 0#32
  let c0_969 : Index := 0#32
  ![v2009.toNat, 0, 0, 0]

def k0_off185 (v1997 : BitVec 32) : Fin 4 → Nat :=
  let v2014 : Index := Scalar.indexCast v1997
  let c0_970 : Index := 0#32
  let c0_971 : Index := 0#32
  let c0_972 : Index := 0#32
  ![v2014.toNat, 0, 0, 0]

def k0_chk62 (v1997 : BitVec 32) : Prop :=
  (∀ a, (k0_off185 v1997) a + S1x1x8x128.size a ≤ S128x1x8x128.size a)
theorem k0_off185_inb : ∀ (v1997 : BitVec 32) (k0_hw62 : k0_chk62 v1997), ∀ a, (k0_off185 v1997) a + S1x1x8x128.size a ≤ S128x1x8x128.size a := fun v1997 k0_hw62 => k0_hw62

def k0_off186 (v1991 : BitVec 32) : Fin 4 → Nat :=
  let v2022 : Index := Scalar.indexCast v1991
  let c0_974 : Index := 0#32
  let c0_975 : Index := 0#32
  let c0_976 : Index := 0#32
  ![v2022.toNat, 0, 0, 0]

def k0_chk61 (v1991 : BitVec 32) : Prop :=
  (∀ a, (k0_off184 v1991) a + S1x1x8x128.size a ≤ S128x1x8x128.size a) ∧
  (∀ a, (k0_off186 v1991) a + S1x1x8x128.size a ≤ S128x1x8x128.size a)
theorem k0_off184_inb : ∀ (v1991 : BitVec 32) (k0_hw61 : k0_chk61 v1991), ∀ a, (k0_off184 v1991) a + S1x1x8x128.size a ≤ S128x1x8x128.size a := fun v1991 k0_hw61 => k0_hw61.1
theorem k0_off186_inb : ∀ (v1991 : BitVec 32) (k0_hw61 : k0_chk61 v1991), ∀ a, (k0_off186 v1991) a + S1x1x8x128.size a ≤ S128x1x8x128.size a := fun v1991 k0_hw61 => k0_hw61.2

def k0_off187 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_981 : BitVec 32 := 0#32
  ![v137.toNat, 0, 0]
def k0_off188 (i : grid0.Coords) (k0_t1 : Fin k0_t1_loop.trips) : Fin 1 → Nat :=
  let arg1 : BitVec 32 := BitVec.ofNat 32 (i 1).val
  let c1024_i32_986 : BitVec 32 := 1024#32
  let v2048 : BitVec 32 := Scalar.muli arg1 c1024_i32_986
  let c2_i32_987 : BitVec 32 := 2#32
  let c0_i32 : BitVec 32 := 0#32
  let c1_i32 : BitVec 32 := 1#32
  let arg11 : BitVec 32 := Scf.iv c0_i32 c1_i32 k0_t1
  let c32_i32_983 : BitVec 32 := 32#32
  let v2045 : BitVec 32 := Scalar.muli arg11 c32_i32_983
  let c28_i32_984 : BitVec 32 := 28#32
  let v2046 : BitVec 32 := Scalar.addi v2045 c28_i32_984
  let c3_i32_985 : BitVec 32 := 3#32
  let v2047 : BitVec 32 := Scalar.addi v2046 c3_i32_985
  let v2049 : BitVec 32 := Scalar.muli c2_i32_987 v2047
  let v2050 : BitVec 32 := Scalar.addi v2048 v2049
  let v2051 : Index := Scalar.indexCast v2050
  ![v2051.toNat]
def k0_off189 (i : grid0.Coords) (k0_t1 : Fin k0_t1_loop.trips) : Fin 1 → Nat :=
  let arg1 : BitVec 32 := BitVec.ofNat 32 (i 1).val
  let c1024_i32_988 : BitVec 32 := 1024#32
  let v2053 : BitVec 32 := Scalar.muli arg1 c1024_i32_988
  let c2_i32_989 : BitVec 32 := 2#32
  let c0_i32 : BitVec 32 := 0#32
  let c1_i32 : BitVec 32 := 1#32
  let arg11 : BitVec 32 := Scf.iv c0_i32 c1_i32 k0_t1
  let c32_i32_983 : BitVec 32 := 32#32
  let v2045 : BitVec 32 := Scalar.muli arg11 c32_i32_983
  let c28_i32_984 : BitVec 32 := 28#32
  let v2046 : BitVec 32 := Scalar.addi v2045 c28_i32_984
  let c3_i32_985 : BitVec 32 := 3#32
  let v2047 : BitVec 32 := Scalar.addi v2046 c3_i32_985
  let v2054 : BitVec 32 := Scalar.muli c2_i32_989 v2047
  let v2055 : BitVec 32 := Scalar.addi v2053 v2054
  let c1_i32_990 : BitVec 32 := 1#32
  let v2056 : BitVec 32 := Scalar.addi v2055 c1_i32_990
  let v2057 : Index := Scalar.indexCast v2056
  ![v2057.toNat]
def k0_off190 (v2052 : BitVec 32) : Fin 4 → Nat :=
  let v2070 : Index := Scalar.indexCast v2052
  let c0_996 : Index := 0#32
  let c0_997 : Index := 0#32
  let c0_998 : Index := 0#32
  ![v2070.toNat, 0, 0, 0]

def k0_off191 (v2058 : BitVec 32) : Fin 4 → Nat :=
  let v2075 : Index := Scalar.indexCast v2058
  let c0_999 : Index := 0#32
  let c0_1000 : Index := 0#32
  let c0_1001 : Index := 0#32
  ![v2075.toNat, 0, 0, 0]

def k0_chk64 (v2058 : BitVec 32) : Prop :=
  (∀ a, (k0_off191 v2058) a + S1x1x8x128.size a ≤ S128x1x8x128.size a)
theorem k0_off191_inb : ∀ (v2058 : BitVec 32) (k0_hw64 : k0_chk64 v2058), ∀ a, (k0_off191 v2058) a + S1x1x8x128.size a ≤ S128x1x8x128.size a := fun v2058 k0_hw64 => k0_hw64

def k0_off192 (v2052 : BitVec 32) : Fin 4 → Nat :=
  let v2083 : Index := Scalar.indexCast v2052
  let c0_1003 : Index := 0#32
  let c0_1004 : Index := 0#32
  let c0_1005 : Index := 0#32
  ![v2083.toNat, 0, 0, 0]

def k0_chk63 (v2052 : BitVec 32) : Prop :=
  (∀ a, (k0_off190 v2052) a + S1x1x8x128.size a ≤ S128x1x8x128.size a) ∧
  (∀ a, (k0_off192 v2052) a + S1x1x8x128.size a ≤ S128x1x8x128.size a)
theorem k0_off190_inb : ∀ (v2052 : BitVec 32) (k0_hw63 : k0_chk63 v2052), ∀ a, (k0_off190 v2052) a + S1x1x8x128.size a ≤ S128x1x8x128.size a := fun v2052 k0_hw63 => k0_hw63.1
theorem k0_off192_inb : ∀ (v2052 : BitVec 32) (k0_hw63 : k0_chk63 v2052), ∀ a, (k0_off192 v2052) a + S1x1x8x128.size a ≤ S128x1x8x128.size a := fun v2052 k0_hw63 => k0_hw63.2

def k0_off193 (k0_t1 : Fin k0_t1_loop.trips) : Fin 3 → Nat :=
  let c0_i32 : BitVec 32 := 0#32
  let c1_i32 : BitVec 32 := 1#32
  let arg11 : BitVec 32 := Scf.iv c0_i32 c1_i32 k0_t1
  let c32_i32 : BitVec 32 := 32#32
  let v136 : BitVec 32 := Scalar.muli arg11 c32_i32
  let v137 : BitVec 32 := v136
  let c0_i32_1010 : BitVec 32 := 0#32
  ![v137.toNat, 0, 0]
def k0_cond25 (i : grid0.Coords) : BitVec 1 :=
  let arg1 : BitVec 32 := BitVec.ofNat 32 (i 1).val
  let c15_i32 : BitVec 32 := 15#32
  let v129 : BitVec 1 := Scalar.cmpi .eq arg1 c15_i32
  let v130 : BitVec 32 := Scalar.extui v129
  let c0_i32_90 : BitVec 32 := 0#32
  let v131 : BitVec 1 := Scalar.cmpi .ne v130 c0_i32_90
  v131

@[reducible] def k0_t2_loop : Scf.Loop 32 :=
  let c0_i32_91 : BitVec 32 := 0#32
  let c12_i32 : BitVec 32 := 12#32
  let v132 : BitVec 32 := Scalar.addi c0_i32_91 c12_i32
  let c1_i32_92 : BitVec 32 := 1#32
  ⟨c0_i32_91, v132, c1_i32_92⟩
def k0_off194 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v134 : Index := Scalar.indexCast v133
  let c0_94 : Index := 0#32
  ![v134.toNat, 0]
def k0_off195 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v225 : Index := Scalar.indexCast v133
  let c128 : Index := 128#32
  ![v225.toNat, 128]
def k0_off196 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v316 : Index := Scalar.indexCast v133
  let c256 : Index := 256#32
  ![v316.toNat, 256]
def k0_off197 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v407 : Index := Scalar.indexCast v133
  let c384 : Index := 384#32
  ![v407.toNat, 384]
def k0_off198 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v498 : Index := Scalar.indexCast v133
  let c512 : Index := 512#32
  ![v498.toNat, 512]
def k0_off199 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v589 : Index := Scalar.indexCast v133
  let c640 : Index := 640#32
  ![v589.toNat, 640]
def k0_off200 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v680 : Index := Scalar.indexCast v133
  let c768 : Index := 768#32
  ![v680.toNat, 768]
def k0_off201 (k0_t2 : Fin k0_t2_loop.trips) : Fin 2 → Nat :=
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v771 : Index := Scalar.indexCast v133
  let c896 : Index := 896#32
  ![v771.toNat, 896]
def k0_off202 (k0_t2 : Fin k0_t2_loop.trips) : Fin 3 → Nat :=
  let c0_325 : Index := 0#32
  let c0_i32_91 : BitVec 32 := 0#32
  let c1_i32_92 : BitVec 32 := 1#32
  let arg11 : BitVec 32 := Scf.iv c0_i32_91 c1_i32_92 k0_t2
  let c256_i32 : BitVec 32 := 256#32
  let v133 : BitVec 32 := Scalar.muli arg11 c256_i32
  let v863 : Index := Scalar.indexCast v133
  let c0_326 : Index := 0#32
  ![0, v863.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3072x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x8x32x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3072x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3072x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S3072x1x16384 : Shape := ⟨3, ![3072, 1, 16384]⟩
abbrev S8192x18432 : Shape := ⟨2, ![8192, 18432]⟩
abbrev S128x18432 : Shape := ⟨2, ![128, 18432]⟩
abbrev S64x18432 : Shape := ⟨2, ![64, 18432]⟩
abbrev S16384 : Shape := ⟨1, ![16384]⟩
abbrev S_ : Shape := ⟨0, ![]⟩
abbrev S16384x1 : Shape := ⟨2, ![16384, 1]⟩
abbrev S16384x18432 : Shape := ⟨2, ![16384, 18432]⟩
abbrev S128x128x18432 : Shape := ⟨3, ![128, 128, 18432]⟩
abbrev S128x1x18432 : Shape := ⟨3, ![128, 1, 18432]⟩
abbrev S3072x1x18432 : Shape := ⟨3, ![3072, 1, 18432]⟩
abbrev S3072x144x128 : Shape := ⟨3, ![3072, 144, 128]⟩
abbrev S3072x144 : Shape := ⟨2, ![3072, 144]⟩
abbrev S3072x144x1 : Shape := ⟨3, ![3072, 144, 1]⟩
abbrev S3072x18432 : Shape := ⟨2, ![3072, 18432]⟩
abbrev S3072x18x8 : Shape := ⟨3, ![3072, 18, 8]⟩
abbrev S18x3072x8 : Shape := ⟨3, ![18, 3072, 8]⟩

abbrev nBuf : Space → Nat
  | .hbm => 56
  | .vmem => 3
  | .smem => 0
  | _ => 0

abbrev bufTy : (tb : Table) → Fin (tcTables nBuf tb) → BufTy
  | .hbm, ⟨0, _⟩ => ⟨S3072x1x16384, .bf16⟩
  | .hbm, ⟨1, _⟩ => ⟨S8192x18432, .i8⟩
  | .hbm, ⟨2, _⟩ => ⟨S128x18432, .bf16⟩
  | .hbm, ⟨3, _⟩ => ⟨S64x18432, .i8⟩
  | .hbm, ⟨4, _⟩ => ⟨S16384, .i32⟩
  | .hbm, ⟨5, _⟩ => ⟨S64x18432, .i32⟩
  | .hbm, ⟨6, _⟩ => ⟨S_, .i32⟩
  | .hbm, ⟨7, _⟩ => ⟨S64x18432, .i32⟩
  | .hbm, ⟨8, _⟩ => ⟨S64x18432, .i32⟩
  | .hbm, ⟨9, _⟩ => ⟨S_, .i32⟩
  | .hbm, ⟨10, _⟩ => ⟨S64x18432, .i32⟩
  | .hbm, ⟨11, _⟩ => ⟨S64x18432, .i32⟩
  | .hbm, ⟨12, _⟩ => ⟨S128x18432, .i32⟩
  | .hbm, ⟨13, _⟩ => ⟨S128x18432, .bf16⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x18432, .i8⟩
  | .hbm, ⟨22, _⟩ => ⟨S16384x18432, .i32⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384x1, .i1⟩
  | .hbm, ⟨30, _⟩ => ⟨S_, .i32⟩
  | .hbm, ⟨31, _⟩ => ⟨S16384x18432, .i32⟩
  | .hbm, ⟨32, _⟩ => ⟨S16384x18432, .i32⟩
  | .hbm, ⟨33, _⟩ => ⟨S_, .i32⟩
  | .hbm, ⟨34, _⟩ => ⟨S16384x18432, .i32⟩
  | .hbm, ⟨35, _⟩ => ⟨S16384x18432, .i32⟩
  | .hbm, ⟨36, _⟩ => ⟨S16384x18432, .i1⟩
  | .hbm, ⟨37, _⟩ => ⟨S16384x18432, .i32⟩
  | .hbm, ⟨38, _⟩ => ⟨S16384x18432, .bf16⟩
  | .hbm, ⟨39, _⟩ => ⟨S128x128x18432, .bf16⟩
  | .hbm, ⟨40, _⟩ => ⟨S128x1x18432, .bf16⟩
  | .hbm, ⟨41, _⟩ => ⟨S128x128x18432, .bf16⟩
  | .hbm, ⟨42, _⟩ => ⟨S128x128x18432, .bf16⟩
  | .hbm, ⟨43, _⟩ => ⟨S128x1x18432, .bf16⟩
  | .hbm, ⟨44, _⟩ => ⟨S128x128x18432, .bf16⟩
  | .hbm, ⟨45, _⟩ => ⟨S128x128x18432, .bf16⟩
  | .hbm, ⟨46, _⟩ => ⟨S16384x18432, .bf16⟩
  | .hbm, ⟨47, _⟩ => ⟨S16384x1, .i32⟩
  | .hbm, ⟨48, _⟩ => ⟨S3072x1x16384, .bf16⟩
  | .hbm, ⟨49, _⟩ => ⟨S3072x1x18432, .f32⟩
  | .hbm, ⟨50, _⟩ => ⟨S3072x144x128, .f32⟩
  | .hbm, ⟨51, _⟩ => ⟨S3072x144x128, .fp8e4m3⟩
  | .hbm, ⟨52, _⟩ => ⟨S3072x144, .f32⟩
  | .hbm, ⟨53, _⟩ => ⟨S3072x18432, .fp8e4m3⟩
  | .hbm, ⟨54, _⟩ => ⟨S3072x18x8, .f32⟩
  | .hbm, ⟨55, _⟩ => ⟨S18x3072x8, .f32⟩
  | .local _ .vmem, ⟨0, _⟩ => ⟨S3072x144x128, .f32⟩
  | .local _ .vmem, ⟨1, _⟩ => ⟨S3072x144x128, .fp8e4m3⟩
  | .local _ .vmem, ⟨2, _⟩ => ⟨S3072x144, .f32⟩
  | _, _ => ⟨S3072x1x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1_0 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3072x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x144x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Trip.lean ====
/- One trip of the dequantisation loop of `Kernel`: the thirty-two strided stores it makes, found by the run. -/
module

public import proofs.«01_k».proof.Proof.Gen.Kernel.Loops
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- A row of the tables named by a word below 128 lies inside them. -/
theorem chkA (v : BitVec 32) (hv : v.toNat < 128) :
    ∀ a, (![(Scalar.indexCast v).toNat, 0, 0, 0] : Fin 4 → Nat) a + S1x1x8x128.size a ≤ S128x1x8x128.size a := by
  have h : (Scalar.indexCast v).toNat = v.toNat := rfl
  intro a
  match a with
  | ⟨0, _⟩ => show (Scalar.indexCast v).toNat + 1 ≤ 128; omega
  | ⟨1, _⟩ => exact le_refl 1
  | ⟨2, _⟩ => exact le_refl 8
  | ⟨3, _⟩ => exact le_refl 128

theorem chkB (v : BitVec 32) (hv : v.toNat < 128) :
    (∀ a, (![(Scalar.indexCast v).toNat, 0, 0, 0] : Fin 4 → Nat) a + S1x1x8x128.size a ≤ S128x1x8x128.size a)
    ∧ (∀ a, (![(Scalar.indexCast v).toNat, 0, 0, 0] : Fin 4 → Nat) a + S1x1x8x128.size a ≤ S128x1x8x128.size a) :=
  ⟨chkA v hv, chkA v hv⟩

/-- What a trip touches: the group table, the packed codes' block, the scale and zero tables, the weight scratch. -/
abbrev Trip_k0_t1 (c : Dev nD) (q2 : PosShare TreeShare) (arg2 : Memref sig .tc .smem S16384 .i32) (arg4 : Memref sig .tc .vmem S16x8x32x128 .i8) (arg5 arg6 : Memref sig .tc .vmem S128x1x8x128 .bf16) (arg10 : Memref sig .tc .vmem S4128x128 .i32)
    (X2 : BufTy.Contents (Elt F) arg2.view.ty) (X4 : BufTy.Contents (Elt F) arg4.view.ty) (X5 : BufTy.Contents (Elt F) arg5.view.ty) (X6 : BufTy.Contents (Elt F) arg6.view.ty) (f10 : BufTy.Contents (Elt F) arg10.view.ty) : sProp 𝕄G :=
  iprop((arg2.view.loc (c : Thread nD τ) ↦[arg2.view.set]{q2} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} f10))

@[irreducible] def trip_k0_t1 (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole) (arg1 : BitVec 32)
    (X2 : BufTy.Contents (Elt F) arg2.view.ty) (X4 : BufTy.Contents (Elt F) arg4.view.ty) (X5 : BufTy.Contents (Elt F) arg5.view.ty) (X6 : BufTy.Contents (Elt F) arg6.view.ty)
    (hg : ∀ r x, (arg2.view.readAt (Elt F) r X2 x : BitVec 32).toNat < 128) (k : Fin k0_t1_loop.trips) :
    { L : List (View.Piece (Elt F) S4128x128 .i32) // ∀ (E : Set ℕ) (f10 : BufTy.Contents (Elt F) arg10.view.ty),
      Trip_k0_t1 (F := F) c q2 arg2 arg4 arg5 arg6 arg10 X2 X4 X5 X6 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg1 k PUnit.unit)
          (fun _ => Trip_k0_t1 (F := F) c q2 arg2 arg4 arg5 arg6 arg10 X2 X4 X5 X6 (arg10.view.writes (Elt F) f10 L)) } := by
  have hk : k.val < 16 := Nat.lt_of_lt_of_le k.isLt k0_t1_abs.2.1
  refine ⟨?_, fun E f10 => ?run⟩
  case run =>
    unfold k0_t1_body
    iintro ⟨H2, H4, H5, H6, H10⟩
    sl_exec (disch := first | exact chkA _ (hg _ _) | exact chkB _ (hg _ _))
    sl_step
    sl_close

end Cert.Proof.Kernel

end
-- ==== Proof.Kernel.Loop.lean ====
/- The dequantisation loop of `Kernel`: before trip `k` the weight scratch holds the pieces of the trips before. -/
module

public import proofs.«01_k».proof.Proof.Kernel.Trip
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

@[irreducible] def pbStep_k0_t1 (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) (k : Nat) (prev : List (View.Piece (Elt F) S4128x128 .i32)) : List (View.Piece (Elt F) S4128x128 .i32) :=
  if h : k < k0_t1_loop.trips then (trip_k0_t1 (F := F) 𝒱 c bd q2 i arg2 harg2 arg3 harg3 arg4 harg4 arg5 harg5 arg6 harg6 arg7 harg7 arg8 harg8 arg9 harg9 arg10 harg10 arg1 X2 X4 X5 X6 hg ⟨k, h⟩).1 ++ prev else prev

/-- The pieces of the trips before `k`, last first. -/
def pb_k0_t1 (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) : Nat → List (View.Piece (Elt F) S4128x128 .i32)
  | 0 => []
  | k + 1 => pbStep_k0_t1 (F := F) 𝒱 c bd q2 i arg2 harg2 arg3 harg3 arg4 harg4 arg5 harg5 arg6 harg6 arg7 harg7 arg8 harg8 arg9 harg9 arg10 harg10 arg1 X2 X4 X5 X6 hg k (pb_k0_t1 𝒱 c bd q2 i arg2 harg2 arg3 harg3 arg4 harg4 arg5 harg5 arg6 harg6 arg7 harg7 arg8 harg8 arg9 harg9 arg10 harg10 arg1 X2 X4 X5 X6 hg k)

theorem pb_k0_t1_succ (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) (k : Fin k0_t1_loop.trips) :
    pb_k0_t1 (F := F) 𝒱 c bd q2 i arg2 harg2 arg3 harg3 arg4 harg4 arg5 harg5 arg6 harg6 arg7 harg7 arg8 harg8 arg9 harg9 arg10 harg10 arg1 X2 X4 X5 X6 hg (k.val + 1) = (trip_k0_t1 (F := F) 𝒱 c bd q2 i arg2 harg2 arg3 harg3 arg4 harg4 arg5 harg5 arg6 harg6 arg7 harg7 arg8 harg8 arg9 harg9 arg10 harg10 arg1 X2 X4 X5 X6 hg k).1 ++ pb_k0_t1 (F := F) 𝒱 c bd q2 i arg2 harg2 arg3 harg3 arg4 harg4 arg5 harg5 arg6 harg6 arg7 harg7 arg8 harg8 arg9 harg9 arg10 harg10 arg1 X2 X4 X5 X6 hg k.val := by
  rw [pb_k0_t1.eq_2]; unfold pbStep_k0_t1; exact dif_pos k.isLt

set_option warn.classDefReducibility false in
@[sl_loop] def loopInv_k0_t1 (𝒱 : Variants) (c : Dev nD) (bd : Option 𝒱.V) (E : Set ℕ) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) (G10 : BufTy.Contents (Elt F) arg10.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg1 where
  inv := fun k _ => iprop((arg2.view.loc (c : Thread nD τ) ↦[arg2.view.set]{q2} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f) ∗ ⌜f = arg10.view.writes (Elt F) G10 (pb_k0_t1 (F := F) 𝒱 c bd q2 i arg2 harg2 arg3 harg3 arg4 harg4 arg5 harg5 arg6 harg6 arg7 harg7 arg8 harg8 arg9 harg9 arg10 harg10 arg1 X2 X4 X5 X6 hg k)⌝))
  step k acc := by
    iintro ⟨H2, H4, H5, H6, ⟨%f10, H10, %h10⟩⟩
    iapply (wp_wand_r Idealize.ShloMosaic.frame (wpE (defs₀ (F := F)) 𝒱 (c : Thread nD τ) bd) E)
    isplitl [H2 H4 H5 H6 H10]
    · iapply ((trip_k0_t1 (F := F) 𝒱 c bd q2 i arg2 harg2 arg3 harg3 arg4 harg4 arg5 harg5 arg6 harg6 arg7 harg7 arg8 harg8 arg9 harg9 arg10 harg10 arg1 X2 X4 X5 X6 hg k).2 E f10)
      isplitl [H2]; · iexact H2
      isplitl [H4]; · iexact H4
      isplitl [H5]; · iexact H5
      isplitl [H6]; · iexact H6
      iexact H10
    · iintro %_ ⟨H2, H4, H5, H6, H10⟩
      isplitl [H2]; · iexact H2
      isplitl [H4]; · iexact H4
      isplitl [H5]; · iexact H5
      isplitl [H6]; · iexact H6
      rw [pb_k0_t1_succ]
      iexists _; isplitl [H10]; · iexact H10
      ipureintro; rw [h10, ← View.writes_append]

end Cert.Proof.Kernel

end
-- ==== Proof.Kernel.Body.lean ====
/- One grid point of `Kernel`: the run of the body in its three cases (first, middle and last step of the contraction). -/
module

public import proofs.«01_k».proof.Proof.Kernel.Loop
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The body's branch conditions, as functions of the contraction step. -/
abbrev condZ (i : grid0.Coords) : Prop := Scalar.cmpi .ne (Scalar.extui (Scalar.cmpi .eq (BitVec.ofNat 32 (i 1).val) (0#32)) : BitVec 32) (0#32) = 1#1
abbrev condP (i : grid0.Coords) : Prop := Scalar.cmpi .ne (Scalar.extui (Scalar.cmpi .sgt (BitVec.ofNat 32 (i 1).val) (0#32)) : BitVec 32) (0#32) = 1#1
abbrev condL (i : grid0.Coords) : Prop := k0_cond25 i = 1#1

/-- What a point touches. -/
abbrev PtRes (c : Dev nD) (q2 : PosShare TreeShare) (arg2 : Memref sig .tc .smem S16384 .i32) (arg3 : Memref sig .tc .vmem S3072x1024 .bf16) (arg4 : Memref sig .tc .vmem S16x8x32x128 .i8) (arg5 : Memref sig .tc .vmem S128x1x8x128 .bf16) (arg6 : Memref sig .tc .vmem S128x1x8x128 .bf16) (arg7 : Memref sig .tc .vmem S3072x1024 .fp8e4m3) (arg8 : Memref sig .tc .vmem S1x3072x8 .f32) (arg9 : Memref sig .tc .vmem S3072x1024 .f32) (arg10 : Memref sig .tc .vmem S4128x128 .i32)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  : sProp 𝕄G :=
  iprop((arg2.view.loc (c : Thread nD τ) ↦[arg2.view.set]{q2} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

@[irreducible] def runA (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  (hg : ∀ r x, (arg2.view.readAt (Elt F) r X2 x : BitVec 32).toNat < 128) (hz :  condZ i) (hp : ¬ condP i) (hl : ¬ condL i) :
    Σ' (L9 : List (View.Piece (Elt F) S3072x1024 .f32)), { L10 : List (View.Piece (Elt F) S4128x128 .i32) // ∀ (E : Set ℕ),
      PtRes (F := F) c q2 arg2 arg3 arg4 arg5 arg6 arg7 arg8 arg9 arg10 X2 X3 X4 X5 X6 f7 f8 f9 f10
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10)
          (fun _ => PtRes (F := F) c q2 arg2 arg3 arg4 arg5 arg6 arg7 arg8 arg9 arg10 X2 X3 X4 X5 X6 f7 f8 (arg9.view.writes (Elt F) f9 L9) (arg10.view.writes (Elt F) f10 L10)) } := by
  refine ⟨?_, ?_, fun E => ?run⟩
  case run =>
    simp only [cc0__body_eq_skeleton]; unfold cc0__body_skel
    iintro ⟨H2, H3, H4, H5, H6, H7, H8, H9, H10⟩
    sl_exec
    sl_step
    sl_close

@[irreducible] def runB (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  (hg : ∀ r x, (arg2.view.readAt (Elt F) r X2 x : BitVec 32).toNat < 128) (hz : ¬ condZ i) (hp :  condP i) (hl : ¬ condL i) :
    Σ' (L9 : List (View.Piece (Elt F) S3072x1024 .f32)), { L10 : List (View.Piece (Elt F) S4128x128 .i32) // ∀ (E : Set ℕ),
      PtRes (F := F) c q2 arg2 arg3 arg4 arg5 arg6 arg7 arg8 arg9 arg10 X2 X3 X4 X5 X6 f7 f8 f9 f10
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10)
          (fun _ => PtRes (F := F) c q2 arg2 arg3 arg4 arg5 arg6 arg7 arg8 arg9 arg10 X2 X3 X4 X5 X6 f7 f8 (arg9.view.writes (Elt F) f9 L9) (arg10.view.writes (Elt F) f10 L10)) } := by
  refine ⟨?_, ?_, fun E => ?run⟩
  case run =>
    simp only [cc0__body_eq_skeleton]; unfold cc0__body_skel
    iintro ⟨H2, H3, H4, H5, H6, H7, H8, H9, H10⟩
    sl_exec
    sl_step
    sl_close

@[irreducible] def runC (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  (hg : ∀ r x, (arg2.view.readAt (Elt F) r X2 x : BitVec 32).toNat < 128) (hz : ¬ condZ i) (hp :  condP i) (hl :  condL i) :
    Σ' (L7 : List (View.Piece (Elt F) S3072x1024 .fp8e4m3)) (L8 : List (View.Piece (Elt F) S1x3072x8 .f32)) (L9 : List (View.Piece (Elt F) S3072x1024 .f32)), { L10 : List (View.Piece (Elt F) S4128x128 .i32) // ∀ (E : Set ℕ),
      PtRes (F := F) c q2 arg2 arg3 arg4 arg5 arg6 arg7 arg8 arg9 arg10 X2 X3 X4 X5 X6 f7 f8 f9 f10
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10)
          (fun _ => PtRes (F := F) c q2 arg2 arg3 arg4 arg5 arg6 arg7 arg8 arg9 arg10 X2 X3 X4 X5 X6 (arg7.view.writes (Elt F) f7 L7) (arg8.view.writes (Elt F) f8 L8) (arg9.view.writes (Elt F) arg9.view.junk L9) (arg10.view.writes (Elt F) f10 L10)) } := by
  refine ⟨?_, ?_, ?_, ?_, fun E => ?run⟩
  case run =>
    simp only [cc0__body_eq_skeleton]; unfold cc0__body_skel
    iintro ⟨H2, H3, H4, H5, H6, H7, H8, H9, H10⟩
    sl_exec
    sl_step
    sl_close

end Cert.Proof.Kernel

end
-- ==== Proof.Kernel.Launch.lean ====
/- The launch of `Kernel`: the contents the region is entered with, the prefetched table, the windows' blocks, and the frame. -/
module

public import proofs.«01_k».proof.Proof.Kernel.Body
public import proofs.«01_k».proof.Proof.Gen.Kernel.Launch
public import Idealize.ShloMosaic.Lib.Pipeline.Frame
public import Idealize.ShloMosaic.Lib.Pipeline.FrameBody
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

open Idealize.ShloMosaic.Pipeline (Dat BodyObligationLoose)
variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- The buffers' contents when the region is entered. -/
def V (c : Dev nD) (b : Ref sig .tc) : Buf (Elt F) ((c.tc : Thread nD τ).loc b) := StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

/-- The table's contents at entry (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev adms : (p : Fin 1) → (pcfgs (F := F) p).Adm := fun _ => adm m
abbrev cfgM : Pipeline.Cfg sig Λ₀ := cfg0 (adm m)
abbrev tbM : Memref sig .tc .smem S16384 .i32 := Memref.whole main_arg4

/-- The words of the table. -/
abbrev tbW : BufTy.Contents (Elt F) tbM.view.ty := tbl m (0 : Fin 1)
abbrev tbPt (c : Dev nD) {S : Shape} {e : EltTy} (M : Memref sig .tc .smem S e) (f : Buf (Elt F) (M.view.loc (c : Thread nD τ))) : sProp 𝕄G :=
  M.view.loc (c : Thread nD τ) ↦[M.view.set]{fullShare.right} f

theorem PhiT_eq (c : Dev nD) : (Pipeline.ΦT pre0 (tbl m) c : sProp 𝕄G) = tbPt c tbM (tbl m (0 : Fin 1)) := by
  unfold Pipeline.ΦT Pipeline.prefHeld
  rw [show (Finset.univ : Finset (Fin 1)) = {(0 : Fin 1)} from by decide, bigSep_singleton]
  unfold tbPt
  rw [show tbM.view.set = Finset.univ from View.set_whole _]
  rfl

/-- Every word of the table is a group index: what the body's index checks ask. -/
def TbOK : Prop := ∀ (r : LoadRect S16384) (x : r.shape.Idx), (tbM.view.readAt (Elt F) r (tbW m) x : BitVec 32).toNat < 128

/-- Window `w`'s block at point `t`, at the entry contents. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body at point `t`. -/
def bodyAt (t : Fin (cfgM m).N) : Prog (TpuEff nD τ sig (Elt F) Λ₀ .tc) PUnit :=
  cc0__body ((cfgM m).grid.coords t) (Memref.whole main_arg4) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (Memref.whole cc0_scratch0) (Memref.isWhole_whole _) (Memref.whole cc0_scratch1) (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]; rfl

/-- The branch conditions at each contraction step. -/
theorem cond_cases : ∀ i : grid0.Coords, ((i 1).val = 0 ∧ condZ i ∧ ¬condP i ∧ ¬condL i) ∨ (0 < (i 1).val ∧ (i 1).val < 15 ∧ ¬condZ i ∧ condP i ∧ ¬condL i) ∨ ((i 1).val = 15 ∧ ¬condZ i ∧ condP i ∧ condL i) := by
  intro i
  have h : ∀ k : Fin 16, (k.val = 0 ∧ Scalar.cmpi .ne (Scalar.extui (Scalar.cmpi .eq (BitVec.ofNat 32 k.val) (0#32)) : BitVec 32) (0#32) = 1#1 ∧ ¬ Scalar.cmpi .ne (Scalar.extui (Scalar.cmpi .sgt (BitVec.ofNat 32 k.val) (0#32)) : BitVec 32) (0#32) = 1#1 ∧ ¬ Scalar.cmpi .ne (Scalar.extui (Scalar.cmpi .eq (BitVec.ofNat 32 k.val) (15#32)) : BitVec 32) (0#32) = 1#1) ∨ (0 < k.val ∧ k.val < 15 ∧ ¬Scalar.cmpi .ne (Scalar.extui (Scalar.cmpi .eq (BitVec.ofNat 32 k.val) (0#32)) : BitVec 32) (0#32) = 1#1 ∧ Scalar.cmpi .ne (Scalar.extui (Scalar.cmpi .sgt (BitVec.ofNat 32 k.val) (0#32)) : BitVec 32) (0#32) = 1#1 ∧ ¬ Scalar.cmpi .ne (Scalar.extui (Scalar.cmpi .eq (BitVec.ofNat 32 k.val) (15#32)) : BitVec 32) (0#32) = 1#1) ∨ (k.val = 15 ∧ ¬Scalar.cmpi .ne (Scalar.extui (Scalar.cmpi .eq (BitVec.ofNat 32 k.val) (0#32)) : BitVec 32) (0#32) = 1#1 ∧ Scalar.cmpi .ne (Scalar.extui (Scalar.cmpi .sgt (BitVec.ofNat 32 k.val) (0#32)) : BitVec 32) (0#32) = 1#1 ∧ Scalar.cmpi .ne (Scalar.extui (Scalar.cmpi .eq (BitVec.ofNat 32 k.val) (15#32)) : BitVec 32) (0#32) = 1#1) := by decide
  exact h (i 1)

end Cert.Proof.Kernel

end
-- ==== Proof.Kernel.Frame.lean ====
/- The frame of `Kernel`: the body at any grid point gives back everything it was handed, the outputs at some contents. -/
module

public import proofs.«01_k».proof.Proof.Kernel.Launch
public import Idealize.ShloMosaic.Lib.Tactic

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

open Idealize.ShloMosaic.Pipeline (Dat BodyObligationLoose)

/-- A memref held at some contents. -/
theorem any_of (c : Dev nD) {sp : Space} {S : Shape} {e : EltTy} (M : Memref sig .tc sp S e) (f : BufTy.Contents (Elt F) M.view.ty) :
    (M.view.loc (c : Thread nD τ) ↦[M.view.set]{fullShare} f : sProp 𝕄G) ⊢ iprop(∃ X f, ⌜M.view.read (Elt F) f = X⌝ ∗ (M.view.loc (c : Thread nD τ) ↦[M.view.set]{fullShare} f)) := by
  iintro H; iexists (M.view.read (Elt F) f); iexists f; isplitr
  · ipureintro; exact rfl
  · iexact H

/-- The body at any point, contents of outputs and scratch forgotten. -/
theorem sound_point (c : Dev nD) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x128 .i32) (harg10 : arg10.IsWhole)  (X2 : BufTy.Contents (Elt F) arg2.view.ty)
    (hg : ∀ r x, (arg2.view.readAt (Elt F) r X2 x : BitVec 32).toNat < 128) (x3 : S3072x1024.Idx → Elt F .bf16) (x4 : S16x8x32x128.Idx → Elt F .i8) (x5 : S128x1x8x128.Idx → Elt F .bf16) (x6 : S128x1x8x128.Idx → Elt F .bf16) :
    (iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ X, owns (c : Thread nD τ) arg8 fullShare X) ∗ (∃ f, arg9.view.loc (c : Thread nD τ) ↦[arg9.view.set]{fullShare} f) ∗ (∃ f, arg10.view.loc (c : Thread nD τ) ↦[arg10.view.set]{fullShare} f)) : sProp 𝕄G)
    ⊢ wp frame (wpE (defs₀ (F := F)) Variants.none (c : Thread nD τ) none) Set.univ (cc0__body (F := F) i arg2 harg2 arg3 harg3 arg4 harg4 arg5 harg5 arg6 harg6 arg7 harg7 arg8 harg8 arg9 harg9 arg10 harg10)
      (fun _ => iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ X, owns (c : Thread nD τ) arg8 fullShare X) ∗ (∃ f, arg9.view.loc (c : Thread nD τ) ↦[arg9.view.set]{fullShare} f) ∗ (∃ f, arg10.view.loc (c : Thread nD τ) ↦[arg10.view.set]{fullShare} f))) := by
  unfold owns
  iintro ⟨H2, ⟨%f3, %h3, H3⟩, ⟨%f4, %h4, H4⟩, ⟨%f5, %h5, H5⟩, ⟨%f6, %h6, H6⟩, ⟨%X7, %f7, %h7, H7⟩, ⟨%X8, %f8, %h8, H8⟩, ⟨%f9, H9⟩, ⟨%f10, H10⟩⟩
  rcases cond_cases i with ⟨hk, hz, hp, hl⟩ | ⟨hk, hk', hz, hp, hl⟩ | ⟨hk, hz, hp, hl⟩
  · iapply (wp_wand_r Idealize.ShloMosaic.frame (wpE (defs₀ (F := F)) Variants.none (c : Thread nD τ) none) Set.univ)
    isplitl [H2 H3 H4 H5 H6 H7 H8 H9 H10]
    · iapply ((runA (F := F) Variants.none c none q2 i arg2 harg2 arg3 harg3 arg4 harg4 arg5 harg5 arg6 harg6 arg7 harg7 arg8 harg8 arg9 harg9 arg10 harg10 X2 f3 f4 f5 f6 f7 f8 f9 f10 hg hz hp hl).2.2 Set.univ)
      unfold PtRes
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · unfold PtRes
      iintro %_ ⟨H2, H3, H4, H5, H6, H7, H8, H9, H10⟩
      isplitl [H2]; · iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iapply (any_of c arg7 _); iexact H7
      isplitl [H8]; · iapply (any_of c arg8 _); iexact H8
      isplitl [H9]; · iexists _; iexact H9
      iexists _; iexact H10
  · iapply (wp_wand_r Idealize.ShloMosaic.frame (wpE (defs₀ (F := F)) Variants.none (c : Thread nD τ) none) Set.univ)
    isplitl [H2 H3 H4 H5 H6 H7 H8 H9 H10]
    · iapply ((runB (F := F) Variants.none c none q2 i arg2 harg2 arg3 harg3 arg4 harg4 arg5 harg5 arg6 harg6 arg7 harg7 arg8 harg8 arg9 harg9 arg10 harg10 X2 f3 f4 f5 f6 f7 f8 f9 f10 hg hz hp hl).2.2 Set.univ)
      unfold PtRes
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · unfold PtRes
      iintro %_ ⟨H2, H3, H4, H5, H6, H7, H8, H9, H10⟩
      isplitl [H2]; · iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iapply (any_of c arg7 _); iexact H7
      isplitl [H8]; · iapply (any_of c arg8 _); iexact H8
      isplitl [H9]; · iexists _; iexact H9
      iexists _; iexact H10
  · iapply (wp_wand_r Idealize.ShloMosaic.frame (wpE (defs₀ (F := F)) Variants.none (c : Thread nD τ) none) Set.univ)
    isplitl [H2 H3 H4 H5 H6 H7 H8 H9 H10]
    · iapply ((runC (F := F) Variants.none c none q2 i arg2 harg2 arg3 harg3 arg4 harg4 arg5 harg5 arg6 harg6 arg7 harg7 arg8 harg8 arg9 harg9 arg10 harg10 X2 f3 f4 f5 f6 f7 f8 f9 f10 hg hz hp hl).2.2.2.2 Set.univ)
      unfold PtRes
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · unfold PtRes
      iintro %_ ⟨H2, H3, H4, H5, H6, H7, H8, H9, H10⟩
      isplitl [H2]; · iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iapply (any_of c arg7 _); iexact H7
      isplitl [H8]; · iapply (any_of c arg8 _); iexact H8
      isplitl [H9]; · iexists _; iexact H9
      iexists _; iexact H10

variable (m : (ℓ : Loc nD τ sig) → Buf (Elt F) ℓ) (ρ : Dev nD → PrngReg)

/-- Which windows' contents are forgotten: the outputs. -/
def fgt : Fin 6 → Bool := fun w => w == 4 || w == 5

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
    | ⟨5, _⟩ => fun _ => Classical.arbitrary _
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := rfl
theorem before_0 (c : Dev nD) (t : Fin (cfgM m).N) (d) : (dats m 0 c).before 0 t d = iblk m c 0 t :=
  before_0_of m (dats m 0 c) (A_eq m c 0) (after_0 m c) t d
theorem after_1 (c : Dev nD) (t : Fin (cfgM m).N) : (dats m 0 c).after 1 t = iblk m c 1 t := rfl
theorem before_1 (c : Dev nD) (t : Fin (cfgM m).N) (d) : (dats m 0 c).before 1 t d = iblk m c 1 t :=
  before_1_of m (dats m 0 c) (A_eq m c 1) (after_1 m c) t d
theorem after_2 (c : Dev nD) (t : Fin (cfgM m).N) : (dats m 0 c).after 2 t = iblk m c 2 t := rfl
theorem before_2 (c : Dev nD) (t : Fin (cfgM m).N) (d) : (dats m 0 c).before 2 t d = iblk m c 2 t :=
  before_2_of m (dats m 0 c) (A_eq m c 2) (after_2 m c) t d
theorem after_3 (c : Dev nD) (t : Fin (cfgM m).N) : (dats m 0 c).after 3 t = iblk m c 3 t := rfl
theorem before_3 (c : Dev nD) (t : Fin (cfgM m).N) (d) : (dats m 0 c).before 3 t d = iblk m c 3 t :=
  before_3_of m (dats m 0 c) (A_eq m c 3) (after_3 m c) t d

def bodyPre (c : Dev nD) (t : Fin (cfgM m).N) : sProp 𝕄G :=
  iprop((dats m 0 c).Φ t.castSucc ∗ (dats m 0 c).owesAt () t.castSucc
    ∗ (∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d)) ∗ (∃ d, owns (c : Thread nD τ) (((cfgM m).win 2).stage ((cfgM m).slots t 2)) fullShare ((dats m 0 c).before 2 t d)) ∗ (∃ d, owns (c : Thread nD τ) (((cfgM m).win 3).stage ((cfgM m).slots t 3)) fullShare ((dats m 0 c).before 3 t d))
    ∗ (∃ X, owns (c : Thread nD τ) (((cfgM m).win 4).stage ((cfgM m).slots t 4)) fullShare X) ∗ (∃ X, owns (c : Thread nD τ) (((cfgM m).win 5).stage ((cfgM m).slots t 5)) fullShare X))

def bodyPost (c : Dev nD) (t : Fin (cfgM m).N) : sProp 𝕄G :=
  iprop((dats m 0 c).Φ t.succ ∗ (dats m 0 c).owesAt () t.succ
    ∗ owns (c : Thread nD τ) (((cfgM m).win 0).stage ((cfgM m).slots t 0)) fullShare ((dats m 0 c).after 0 t) ∗ owns (c : Thread nD τ) (((cfgM m).win 1).stage ((cfgM m).slots t 1)) fullShare ((dats m 0 c).after 1 t) ∗ owns (c : Thread nD τ) (((cfgM m).win 2).stage ((cfgM m).slots t 2)) fullShare ((dats m 0 c).after 2 t) ∗ owns (c : Thread nD τ) (((cfgM m).win 3).stage ((cfgM m).slots t 3)) fullShare ((dats m 0 c).after 3 t)
    ∗ (∃ X, owns (c : Thread nD τ) (((cfgM m).win 4).stage ((cfgM m).slots t 4)) fullShare X) ∗ (∃ X, owns (c : Thread nD τ) (((cfgM m).win 5).stage ((cfgM m).slots t 5)) fullShare X))

theorem sound_body (hO : TbOK m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, after_0, after_1, after_2, after_3]
  rw [show (dats m 0 c).Φ t.succ = iprop(Pipeline.ΦA spec0 c ∗ Pipeline.ΦT pre0 (tbl m) c) from rfl,
    show (dats m 0 c).Φ t.castSucc = iprop(Pipeline.ΦA spec0 c ∗ Pipeline.ΦT pre0 (tbl m) c) from rfl,
    show (dats m 0 c).owesAt () t.succ = (dats m 0 c).owesAt () t.castSucc from rfl, PhiT_eq]
  unfold Pipeline.ΦA
  rw [scopedRest0_eq]
  iintro ⟨⟨⟨⟨⟨%f9, H9⟩, ⟨%f10, H10⟩⟩, Hr⟩, H2⟩, Ho, ⟨%d0, H3⟩, ⟨%d1, H4⟩, ⟨%d2, H5⟩, ⟨%d3, H6⟩, H7, H8⟩
  iapply (wp_wand_r Idealize.ShloMosaic.frame (wpE (defs₀ (F := F)) Variants.none (c : Thread nD τ) none) Set.univ)
  isplitl [H2 H3 H4 H5 H6 H7 H8 H9 H10]
  · iapply (sound_point (F := F) c fullShare.right _ _ _ _ _ _ _ _ _ _ _ _ _ _ _ _ _ _ _ (tbW m) hO (iblk m c 0 t) (iblk m c 1 t) (iblk m c 2 t) (iblk m c 3 t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists f9; rw [show (Memref.whole cc0_scratch0).view.set = Finset.univ from View.set_whole _]; iexact H9
    iexists f10; rw [show (Memref.whole cc0_scratch1).view.set = Finset.univ from View.set_whole _]; iexact H10
  · iintro %_ ⟨H2, H3, H4, H5, H6, H7, H8, ⟨%g9, H9⟩, ⟨%g10, H10⟩⟩
    isplitl [H2 H9 H10 Hr]
    · isplitr [H2]
      · isplitr [Hr]
        · isplitl [H9]
          · iexists g9; rw [show (Memref.whole cc0_scratch0).view.set = Finset.univ from View.set_whole _]; iexact H9
          · iexists g10; rw [show (Memref.whole cc0_scratch1).view.set = Finset.univ from View.set_whole _]; iexact H10
        iexact Hr
      iexact H2
    isplitl [Ho]; · iexact Ho
    isplitl [H3]; · iexact H3
    isplitl [H4]; · iexact H4
    isplitl [H5]; · iexact H5
    isplitl [H6]; · iexact H6
    isplitl [H7]; · iexact H7
    iexact H8

theorem body_obligation (hO : TbOK m) (c : Dev nD) : BodyObligationLoose (dats (F := F) m 0 c) (defs₀ (F := F)) Variants.none () Set.univ fgt := fun t => by
  rw [bigSep_W0, bigSep_W0, defs₀_row]
  exact triple_restated (sound_body m hO c t) rfl .rfl fun _ => .rfl

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)

set_option backward.isDefEq.respectTransparency.types false in
/-- The run of the whole program: the outputs' arrays at some contents, every other buffer as the launch leaves it, every counter zero. -/
theorem run_main (hO : TbOK m) : θ_run defs (onTc (τ := τ) (main (F := F))) (s₀ m ρ) (fun r => Pipeline.RDat.FramePost (cfgM m) (fun c => (dats m 0 c).toRForget fgt) (V m) r ∧ r.2.sem = fun _ => 0) :=
  Pipeline.θ_run_frameP_forget (Q' := _) pcfgs (adms m) (dats m) (0 : Fin 1) launch0 defs₀ Variants.none fgt m ρ main
    (hbody := body_obligation m hO) (hshare := fun c => (dats m 0 c).share_full fun _ => rfl)
    (howed := fun _ _ => rfl) (V := V m) (hmain := hmain m Variants.none) (hA := A_eq m) (hpf := V_pre m) (hΦ := fun _ _ => rfl)

/-- The frame, from the table's words being group indices. -/
theorem frame (hO : TbOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 rest_arg0).trans (V_main_arg0 m c), ((h.1 c).2 main_arg1 rest_arg1).trans (V_main_arg1 m c), ((h.1 c).2 main_arg2 rest_arg2).trans (V_main_arg2 m c), ((h.1 c).2 main_arg3 rest_arg3).trans (V_main_arg3 m c), ((h.1 c).2 main_arg4 rest_arg4).trans (V_main_arg4 m c)⟩, h.2⟩) (run_main m ρ hO)

end Cert.Proof.Kernel

end
-- ==== Proof.KernelIdeal.Trip.lean ====
/- One trip of the dequantisation loop of `KernelIdeal`: the thirty-two strided stores it makes, found by the run. -/
module

public import proofs.«01_k».proof.Proof.Gen.KernelIdeal.Loops
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A row of the tables named by a word below 128 lies inside them. -/
theorem chkA (v : BitVec 32) (hv : v.toNat < 128) :
    ∀ a, (![(Scalar.indexCast v).toNat, 0, 0, 0] : Fin 4 → Nat) a + S1x1x8x128.size a ≤ S128x1x8x128.size a := by
  have h : (Scalar.indexCast v).toNat = v.toNat := rfl
  intro a
  match a with
  | ⟨0, _⟩ => show (Scalar.indexCast v).toNat + 1 ≤ 128; omega
  | ⟨1, _⟩ => exact le_refl 1
  | ⟨2, _⟩ => exact le_refl 8
  | ⟨3, _⟩ => exact le_refl 128

theorem chkB (v : BitVec 32) (hv : v.toNat < 128) :
    (∀ a, (![(Scalar.indexCast v).toNat, 0, 0, 0] : Fin 4 → Nat) a + S1x1x8x128.size a ≤ S128x1x8x128.size a)
    ∧ (∀ a, (![(Scalar.indexCast v).toNat, 0, 0, 0] : Fin 4 → Nat) a + S1x1x8x128.size a ≤ S128x1x8x128.size a) :=
  ⟨chkA v hv, chkA v hv⟩

/-- What a trip touches: the group table, the packed codes' block, the scale and zero tables, the weight scratch. -/
abbrev Trip_k0_t1 (c : Dev nD) (q2 : PosShare TreeShare) (arg2 : Memref sig .tc .smem S16384 .i32) (arg4 : Memref sig .tc .vmem S16x8x32x128 .i8) (arg5 arg6 : Memref sig .tc .vmem S128x1x8x128 .bf16) (arg10 : Memref sig .tc .vmem S4128x2x128 .bf16)
    (X2 : BufTy.Contents (Elt F) arg2.view.ty) (X4 : BufTy.Contents (Elt F) arg4.view.ty) (X5 : BufTy.Contents (Elt F) arg5.view.ty) (X6 : BufTy.Contents (Elt F) arg6.view.ty) (f10 : BufTy.Contents (Elt F) arg10.view.ty) : sProp 𝕄G :=
  iprop((arg2.view.loc (c : Thread nD τ) ↦[arg2.view.set]{q2} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} f10))

@[irreducible] def trip_k0_t1 (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32)
    (X2 : BufTy.Contents (Elt F) arg2.view.ty) (X4 : BufTy.Contents (Elt F) arg4.view.ty) (X5 : BufTy.Contents (Elt F) arg5.view.ty) (X6 : BufTy.Contents (Elt F) arg6.view.ty)
    (hg : ∀ r x, (arg2.view.readAt (Elt F) r X2 x : BitVec 32).toNat < 128) (k : Fin k0_t1_loop.trips) :
    { L : List (View.Piece (Elt F) S4128x2x128 .bf16) // ∀ (E : Set ℕ) (f10 : BufTy.Contents (Elt F) arg10.view.ty),
      Trip_k0_t1 (F := F) c q2 arg2 arg4 arg5 arg6 arg10 X2 X4 X5 X6 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg1 k PUnit.unit)
          (fun _ => Trip_k0_t1 (F := F) c q2 arg2 arg4 arg5 arg6 arg10 X2 X4 X5 X6 (arg10.view.writes (Elt F) f10 L)) } := by
  have hk : k.val < 16 := Nat.lt_of_lt_of_le k.isLt k0_t1_abs.2.1
  refine ⟨?_, fun E f10 => ?run⟩
  case run =>
    unfold k0_t1_body
    iintro ⟨H2, H4, H5, H6, H10⟩
    sl_exec (disch := first | exact chkA _ (hg _ _) | exact chkB _ (hg _ _))
    sl_step
    sl_close

end Cert.Proof.KernelIdeal

end
-- ==== Proof.KernelIdeal.Loop.lean ====
/- The dequantisation loop of `KernelIdeal`: before trip `k` the weight scratch holds the pieces of the trips before. -/
module

public import proofs.«01_k».proof.Proof.KernelIdeal.Trip
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

@[irreducible] def pbStep_k0_t1 (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) (k : Nat) (prev : List (View.Piece (Elt F) S4128x2x128 .bf16)) : List (View.Piece (Elt F) S4128x2x128 .bf16) :=
  if h : k < k0_t1_loop.trips then (trip_k0_t1 (F := F) 𝒱 c bd q2 i arg2 harg2 arg3 harg3 arg4 harg4 arg5 harg5 arg6 harg6 arg7 harg7 arg8 harg8 arg9 harg9 arg10 harg10 arg1 X2 X4 X5 X6 hg ⟨k, h⟩).1 ++ prev else prev

/-- The pieces of the trips before `k`, last first. -/
def pb_k0_t1 (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) : Nat → List (View.Piece (Elt F) S4128x2x128 .bf16)
  | 0 => []
  | k + 1 => pbStep_k0_t1 (F := F) 𝒱 c bd q2 i arg2 harg2 arg3 harg3 arg4 harg4 arg5 harg5 arg6 harg6 arg7 harg7 arg8 harg8 arg9 harg9 arg10 harg10 arg1 X2 X4 X5 X6 hg k (pb_k0_t1 𝒱 c bd q2 i arg2 harg2 arg3 harg3 arg4 harg4 arg5 harg5 arg6 harg6 arg7 harg7 arg8 harg8 arg9 harg9 arg10 harg10 arg1 X2 X4 X5 X6 hg k)

theorem pb_k0_t1_succ (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) (k : Fin k0_t1_loop.trips) :
    pb_k0_t1 (F := F) 𝒱 c bd q2 i arg2 harg2 arg3 harg3 arg4 harg4 arg5 harg5 arg6 harg6 arg7 harg7 arg8 harg8 arg9 harg9 arg10 harg10 arg1 X2 X4 X5 X6 hg (k.val + 1) = (trip_k0_t1 (F := F) 𝒱 c bd q2 i arg2 harg2 arg3 harg3 arg4 harg4 arg5 harg5 arg6 harg6 arg7 harg7 arg8 harg8 arg9 harg9 arg10 harg10 arg1 X2 X4 X5 X6 hg k).1 ++ pb_k0_t1 (F := F) 𝒱 c bd q2 i arg2 harg2 arg3 harg3 arg4 harg4 arg5 harg5 arg6 harg6 arg7 harg7 arg8 harg8 arg9 harg9 arg10 harg10 arg1 X2 X4 X5 X6 hg k.val := by
  rw [pb_k0_t1.eq_2]; unfold pbStep_k0_t1; exact dif_pos k.isLt

set_option warn.classDefReducibility false in
@[sl_loop] def loopInv_k0_t1 (𝒱 : Variants) (c : Dev nD) (bd : Option 𝒱.V) (E : Set ℕ) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt F) arg2.view.ty) (X4 : BufTy.Contents (Elt F) arg4.view.ty) (X5 : BufTy.Contents (Elt F) arg5.view.ty) (X6 : BufTy.Contents (Elt F) arg6.view.ty) (hg : ∀ r x, (arg2.view.readAt (Elt F) r X2 x : BitVec 32).toNat < 128) (G10 : BufTy.Contents (Elt F) arg10.view.ty) :
    Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg1 where
  inv := fun k _ => iprop((arg2.view.loc (c : Thread nD τ) ↦[arg2.view.set]{q2} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f) ∗ ⌜f = arg10.view.writes (Elt F) G10 (pb_k0_t1 (F := F) 𝒱 c bd q2 i arg2 harg2 arg3 harg3 arg4 harg4 arg5 harg5 arg6 harg6 arg7 harg7 arg8 harg8 arg9 harg9 arg10 harg10 arg1 X2 X4 X5 X6 hg k)⌝))
  step k acc := by
    iintro ⟨H2, H4, H5, H6, ⟨%f10, H10, %h10⟩⟩
    iapply (wp_wand_r Idealize.ShloMosaic.frame (wpE (defs₀ (F := F)) 𝒱 (c : Thread nD τ) bd) E)
    isplitl [H2 H4 H5 H6 H10]
    · iapply ((trip_k0_t1 (F := F) 𝒱 c bd q2 i arg2 harg2 arg3 harg3 arg4 harg4 arg5 harg5 arg6 harg6 arg7 harg7 arg8 harg8 arg9 harg9 arg10 harg10 arg1 X2 X4 X5 X6 hg k).2 E f10)
      isplitl [H2]; · iexact H2
      isplitl [H4]; · iexact H4
      isplitl [H5]; · iexact H5
      isplitl [H6]; · iexact H6
      iexact H10
    · iintro %_ ⟨H2, H4, H5, H6, H10⟩
      isplitl [H2]; · iexact H2
      isplitl [H4]; · iexact H4
      isplitl [H5]; · iexact H5
      isplitl [H6]; · iexact H6
      rw [pb_k0_t1_succ]
      iexists _; isplitl [H10]; · iexact H10
      ipureintro; rw [h10, ← View.writes_append]

end Cert.Proof.KernelIdeal

end
-- ==== Proof.KernelIdeal.Body.lean ====
/- One grid point of `KernelIdeal`: the run of the body in its three cases (first, middle and last step of the contraction). -/
module

public import proofs.«01_k».proof.Proof.KernelIdeal.Loop
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's branch conditions, as functions of the contraction step. -/
abbrev condZ (i : grid0.Coords) : Prop := Scalar.cmpi .ne (Scalar.extui (Scalar.cmpi .eq (BitVec.ofNat 32 (i 1).val) (0#32)) : BitVec 32) (0#32) = 1#1
abbrev condP (i : grid0.Coords) : Prop := Scalar.cmpi .ne (Scalar.extui (Scalar.cmpi .sgt (BitVec.ofNat 32 (i 1).val) (0#32)) : BitVec 32) (0#32) = 1#1
abbrev condL (i : grid0.Coords) : Prop := k0_cond25 i = 1#1

/-- What a point touches. -/
abbrev PtRes (c : Dev nD) (q2 : PosShare TreeShare) (arg2 : Memref sig .tc .smem S16384 .i32) (arg3 : Memref sig .tc .vmem S3072x1024 .bf16) (arg4 : Memref sig .tc .vmem S16x8x32x128 .i8) (arg5 : Memref sig .tc .vmem S128x1x8x128 .bf16) (arg6 : Memref sig .tc .vmem S128x1x8x128 .bf16) (arg7 : Memref sig .tc .vmem S3072x1024 .fp8e4m3) (arg8 : Memref sig .tc .vmem S1x3072x8 .f32) (arg9 : Memref sig .tc .vmem S3072x1024 .f32) (arg10 : Memref sig .tc .vmem S4128x2x128 .bf16)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  : sProp 𝕄G :=
  iprop((arg2.view.loc (c : Thread nD τ) ↦[arg2.view.set]{q2} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

@[irreducible] def runA (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  (hg : ∀ r x, (arg2.view.readAt (Elt F) r X2 x : BitVec 32).toNat < 128) (hz :  condZ i) (hp : ¬ condP i) (hl : ¬ condL i) :
    Σ' (L9 : List (View.Piece (Elt F) S3072x1024 .f32)), { L10 : List (View.Piece (Elt F) S4128x2x128 .bf16) // ∀ (E : Set ℕ),
      PtRes (F := F) c q2 arg2 arg3 arg4 arg5 arg6 arg7 arg8 arg9 arg10 X2 X3 X4 X5 X6 f7 f8 f9 f10
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10)
          (fun _ => PtRes (F := F) c q2 arg2 arg3 arg4 arg5 arg6 arg7 arg8 arg9 arg10 X2 X3 X4 X5 X6 f7 f8 (arg9.view.writes (Elt F) f9 L9) (arg10.view.writes (Elt F) f10 L10)) } := by
  refine ⟨?_, ?_, fun E => ?run⟩
  case run =>
    simp only [cc0__body_eq_skeleton]; unfold cc0__body_skel
    iintro ⟨H2, H3, H4, H5, H6, H7, H8, H9, H10⟩
    sl_exec
    sl_step
    sl_close

@[irreducible] def runB (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  (hg : ∀ r x, (arg2.view.readAt (Elt F) r X2 x : BitVec 32).toNat < 128) (hz : ¬ condZ i) (hp :  condP i) (hl : ¬ condL i) :
    Σ' (L9 : List (View.Piece (Elt F) S3072x1024 .f32)), { L10 : List (View.Piece (Elt F) S4128x2x128 .bf16) // ∀ (E : Set ℕ),
      PtRes (F := F) c q2 arg2 arg3 arg4 arg5 arg6 arg7 arg8 arg9 arg10 X2 X3 X4 X5 X6 f7 f8 f9 f10
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10)
          (fun _ => PtRes (F := F) c q2 arg2 arg3 arg4 arg5 arg6 arg7 arg8 arg9 arg10 X2 X3 X4 X5 X6 f7 f8 (arg9.view.writes (Elt F) f9 L9) (arg10.view.writes (Elt F) f10 L10)) } := by
  refine ⟨?_, ?_, fun E => ?run⟩
  case run =>
    simp only [cc0__body_eq_skeleton]; unfold cc0__body_skel
    iintro ⟨H2, H3, H4, H5, H6, H7, H8, H9, H10⟩
    sl_exec
    sl_step
    sl_close

@[irreducible] def runC (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole)  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)  (hg : ∀ r x, (arg2.view.readAt (Elt F) r X2 x : BitVec 32).toNat < 128) (hz : ¬ condZ i) (hp :  condP i) (hl :  condL i) :
    Σ' (L7 : List (View.Piece (Elt F) S3072x1024 .fp8e4m3)) (L8 : List (View.Piece (Elt F) S1x3072x8 .f32)) (L9 : List (View.Piece (Elt F) S3072x1024 .f32)), { L10 : List (View.Piece (Elt F) S4128x2x128 .bf16) // ∀ (E : Set ℕ),
      PtRes (F := F) c q2 arg2 arg3 arg4 arg5 arg6 arg7 arg8 arg9 arg10 X2 X3 X4 X5 X6 f7 f8 f9 f10
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10)
          (fun _ => PtRes (F := F) c q2 arg2 arg3 arg4 arg5 arg6 arg7 arg8 arg9 arg10 X2 X3 X4 X5 X6 (arg7.view.writes (Elt F) f7 L7) (arg8.view.writes (Elt F) f8 L8) (arg9.view.writes (Elt F) arg9.view.junk L9) (arg10.view.writes (Elt F) f10 L10)) } := by
  refine ⟨?_, ?_, ?_, ?_, fun E => ?run⟩
  case run =>
    simp only [cc0__body_eq_skeleton]; unfold cc0__body_skel
    iintro ⟨H2, H3, H4, H5, H6, H7, H8, H9, H10⟩
    sl_exec
    sl_step
    sl_close

end Cert.Proof.KernelIdeal

end
-- ==== Proof.KernelIdeal.Launch.lean ====
/- The launch of `KernelIdeal`: the contents the region is entered with, the prefetched table, the windows' blocks, and the frame. -/
module

public import proofs.«01_k».proof.Proof.KernelIdeal.Body
public import proofs.«01_k».proof.Proof.Gen.KernelIdeal.Launch
public import Idealize.ShloMosaic.Lib.Pipeline.Frame
public import Idealize.ShloMosaic.Lib.Pipeline.FrameBody
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pipeline (Dat BodyObligationLoose)
variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- The buffers' contents when the region is entered. -/
def V (c : Dev nD) (b : Ref sig .tc) : Buf (Elt F) ((c.tc : Thread nD τ).loc b) := StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

theorem V_main_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, Finset.mem_singleton]
    repeat' apply And.intro
    all_goals exact StableHlo.devRef_ne_of_ne (by decide)))

/-- The table's contents at entry (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev adms : (p : Fin 1) → (pcfgs (F := F) p).Adm := fun _ => adm m
abbrev cfgM : Pipeline.Cfg sig Λ₀ := cfg0 (adm m)
abbrev tbM : Memref sig .tc .smem S16384 .i32 := Memref.whole main_arg4

/-- The words of the table. -/
abbrev tbW : BufTy.Contents (Elt F) tbM.view.ty := tbl m (0 : Fin 1)
abbrev tbPt (c : Dev nD) {S : Shape} {e : EltTy} (M : Memref sig .tc .smem S e) (f : Buf (Elt F) (M.view.loc (c : Thread nD τ))) : sProp 𝕄G :=
  M.view.loc (c : Thread nD τ) ↦[M.view.set]{fullShare.right} f

theorem PhiT_eq (c : Dev nD) : (Pipeline.ΦT pre0 (tbl m) c : sProp 𝕄G) = tbPt c tbM (tbl m (0 : Fin 1)) := by
  unfold Pipeline.ΦT Pipeline.prefHeld
  rw [show (Finset.univ : Finset (Fin 1)) = {(0 : Fin 1)} from by decide, bigSep_singleton]
  unfold tbPt
  rw [show tbM.view.set = Finset.univ from View.set_whole _]
  rfl

/-- Every word of the table is a group index: what the body's index checks ask. -/
def TbOK : Prop := ∀ (r : LoadRect S16384) (x : r.shape.Idx), (tbM.view.readAt (Elt F) r (tbW m) x : BitVec 32).toNat < 128

/-- Window `w`'s block at point `t`, at the entry contents. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body at point `t`. -/
def bodyAt (t : Fin (cfgM m).N) : Prog (TpuEff nD τ sig (Elt F) Λ₀ .tc) PUnit :=
  cc0__body ((cfgM m).grid.coords t) (Memref.whole main_arg4) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (Memref.whole cc0_scratch0) (Memref.isWhole_whole _) (Memref.whole cc0_scratch1) (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]; rfl

/-- The branch conditions at each contraction step. -/
theorem cond_cases : ∀ i : grid0.Coords, ((i 1).val = 0 ∧ condZ i ∧ ¬condP i ∧ ¬condL i) ∨ (0 < (i 1).val ∧ (i 1).val < 15 ∧ ¬condZ i ∧ condP i ∧ ¬condL i) ∨ ((i 1).val = 15 ∧ ¬condZ i ∧ condP i ∧ condL i) := by
  intro i
  have h : ∀ k : Fin 16, (k.val = 0 ∧ Scalar.cmpi .ne (Scalar.extui (Scalar.cmpi .eq (BitVec.ofNat 32 k.val) (0#32)) : BitVec 32) (0#32) = 1#1 ∧ ¬ Scalar.cmpi .ne (Scalar.extui (Scalar.cmpi .sgt (BitVec.ofNat 32 k.val) (0#32)) : BitVec 32) (0#32) = 1#1 ∧ ¬ Scalar.cmpi .ne (Scalar.extui (Scalar.cmpi .eq (BitVec.ofNat 32 k.val) (15#32)) : BitVec 32) (0#32) = 1#1) ∨ (0 < k.val ∧ k.val < 15 ∧ ¬Scalar.cmpi .ne (Scalar.extui (Scalar.cmpi .eq (BitVec.ofNat 32 k.val) (0#32)) : BitVec 32) (0#32) = 1#1 ∧ Scalar.cmpi .ne (Scalar.extui (Scalar.cmpi .sgt (BitVec.ofNat 32 k.val) (0#32)) : BitVec 32) (0#32) = 1#1 ∧ ¬ Scalar.cmpi .ne (Scalar.extui (Scalar.cmpi .eq (BitVec.ofNat 32 k.val) (15#32)) : BitVec 32) (0#32) = 1#1) ∨ (k.val = 15 ∧ ¬Scalar.cmpi .ne (Scalar.extui (Scalar.cmpi .eq (BitVec.ofNat 32 k.val) (0#32)) : BitVec 32) (0#32) = 1#1 ∧ Scalar.cmpi .ne (Scalar.extui (Scalar.cmpi .sgt (BitVec.ofNat 32 k.val) (0#32)) : BitVec 32) (0#32) = 1#1 ∧ Scalar.cmpi .ne (Scalar.extui (Scalar.cmpi .eq (BitVec.ofNat 32 k.val) (15#32)) : BitVec 32) (0#32) = 1#1) := by decide
  exact h (i 1)

end Cert.Proof.KernelIdeal

end
-- ==== Proof.KernelIdeal.Frame.lean ====
/- The frame of `KernelIdeal`: the body at any grid point gives back everything it was handed, the outputs at some contents. -/
module

public import proofs.«01_k».proof.Proof.KernelIdeal.Launch
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open Idealize.ShloMosaic.Pipeline (Dat BodyObligationLoose)

/-- A memref held at some contents. -/
theorem any_of (c : Dev nD) {sp : Space} {S : Shape} {e : EltTy} (M : Memref sig .tc sp S e) (f : BufTy.Contents (Elt F) M.view.ty) :
    (M.view.loc (c : Thread nD τ) ↦[M.view.set]{fullShare} f : sProp 𝕄G) ⊢ iprop(∃ X f, ⌜M.view.read (Elt F) f = X⌝ ∗ (M.view.loc (c : Thread nD τ) ↦[M.view.set]{fullShare} f)) := by
  iintro H; iexists (M.view.read (Elt F) f); iexists f; isplitr
  · ipureintro; exact rfl
  · iexact H

/-- The body at any point, contents of outputs and scratch forgotten. -/
theorem sound_point (c : Dev nD) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole)  (X2 : BufTy.Contents (Elt F) arg2.view.ty)
    (hg : ∀ r x, (arg2.view.readAt (Elt F) r X2 x : BitVec 32).toNat < 128) (x3 : S3072x1024.Idx → Elt F .bf16) (x4 : S16x8x32x128.Idx → Elt F .i8) (x5 : S128x1x8x128.Idx → Elt F .bf16) (x6 : S128x1x8x128.Idx → Elt F .bf16) :
    (iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ X, owns (c : Thread nD τ) arg8 fullShare X) ∗ (∃ f, arg9.view.loc (c : Thread nD τ) ↦[arg9.view.set]{fullShare} f) ∗ (∃ f, arg10.view.loc (c : Thread nD τ) ↦[arg10.view.set]{fullShare} f)) : sProp 𝕄G)
    ⊢ wp frame (wpE (defs₀ (F := F)) Variants.none (c : Thread nD τ) none) Set.univ (cc0__body (F := F) i arg2 harg2 arg3 harg3 arg4 harg4 arg5 harg5 arg6 harg6 arg7 harg7 arg8 harg8 arg9 harg9 arg10 harg10)
      (fun _ => iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ X, owns (c : Thread nD τ) arg8 fullShare X) ∗ (∃ f, arg9.view.loc (c : Thread nD τ) ↦[arg9.view.set]{fullShare} f) ∗ (∃ f, arg10.view.loc (c : Thread nD τ) ↦[arg10.view.set]{fullShare} f))) := by
  unfold owns
  iintro ⟨H2, ⟨%f3, %h3, H3⟩, ⟨%f4, %h4, H4⟩, ⟨%f5, %h5, H5⟩, ⟨%f6, %h6, H6⟩, ⟨%X7, %f7, %h7, H7⟩, ⟨%X8, %f8, %h8, H8⟩, ⟨%f9, H9⟩, ⟨%f10, H10⟩⟩
  rcases cond_cases i with ⟨hk, hz, hp, hl⟩ | ⟨hk, hk', hz, hp, hl⟩ | ⟨hk, hz, hp, hl⟩
  · iapply (wp_wand_r Idealize.ShloMosaic.frame (wpE (defs₀ (F := F)) Variants.none (c : Thread nD τ) none) Set.univ)
    isplitl [H2 H3 H4 H5 H6 H7 H8 H9 H10]
    · iapply ((runA (F := F) Variants.none c none q2 i arg2 harg2 arg3 harg3 arg4 harg4 arg5 harg5 arg6 harg6 arg7 harg7 arg8 harg8 arg9 harg9 arg10 harg10 X2 f3 f4 f5 f6 f7 f8 f9 f10 hg hz hp hl).2.2 Set.univ)
      unfold PtRes
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · unfold PtRes
      iintro %_ ⟨H2, H3, H4, H5, H6, H7, H8, H9, H10⟩
      isplitl [H2]; · iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iapply (any_of c arg7 _); iexact H7
      isplitl [H8]; · iapply (any_of c arg8 _); iexact H8
      isplitl [H9]; · iexists _; iexact H9
      iexists _; iexact H10
  · iapply (wp_wand_r Idealize.ShloMosaic.frame (wpE (defs₀ (F := F)) Variants.none (c : Thread nD τ) none) Set.univ)
    isplitl [H2 H3 H4 H5 H6 H7 H8 H9 H10]
    · iapply ((runB (F := F) Variants.none c none q2 i arg2 harg2 arg3 harg3 arg4 harg4 arg5 harg5 arg6 harg6 arg7 harg7 arg8 harg8 arg9 harg9 arg10 harg10 X2 f3 f4 f5 f6 f7 f8 f9 f10 hg hz hp hl).2.2 Set.univ)
      unfold PtRes
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · unfold PtRes
      iintro %_ ⟨H2, H3, H4, H5, H6, H7, H8, H9, H10⟩
      isplitl [H2]; · iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iapply (any_of c arg7 _); iexact H7
      isplitl [H8]; · iapply (any_of c arg8 _); iexact H8
      isplitl [H9]; · iexists _; iexact H9
      iexists _; iexact H10
  · iapply (wp_wand_r Idealize.ShloMosaic.frame (wpE (defs₀ (F := F)) Variants.none (c : Thread nD τ) none) Set.univ)
    isplitl [H2 H3 H4 H5 H6 H7 H8 H9 H10]
    · iapply ((runC (F := F) Variants.none c none q2 i arg2 harg2 arg3 harg3 arg4 harg4 arg5 harg5 arg6 harg6 arg7 harg7 arg8 harg8 arg9 harg9 arg10 harg10 X2 f3 f4 f5 f6 f7 f8 f9 f10 hg hz hp hl).2.2.2.2 Set.univ)
      unfold PtRes
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · unfold PtRes
      iintro %_ ⟨H2, H3, H4, H5, H6, H7, H8, H9, H10⟩
      isplitl [H2]; · iexact H2
      isplitl [H3]; · iexists f3; isplitr; · ipureintro; exact h3
                      iexact H3
      isplitl [H4]; · iexists f4; isplitr; · ipureintro; exact h4
                      iexact H4
      isplitl [H5]; · iexists f5; isplitr; · ipureintro; exact h5
                      iexact H5
      isplitl [H6]; · iexists f6; isplitr; · ipureintro; exact h6
                      iexact H6
      isplitl [H7]; · iapply (any_of c arg7 _); iexact H7
      isplitl [H8]; · iapply (any_of c arg8 _); iexact H8
      isplitl [H9]; · iexists _; iexact H9
      iexists _; iexact H10

variable (m : (ℓ : Loc nD τ sig) → Buf (Elt F) ℓ) (ρ : Dev nD → PrngReg)

/-- Which windows' contents are forgotten: the outputs. -/
def fgt : Fin 6 → Bool := fun w => w == 4 || w == 5

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
    | ⟨5, _⟩ => fun _ => Classical.arbitrary _
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := rfl
theorem before_0 (c : Dev nD) (t : Fin (cfgM m).N) (d) : (dats m 0 c).before 0 t d = iblk m c 0 t :=
  before_0_of m (dats m 0 c) (A_eq m c 0) (after_0 m c) t d
theorem after_1 (c : Dev nD) (t : Fin (cfgM m).N) : (dats m 0 c).after 1 t = iblk m c 1 t := rfl
theorem before_1 (c : Dev nD) (t : Fin (cfgM m).N) (d) : (dats m 0 c).before 1 t d = iblk m c 1 t :=
  before_1_of m (dats m 0 c) (A_eq m c 1) (after_1 m c) t d
theorem after_2 (c : Dev nD) (t : Fin (cfgM m).N) : (dats m 0 c).after 2 t = iblk m c 2 t := rfl
theorem before_2 (c : Dev nD) (t : Fin (cfgM m).N) (d) : (dats m 0 c).before 2 t d = iblk m c 2 t :=
  before_2_of m (dats m 0 c) (A_eq m c 2) (after_2 m c) t d
theorem after_3 (c : Dev nD) (t : Fin (cfgM m).N) : (dats m 0 c).after 3 t = iblk m c 3 t := rfl
theorem before_3 (c : Dev nD) (t : Fin (cfgM m).N) (d) : (dats m 0 c).before 3 t d = iblk m c 3 t :=
  before_3_of m (dats m 0 c) (A_eq m c 3) (after_3 m c) t d

def bodyPre (c : Dev nD) (t : Fin (cfgM m).N) : sProp 𝕄G :=
  iprop((dats m 0 c).Φ t.castSucc ∗ (dats m 0 c).owesAt () t.castSucc
    ∗ (∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d)) ∗ (∃ d, owns (c : Thread nD τ) (((cfgM m).win 2).stage ((cfgM m).slots t 2)) fullShare ((dats m 0 c).before 2 t d)) ∗ (∃ d, owns (c : Thread nD τ) (((cfgM m).win 3).stage ((cfgM m).slots t 3)) fullShare ((dats m 0 c).before 3 t d))
    ∗ (∃ X, owns (c : Thread nD τ) (((cfgM m).win 4).stage ((cfgM m).slots t 4)) fullShare X) ∗ (∃ X, owns (c : Thread nD τ) (((cfgM m).win 5).stage ((cfgM m).slots t 5)) fullShare X))

def bodyPost (c : Dev nD) (t : Fin (cfgM m).N) : sProp 𝕄G :=
  iprop((dats m 0 c).Φ t.succ ∗ (dats m 0 c).owesAt () t.succ
    ∗ owns (c : Thread nD τ) (((cfgM m).win 0).stage ((cfgM m).slots t 0)) fullShare ((dats m 0 c).after 0 t) ∗ owns (c : Thread nD τ) (((cfgM m).win 1).stage ((cfgM m).slots t 1)) fullShare ((dats m 0 c).after 1 t) ∗ owns (c : Thread nD τ) (((cfgM m).win 2).stage ((cfgM m).slots t 2)) fullShare ((dats m 0 c).after 2 t) ∗ owns (c : Thread nD τ) (((cfgM m).win 3).stage ((cfgM m).slots t 3)) fullShare ((dats m 0 c).after 3 t)
    ∗ (∃ X, owns (c : Thread nD τ) (((cfgM m).win 4).stage ((cfgM m).slots t 4)) fullShare X) ∗ (∃ X, owns (c : Thread nD τ) (((cfgM m).win 5).stage ((cfgM m).slots t 5)) fullShare X))

theorem sound_body (hO : TbOK m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, after_0, after_1, after_2, after_3]
  rw [show (dats m 0 c).Φ t.succ = iprop(Pipeline.ΦA spec0 c ∗ Pipeline.ΦT pre0 (tbl m) c) from rfl,
    show (dats m 0 c).Φ t.castSucc = iprop(Pipeline.ΦA spec0 c ∗ Pipeline.ΦT pre0 (tbl m) c) from rfl,
    show (dats m 0 c).owesAt () t.succ = (dats m 0 c).owesAt () t.castSucc from rfl, PhiT_eq]
  unfold Pipeline.ΦA
  rw [scopedRest0_eq]
  iintro ⟨⟨⟨⟨⟨%f9, H9⟩, ⟨%f10, H10⟩⟩, Hr⟩, H2⟩, Ho, ⟨%d0, H3⟩, ⟨%d1, H4⟩, ⟨%d2, H5⟩, ⟨%d3, H6⟩, H7, H8⟩
  iapply (wp_wand_r Idealize.ShloMosaic.frame (wpE (defs₀ (F := F)) Variants.none (c : Thread nD τ) none) Set.univ)
  isplitl [H2 H3 H4 H5 H6 H7 H8 H9 H10]
  · iapply (sound_point (F := F) c fullShare.right _ _ _ _ _ _ _ _ _ _ _ _ _ _ _ _ _ _ _ (tbW m) hO (iblk m c 0 t) (iblk m c 1 t) (iblk m c 2 t) (iblk m c 3 t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists f9; rw [show (Memref.whole cc0_scratch0).view.set = Finset.univ from View.set_whole _]; iexact H9
    iexists f10; rw [show (Memref.whole cc0_scratch1).view.set = Finset.univ from View.set_whole _]; iexact H10
  · iintro %_ ⟨H2, H3, H4, H5, H6, H7, H8, ⟨%g9, H9⟩, ⟨%g10, H10⟩⟩
    isplitl [H2 H9 H10 Hr]
    · isplitr [H2]
      · isplitr [Hr]
        · isplitl [H9]
          · iexists g9; rw [show (Memref.whole cc0_scratch0).view.set = Finset.univ from View.set_whole _]; iexact H9
          · iexists g10; rw [show (Memref.whole cc0_scratch1).view.set = Finset.univ from View.set_whole _]; iexact H10
        iexact Hr
      iexact H2
    isplitl [Ho]; · iexact Ho
    isplitl [H3]; · iexact H3
    isplitl [H4]; · iexact H4
    isplitl [H5]; · iexact H5
    isplitl [H6]; · iexact H6
    isplitl [H7]; · iexact H7
    iexact H8

theorem body_obligation (hO : TbOK m) (c : Dev nD) : BodyObligationLoose (dats (F := F) m 0 c) (defs₀ (F := F)) Variants.none () Set.univ fgt := fun t => by
  rw [bigSep_W0, bigSep_W0, defs₀_row]
  exact triple_restated (sound_body m hO c t) rfl .rfl fun _ => .rfl

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)

set_option backward.isDefEq.respectTransparency.types false in
/-- The run of the whole program: the outputs' arrays at some contents, every other buffer as the launch leaves it, every counter zero. -/
theorem run_main (hO : TbOK m) : θ_run defs (onTc (τ := τ) (main (F := F))) (s₀ m ρ) (fun r => Pipeline.RDat.FramePost (cfgM m) (fun c => (dats m 0 c).toRForget fgt) (V m) r ∧ r.2.sem = fun _ => 0) :=
  Pipeline.θ_run_frameP_forget (Q' := _) pcfgs (adms m) (dats m) (0 : Fin 1) launch0 defs₀ Variants.none fgt m ρ main
    (hbody := body_obligation m hO) (hshare := fun c => (dats m 0 c).share_full fun _ => rfl)
    (howed := fun _ _ => rfl) (V := V m) (hmain := hmain m Variants.none) (hA := A_eq m) (hpf := V_pre m) (hΦ := fun _ _ => rfl)

/-- The frame, from the table's words being group indices. -/
theorem frame (hO : TbOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 rest_arg0).trans (V_main_arg0 m c), ((h.1 c).2 main_arg1 rest_arg1).trans (V_main_arg1 m c), ((h.1 c).2 main_arg2 rest_arg2).trans (V_main_arg2 m c), ((h.1 c).2 main_arg3 rest_arg3).trans (V_main_arg3 m c), ((h.1 c).2 main_arg4 rest_arg4).trans (V_main_arg4 m c)⟩, h.2⟩) (run_main m ρ hO)

end Cert.Proof.KernelIdeal

end
-- ==== Proof.InRange.lean ====
/- What the frames' precondition says of the group table: every entry is below 128. -/
module

public import proofs.«01_k».proof.Pre_in_range
public import Idealize.ShloMosaic.Lib.StableHlo.Predicate

@[expose] public section

noncomputable section

namespace Cert.Proof.InRange

open Idealize.ShloMosaic Cert.Pre_in_range

variable [Cert.Pre_in_range.Facts]

theorem andi_one (a b : BitVec 1) (h : IntOp.andi a b = 1#1) : a = 1#1 ∧ b = 1#1 := by
  revert h; revert a b; decide

theorem lt_128 {F : FTy → Type} [FloatOps F] {x : FVec F S3072x1x16384 .bf16} {q : IVec S8192x18432 8}
    {s : FVec F S128x18432 .bf16} {z : IVec S64x18432 8} {g : IVec S16384 32}
    (h : fn (F := F) x q s z g = fun _ => 1#1) (j : S16384.Idx) : (g j).toNat < 128 := by
  have e := congrFun h j
  have e' : IntOp.andi (IntOp.cmpi .sge (g j) 0#32) (IntOp.cmpi .slt (g j) 128#32) = 1#1 := by
    refine Eq.trans ?_ e
    unfold fn
    simp only [andi, cmpi]
    rw [StableHlo.Predicate.bcast_scalar _ (by decide), StableHlo.Predicate.bcast_scalar _ (by decide)]
    rfl
  obtain ⟨h1, h2⟩ := andi_one _ _ e'
  unfold IntOp.cmpi at h1 h2
  have a1 : (0 : Int) ≤ (g j).toInt := by
    rw [StableHlo.Predicate.ofBool_eq_one_iff] at h1; simpa [BitVec.sle] using h1
  have a2 : (g j).toInt < 128 := by
    have : BitVec.slt (g j) 128#32 = true := by rw [StableHlo.Predicate.ofBool_eq_one_iff] at h2; exact h2
    simpa [BitVec.slt] using this
  rw [BitVec.toInt_eq_toNat_cond] at a1 a2
  have := (g j).isLt
  split at a1 <;> omega

end Cert.Proof.InRange

end
-- ==== Proof.Balanced.lean ====
module

public import proofs.«01_k».proof.Pre_balanced
public import Idealize.ShloMosaic.Lib.StableHlo.Predicate
public import Idealize.ShloMosaic.Lib.SortFacts

/-! What the precondition says of the group table: sorted, position `k` holds group `k / 128`.  Hence every entry is
    below 128, and the sorting permutation `perm` satisfies `g (perm k) = k / 128`. -/

@[expose] public section

noncomputable section

namespace Cert.Proof.Balanced

open Idealize.ShloMosaic Cert.Pre_balanced

variable [Cert.Pre_balanced.Facts]

/-- Position `k` of the vector. -/
abbrev at1 (k : Fin 16384) : S16384.Idx := Shape.Idx.ofFin k

/-- The stable sort's permutation: the position whose entry lands at `k`. -/
def perm (g : IVec S16384 32) : Fin 16384 → Fin 16384 :=
  sortedFrom (fun k k' => IntOp.cmpi .slt (g (at1 k)) (g (at1 k')) == 1#1)

theorem perm_bijective (g : IVec S16384 32) : Function.Bijective (perm g) :=
  ⟨sortedFrom_injective _, sortedFrom_surjective _⟩

theorem along_at1 (h : 0 < S16384.rank) (k k' : Fin 16384) : Shape.Idx.along (s := S16384) (at1 k) ⟨0, h⟩ k' = at1 k' := by
  funext b; have hb : b = 0 := Subsingleton.elim _ _; subst hb; exact Function.update_self _ _ _

theorem argsort_apply {F : FTy → Type} [FloatOps F] (g : IVec S16384 32) (k : Fin 16384) :
    fn_argsort (F := F) g (at1 k) = BitVec.ofNat 32 (perm g k).val := by
  have h0 : 0 < S16384.rank := by decide
  have e1 : ∀ p : Fin 16384, iotaInDim S16384 32 0 (Shape.Idx.along (s := S16384) (at1 k) ⟨0, h0⟩ p) = BitVec.ofNat 32 p.val :=
    fun p => (congrArg (iotaInDim S16384 32 0) (along_at1 h0 k p)).trans (StableHlo.Predicate.iota_apply p)
  unfold fn_argsort Host.sort2
  simp only []
  rw [dif_pos h0]
  refine (e1 _).trans ?_
  have e2 : (fun a b : Fin 16384 => comparator_i32_i32_d0 (g (Shape.Idx.along (s := S16384) (at1 k) ⟨0, h0⟩ a), iotaInDim S16384 32 0 (Shape.Idx.along (s := S16384) (at1 k) ⟨0, h0⟩ a))
      (g (Shape.Idx.along (s := S16384) (at1 k) ⟨0, h0⟩ b), iotaInDim S16384 32 0 (Shape.Idx.along (s := S16384) (at1 k) ⟨0, h0⟩ b)) == 1#1)
      = (fun k k' => IntOp.cmpi .slt (g (at1 k)) (g (at1 k')) == 1#1) := by
    funext a b
    rw [along_at1, along_at1]; rfl
  exact congrArg (fun B : Fin 16384 → Fin 16384 → Bool => BitVec.ofNat 32 (sortedFrom B k).val) e2

theorem toNat_of_small (n : Nat) (h : n < 16384) : (BitVec.ofNat 32 n).toInt.toNat = n := by
  have e : (BitVec.ofNat 32 n).toNat = n := by rw [BitVec.toNat_ofNat]; omega
  rw [StableHlo.Predicate.toInt_eq_toNat_of_lt (by rw [e]; omega), e]; rfl

theorem take_apply {F : FTy → Type} [FloatOps F] (g : IVec S16384 32) (k : Fin 16384) :
    fn_take (F := F) g (fn_argsort (F := F) g) (at1 k) = g (at1 (perm g k)) := by
  unfold fn_take
  simp only []
  refine (StableHlo.Predicate.gather_take gather_S16384_S16384x1_S16384_n_0_n_n_0_1_1 rfl rfl rfl rfl _ _ k (by omega)).trans ?_
  refine congrArg (fun p => g (at1 p)) (Fin.ext ?_)
  show min (BitVec.toInt _).toNat 16383 = _
  rw [StableHlo.Predicate.bcast_col1, argsort_apply, toNat_of_small _ (perm g k).isLt]
  have := (perm g k).isLt
  omega

/-- The precondition, read: the sorted table is 128 zeros, 128 ones, … -/
theorem perm_spec {F : FTy → Type} [FloatOps F] {x : FVec F S3072x1x16384 .bf16} {q : IVec S8192x18432 8}
    {s : FVec F S128x18432 .bf16} {z : IVec S64x18432 8} {g : IVec S16384 32}
    (h : fn (F := F) x q s z g = fun _ => 1#1) (k : Fin 16384) : (g (at1 (perm g k))).toNat = k.val / 128 := by
  have e := congrFun h (at1 k)
  simp only [fn, cmpi, StableHlo.Predicate.cmpi_eq_iff] at e
  rw [take_apply] at e
  rw [e]
  have hk := k.isLt
  show (Host.divsi (iotaInDim S16384 32 0) (broadcastInDim S16384 ![] _ (constantI S_ 32 128#32)) (at1 k)).toNat = _
  unfold Host.divsi
  rw [StableHlo.Predicate.bcast_scalar _ (by decide)]
  show (IntOp.divsi _ (iotaInDim S16384 32 0 (at1 k)) 128#32).toNat = _
  rw [StableHlo.Predicate.iota_apply]
  have hcorner : ¬ IntOp.SDivCorner (BitVec.ofNat 32 k.val) 128#32 := by
    intro hc; rcases hc with hc | ⟨_, hc⟩ <;> exact absurd hc (by decide)
  have hn : (BitVec.ofNat 32 k.val).toNat = k.val := by rw [BitVec.toNat_ofNat]; omega
  have hm : (BitVec.ofNat 32 k.val).msb = false := BitVec.msb_eq_false_iff_two_mul_lt.mpr (by rw [hn]; omega)
  simp only [IntOp.divsi, if_neg hcorner, BitVec.sdiv_eq, hm, show (128#32 : BitVec 32).msb = false from by decide, BitVec.udiv_eq,
    BitVec.toNat_udiv, hn]
  rfl

theorem lt_128 {F : FTy → Type} [FloatOps F] {x : FVec F S3072x1x16384 .bf16} {q : IVec S8192x18432 8}
    {s : FVec F S128x18432 .bf16} {z : IVec S64x18432 8} {g : IVec S16384 32}
    (h : fn (F := F) x q s z g = fun _ => 1#1) (j : S16384.Idx) : (g j).toNat < 128 := by
  obtain ⟨k, hk⟩ := (perm_bijective g).2 (j 0)
  have e := perm_spec h k
  have : at1 (perm g k) = j := by
    rw [hk]; funext b; have hb : b = 0 := Subsingleton.elim _ _; subst hb; rfl
  rw [this] at e
  rw [e]; have := k.isLt; omega

end Cert.Proof.Balanced

end
-- ==== Proof.KernelIdeal.Deq.lean ====
/- One dequantisation payload read at an element: a code less its zero point, times its scale. -/
module

public import proofs.«01_k».proof.Proof.KernelIdeal.Trip
public import Idealize.ShloMosaic.PureOps.Ideal
public import Idealize.ShloMosaic.Lib.BitcastFour
public import Idealize.ShloMosaic.Lib.Pipeline.Value
public import Idealize.ShloMosaic.Lib.Pointwise.Tactic

@[expose] public section

set_option maxRecDepth 16384
set_option maxHeartbeats 400000

noncomputable section

namespace Cert.Proof.KernelIdeal

open Cert.KernelIdeal Cert.KernelIdeal.Gen
open Idealize.ShloMosaic Idealize.ShloMosaic.TcCoe

/-- The words of one block of packed codes: four rows of bytes to a row of words. -/
def qWords (B : IVec S1x8x32x128 8) : IVec S8x8x128 32 :=
  bitcast S8x8x128 32 (shapeCast S8x32x128 B shapeCasts_S1x8x32x128_S8x32x128) bitcasts_S8x32x128_w8_S8x8x128_w32

/-- A row of words spread out: the two codes of byte `j` as the two halves of a word, each half a bf16 pattern. -/
def codeWords (q : IVec S8x128 32) (sh : BitVec 32) : IVec S8x128 32 :=
  ori (ori (andi (shrui q (broadcast S8x128 sh)) (broadcast S8x128 15#32))
    (andi (shli (shrui q (broadcast S8x128 sh)) (broadcast S8x128 12#32)) (broadcast S8x128 983040#32))) (broadcast S8x128 1124090624#32)

/-- The payload of one store: codes less zero points, times scales, two rows of weights to a row of codes. -/
def deqPay (c : IVec S8x128 32) (za zb sa sb : FVec Ideal S8x128 .bf16) : FVec Ideal S8x2x128 .bf16 :=
  interleaveRows S8x2x128
    (shapeCast S8x1x128 (rowsOfParity 0 S8x128 (mulf (subf (bitcastToFloat .bf16 (bitcast S16x128 16 c bitcasts_S8x128_w32_S16x128_w16))
      (interleaveRows S16x128 za zb bitcasts_S16x128_w16_S8x128_w32)) (interleaveRows S16x128 sa sb bitcasts_S16x128_w16_S8x128_w32)) bitcasts_S16x128_w16_S8x128_w32) shapeCasts_S8x128_S8x1x128)
    (shapeCast S8x1x128 (rowsOfParity 1 S8x128 (mulf (subf (bitcastToFloat .bf16 (bitcast S16x128 16 c bitcasts_S8x128_w32_S16x128_w16))
      (interleaveRows S16x128 za zb bitcasts_S16x128_w16_S8x128_w32)) (interleaveRows S16x128 sa sb bitcasts_S16x128_w16_S8x128_w32)) bitcasts_S16x128_w16_S8x128_w32) shapeCasts_S8x128_S8x1x128)
    bitcasts_S8x2x128_w16_S8x1x128_w32

/-- Bit `q` of the word at row `s` is bit `q % 8` of byte row `4 s + q / 8`. -/
theorem qWords_bit (B : IVec S1x8x32x128 8) (a : Fin 8) (s : Fin 8) (l : Fin 128) (q : Nat) (hq : q < 32) :
    (qWords B (ix3 a s l)).getLsbD q = (B (ix4 0 a ⟨4 * s.val + q / 8, by have := s.isLt; omega⟩ l)).getLsbD (q % 8) := by
  unfold qWords
  rw [bitcast_8_32_getLsbD _ _ _ q hq]
  congr 1
  refine shapeCast_apply _ _ _ _ ?_
  have := s.isLt
  have := a.isLt
  have := l.isLt
  rw [Shape.rowMajor_val_four, Shape.rowMajor_val_three]
  show ((0 * 8 + a.val) * 32 + (4 * s.val + q / 8)) * 128 + l.val = (a.val * 32 + (4 * s.val + q / 8)) * 128 + l.val
  omega

/-- A row of a block's words. -/
theorem qRow (B : IVec S1x8x32x128 8) (s : Fin 8) (h : S8x8x128.Slices ![0, s.val, 0] S8x1x128) (a : Fin 8) (l : Fin 128) :
    shapeCast S8x128 (extractStridedSlice S8x1x128 ![0, s.val, 0] (qWords B) h) shapeCasts_S8x1x128_S8x128 (ix2 a l) = qWords B (ix3 a s l) := by
  refine (shapeCast_apply _ _ _ (ix3 a 0 l : S8x1x128.Idx) ?_).trans (extractStridedSlice_apply _ _ _ _ _ ?_)
  · rw [Shape.rowMajor_val_two, Shape.rowMajor_val_three]
    show (a.val * 1 + 0) * 128 + l.val = a.val * 128 + l.val
    omega
  · intro c
    match c with
    | ⟨0, _⟩ => simp
    | ⟨1, _⟩ => simp
    | ⟨2, _⟩ => simp

/-- The two codes of a byte: its low four bits, its high four bits. -/
def nib (b : BitVec 8) (h : Nat) : Nat := b.toNat / 16 ^ h % 16

theorem ofBits_code (v : BitVec 16) (hv : v.toNat < 16) : Ideal.ofBits .bf16 (0x4300#16 ||| v) = ((128 + (v.toNat : ℝ) : ℝ) : EReal) := by
  obtain ⟨n, hn, rfl⟩ : ∃ n, n < 16 ∧ v = BitVec.ofNat 16 n := ⟨v.toNat, hv, by simp⟩
  interval_cases n <;> (simp [Ideal.ofBits, Ideal.ieee, -EReal.coe_mul, -EReal.coe_add]; try norm_num)

theorem codeHalf_byte : ∀ (b : BitVec 8) (h : Fin 2),
    (((b.setWidth 32 &&& 15#32) ||| ((b.setWidth 32 <<< 12) &&& 983040#32)) ||| 1124090624#32).extractLsb' (16 * h.val) 16
      = 0x4300#16 ||| BitVec.ofNat 16 (nib b h.val) := by
  decide +kernel

/-- Half `h` of a spread word: the pattern of 128 with code `h` of byte `j` in its low bits. -/
theorem codeHalf (t : BitVec 32) (b : BitVec 8) (h : Fin 2) (hb : ∀ i, i < 8 → t.getLsbD i = b.getLsbD i) :
    (((t &&& 15#32) ||| ((t <<< 12) &&& 983040#32)) ||| 1124090624#32).extractLsb' (16 * h.val) 16
      = 0x4300#16 ||| BitVec.ofNat 16 (nib b h.val) := by
  have e : t &&& 255#32 = b.setWidth 32 := by
    apply BitVec.eq_of_getLsbD_eq
    intro i hi
    have h255 : (255#32 : BitVec 32).getLsbD i = decide (i < 8) := by
      interval_cases i <;> rfl
    rw [BitVec.getLsbD_and, h255, BitVec.getLsbD_setWidth]
    by_cases h8 : i < 8
    · rw [hb i h8]; simp [h8, hi]
    · simp [h8, BitVec.getLsbD_of_ge b i (by omega)]
  rw [← codeHalf_byte, ← e]
  congr 2
  have e1 : t &&& 255#32 &&& 15#32 = t &&& 15#32 := by rw [BitVec.and_assoc]; rfl
  have e2 : ((t &&& 255#32) <<< 12) &&& 983040#32 = (t <<< 12) &&& 983040#32 := by
    rw [BitVec.shiftLeft_and_distrib, BitVec.and_assoc]; rfl
  rw [e1, e2]

theorem nib_lt (b : BitVec 8) (h : Nat) : nib b h < 16 := Nat.mod_lt _ (by norm_num)

theorem codeWords_at (q : IVec S8x128 32) (sh : BitVec 32) (x : S8x128.Idx) :
    codeWords q sh x = ((IntOp.shrui .vector (q x) sh &&& 15#32) ||| (IntOp.shli .vector (IntOp.shrui .vector (q x) sh) 12#32 &&& 983040#32)) ||| 1124090624#32 := rfl

/-- A spread word's half as a number. -/
theorem codeWords_apply (B : IVec S1x8x32x128 8) (s : Fin 8) (j : Fin 4) (hs : S8x8x128.Slices ![0, s.val, 0] S8x1x128) (a : Fin 8) (h : Fin 2) (l : Fin 128) :
    bitcastToFloat (F := Ideal) .bf16 (bitcast S16x128 16 (codeWords (shapeCast S8x128 (extractStridedSlice S8x1x128 ![0, s.val, 0] (qWords B) hs) shapeCasts_S8x1x128_S8x128)
      (BitVec.ofNat 32 (8 * j.val))) bitcasts_S8x128_w32_S16x128_w16) (ix2 ⟨2 * a.val + h.val, by have := a.isLt; have := h.isLt; omega⟩ l)
      = ((128 + (nib (B (ix4 0 a ⟨4 * s.val + j.val, by have := s.isLt; have := j.isLt; omega⟩ l)) h.val : ℝ) : ℝ) : EReal) := by
  rw [bitcastToFloat_apply, bitcast_32_16]
  have e : bitcasts_S8x128_w32_S16x128_w16.srcIdx (ix2 ⟨2 * a.val + h.val, by have := a.isLt; have := h.isLt; omega⟩ l : S16x128.Idx) (S16x128.row (ix2 ⟨2 * a.val + h.val, by have := a.isLt; have := h.isLt; omega⟩ l) / 2) (fun c hc => by
        have := bitcasts_S8x128_w32_S16x128_w16.pos_lt (ix2 ⟨2 * a.val + h.val, by have := a.isLt; have := h.isLt; omega⟩ l : S16x128.Idx) 0 (by decide) c hc; omega) = ix2 a l := by
    funext c
    have hr : S16x128.row (ix2 ⟨2 * a.val + h.val, by have := a.isLt; have := h.isLt; omega⟩ l) = 2 * a.val + h.val := rfl
    match c with
    | ⟨0, _⟩ => exact Fin.ext ((Shape.Bitcasts.srcIdx_row _ _ _ _ ⟨0, Nat.zero_lt_two⟩ rfl).trans (by rw [hr]; have := h.isLt; show _ = a.val; omega))
    | ⟨1, _⟩ => exact Fin.ext (Shape.Bitcasts.srcIdx_other _ _ _ _ ⟨1, Nat.one_lt_two⟩ (by show ¬ 1 + 2 = 2; omega))
  rw [e]
  have hr : S16x128.row (ix2 ⟨2 * a.val + h.val, by have := a.isLt; have := h.isLt; omega⟩ l) % 2 = h.val := by
    show (2 * a.val + h.val) % 2 = h.val
    have := h.isLt; omega
  rw [hr]
  have ew : codeWords (shapeCast S8x128 (extractStridedSlice S8x1x128 ![0, s.val, 0] (qWords B) hs) shapeCasts_S8x1x128_S8x128) (BitVec.ofNat 32 (8 * j.val)) (ix2 a l)
      = (((qWords B (ix3 a s l) >>> (8 * j.val)) &&& 15#32) ||| (((qWords B (ix3 a s l) >>> (8 * j.val)) <<< 12) &&& 983040#32)) ||| 1124090624#32 := by
    rw [codeWords_at, qRow]
    have hj := j.isLt
    rw [IntOp.shrui, if_pos (by rw [BitVec.toNat_ofNat]; omega), IntOp.shli, if_pos (by decide)]
    rw [BitVec.ushiftRight_eq', BitVec.shiftLeft_eq', BitVec.toNat_ofNat, Nat.mod_eq_of_lt (by omega : 8 * j.val < 2 ^ 32)]
    rfl
  rw [ew, codeHalf _ (B (ix4 0 a ⟨4 * s.val + j.val, by have := s.isLt; have := j.isLt; omega⟩ l)) h]
  · have hn := nib_lt (B (ix4 0 a ⟨4 * s.val + j.val, by have := s.isLt; have := j.isLt; omega⟩ l)) h.val
    show Ideal.ofBits .bf16 _ = _
    rw [ofBits_code _ (by rw [BitVec.toNat_ofNat]; omega), BitVec.toNat_ofNat, Nat.mod_eq_of_lt (by omega)]
  · intro i hi
    have hj := j.isLt
    rw [BitVec.getLsbD_ushiftRight, qWords_bit _ _ _ _ _ (by omega)]
    have e1 : (8 * j.val + i) / 8 = j.val := by omega
    have e2 : (8 * j.val + i) % 8 = i := by omega
    simp only [e1, e2]

theorem shapeCast_mid {α : Type} (x : S8x128.Idx → α) (h : S8x128.ShapeCasts S8x1x128) (a : Fin 8) (l : Fin 128) :
    shapeCast S8x1x128 x h (ix3 a 0 l) = x (ix2 a l) := by
  refine shapeCast_apply _ _ _ _ ?_
  rw [Shape.rowMajor_val_two, Shape.rowMajor_val_three]
  show a.val * 128 + l.val = (a.val * 1 + 0) * 128 + l.val
  omega

theorem shapeCast_flat {α : Type} (x : S1x1x8x128.Idx → α) (h : S1x1x8x128.ShapeCasts S8x128) (a : Fin 8) (l : Fin 128) :
    shapeCast S8x128 x h (ix2 a l) = x (ix4 0 0 a l) := by
  refine shapeCast_apply _ _ _ _ ?_
  rw [Shape.rowMajor_val_two, Shape.rowMajor_val_four]
  show ((0 * 1 + 0) * 8 + a.val) * 128 + l.val = a.val * 128 + l.val
  omega

/-- A stored weight: its code's number less the zero point, times the scale. -/
theorem deqPay_apply (c : IVec S8x128 32) (za zb sa sb : FVec Ideal S8x128 .bf16) (a : Fin 8) (h : Fin 2) (l : Fin 128) :
    deqPay c za zb sa sb (ix3 a h l) = (bitcastToFloat (F := Ideal) .bf16 (bitcast S16x128 16 c bitcasts_S8x128_w32_S16x128_w16) (ix2 ⟨2 * a.val + h.val, by have := a.isLt; have := h.isLt; omega⟩ l)
      - (if h = 0 then za else zb) (ix2 a l)) * (if h = 0 then sa else sb) (ix2 a l) := by
  unfold deqPay
  match h with
  | 0 =>
    pointwise
    rw [shapeCast_mid]
    pointwise
    have e : 2 * a.val % 2 = 0 := by omega
    have e' : 2 * a.val / 2 = a.val := by omega
    simp only [e, e', if_true]
  | 1 =>
    pointwise
    rw [shapeCast_mid]
    pointwise
    have e : ¬ (2 * a.val + 1) % 2 = 0 := by omega
    have e' : (2 * a.val + 1) / 2 = a.val := by omega
    simp only [e, e', if_false]

/-- The weight scratch after one grid point's dequantisation, as a function of the words of group numbers `T`, the block
    of packed codes `B` and the tables of scales `Sc` and zero points `Z`: plane `a`, row `r`, parity `h`, lane `l`. -/
def wScr (T : S16384.Idx → BitVec 32) (B : S16x8x32x128.Idx → BitVec 8) (Sc Z : S128x1x8x128.Idx → EReal) (kk : Fin 16) (a : Fin 8) (r : Fin 512) (h : Fin 2) (l : Fin 128) : EReal :=
  let g : Fin 128 := ⟨(T (ix1 ⟨1024 * kk.val + 2 * r.val + h.val, by have := kk.isLt; have := r.isLt; have := h.isLt; omega⟩)).toNat % 128, Nat.mod_lt _ (by norm_num)⟩
  (((128 + (nib (B (ix4 ⟨r.val / 32, by have := r.isLt; omega⟩ a ⟨r.val % 32, Nat.mod_lt _ (by norm_num)⟩ l)) h.val : ℝ) : ℝ) : EReal)
    - Z (ix4 g 0 a l)) * Sc (ix4 g 0 a l)

/-- The same by the scratch's own index: planes are 516 rows apart, of which 512 are used. -/
def wAt (T : S16384.Idx → BitVec 32) (B : S16x8x32x128.Idx → BitVec 8) (Sc Z : S128x1x8x128.Idx → EReal) (kk : Fin 16) (y : S4128x2x128.Idx) : EReal :=
  wScr T B Sc Z kk ⟨(y 0).val / 516, by have h : (y 0).val < 4128 := (y 0).isLt; omega⟩ ⟨(y 0).val % 516 % 512, Nat.mod_lt _ (by norm_num)⟩ (y 1) (y 2)

end Cert.Proof.KernelIdeal

end
-- ==== Proof.KernelIdeal.Scratch.lean ====
/- What the dequantisation loop leaves in the weight scratch, every store read against one function. -/
module

public import proofs.«01_k».proof.Proof.KernelIdeal.Deq
public import proofs.«01_k».proof.Proof.KernelIdeal.Loop
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The word a load of one element at an offset reads. -/
abbrev tw (arg2 : Memref sig .tc .smem S16384 .i32) (X2 : BufTy.Contents (Elt Ideal) arg2.view.ty) (o : Fin 1 → Nat) (h : ∀ a, o a + S1.size a ≤ S16384.size a) : BitVec 32 :=
  arg2.view.readAt (Elt Ideal) (Rect.unit (s := S16384) o S1.size h).toLoadRect X2 (Shape.Idx.first (Nat.lt_of_lt_of_eq Nat.zero_lt_one numel1_S1.symm))

theorem tw_eq (arg2 : Memref sig .tc .smem S16384 .i32) (X2 : BufTy.Contents (Elt Ideal) arg2.view.ty) (o : Fin 1 → Nat) (h : ∀ a, o a + S1.size a ≤ S16384.size a) (n : Nat) (hn : n < 16384) (ho : o = ![n]) :
    tw arg2 X2 o h = arg2.view.read (Elt Ideal) X2 (ix1 ⟨n, hn⟩) := by
  subst ho
  show arg2.view.read (Elt Ideal) X2 _ = _
  congr 1
  funext a
  match a with
  | ⟨0, _⟩ => exact Fin.ext (by show n + 1 * 0 = n; omega)

/-- A row of a table loaded through a word. -/
theorem tab_apply (arg : Memref sig .tc .vmem S128x1x8x128 .bf16) (Xa : BufTy.Contents (Elt Ideal) arg.view.ty) (o : Fin 4 → Nat)
    (h : ∀ a, o a + S1x1x8x128.size a ≤ S128x1x8x128.size a) (g : Fin 128) (ho : o = ![g.val, 0, 0, 0]) (a : Fin 8) (l : Fin 128) :
    shapeCast S8x128 (arg.view.readAt (Elt Ideal) (Rect.unit (s := S128x1x8x128) o S1x1x8x128.size h).toLoadRect Xa) shapeCasts_S1x1x8x128_S8x128 (ix2 a l)
      = arg.view.read (Elt Ideal) Xa (ix4 g 0 a l) := by
  subst ho
  rw [shapeCast_flat]
  show arg.view.read (Elt Ideal) Xa _ = _
  congr 1
  funext c
  match c with
  | ⟨0, _⟩ => exact Fin.ext (by show g.val + 1 * 0 = g.val; omega)
  | ⟨1, _⟩ => exact Fin.ext (by show 0 + 1 * 0 = 0; omega)
  | ⟨2, _⟩ => exact Fin.ext (by show 0 + 1 * a.val = a.val; omega)
  | ⟨3, _⟩ => exact Fin.ext (by show 0 + 1 * l.val = l.val; omega)

/-- A block of packed codes loaded through the loop's offset. -/
theorem blk_apply (arg4 : Memref sig .tc .vmem S16x8x32x128 .i8) (X4 : BufTy.Contents (Elt Ideal) arg4.view.ty) (o : Fin 4 → Nat)
    (h : ∀ a, o a + S1x8x32x128.size a ≤ S16x8x32x128.size a) (g : Fin 16) (ho : o = ![g.val, 0, 0, 0]) (a : Fin 8) (r : Fin 32) (l : Fin 128) :
    arg4.view.readAt (Elt Ideal) (Rect.unit (s := S16x8x32x128) o S1x8x32x128.size h).toLoadRect X4 (ix4 0 a r l : S1x8x32x128.Idx)
      = arg4.view.read (Elt Ideal) X4 (ix4 g a r l) := by
  subst ho
  show arg4.view.read (Elt Ideal) X4 _ = _
  congr 1
  funext c
  match c with
  | ⟨0, _⟩ => exact Fin.ext (by show g.val + 1 * 0 = g.val; omega)
  | ⟨1, _⟩ => exact Fin.ext (by show 0 + 1 * a.val = a.val; omega)
  | ⟨2, _⟩ => exact Fin.ext (by show 0 + 1 * r.val = r.val; omega)
  | ⟨3, _⟩ => exact Fin.ext (by show 0 + 1 * l.val = l.val; omega)

/-- One store's payload is the scratch function at the places it goes to. -/
theorem piece_ok (i : grid0.Coords) (arg2 : Memref sig .tc .smem S16384 .i32) (arg4 : Memref sig .tc .vmem S16x8x32x128 .i8) (arg5 arg6 : Memref sig .tc .vmem S128x1x8x128 .bf16) (X2 : BufTy.Contents (Elt Ideal) arg2.view.ty) (X4 : BufTy.Contents (Elt Ideal) arg4.view.ty) (X5 : BufTy.Contents (Elt Ideal) arg5.view.ty) (X6 : BufTy.Contents (Elt Ideal) arg6.view.ty)
    (hg : ∀ r x, (arg2.view.readAt (Elt Ideal) r X2 x : BitVec 32).toNat < 128) (k : Fin k0_t1_loop.trips) (s : Fin 8) (j : Fin 4) (hs : S8x8x128.Slices ![0, s.val, 0] S8x1x128)
    (oA : Fin 1 → Nat) (hoA : oA = ![1024 * (i 1).val + 64 * k.val + 2 * (4 * s.val + j.val)]) (iA : ∀ a, oA a + S1.size a ≤ S16384.size a)
    (oB : Fin 1 → Nat) (hoB : oB = ![1024 * (i 1).val + 64 * k.val + (2 * (4 * s.val + j.val) + 1)]) (iB : ∀ a, oB a + S1.size a ≤ S16384.size a)
    (x : S8x2x128.Idx) (y : S4128x2x128.Idx) (hy0 : (y 0).val = 32 * k.val + (4 * s.val + j.val) + 516 * (x 0).val) (hy1 : (y 1).val = (x 1).val) (hy2 : (y 2).val = (x 2).val) :
    deqPay (codeWords (shapeCast S8x128 (extractStridedSlice S8x1x128 ![0, s.val, 0] (qWords (arg4.view.readAt (Elt Ideal) (Rect.unit (s := S16x8x32x128) (k0_off1 k) S1x8x32x128.size (k0_off1_inb k)).toLoadRect X4)) hs) shapeCasts_S8x1x128_S8x128)
      (BitVec.ofNat 32 (8 * j.val)))
      (shapeCast S8x128 (arg6.view.readAt (Elt Ideal) (Rect.unit (s := S128x1x8x128) ![(Scalar.indexCast (tw arg2 X2 oA iA)).toNat, 0, 0, 0] S1x1x8x128.size (chkA _ (hg _ _))).toLoadRect X6) shapeCasts_S1x1x8x128_S8x128)
      (shapeCast S8x128 (arg6.view.readAt (Elt Ideal) (Rect.unit (s := S128x1x8x128) ![(Scalar.indexCast (tw arg2 X2 oB iB)).toNat, 0, 0, 0] S1x1x8x128.size (chkA _ (hg _ _))).toLoadRect X6) shapeCasts_S1x1x8x128_S8x128)
      (shapeCast S8x128 (arg5.view.readAt (Elt Ideal) (Rect.unit (s := S128x1x8x128) ![(Scalar.indexCast (tw arg2 X2 oA iA)).toNat, 0, 0, 0] S1x1x8x128.size (chkA _ (hg _ _))).toLoadRect X5) shapeCasts_S1x1x8x128_S8x128)
      (shapeCast S8x128 (arg5.view.readAt (Elt Ideal) (Rect.unit (s := S128x1x8x128) ![(Scalar.indexCast (tw arg2 X2 oB iB)).toNat, 0, 0, 0] S1x1x8x128.size (chkA _ (hg _ _))).toLoadRect X5) shapeCasts_S1x1x8x128_S8x128) x
    = wAt (arg2.view.read (Elt Ideal) X2) (arg4.view.read (Elt Ideal) X4) (arg5.view.read (Elt Ideal) X5) (arg6.view.read (Elt Ideal) X6) (i 1) y := by
  have hk : k.val < 16 := Nat.lt_of_lt_of_le k.isLt k0_t1_abs.2.1
  have hi : (i 1).val < 16 := (i 1).isLt
  have hs8 := s.isLt
  have hj4 := j.isLt
  obtain ⟨a, h, l, rfl⟩ : ∃ a h l, x = ix3 a h l := ⟨x 0, x 1, x 2, by funext c; match c with | ⟨0, _⟩ => rfl | ⟨1, _⟩ => rfl | ⟨2, _⟩ => rfl⟩
  have ha : a.val < 8 := a.isLt
  have hh : h.val < 2 := h.isLt
  change (y 0).val = 32 * k.val + (4 * s.val + j.val) + 516 * a.val at hy0
  change (y 1).val = h.val at hy1
  change (y 2).val = l.val at hy2
  have e1 : y 1 = h := Fin.ext hy1
  have e2 : y 2 = l := Fin.ext hy2
  have e0 : (y 0).val / 516 = a.val := by omega
  have er : (y 0).val % 516 % 512 = 32 * k.val + (4 * s.val + j.val) := by omega
  have nA : 1024 * (i 1).val + 64 * k.val + 2 * (4 * s.val + j.val) < 16384 := by omega
  have nB : 1024 * (i 1).val + 64 * k.val + (2 * (4 * s.val + j.val) + 1) < 16384 := by omega
  have tA : (tw arg2 X2 oA iA).toNat < 128 := hg _ _
  have tB : (tw arg2 X2 oB iB).toNat < 128 := hg _ _
  have eB := blk_apply arg4 X4 (k0_off1 k) (k0_off1_inb k) ⟨k.val, hk⟩ (k0_off1_eq k) a ⟨4 * s.val + j.val, by omega⟩ l
  have eT : ∀ (n : Nat) (hn : n < 16384), n = 1024 * (i 1).val + 2 * (32 * k.val + (4 * s.val + j.val)) + h.val →
      (arg2.view.read (Elt Ideal) X2 (ix1 ⟨n, hn⟩) : BitVec 32).toNat < 128 →
      ∀ (Xa : S128x1x8x128.Idx → EReal) (v : BitVec 32) (hv : v.toNat < 128), v = arg2.view.read (Elt Ideal) X2 (ix1 ⟨n, hn⟩) →
      Xa (ix4 ⟨v.toNat, hv⟩ 0 a l) = Xa (ix4 ⟨(arg2.view.read (Elt Ideal) X2 (ix1 ⟨1024 * (i 1).val + 2 * ((y 0).val % 516 % 512) + (y 1).val, by rw [er, hy1]; omega⟩) : BitVec 32).toNat % 128, Nat.mod_lt _ (by norm_num)⟩ 0 (⟨(y 0).val / 516, by omega⟩ : Fin 8) (y 2)) := by
    intro n hn en hlt Xa v hv ev
    have ei : (ix1 ⟨1024 * (i 1).val + 2 * ((y 0).val % 516 % 512) + (y 1).val, by rw [er, hy1]; omega⟩ : S16384.Idx) = ix1 ⟨n, hn⟩ := by
      congr 1
      exact Fin.ext (by show 1024 * (i 1).val + 2 * ((y 0).val % 516 % 512) + (y 1).val = n; rw [er, hy1, en])
    subst ev
    congr 1
    funext c
    match c with
    | ⟨0, _⟩ => exact Fin.ext (by show _ = _ % 128; rw [ei]; exact (Nat.mod_eq_of_lt hlt).symm)
    | ⟨1, _⟩ => rfl
    | ⟨2, _⟩ => exact Fin.ext e0.symm
    | ⟨3, _⟩ => exact e2.symm
  have eC : arg4.view.read (Elt Ideal) X4 (ix4 ⟨k.val, hk⟩ a ⟨4 * s.val + j.val, by omega⟩ l)
      = arg4.view.read (Elt Ideal) X4 (ix4 ⟨(y 0).val % 516 % 512 / 32, by omega⟩ ⟨(y 0).val / 516, by omega⟩ ⟨(y 0).val % 516 % 512 % 32, by omega⟩ (y 2)) := by
    congr 1
    funext c
    match c with
    | ⟨0, _⟩ => exact Fin.ext (by show k.val = (y 0).val % 516 % 512 / 32; omega)
    | ⟨1, _⟩ => exact Fin.ext e0.symm
    | ⟨2, _⟩ => exact Fin.ext (by show 4 * s.val + j.val = (y 0).val % 516 % 512 % 32; omega)
    | ⟨3, _⟩ => exact e2.symm
  rw [deqPay_apply, codeWords_apply]
  have wA := tw_eq arg2 X2 oA iA _ nA hoA
  have wB := tw_eq arg2 X2 oB iB _ nB hoB
  have tA' := tA; rw [wA] at tA'
  have tB' := tB; rw [wB] at tB'
  match h, hh, hy1, e1, eT with
  | 0, _, hy1, e1, eT =>
    rw [if_pos rfl, if_pos rfl]
    exact congrArg₂ (fun p q : EReal => p * q) (congrArg₂ (fun p q : EReal => p - q)
      (congrArg₂ (fun (b : BitVec 8) (n : ℕ) => (((128 + (nib b n : ℝ) : ℝ)) : EReal)) (eB.trans eC) hy1.symm)
      ((tab_apply arg6 X6 ![(Scalar.indexCast (tw arg2 X2 oA iA)).toNat, 0, 0, 0] (chkA _ (hg _ _)) ⟨_, tA⟩ rfl a l).trans (eT _ nA (by show _ = _ + 0; omega) tA' (arg6.view.read (Elt Ideal) X6) _ tA wA)))
      ((tab_apply arg5 X5 ![(Scalar.indexCast (tw arg2 X2 oA iA)).toNat, 0, 0, 0] (chkA _ (hg _ _)) ⟨_, tA⟩ rfl a l).trans (eT _ nA (by show _ = _ + 0; omega) tA' (arg5.view.read (Elt Ideal) X5) _ tA wA))
  | 1, _, hy1, e1, eT =>
    rw [if_neg (by decide), if_neg (by decide)]
    exact congrArg₂ (fun p q : EReal => p * q) (congrArg₂ (fun p q : EReal => p - q)
      (congrArg₂ (fun (b : BitVec 8) (n : ℕ) => (((128 + (nib b n : ℝ) : ℝ)) : EReal)) (eB.trans eC) hy1.symm)
      ((tab_apply arg6 X6 ![(Scalar.indexCast (tw arg2 X2 oB iB)).toNat, 0, 0, 0] (chkA _ (hg _ _)) ⟨_, tB⟩ rfl a l).trans (eT _ nB (by show _ = _ + 1; omega) tB' (arg6.view.read (Elt Ideal) X6) _ tB wB)))
      ((tab_apply arg5 X5 ![(Scalar.indexCast (tw arg2 X2 oB iB)).toNat, 0, 0, 0] (chkA _ (hg _ _)) ⟨_, tB⟩ rfl a l).trans (eT _ nB (by show _ = _ + 1; omega) tB' (arg5.view.read (Elt Ideal) X5) _ tB wB))

section Trips

/-- The places one store goes to. -/
theorem emb_store (oS : Fin 3 → Nat) (k jj : Nat) (hoS : oS = ![32 * k, 0, 0]) (iS : ∀ a, oS a + S3644x2x128.size a ≤ S4128x2x128.size a)
    (iW : ∀ a, S8x2x128.size a = 0 ∨ (![jj, 0, 0] : Fin 3 → Nat) a + (![516, 1, 1] : Fin 3 → Nat) a * (S8x2x128.size a - 1) < S3644x2x128.size a) (sp : ∀ a, 0 < (![516, 1, 1] : Fin 3 → Nat) a)
    (hw : ∀ a, (Rect.unit (s := S4128x2x128) oS S3644x2x128.size iS).stride a = 1) (x : S8x2x128.Idx) :
    ((((Rect.unit (s := S4128x2x128) oS S3644x2x128.size iS).within { off := ![jj, 0, 0], size := S8x2x128.size, stride := ![516, 1, 1], inb := iW, stride_pos := sp } hw).emb x) 0).val = 32 * k + jj + 516 * (x 0).val
    ∧ ((((Rect.unit (s := S4128x2x128) oS S3644x2x128.size iS).within { off := ![jj, 0, 0], size := S8x2x128.size, stride := ![516, 1, 1], inb := iW, stride_pos := sp } hw).emb x) 1).val = (x 1).val
    ∧ ((((Rect.unit (s := S4128x2x128) oS S3644x2x128.size iS).within { off := ![jj, 0, 0], size := S8x2x128.size, stride := ![516, 1, 1], inb := iW, stride_pos := sp } hw).emb x) 2).val = (x 2).val := by
  subst hoS
  refine ⟨?_, ?_, ?_⟩
  · show 32 * k + jj + 516 * (x 0).val = _; rfl
  · show 0 + 0 + 1 * (x 1).val = _; omega
  · show 0 + 0 + 1 * (x 2).val = _; omega

theorem mem_store (oS : Fin 3 → Nat) (k jj : Nat) (hoS : oS = ![32 * k, 0, 0]) (iS : ∀ a, oS a + S3644x2x128.size a ≤ S4128x2x128.size a)
    (iW : ∀ a, S8x2x128.size a = 0 ∨ (![jj, 0, 0] : Fin 3 → Nat) a + (![516, 1, 1] : Fin 3 → Nat) a * (S8x2x128.size a - 1) < S3644x2x128.size a) (sp : ∀ a, 0 < (![516, 1, 1] : Fin 3 → Nat) a)
    (hw : ∀ a, (Rect.unit (s := S4128x2x128) oS S3644x2x128.size iS).stride a = 1) (y : S4128x2x128.Idx) (hlt : 32 * k + jj < 516) (hy : (y 0).val % 516 = 32 * k + jj) :
    y ∈ ((Rect.unit (s := S4128x2x128) oS S3644x2x128.size iS).within { off := ![jj, 0, 0], size := S8x2x128.size, stride := ![516, 1, 1], inb := iW, stride_pos := sp } hw).set := by
  have hy0 : (y 0).val < 4128 := (y 0).isLt
  obtain ⟨e0, e1, e2⟩ := emb_store oS k jj hoS iS iW sp hw (ix3 ⟨(y 0).val / 516, by omega⟩ (y 1) (y 2))
  refine (show _ = y from ?_) ▸ (((Rect.unit (s := S4128x2x128) oS S3644x2x128.size iS).within { off := ![jj, 0, 0], size := S8x2x128.size, stride := ![516, 1, 1], inb := iW, stride_pos := sp } hw).idx_mem (ix3 ⟨(y 0).val / 516, by omega⟩ (y 1) (y 2) : S8x2x128.Idx))
  funext a
  match a with
  | ⟨0, _⟩ => exact Fin.ext (e0.trans (by show 32 * k + jj + 516 * ((y 0).val / 516) = (y 0).val; omega))
  | ⟨1, _⟩ => exact Fin.ext e1
  | ⟨2, _⟩ => exact Fin.ext e2

/-- Every store of a trip agrees with the scratch function where it goes. -/
theorem trip_ok (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (hg : ∀ r x, (arg2.view.readAt (Elt Ideal) r X2 x : BitVec 32).toNat < 128) (k : Fin k0_t1_loop.trips) :
    ∀ p ∈ (trip_k0_t1 𝒱 c bd q2 i arg2 harg2 arg3 harg3 arg4 harg4 arg5 harg5 arg6 harg6 arg7 harg7 arg8 harg8 arg9 harg9 arg10 harg10 arg1 X2 X4 X5 X6 hg k).1, ∀ x, p.2 x = wAt (arg2.view.read (Elt Ideal) X2) (arg4.view.read (Elt Ideal) X4) (arg5.view.read (Elt Ideal) X5) (arg6.view.read (Elt Ideal) X6) (i 1) (p.1.emb x) := by
  unfold trip_k0_t1
  try unfold trip_k0_t1.sl.H10_36
  try unfold trip_k0_t1.sl.H10_35
  try unfold trip_k0_t1.sl.H10_34
  try unfold trip_k0_t1.sl.H10_33
  try unfold trip_k0_t1.sl.H10_32
  try unfold trip_k0_t1.sl.H10_31
  try unfold trip_k0_t1.sl.H10_30
  try unfold trip_k0_t1.sl.H10_29
  try unfold trip_k0_t1.sl.H10_28
  try unfold trip_k0_t1.sl.H10_27
  try unfold trip_k0_t1.sl.H10_26
  try unfold trip_k0_t1.sl.H10_25
  try unfold trip_k0_t1.sl.H10_24
  try unfold trip_k0_t1.sl.H10_23
  try unfold trip_k0_t1.sl.H10_22
  try unfold trip_k0_t1.sl.H10_21
  try unfold trip_k0_t1.sl.H10_20
  try unfold trip_k0_t1.sl.H10_19
  try unfold trip_k0_t1.sl.H10_18
  try unfold trip_k0_t1.sl.H10_17
  try unfold trip_k0_t1.sl.H10_16
  try unfold trip_k0_t1.sl.H10_15
  try unfold trip_k0_t1.sl.H10_14
  try unfold trip_k0_t1.sl.H10_13
  try unfold trip_k0_t1.sl.H10_12
  try unfold trip_k0_t1.sl.H10_11
  try unfold trip_k0_t1.sl.H10_10
  try unfold trip_k0_t1.sl.H10_9
  try unfold trip_k0_t1.sl.H10_8
  try unfold trip_k0_t1.sl.H10_7
  try unfold trip_k0_t1.sl.H10_6
  try unfold trip_k0_t1.sl.H10_5
  try unfold trip_k0_t1.sl.H10_4
  try unfold trip_k0_t1.sl.H10_3
  try unfold trip_k0_t1.sl.H10_2
  try unfold trip_k0_t1.sl.H10_1
  refine List.forall_mem_cons.2 ⟨?p31, List.forall_mem_cons.2 ⟨?p30, List.forall_mem_cons.2 ⟨?p29, List.forall_mem_cons.2 ⟨?p28, List.forall_mem_cons.2 ⟨?p27, List.forall_mem_cons.2 ⟨?p26, List.forall_mem_cons.2 ⟨?p25, List.forall_mem_cons.2 ⟨?p24, List.forall_mem_cons.2 ⟨?p23, List.forall_mem_cons.2 ⟨?p22, List.forall_mem_cons.2 ⟨?p21, List.forall_mem_cons.2 ⟨?p20, List.forall_mem_cons.2 ⟨?p19, List.forall_mem_cons.2 ⟨?p18, List.forall_mem_cons.2 ⟨?p17, List.forall_mem_cons.2 ⟨?p16, List.forall_mem_cons.2 ⟨?p15, List.forall_mem_cons.2 ⟨?p14, List.forall_mem_cons.2 ⟨?p13, List.forall_mem_cons.2 ⟨?p12, List.forall_mem_cons.2 ⟨?p11, List.forall_mem_cons.2 ⟨?p10, List.forall_mem_cons.2 ⟨?p9, List.forall_mem_cons.2 ⟨?p8, List.forall_mem_cons.2 ⟨?p7, List.forall_mem_cons.2 ⟨?p6, List.forall_mem_cons.2 ⟨?p5, List.forall_mem_cons.2 ⟨?p4, List.forall_mem_cons.2 ⟨?p3, List.forall_mem_cons.2 ⟨?p2, List.forall_mem_cons.2 ⟨?p1, List.forall_mem_cons.2 ⟨?p0, (List.forall_mem_nil _)⟩⟩⟩⟩⟩⟩⟩⟩⟩⟩⟩⟩⟩⟩⟩⟩⟩⟩⟩⟩⟩⟩⟩⟩⟩⟩⟩⟩⟩⟩⟩⟩
  case p31 =>
    intro x
    obtain ⟨e0, e1, e2⟩ := emb_store (k0_off193 k) k.val 31 (k0_off193_eq k) (k0_off193_inb k) inb_S3644x2x128_S8x2x128_31_0_0_s_516_1_1 spos_516_1_1 (fun _ => rfl) x
    exact piece_ok i arg2 arg4 arg5 arg6 X2 X4 X5 X6 hg k 7 3 slices_S8x8x128_o0_7_0_S8x1x128 (k0_off188 i k) (k0_off188_eq i k) (k0_off188_inb i k) (k0_off189 i k) (k0_off189_eq i k) (k0_off189_inb i k) x _ e0 e1 e2
  case p30 =>
    intro x
    obtain ⟨e0, e1, e2⟩ := emb_store (k0_off187 k) k.val 30 (k0_off187_eq k) (k0_off187_inb k) inb_S3644x2x128_S8x2x128_30_0_0_s_516_1_1 spos_516_1_1 (fun _ => rfl) x
    exact piece_ok i arg2 arg4 arg5 arg6 X2 X4 X5 X6 hg k 7 2 slices_S8x8x128_o0_7_0_S8x1x128 (k0_off182 i k) (k0_off182_eq i k) (k0_off182_inb i k) (k0_off183 i k) (k0_off183_eq i k) (k0_off183_inb i k) x _ e0 e1 e2
  case p29 =>
    intro x
    obtain ⟨e0, e1, e2⟩ := emb_store (k0_off181 k) k.val 29 (k0_off181_eq k) (k0_off181_inb k) inb_S3644x2x128_S8x2x128_29_0_0_s_516_1_1 spos_516_1_1 (fun _ => rfl) x
    exact piece_ok i arg2 arg4 arg5 arg6 X2 X4 X5 X6 hg k 7 1 slices_S8x8x128_o0_7_0_S8x1x128 (k0_off176 i k) (k0_off176_eq i k) (k0_off176_inb i k) (k0_off177 i k) (k0_off177_eq i k) (k0_off177_inb i k) x _ e0 e1 e2
  case p28 =>
    intro x
    obtain ⟨e0, e1, e2⟩ := emb_store (k0_off175 k) k.val 28 (k0_off175_eq k) (k0_off175_inb k) inb_S3644x2x128_S8x2x128_28_0_0_s_516_1_1 spos_516_1_1 (fun _ => rfl) x
    exact piece_ok i arg2 arg4 arg5 arg6 X2 X4 X5 X6 hg k 7 0 slices_S8x8x128_o0_7_0_S8x1x128 (k0_off170 i k) (k0_off170_eq i k) (k0_off170_inb i k) (k0_off171 i k) (k0_off171_eq i k) (k0_off171_inb i k) x _ e0 e1 e2
  case p27 =>
    intro x
    obtain ⟨e0, e1, e2⟩ := emb_store (k0_off169 k) k.val 27 (k0_off169_eq k) (k0_off169_inb k) inb_S3644x2x128_S8x2x128_27_0_0_s_516_1_1 spos_516_1_1 (fun _ => rfl) x
    exact piece_ok i arg2 arg4 arg5 arg6 X2 X4 X5 X6 hg k 6 3 slices_S8x8x128_o0_6_0_S8x1x128 (k0_off164 i k) (k0_off164_eq i k) (k0_off164_inb i k) (k0_off165 i k) (k0_off165_eq i k) (k0_off165_inb i k) x _ e0 e1 e2
  case p26 =>
    intro x
    obtain ⟨e0, e1, e2⟩ := emb_store (k0_off163 k) k.val 26 (k0_off163_eq k) (k0_off163_inb k) inb_S3644x2x128_S8x2x128_26_0_0_s_516_1_1 spos_516_1_1 (fun _ => rfl) x
    exact piece_ok i arg2 arg4 arg5 arg6 X2 X4 X5 X6 hg k 6 2 slices_S8x8x128_o0_6_0_S8x1x128 (k0_off158 i k) (k0_off158_eq i k) (k0_off158_inb i k) (k0_off159 i k) (k0_off159_eq i k) (k0_off159_inb i k) x _ e0 e1 e2
  case p25 =>
    intro x
    obtain ⟨e0, e1, e2⟩ := emb_store (k0_off157 k) k.val 25 (k0_off157_eq k) (k0_off157_inb k) inb_S3644x2x128_S8x2x128_25_0_0_s_516_1_1 spos_516_1_1 (fun _ => rfl) x
    exact piece_ok i arg2 arg4 arg5 arg6 X2 X4 X5 X6 hg k 6 1 slices_S8x8x128_o0_6_0_S8x1x128 (k0_off152 i k) (k0_off152_eq i k) (k0_off152_inb i k) (k0_off153 i k) (k0_off153_eq i k) (k0_off153_inb i k) x _ e0 e1 e2
  case p24 =>
    intro x
    obtain ⟨e0, e1, e2⟩ := emb_store (k0_off151 k) k.val 24 (k0_off151_eq k) (k0_off151_inb k) inb_S3644x2x128_S8x2x128_24_0_0_s_516_1_1 spos_516_1_1 (fun _ => rfl) x
    exact piece_ok i arg2 arg4 arg5 arg6 X2 X4 X5 X6 hg k 6 0 slices_S8x8x128_o0_6_0_S8x1x128 (k0_off146 i k) (k0_off146_eq i k) (k0_off146_inb i k) (k0_off147 i k) (k0_off147_eq i k) (k0_off147_inb i k) x _ e0 e1 e2
  case p23 =>
    intro x
    obtain ⟨e0, e1, e2⟩ := emb_store (k0_off145 k) k.val 23 (k0_off145_eq k) (k0_off145_inb k) inb_S3644x2x128_S8x2x128_23_0_0_s_516_1_1 spos_516_1_1 (fun _ => rfl) x
    exact piece_ok i arg2 arg4 arg5 arg6 X2 X4 X5 X6 hg k 5 3 slices_S8x8x128_o0_5_0_S8x1x128 (k0_off140 i k) (k0_off140_eq i k) (k0_off140_inb i k) (k0_off141 i k) (k0_off141_eq i k) (k0_off141_inb i k) x _ e0 e1 e2
  case p22 =>
    intro x
    obtain ⟨e0, e1, e2⟩ := emb_store (k0_off139 k) k.val 22 (k0_off139_eq k) (k0_off139_inb k) inb_S3644x2x128_S8x2x128_22_0_0_s_516_1_1 spos_516_1_1 (fun _ => rfl) x
    exact piece_ok i arg2 arg4 arg5 arg6 X2 X4 X5 X6 hg k 5 2 slices_S8x8x128_o0_5_0_S8x1x128 (k0_off134 i k) (k0_off134_eq i k) (k0_off134_inb i k) (k0_off135 i k) (k0_off135_eq i k) (k0_off135_inb i k) x _ e0 e1 e2
  case p21 =>
    intro x
    obtain ⟨e0, e1, e2⟩ := emb_store (k0_off133 k) k.val 21 (k0_off133_eq k) (k0_off133_inb k) inb_S3644x2x128_S8x2x128_21_0_0_s_516_1_1 spos_516_1_1 (fun _ => rfl) x
    exact piece_ok i arg2 arg4 arg5 arg6 X2 X4 X5 X6 hg k 5 1 slices_S8x8x128_o0_5_0_S8x1x128 (k0_off128 i k) (k0_off128_eq i k) (k0_off128_inb i k) (k0_off129 i k) (k0_off129_eq i k) (k0_off129_inb i k) x _ e0 e1 e2
  case p20 =>
    intro x
    obtain ⟨e0, e1, e2⟩ := emb_store (k0_off127 k) k.val 20 (k0_off127_eq k) (k0_off127_inb k) inb_S3644x2x128_S8x2x128_20_0_0_s_516_1_1 spos_516_1_1 (fun _ => rfl) x
    exact piece_ok i arg2 arg4 arg5 arg6 X2 X4 X5 X6 hg k 5 0 slices_S8x8x128_o0_5_0_S8x1x128 (k0_off122 i k) (k0_off122_eq i k) (k0_off122_inb i k) (k0_off123 i k) (k0_off123_eq i k) (k0_off123_inb i k) x _ e0 e1 e2
  case p19 =>
    intro x
    obtain ⟨e0, e1, e2⟩ := emb_store (k0_off121 k) k.val 19 (k0_off121_eq k) (k0_off121_inb k) inb_S3644x2x128_S8x2x128_19_0_0_s_516_1_1 spos_516_1_1 (fun _ => rfl) x
    exact piece_ok i arg2 arg4 arg5 arg6 X2 X4 X5 X6 hg k 4 3 slices_S8x8x128_o0_4_0_S8x1x128 (k0_off116 i k) (k0_off116_eq i k) (k0_off116_inb i k) (k0_off117 i k) (k0_off117_eq i k) (k0_off117_inb i k) x _ e0 e1 e2
  case p18 =>
    intro x
    obtain ⟨e0, e1, e2⟩ := emb_store (k0_off115 k) k.val 18 (k0_off115_eq k) (k0_off115_inb k) inb_S3644x2x128_S8x2x128_18_0_0_s_516_1_1 spos_516_1_1 (fun _ => rfl) x
    exact piece_ok i arg2 arg4 arg5 arg6 X2 X4 X5 X6 hg k 4 2 slices_S8x8x128_o0_4_0_S8x1x128 (k0_off110 i k) (k0_off110_eq i k) (k0_off110_inb i k) (k0_off111 i k) (k0_off111_eq i k) (k0_off111_inb i k) x _ e0 e1 e2
  case p17 =>
    intro x
    obtain ⟨e0, e1, e2⟩ := emb_store (k0_off109 k) k.val 17 (k0_off109_eq k) (k0_off109_inb k) inb_S3644x2x128_S8x2x128_17_0_0_s_516_1_1 spos_516_1_1 (fun _ => rfl) x
    exact piece_ok i arg2 arg4 arg5 arg6 X2 X4 X5 X6 hg k 4 1 slices_S8x8x128_o0_4_0_S8x1x128 (k0_off104 i k) (k0_off104_eq i k) (k0_off104_inb i k) (k0_off105 i k) (k0_off105_eq i k) (k0_off105_inb i k) x _ e0 e1 e2
  case p16 =>
    intro x
    obtain ⟨e0, e1, e2⟩ := emb_store (k0_off103 k) k.val 16 (k0_off103_eq k) (k0_off103_inb k) inb_S3644x2x128_S8x2x128_16_0_0_s_516_1_1 spos_516_1_1 (fun _ => rfl) x
    exact piece_ok i arg2 arg4 arg5 arg6 X2 X4 X5 X6 hg k 4 0 slices_S8x8x128_o0_4_0_S8x1x128 (k0_off98 i k) (k0_off98_eq i k) (k0_off98_inb i k) (k0_off99 i k) (k0_off99_eq i k) (k0_off99_inb i k) x _ e0 e1 e2
  case p15 =>
    intro x
    obtain ⟨e0, e1, e2⟩ := emb_store (k0_off97 k) k.val 15 (k0_off97_eq k) (k0_off97_inb k) inb_S3644x2x128_S8x2x128_15_0_0_s_516_1_1 spos_516_1_1 (fun _ => rfl) x
    exact piece_ok i arg2 arg4 arg5 arg6 X2 X4 X5 X6 hg k 3 3 slices_S8x8x128_o0_3_0_S8x1x128 (k0_off92 i k) (k0_off92_eq i k) (k0_off92_inb i k) (k0_off93 i k) (k0_off93_eq i k) (k0_off93_inb i k) x _ e0 e1 e2
  case p14 =>
    intro x
    obtain ⟨e0, e1, e2⟩ := emb_store (k0_off91 k) k.val 14 (k0_off91_eq k) (k0_off91_inb k) inb_S3644x2x128_S8x2x128_14_0_0_s_516_1_1 spos_516_1_1 (fun _ => rfl) x
    exact piece_ok i arg2 arg4 arg5 arg6 X2 X4 X5 X6 hg k 3 2 slices_S8x8x128_o0_3_0_S8x1x128 (k0_off86 i k) (k0_off86_eq i k) (k0_off86_inb i k) (k0_off87 i k) (k0_off87_eq i k) (k0_off87_inb i k) x _ e0 e1 e2
  case p13 =>
    intro x
    obtain ⟨e0, e1, e2⟩ := emb_store (k0_off85 k) k.val 13 (k0_off85_eq k) (k0_off85_inb k) inb_S3644x2x128_S8x2x128_13_0_0_s_516_1_1 spos_516_1_1 (fun _ => rfl) x
    exact piece_ok i arg2 arg4 arg5 arg6 X2 X4 X5 X6 hg k 3 1 slices_S8x8x128_o0_3_0_S8x1x128 (k0_off80 i k) (k0_off80_eq i k) (k0_off80_inb i k) (k0_off81 i k) (k0_off81_eq i k) (k0_off81_inb i k) x _ e0 e1 e2
  case p12 =>
    intro x
    obtain ⟨e0, e1, e2⟩ := emb_store (k0_off79 k) k.val 12 (k0_off79_eq k) (k0_off79_inb k) inb_S3644x2x128_S8x2x128_12_0_0_s_516_1_1 spos_516_1_1 (fun _ => rfl) x
    exact piece_ok i arg2 arg4 arg5 arg6 X2 X4 X5 X6 hg k 3 0 slices_S8x8x128_o0_3_0_S8x1x128 (k0_off74 i k) (k0_off74_eq i k) (k0_off74_inb i k) (k0_off75 i k) (k0_off75_eq i k) (k0_off75_inb i k) x _ e0 e1 e2
  case p11 =>
    intro x
    obtain ⟨e0, e1, e2⟩ := emb_store (k0_off73 k) k.val 11 (k0_off73_eq k) (k0_off73_inb k) inb_S3644x2x128_S8x2x128_11_0_0_s_516_1_1 spos_516_1_1 (fun _ => rfl) x
    exact piece_ok i arg2 arg4 arg5 arg6 X2 X4 X5 X6 hg k 2 3 slices_S8x8x128_o0_2_0_S8x1x128 (k0_off68 i k) (k0_off68_eq i k) (k0_off68_inb i k) (k0_off69 i k) (k0_off69_eq i k) (k0_off69_inb i k) x _ e0 e1 e2
  case p10 =>
    intro x
    obtain ⟨e0, e1, e2⟩ := emb_store (k0_off67 k) k.val 10 (k0_off67_eq k) (k0_off67_inb k) inb_S3644x2x128_S8x2x128_10_0_0_s_516_1_1 spos_516_1_1 (fun _ => rfl) x
    exact piece_ok i arg2 arg4 arg5 arg6 X2 X4 X5 X6 hg k 2 2 slices_S8x8x128_o0_2_0_S8x1x128 (k0_off62 i k) (k0_off62_eq i k) (k0_off62_inb i k) (k0_off63 i k) (k0_off63_eq i k) (k0_off63_inb i k) x _ e0 e1 e2
  case p9 =>
    intro x
    obtain ⟨e0, e1, e2⟩ := emb_store (k0_off61 k) k.val 9 (k0_off61_eq k) (k0_off61_inb k) inb_S3644x2x128_S8x2x128_9_0_0_s_516_1_1 spos_516_1_1 (fun _ => rfl) x
    exact piece_ok i arg2 arg4 arg5 arg6 X2 X4 X5 X6 hg k 2 1 slices_S8x8x128_o0_2_0_S8x1x128 (k0_off56 i k) (k0_off56_eq i k) (k0_off56_inb i k) (k0_off57 i k) (k0_off57_eq i k) (k0_off57_inb i k) x _ e0 e1 e2
  case p8 =>
    intro x
    obtain ⟨e0, e1, e2⟩ := emb_store (k0_off55 k) k.val 8 (k0_off55_eq k) (k0_off55_inb k) inb_S3644x2x128_S8x2x128_8_0_0_s_516_1_1 spos_516_1_1 (fun _ => rfl) x
    exact piece_ok i arg2 arg4 arg5 arg6 X2 X4 X5 X6 hg k 2 0 slices_S8x8x128_o0_2_0_S8x1x128 (k0_off50 i k) (k0_off50_eq i k) (k0_off50_inb i k) (k0_off51 i k) (k0_off51_eq i k) (k0_off51_inb i k) x _ e0 e1 e2
  case p7 =>
    intro x
    obtain ⟨e0, e1, e2⟩ := emb_store (k0_off49 k) k.val 7 (k0_off49_eq k) (k0_off49_inb k) inb_S3644x2x128_S8x2x128_7_0_0_s_516_1_1 spos_516_1_1 (fun _ => rfl) x
    exact piece_ok i arg2 arg4 arg5 arg6 X2 X4 X5 X6 hg k 1 3 slices_S8x8x128_o0_1_0_S8x1x128 (k0_off44 i k) (k0_off44_eq i k) (k0_off44_inb i k) (k0_off45 i k) (k0_off45_eq i k) (k0_off45_inb i k) x _ e0 e1 e2
  case p6 =>
    intro x
    obtain ⟨e0, e1, e2⟩ := emb_store (k0_off43 k) k.val 6 (k0_off43_eq k) (k0_off43_inb k) inb_S3644x2x128_S8x2x128_6_0_0_s_516_1_1 spos_516_1_1 (fun _ => rfl) x
    exact piece_ok i arg2 arg4 arg5 arg6 X2 X4 X5 X6 hg k 1 2 slices_S8x8x128_o0_1_0_S8x1x128 (k0_off38 i k) (k0_off38_eq i k) (k0_off38_inb i k) (k0_off39 i k) (k0_off39_eq i k) (k0_off39_inb i k) x _ e0 e1 e2
  case p5 =>
    intro x
    obtain ⟨e0, e1, e2⟩ := emb_store (k0_off37 k) k.val 5 (k0_off37_eq k) (k0_off37_inb k) inb_S3644x2x128_S8x2x128_5_0_0_s_516_1_1 spos_516_1_1 (fun _ => rfl) x
    exact piece_ok i arg2 arg4 arg5 arg6 X2 X4 X5 X6 hg k 1 1 slices_S8x8x128_o0_1_0_S8x1x128 (k0_off32 i k) (k0_off32_eq i k) (k0_off32_inb i k) (k0_off33 i k) (k0_off33_eq i k) (k0_off33_inb i k) x _ e0 e1 e2
  case p4 =>
    intro x
    obtain ⟨e0, e1, e2⟩ := emb_store (k0_off31 k) k.val 4 (k0_off31_eq k) (k0_off31_inb k) inb_S3644x2x128_S8x2x128_4_0_0_s_516_1_1 spos_516_1_1 (fun _ => rfl) x
    exact piece_ok i arg2 arg4 arg5 arg6 X2 X4 X5 X6 hg k 1 0 slices_S8x8x128_o0_1_0_S8x1x128 (k0_off26 i k) (k0_off26_eq i k) (k0_off26_inb i k) (k0_off27 i k) (k0_off27_eq i k) (k0_off27_inb i k) x _ e0 e1 e2
  case p3 =>
    intro x
    obtain ⟨e0, e1, e2⟩ := emb_store (k0_off25 k) k.val 3 (k0_off25_eq k) (k0_off25_inb k) inb_S3644x2x128_S8x2x128_3_0_0_s_516_1_1 spos_516_1_1 (fun _ => rfl) x
    exact piece_ok i arg2 arg4 arg5 arg6 X2 X4 X5 X6 hg k 0 3 slices_S8x8x128_o0_0_0_S8x1x128 (k0_off20 i k) (k0_off20_eq i k) (k0_off20_inb i k) (k0_off21 i k) (k0_off21_eq i k) (k0_off21_inb i k) x _ e0 e1 e2
  case p2 =>
    intro x
    obtain ⟨e0, e1, e2⟩ := emb_store (k0_off19 k) k.val 2 (k0_off19_eq k) (k0_off19_inb k) inb_S3644x2x128_S8x2x128_2_0_0_s_516_1_1 spos_516_1_1 (fun _ => rfl) x
    exact piece_ok i arg2 arg4 arg5 arg6 X2 X4 X5 X6 hg k 0 2 slices_S8x8x128_o0_0_0_S8x1x128 (k0_off14 i k) (k0_off14_eq i k) (k0_off14_inb i k) (k0_off15 i k) (k0_off15_eq i k) (k0_off15_inb i k) x _ e0 e1 e2
  case p1 =>
    intro x
    obtain ⟨e0, e1, e2⟩ := emb_store (k0_off13 k) k.val 1 (k0_off13_eq k) (k0_off13_inb k) inb_S3644x2x128_S8x2x128_1_0_0_s_516_1_1 spos_516_1_1 (fun _ => rfl) x
    exact piece_ok i arg2 arg4 arg5 arg6 X2 X4 X5 X6 hg k 0 1 slices_S8x8x128_o0_0_0_S8x1x128 (k0_off8 i k) (k0_off8_eq i k) (k0_off8_inb i k) (k0_off9 i k) (k0_off9_eq i k) (k0_off9_inb i k) x _ e0 e1 e2
  case p0 =>
    intro x
    obtain ⟨e0, e1, e2⟩ := emb_store (k0_off7 k) k.val 0 (k0_off7_eq k) (k0_off7_inb k) inb_S3644x2x128_S8x2x128_0_0_0_s_516_1_1 spos_516_1_1 (fun _ => rfl) x
    exact piece_ok i arg2 arg4 arg5 arg6 X2 X4 X5 X6 hg k 0 0 slices_S8x8x128_o0_0_0_S8x1x128 (k0_off2 i k) (k0_off2_eq i k) (k0_off2_inb i k) (k0_off3 i k) (k0_off3_eq i k) (k0_off3_inb i k) x _ e0 e1 e2

/-- The stores of a trip reach its thirty-two rows of every plane. -/
theorem trip_cover (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (hg : ∀ r x, (arg2.view.readAt (Elt Ideal) r X2 x : BitVec 32).toNat < 128) (k : Fin k0_t1_loop.trips) (y : S4128x2x128.Idx) (h0 : 32 * k.val ≤ (y 0).val % 516) (h1 : (y 0).val % 516 < 32 * k.val + 32) :
    ∃ p ∈ (trip_k0_t1 𝒱 c bd q2 i arg2 harg2 arg3 harg3 arg4 harg4 arg5 harg5 arg6 harg6 arg7 harg7 arg8 harg8 arg9 harg9 arg10 harg10 arg1 X2 X4 X5 X6 hg k).1, y ∈ p.1.set := by
  have hk : k.val < 16 := Nat.lt_of_lt_of_le k.isLt k0_t1_abs.2.1
  obtain ⟨jj, hjj, e⟩ : ∃ jj, jj < 32 ∧ (y 0).val % 516 = 32 * k.val + jj := ⟨(y 0).val % 516 - 32 * k.val, by omega, by omega⟩
  unfold trip_k0_t1
  try unfold trip_k0_t1.sl.H10_36
  try unfold trip_k0_t1.sl.H10_35
  try unfold trip_k0_t1.sl.H10_34
  try unfold trip_k0_t1.sl.H10_33
  try unfold trip_k0_t1.sl.H10_32
  try unfold trip_k0_t1.sl.H10_31
  try unfold trip_k0_t1.sl.H10_30
  try unfold trip_k0_t1.sl.H10_29
  try unfold trip_k0_t1.sl.H10_28
  try unfold trip_k0_t1.sl.H10_27
  try unfold trip_k0_t1.sl.H10_26
  try unfold trip_k0_t1.sl.H10_25
  try unfold trip_k0_t1.sl.H10_24
  try unfold trip_k0_t1.sl.H10_23
  try unfold trip_k0_t1.sl.H10_22
  try unfold trip_k0_t1.sl.H10_21
  try unfold trip_k0_t1.sl.H10_20
  try unfold trip_k0_t1.sl.H10_19
  try unfold trip_k0_t1.sl.H10_18
  try unfold trip_k0_t1.sl.H10_17
  try unfold trip_k0_t1.sl.H10_16
  try unfold trip_k0_t1.sl.H10_15
  try unfold trip_k0_t1.sl.H10_14
  try unfold trip_k0_t1.sl.H10_13
  try unfold trip_k0_t1.sl.H10_12
  try unfold trip_k0_t1.sl.H10_11
  try unfold trip_k0_t1.sl.H10_10
  try unfold trip_k0_t1.sl.H10_9
  try unfold trip_k0_t1.sl.H10_8
  try unfold trip_k0_t1.sl.H10_7
  try unfold trip_k0_t1.sl.H10_6
  try unfold trip_k0_t1.sl.H10_5
  try unfold trip_k0_t1.sl.H10_4
  try unfold trip_k0_t1.sl.H10_3
  try unfold trip_k0_t1.sl.H10_2
  try unfold trip_k0_t1.sl.H10_1
  interval_cases jj
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), mem_store (k0_off7 k) k.val 0 (k0_off7_eq k) (k0_off7_inb k) inb_S3644x2x128_S8x2x128_0_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), mem_store (k0_off13 k) k.val 1 (k0_off13_eq k) (k0_off13_inb k) inb_S3644x2x128_S8x2x128_1_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), mem_store (k0_off19 k) k.val 2 (k0_off19_eq k) (k0_off19_inb k) inb_S3644x2x128_S8x2x128_2_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), mem_store (k0_off25 k) k.val 3 (k0_off25_eq k) (k0_off25_inb k) inb_S3644x2x128_S8x2x128_3_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), mem_store (k0_off31 k) k.val 4 (k0_off31_eq k) (k0_off31_inb k) inb_S3644x2x128_S8x2x128_4_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), mem_store (k0_off37 k) k.val 5 (k0_off37_eq k) (k0_off37_inb k) inb_S3644x2x128_S8x2x128_5_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), mem_store (k0_off43 k) k.val 6 (k0_off43_eq k) (k0_off43_inb k) inb_S3644x2x128_S8x2x128_6_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), mem_store (k0_off49 k) k.val 7 (k0_off49_eq k) (k0_off49_inb k) inb_S3644x2x128_S8x2x128_7_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), mem_store (k0_off55 k) k.val 8 (k0_off55_eq k) (k0_off55_inb k) inb_S3644x2x128_S8x2x128_8_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), mem_store (k0_off61 k) k.val 9 (k0_off61_eq k) (k0_off61_inb k) inb_S3644x2x128_S8x2x128_9_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), mem_store (k0_off67 k) k.val 10 (k0_off67_eq k) (k0_off67_inb k) inb_S3644x2x128_S8x2x128_10_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), mem_store (k0_off73 k) k.val 11 (k0_off73_eq k) (k0_off73_inb k) inb_S3644x2x128_S8x2x128_11_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), mem_store (k0_off79 k) k.val 12 (k0_off79_eq k) (k0_off79_inb k) inb_S3644x2x128_S8x2x128_12_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), mem_store (k0_off85 k) k.val 13 (k0_off85_eq k) (k0_off85_inb k) inb_S3644x2x128_S8x2x128_13_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), mem_store (k0_off91 k) k.val 14 (k0_off91_eq k) (k0_off91_inb k) inb_S3644x2x128_S8x2x128_14_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem_store (k0_off97 k) k.val 15 (k0_off97_eq k) (k0_off97_inb k) inb_S3644x2x128_S8x2x128_15_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_store (k0_off103 k) k.val 16 (k0_off103_eq k) (k0_off103_inb k) inb_S3644x2x128_S8x2x128_16_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_store (k0_off109 k) k.val 17 (k0_off109_eq k) (k0_off109_inb k) inb_S3644x2x128_S8x2x128_17_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_store (k0_off115 k) k.val 18 (k0_off115_eq k) (k0_off115_inb k) inb_S3644x2x128_S8x2x128_18_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_store (k0_off121 k) k.val 19 (k0_off121_eq k) (k0_off121_inb k) inb_S3644x2x128_S8x2x128_19_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_store (k0_off127 k) k.val 20 (k0_off127_eq k) (k0_off127_inb k) inb_S3644x2x128_S8x2x128_20_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_store (k0_off133 k) k.val 21 (k0_off133_eq k) (k0_off133_inb k) inb_S3644x2x128_S8x2x128_21_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.tail _ (List.Mem.head _))))))))), mem_store (k0_off139 k) k.val 22 (k0_off139_eq k) (k0_off139_inb k) inb_S3644x2x128_S8x2x128_22_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.tail _ (List.Mem.head _)))))))), mem_store (k0_off145 k) k.val 23 (k0_off145_eq k) (k0_off145_inb k) inb_S3644x2x128_S8x2x128_23_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.tail _ (List.Mem.head _))))))), mem_store (k0_off151 k) k.val 24 (k0_off151_eq k) (k0_off151_inb k) inb_S3644x2x128_S8x2x128_24_0_0_s_516_1_1 spos_516_1_1 (fun _ => rfl) y (by omega) e⟩
  · exact ⟨_, List.Mem.tail _ (List.Mem.tail _ (List.Mem.tail _ (List.Mem.tail _ (List.Mem.tail _ (List.Mem.tail _ (List.Mem.head _)))))), mem_store (k0_off157 k) k.val 25 (k0_off157_eq k) (k0_off157_inb k) inb_S3644x2x128_S8x2x128_25_0_0_s_516_1_1 spos_516_1_1 (fun _ => rfl) y (by omega) e⟩
  · exact ⟨_, List.Mem.tail _ (List.Mem.tail _ (List.Mem.tail _ (List.Mem.tail _ (List.Mem.tail _ (List.Mem.head _))))), mem_store (k0_off163 k) k.val 26 (k0_off163_eq k) (k0_off163_inb k) inb_S3644x2x128_S8x2x128_26_0_0_s_516_1_1 spos_516_1_1 (fun _ => rfl) y (by omega) e⟩
  · exact ⟨_, List.Mem.tail _ (List.Mem.tail _ (List.Mem.tail _ (List.Mem.tail _ (List.Mem.head _)))), mem_store (k0_off169 k) k.val 27 (k0_off169_eq k) (k0_off169_inb k) inb_S3644x2x128_S8x2x128_27_0_0_s_516_1_1 spos_516_1_1 (fun _ => rfl) y (by omega) e⟩
  · exact ⟨_, List.Mem.tail _ (List.Mem.tail _ (List.Mem.tail _ (List.Mem.head _))), mem_store (k0_off175 k) k.val 28 (k0_off175_eq k) (k0_off175_inb k) inb_S3644x2x128_S8x2x128_28_0_0_s_516_1_1 spos_516_1_1 (fun _ => rfl) y (by omega) e⟩
  · exact ⟨_, List.Mem.tail _ (List.Mem.tail _ (List.Mem.head _)), mem_store (k0_off181 k) k.val 29 (k0_off181_eq k) (k0_off181_inb k) inb_S3644x2x128_S8x2x128_29_0_0_s_516_1_1 spos_516_1_1 (fun _ => rfl) y (by omega) e⟩
  · exact ⟨_, List.Mem.tail _ (List.Mem.head _), mem_store (k0_off187 k) k.val 30 (k0_off187_eq k) (k0_off187_inb k) inb_S3644x2x128_S8x2x128_30_0_0_s_516_1_1 spos_516_1_1 (fun _ => rfl) y (by omega) e⟩
  · exact ⟨_, List.Mem.head _, mem_store (k0_off193 k) k.val 31 (k0_off193_eq k) (k0_off193_inb k) inb_S3644x2x128_S8x2x128_31_0_0_s_516_1_1 spos_516_1_1 (fun _ => rfl) y (by omega) e⟩

theorem trips_k0_t1 : k0_t1_loop.trips = 16 := by decide +kernel

theorem pb_ok (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (hg : ∀ r x, (arg2.view.readAt (Elt Ideal) r X2 x : BitVec 32).toNat < 128) : ∀ n : ℕ, n ≤ 16 →
    (∀ p ∈ pb_k0_t1 𝒱 c bd q2 i arg2 harg2 arg3 harg3 arg4 harg4 arg5 harg5 arg6 harg6 arg7 harg7 arg8 harg8 arg9 harg9 arg10 harg10 arg1 X2 X4 X5 X6 hg n, ∀ x, p.2 x = wAt (arg2.view.read (Elt Ideal) X2) (arg4.view.read (Elt Ideal) X4) (arg5.view.read (Elt Ideal) X5) (arg6.view.read (Elt Ideal) X6) (i 1) (p.1.emb x))
    ∧ (∀ y : S4128x2x128.Idx, (y 0).val % 516 < 32 * n → ∃ p ∈ pb_k0_t1 𝒱 c bd q2 i arg2 harg2 arg3 harg3 arg4 harg4 arg5 harg5 arg6 harg6 arg7 harg7 arg8 harg8 arg9 harg9 arg10 harg10 arg1 X2 X4 X5 X6 hg n, y ∈ p.1.set)
  | 0, _ => ⟨fun p hp => absurd hp List.not_mem_nil, fun y h => absurd h (Nat.not_lt_zero _)⟩
  | n + 1, hn => by
    obtain ⟨h1, h2⟩ := pb_ok 𝒱 c bd q2 i arg2 harg2 arg3 harg3 arg4 harg4 arg5 harg5 arg6 harg6 arg7 harg7 arg8 harg8 arg9 harg9 arg10 harg10 arg1 X2 X4 X5 X6 hg n (by omega)
    have hlt : n < k0_t1_loop.trips := by rw [trips_k0_t1]; omega
    have e := pb_k0_t1_succ 𝒱 c bd q2 i arg2 harg2 arg3 harg3 arg4 harg4 arg5 harg5 arg6 harg6 arg7 harg7 arg8 harg8 arg9 harg9 arg10 harg10 arg1 X2 X4 X5 X6 hg ⟨n, hlt⟩
    change pb_k0_t1 𝒱 c bd q2 i arg2 harg2 arg3 harg3 arg4 harg4 arg5 harg5 arg6 harg6 arg7 harg7 arg8 harg8 arg9 harg9 arg10 harg10 arg1 X2 X4 X5 X6 hg (n + 1) = _ at e
    rw [e]
    refine ⟨fun p hp => ?_, fun y hy => ?_⟩
    · rcases List.mem_append.1 hp with hp | hp
      · exact trip_ok 𝒱 c bd q2 i arg2 harg2 arg3 harg3 arg4 harg4 arg5 harg5 arg6 harg6 arg7 harg7 arg8 harg8 arg9 harg9 arg10 harg10 arg1 X2 X4 X5 X6 hg ⟨n, hlt⟩ p hp
      · exact h1 p hp
    · by_cases h : (y 0).val % 516 < 32 * n
      · obtain ⟨p, hp, hy'⟩ := h2 y h
        exact ⟨p, List.mem_append.2 (Or.inr hp), hy'⟩
      · obtain ⟨p, hp, hy'⟩ := trip_cover 𝒱 c bd q2 i arg2 harg2 arg3 harg3 arg4 harg4 arg5 harg5 arg6 harg6 arg7 harg7 arg8 harg8 arg9 harg9 arg10 harg10 arg1 X2 X4 X5 X6 hg ⟨n, hlt⟩ y (by show 32 * n ≤ _; omega) (by show _ < 32 * n + 32; omega)
        exact ⟨p, List.mem_append.2 (Or.inl hp), hy'⟩

/-- What the weight scratch reads after the loop, at the rows in use. -/
theorem scratch_read (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (arg1 : BitVec 32) (X2 : BufTy.Contents (Elt Ideal) arg2.view.ty) (X4 : BufTy.Contents (Elt Ideal) arg4.view.ty) (X5 : BufTy.Contents (Elt Ideal) arg5.view.ty) (X6 : BufTy.Contents (Elt Ideal) arg6.view.ty) (hg : ∀ r x, (arg2.view.readAt (Elt Ideal) r X2 x : BitVec 32).toNat < 128) (f10 : BufTy.Contents (Elt Ideal) arg10.view.ty) (y : S4128x2x128.Idx) (hy : (y 0).val % 516 < 512) :
    arg10.view.read (Elt Ideal) (arg10.view.writes (Elt Ideal) f10 (pb_k0_t1 𝒱 c bd q2 i arg2 harg2 arg3 harg3 arg4 harg4 arg5 harg5 arg6 harg6 arg7 harg7 arg8 harg8 arg9 harg9 arg10 harg10 arg1 X2 X4 X5 X6 hg 16)) y = wAt (arg2.view.read (Elt Ideal) X2) (arg4.view.read (Elt Ideal) X4) (arg5.view.read (Elt Ideal) X5) (arg6.view.read (Elt Ideal) X6) (i 1) y := by
  obtain ⟨h1, h2⟩ := pb_ok 𝒱 c bd q2 i arg2 harg2 arg3 harg3 arg4 harg4 arg5 harg5 arg6 harg6 arg7 harg7 arg8 harg8 arg9 harg9 arg10 harg10 arg1 X2 X4 X5 X6 hg 16 (le_refl _)
  exact View.read_writes_apply_of_pieces arg10.view f10 _ _ h1 y (h2 y (by omega))

end Trips

end Cert.Proof.KernelIdeal

end
-- ==== Proof.KernelIdeal.Acc.lean ====
/- The partial sums of one grid point: what the twelve accumulator stores hold, as sums of products. -/
module

public import proofs.«01_k».proof.Proof.KernelIdeal.Scratch
public import proofs.«01_k».proof.Proof.KernelIdeal.Body
public import Idealize.ShloMosaic.Lib.MatmulPlain
public import Idealize.ShloMosaic.Lib.Pointwise.Select
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A loaded plane as rows of weights: the two parities interleaved. -/
def planeW (raw : FVec Ideal S512x2x128 .bf16) : FVec Ideal S1024x128 .bf16 :=
  interleaveRows S1024x128 (shapeCast S512x128 (rowsOfParity 0 S512x1x128 raw bitcasts_S512x2x128_w16_S512x1x128_w32) shapeCasts_S512x1x128_S512x128)
    (shapeCast S512x128 (rowsOfParity 1 S512x1x128 raw bitcasts_S512x2x128_w16_S512x1x128_w32) shapeCasts_S512x1x128_S512x128) bitcasts_S1024x128_w16_S512x128_w32

/-- Two planes side by side. -/
def pairW (raw0 raw1 : FVec Ideal S512x2x128 .bf16) : FVec Ideal S1024x256 .bf16 :=
  concatenate S1024x256 1 [⟨S1024x128, planeW raw0⟩, ⟨S1024x128, planeW raw1⟩] concatenates_S1024x128_S1024x128_S1024x256_d1

/-- One block product. -/
def mmW (raw0 raw1 : FVec Ideal S512x2x128 .bf16) (x3 : FVec Ideal S1024x1024 .bf16) : FVec Ideal S1024x256 .f32 :=
  matmul dot_S1024x1024_S1024x256_S1024x256_1_0_0_1_n_n none (shapeCast S1024x1024 x3 shapeCasts_S1024x1024_S1024x1024) (pairW raw0 raw1) (constant S1024x256 .f32 0x00000000#32)

theorem shapeCast_half {α : Type} (x : S512x1x128.Idx → α) (h : S512x1x128.ShapeCasts S512x128) (r : Fin 512) (l : Fin 128) :
    shapeCast S512x128 x h (ix2 r l) = x (ix3 r 0 l) := by
  refine shapeCast_apply _ _ _ _ ?_
  rw [Shape.rowMajor_val_two, Shape.rowMajor_val_three]
  show (r.val * 1 + 0) * 128 + l.val = r.val * 128 + l.val
  omega

theorem planeW_apply (raw : FVec Ideal S512x2x128 .bf16) (i : Fin 1024) (l : Fin 128) :
    planeW raw (ix2 i l) = raw (ix3 ⟨i.val / 2, by have := i.isLt; omega⟩ ⟨i.val % 2, by omega⟩ l) := by
  unfold planeW
  rw [interleaveRows_apply]
  have hr : S1024x128.row (ix2 i l) = i.val := rfl
  rw [hr]
  split
  · rename_i h
    refine (shapeCast_half _ _ ⟨i.val / 2, by have := i.isLt; omega⟩ l).trans ?_
    refine congrArg raw (funext fun c => ?_)
    match c with
    | ⟨0, _⟩ => rfl
    | ⟨1, _⟩ => exact Fin.ext h.symm
    | ⟨2, _⟩ => rfl
  · rename_i h
    refine (shapeCast_half _ _ ⟨i.val / 2, by have := i.isLt; omega⟩ l).trans ?_
    refine congrArg raw (funext fun c => ?_)
    match c with
    | ⟨0, _⟩ => rfl
    | ⟨1, _⟩ => exact Fin.ext (show 1 = i.val % 2 by omega)
    | ⟨2, _⟩ => rfl

theorem pairW_apply (raw0 raw1 : FVec Ideal S512x2x128 .bf16) (i : Fin 1024) (c : Fin 256) :
    pairW raw0 raw1 (ix2 i c) = (if c.val < 128 then raw0 else raw1) (ix3 ⟨i.val / 2, by have := i.isLt; omega⟩ ⟨i.val % 2, by omega⟩ ⟨c.val % 128, by omega⟩) := by
  unfold pairW
  have hc := c.isLt
  rw [concatenate_pair_apply]
  by_cases h : c.val < 128
  · rw [if_pos h]
    refine (dif_pos h).trans ?_
    refine Eq.trans (congrArg (planeW raw0) (?_ : _ = ix2 i ⟨c.val % 128, by omega⟩)) (planeW_apply raw0 i _)
    refine funext fun b => Fin.ext ?_
    match b with
    | ⟨0, _⟩ => rfl
    | ⟨1, _⟩ => exact (Nat.mod_eq_of_lt h).symm
  · rw [if_neg h]
    refine (dif_neg h).trans ?_
    refine Eq.trans (congrArg (planeW raw1) (?_ : _ = ix2 i ⟨c.val % 128, by omega⟩)) (planeW_apply raw1 i _)
    refine funext fun b => Fin.ext ?_
    match b with
    | ⟨0, _⟩ => rfl
    | ⟨1, _⟩ => exact (show c.val - 128 = c.val % 128 by omega)

theorem mmW_apply (raw0 raw1 : FVec Ideal S512x2x128 .bf16) (x3 : FVec Ideal S1024x1024 .bf16) (r : Fin 1024) (c : Fin 256) :
    mmW raw0 raw1 x3 (ix2 r c) = ∑ i : Fin 1024, x3 (ix2 r i) * pairW raw0 raw1 (ix2 i c) := by
  unfold mmW
  rw [shapeCast_self]
  refine (Ideal.matmul_plain_apply (M := 1024) (K := 1024) (N := 256) none x3 (pairW raw0 raw1) (constant S1024x256 .f32 0x00000000#32) r c).trans ?_
  show Ideal.ofBits .f32 0x00000000#32 + _ = _
  rw [Ideal.ofBits_zero_f32, zero_add]
  rfl

/-- What one grid point adds to the partial sums: the products of its activations with its weights. -/
def yAt (T : S16384.Idx → BitVec 32) (B : S16x8x32x128.Idx → BitVec 8) (Sc Z : S128x1x8x128.Idx → EReal) (x3 : S3072x1024.Idx → EReal) (kk : Fin 16) (y : S3072x1024.Idx) : EReal :=
  ∑ i : Fin 1024, x3 (ix2 (y 0) i) * wScr T B Sc Z kk ⟨(y 1).val / 128, by have := (y 1).isLt; change (y 1).val < 1024 at this; omega⟩ ⟨i.val / 2, by have := i.isLt; omega⟩ ⟨i.val % 2, by omega⟩ ⟨(y 1).val % 128, by omega⟩

theorem wScr_congr (T : S16384.Idx → BitVec 32) (B : S16x8x32x128.Idx → BitVec 8) (Sc Z : S128x1x8x128.Idx → EReal) (kk : Fin 16) {a a' : Fin 8} {r r' : Fin 512} {h h' : Fin 2} {l l' : Fin 128}
    (ea : a = a') (er : r = r') (eh : h = h') (el : l = l') : wScr T B Sc Z kk a r h l = wScr T B Sc Z kk a' r' h' l' := by
  subst ea; subst er; subst eh; subst el; rfl

/-- A block product of loads is the point's sum of products. -/
theorem mm_ok (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X3 : BufTy.Contents (Elt Ideal) arg3.view.ty) (g : BufTy.Contents (Elt Ideal) arg10.view.ty) (T : S16384.Idx → BitVec 32) (B : S16x8x32x128.Idx → BitVec 8) (Sc Z : S128x1x8x128.Idx → EReal) (kk : Fin 16)
    (hs : ∀ y : S4128x2x128.Idx, (y 0).val % 516 < 512 → arg10.view.read (Elt Ideal) g y = wAt T B Sc Z kk y)
    (m h : ℕ) (hm : m < 3) (hh : h < 4) (h0 : ∀ b, ![516 * (2 * h), 0, 0] b + ![512, 2, 128] b ≤ S4128x2x128.size b) (h1 : ∀ b, ![516 * (2 * h + 1), 0, 0] b + ![512, 2, 128] b ≤ S4128x2x128.size b)
    (h3 : ∀ b, ![1024 * m, 0] b + ![1024, 1024] b ≤ S3072x1024.size b) (h9 : ∀ b, ![1024 * m, 256 * h] b + ![1024, 256] b ≤ S3072x1024.size b) (x : S1024x256.Idx) :
    mmW (arg10.view.readAt (Elt Ideal) (Rect.unit (s := S4128x2x128) ![516 * (2 * h), 0, 0] ![512, 2, 128] h0).toLoadRect g) (arg10.view.readAt (Elt Ideal) (Rect.unit (s := S4128x2x128) ![516 * (2 * h + 1), 0, 0] ![512, 2, 128] h1).toLoadRect g)
      (arg3.view.readAt (Elt Ideal) (Rect.unit (s := S3072x1024) ![1024 * m, 0] ![1024, 1024] h3).toLoadRect X3) x
      = yAt T B Sc Z (arg3.view.read (Elt Ideal) X3) kk ((Rect.unit (s := S3072x1024) ![1024 * m, 256 * h] ![1024, 256] h9).emb x) := by
  obtain ⟨r, c, rfl⟩ : ∃ (r : Fin 1024) (c : Fin 256), x = ix2 r c := ⟨x 0, x 1, by funext b; match b with | ⟨0, _⟩ => rfl | ⟨1, _⟩ => rfl⟩
  rw [mmW_apply]
  unfold yAt
  refine Finset.sum_congr rfl fun i _ => ?_
  rw [pairW_apply]
  have hr := r.isLt
  have hc := c.isLt
  have hi := i.isLt
  refine congrArg₂ (· * ·) ?_ ?_
  · refine congrArg (arg3.view.read (Elt Ideal) X3) (funext fun b => Fin.ext ?_)
    match b with
    | ⟨0, _⟩ => rfl
    | ⟨1, _⟩ => exact (show 0 + 1 * i.val = i.val by omega)
  · have key : ∀ (p : ℕ) (hp : p < 8) (hb : ∀ b, ![516 * p, 0, 0] b + ![512, 2, 128] b ≤ S4128x2x128.size b) (hpc : p = (256 * h + c.val) / 128),
        arg10.view.readAt (Elt Ideal) (Rect.unit (s := S4128x2x128) ![516 * p, 0, 0] ![512, 2, 128] hb).toLoadRect g (ix3 ⟨i.val / 2, by omega⟩ ⟨i.val % 2, by omega⟩ ⟨c.val % 128, by omega⟩)
        = wScr T B Sc Z kk ⟨(256 * h + 1 * c.val) / 128, by omega⟩ ⟨i.val / 2, by omega⟩ ⟨i.val % 2, by omega⟩ ⟨(256 * h + 1 * c.val) % 128, by omega⟩ := by
      intro p hp hb hpc
      have hlt : (516 * p + 1 * (i.val / 2)) % 516 < 512 := by omega
      refine (hs _ hlt).trans ?_
      have e0 : (⟨(516 * p + 1 * (i.val / 2)) / 516, by omega⟩ : Fin 8) = ⟨(256 * h + 1 * c.val) / 128, by omega⟩ := Fin.ext (show (516 * p + 1 * (i.val / 2)) / 516 = (256 * h + 1 * c.val) / 128 by omega)
      have e1 : (⟨(516 * p + 1 * (i.val / 2)) % 516 % 512, by omega⟩ : Fin 512) = ⟨i.val / 2, by omega⟩ := Fin.ext (show (516 * p + 1 * (i.val / 2)) % 516 % 512 = i.val / 2 by omega)
      have e2 : (⟨0 + 1 * (i.val % 2), by omega⟩ : Fin 2) = ⟨i.val % 2, by omega⟩ := Fin.ext (show 0 + 1 * (i.val % 2) = i.val % 2 by omega)
      have e3 : (⟨0 + 1 * (c.val % 128), by omega⟩ : Fin 128) = ⟨(256 * h + 1 * c.val) % 128, by omega⟩ := Fin.ext (show 0 + 1 * (c.val % 128) = (256 * h + 1 * c.val) % 128 by omega)
      exact wScr_congr T B Sc Z kk e0 e1 e2 e3
    split
    · exact key (2 * h) (by omega) h0 (by omega)
    · exact key (2 * h + 1) (by omega) h1 (by omega)

theorem in9 (m h : ℕ) (hm : m < 3) (hh : h < 4) : ∀ b, ![1024 * m, 256 * h] b + ![1024, 256] b ≤ S3072x1024.size b := by
  intro b
  match b with
  | ⟨0, _⟩ => exact (show 1024 * m + 1024 ≤ 3072 by omega)
  | ⟨1, _⟩ => exact (show 256 * h + 256 ≤ 1024 by omega)

theorem in3 (m : ℕ) (hm : m < 3) : ∀ b, ![1024 * m, 0] b + ![1024, 1024] b ≤ S3072x1024.size b := by
  intro b
  match b with
  | ⟨0, _⟩ => exact (show 1024 * m + 1024 ≤ 3072 by omega)
  | ⟨1, _⟩ => exact (show 0 + 1024 ≤ 1024 by omega)

theorem in10 (p : ℕ) (hp : p < 8) : ∀ b, ![516 * p, 0, 0] b + ![512, 2, 128] b ≤ S4128x2x128.size b := by
  intro b
  match b with
  | ⟨0, _⟩ => exact (show 516 * p + 512 ≤ 4128 by omega)
  | ⟨1, _⟩ => exact (show 0 + 2 ≤ 2 by omega)
  | ⟨2, _⟩ => exact (show 0 + 128 ≤ 128 by omega)

theorem mem_acc (m h : ℕ) (h9 : ∀ b, ![1024 * m, 256 * h] b + ![1024, 256] b ≤ S3072x1024.size b) (y : S3072x1024.Idx) (hm : (y 0).val / 1024 = m) (hh : (y 1).val / 256 = h) :
    y ∈ (Rect.unit (s := S3072x1024) ![1024 * m, 256 * h] ![1024, 256] h9).set := by
  rw [Rect.mem_set_unit]
  intro b
  match b with
  | ⟨0, _⟩ => exact ⟨(show 1024 * m ≤ (y 0).val by omega), (show (y 0).val < 1024 * m + 1024 by omega)⟩
  | ⟨1, _⟩ => exact ⟨(show 256 * h ≤ (y 1).val by omega), (show (y 1).val < 256 * h + 256 by omega)⟩

/-- A stored sum: what was there before, and the block product. -/
theorem add_ok {s : Shape} {a b : FVec Ideal s .f32} {u : EReal} {v : EReal} (h : s.ShapeCasts s) (x : s.Idx) (ha : a x = u) (hb : b x = v) :
    shapeCast s (addf a b) h x = u + v := by
  rw [shapeCast_self, ← ha, ← hb]
  rfl

theorem set_ok {s : Shape} {a : FVec Ideal s .f32} {v : EReal} (h : s.ShapeCasts s) (x : s.Idx) (ha : a x = v) : shapeCast s a h x = v := by
  rw [shapeCast_self, ha]

theorem cases_12 (y : S3072x1024.Idx) (P : Prop) (hP : ∀ m h, m < 3 → h < 4 → (y 0).val / 1024 = m → (y 1).val / 256 = h → P) : P :=
  hP _ _ (by have := (y 0).isLt; change (y 0).val < 3072 at this; omega) (by have := (y 1).isLt; change (y 1).val < 1024 at this; omega) rfl rfl

end Cert.Proof.KernelIdeal

end
-- ==== Proof.KernelIdeal.AccRun.lean ====
/- The accumulator after one grid point, read as what it held before and the point's sums of products. -/
module

public import proofs.«01_k».proof.Proof.KernelIdeal.Acc
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem runA_acc (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (hg : ∀ r x, (arg2.view.readAt (Elt Ideal) r X2 x : BitVec 32).toNat < 128) (hz : condZ i) (hp : ¬ condP i) (hl : ¬ condL i) (y : S3072x1024.Idx) :
    arg9.view.read (Elt Ideal) (arg9.view.writes (Elt Ideal) f9 (runA (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).1) y
      = yAt (arg2.view.read (Elt Ideal) X2) (arg4.view.read (Elt Ideal) X4) (arg5.view.read (Elt Ideal) X5) (arg6.view.read (Elt Ideal) X6) (arg3.view.read (Elt Ideal) X3) (i 1) y := by
  have hs := scratch_read 𝒱 c bd q2 i arg2 harg2 arg3 harg3 arg4 harg4 arg5 harg5 arg6 harg6 arg7 harg7 arg8 harg8 arg9 harg9 arg10 harg10 (BitVec.ofNat 32 (i 1).val) X2 X4 X5 X6 hg f10
  rw [← trips_k0_t1] at hs
  refine View.read_writes_apply_of_pieces arg9.view f9 (fun y => yAt (arg2.view.read (Elt Ideal) X2) (arg4.view.read (Elt Ideal) X4) (arg5.view.read (Elt Ideal) X5) (arg6.view.read (Elt Ideal) X6) (arg3.view.read (Elt Ideal) X3) (i 1) y) _ ?_ y ?_
  · unfold runA
    skip
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩
    · exact fun x => set_ok _ x (mm_ok arg2 harg2 arg3 harg3 arg4 harg4 arg5 harg5 arg6 harg6 arg7 harg7 arg8 harg8 arg9 harg9 arg10 harg10 X3 _ _ _ _ _ (i 1) hs 2 3 (by norm_num) (by norm_num) (in10 (2 * 3) (by norm_num)) (in10 (2 * 3 + 1) (by norm_num)) (in3 2 (by norm_num)) (in9 2 3 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 1 3 (by norm_num) (by norm_num) (in10 (2 * 3) (by norm_num)) (in10 (2 * 3 + 1) (by norm_num)) (in3 1 (by norm_num)) (in9 1 3 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 0 3 (by norm_num) (by norm_num) (in10 (2 * 3) (by norm_num)) (in10 (2 * 3 + 1) (by norm_num)) (in3 0 (by norm_num)) (in9 0 3 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 2 2 (by norm_num) (by norm_num) (in10 (2 * 2) (by norm_num)) (in10 (2 * 2 + 1) (by norm_num)) (in3 2 (by norm_num)) (in9 2 2 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 1 2 (by norm_num) (by norm_num) (in10 (2 * 2) (by norm_num)) (in10 (2 * 2 + 1) (by norm_num)) (in3 1 (by norm_num)) (in9 1 2 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 0 2 (by norm_num) (by norm_num) (in10 (2 * 2) (by norm_num)) (in10 (2 * 2 + 1) (by norm_num)) (in3 0 (by norm_num)) (in9 0 2 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 2 1 (by norm_num) (by norm_num) (in10 (2 * 1) (by norm_num)) (in10 (2 * 1 + 1) (by norm_num)) (in3 2 (by norm_num)) (in9 2 1 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 1 1 (by norm_num) (by norm_num) (in10 (2 * 1) (by norm_num)) (in10 (2 * 1 + 1) (by norm_num)) (in3 1 (by norm_num)) (in9 1 1 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 0 1 (by norm_num) (by norm_num) (in10 (2 * 1) (by norm_num)) (in10 (2 * 1 + 1) (by norm_num)) (in3 0 (by norm_num)) (in9 0 1 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 2 0 (by norm_num) (by norm_num) (in10 (2 * 0) (by norm_num)) (in10 (2 * 0 + 1) (by norm_num)) (in3 2 (by norm_num)) (in9 2 0 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 1 0 (by norm_num) (by norm_num) (in10 (2 * 0) (by norm_num)) (in10 (2 * 0 + 1) (by norm_num)) (in3 1 (by norm_num)) (in9 1 0 (by norm_num) (by norm_num)) x)
    · exact fun x => set_ok _ x (mm_ok arg2 harg2 arg3 harg3 arg4 harg4 arg5 harg5 arg6 harg6 arg7 harg7 arg8 harg8 arg9 harg9 arg10 harg10 X3 _ _ _ _ _ (i 1) hs 0 0 (by norm_num) (by norm_num) (in10 (2 * 0) (by norm_num)) (in10 (2 * 0 + 1) (by norm_num)) (in3 0 (by norm_num)) (in9 0 0 (by norm_num) (by norm_num)) x)
  · have hy0 := (y 0).isLt
    have hy1 := (y 1).isLt
    change (y 0).val < 3072 at hy0
    change (y 1).val < 1024 at hy1
    unfold runA
    skip
    rcases (show (y 1).val / 256 = 0 ∨ (y 1).val / 256 = 1 ∨ (y 1).val / 256 = 2 ∨ (y 1).val / 256 = 3 by omega) with h1 | h1 | h1 | h1 <;>
      rcases (show (y 0).val / 1024 = 0 ∨ (y 0).val / 1024 = 1 ∨ (y 0).val / 1024 = 2 by omega) with h0 | h0 | h0
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_acc 0 0 (in9 0 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_acc 1 0 (in9 1 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_acc 2 0 (in9 2 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.head _)))))))), mem_acc 0 1 (in9 0 1 (by norm_num) (by norm_num)) y h0 h1⟩
    · exact ⟨_, List.Mem.tail _ (List.Mem.tail _ (List.Mem.tail _ (List.Mem.tail _ (List.Mem.tail _ (List.Mem.tail _ (List.Mem.tail _ (List.Mem.head _))))))), mem_acc 1 1 (in9 1 1 (by norm_num) (by norm_num)) y h0 h1⟩
    · exact ⟨_, List.Mem.tail _ (List.Mem.tail _ (List.Mem.tail _ (List.Mem.tail _ (List.Mem.tail _ (List.Mem.tail _ (List.Mem.head _)))))), mem_acc 2 1 (in9 2 1 (by norm_num) (by norm_num)) y h0 h1⟩
    · exact ⟨_, List.Mem.tail _ (List.Mem.tail _ (List.Mem.tail _ (List.Mem.tail _ (List.Mem.tail _ (List.Mem.head _))))), mem_acc 0 2 (in9 0 2 (by norm_num) (by norm_num)) y h0 h1⟩
    · exact ⟨_, List.Mem.tail _ (List.Mem.tail _ (List.Mem.tail _ (List.Mem.tail _ (List.Mem.head _)))), mem_acc 1 2 (in9 1 2 (by norm_num) (by norm_num)) y h0 h1⟩
    · exact ⟨_, List.Mem.tail _ (List.Mem.tail _ (List.Mem.tail _ (List.Mem.head _))), mem_acc 2 2 (in9 2 2 (by norm_num) (by norm_num)) y h0 h1⟩
    · exact ⟨_, List.Mem.tail _ (List.Mem.tail _ (List.Mem.head _)), mem_acc 0 3 (in9 0 3 (by norm_num) (by norm_num)) y h0 h1⟩
    · exact ⟨_, List.Mem.tail _ (List.Mem.head _), mem_acc 1 3 (in9 1 3 (by norm_num) (by norm_num)) y h0 h1⟩
    · exact ⟨_, List.Mem.head _, mem_acc 2 3 (in9 2 3 (by norm_num) (by norm_num)) y h0 h1⟩

theorem runB_acc (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (hg : ∀ r x, (arg2.view.readAt (Elt Ideal) r X2 x : BitVec 32).toNat < 128) (hz : ¬ condZ i) (hp : condP i) (hl : ¬ condL i) (y : S3072x1024.Idx) :
    arg9.view.read (Elt Ideal) (arg9.view.writes (Elt Ideal) f9 (runB (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).1) y
      = arg9.view.read (Elt Ideal) f9 y + yAt (arg2.view.read (Elt Ideal) X2) (arg4.view.read (Elt Ideal) X4) (arg5.view.read (Elt Ideal) X5) (arg6.view.read (Elt Ideal) X6) (arg3.view.read (Elt Ideal) X3) (i 1) y := by
  have hs := scratch_read 𝒱 c bd q2 i arg2 harg2 arg3 harg3 arg4 harg4 arg5 harg5 arg6 harg6 arg7 harg7 arg8 harg8 arg9 harg9 arg10 harg10 (BitVec.ofNat 32 (i 1).val) X2 X4 X5 X6 hg f10
  rw [← trips_k0_t1] at hs
  refine View.read_writes_apply_of_pieces arg9.view f9 (fun y => arg9.view.read (Elt Ideal) f9 y + yAt (arg2.view.read (Elt Ideal) X2) (arg4.view.read (Elt Ideal) X4) (arg5.view.read (Elt Ideal) X5) (arg6.view.read (Elt Ideal) X6) (arg3.view.read (Elt Ideal) X3) (i 1) y) _ ?_ y ?_
  · unfold runB
    skip
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩
    · exact fun x => add_ok _ x rfl (mm_ok arg2 harg2 arg3 harg3 arg4 harg4 arg5 harg5 arg6 harg6 arg7 harg7 arg8 harg8 arg9 harg9 arg10 harg10 X3 _ _ _ _ _ (i 1) hs 2 3 (by norm_num) (by norm_num) (in10 (2 * 3) (by norm_num)) (in10 (2 * 3 + 1) (by norm_num)) (in3 2 (by norm_num)) (in9 2 3 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 3 (by norm_num) (by norm_num) (in10 (2 * 3) (by norm_num)) (in10 (2 * 3 + 1) (by norm_num)) (in3 1 (by norm_num)) (in9 1 3 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 3 (by norm_num) (by norm_num) (in10 (2 * 3) (by norm_num)) (in10 (2 * 3 + 1) (by norm_num)) (in3 0 (by norm_num)) (in9 0 3 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 2 2 (by norm_num) (by norm_num) (in10 (2 * 2) (by norm_num)) (in10 (2 * 2 + 1) (by norm_num)) (in3 2 (by norm_num)) (in9 2 2 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 2 (by norm_num) (by norm_num) (in10 (2 * 2) (by norm_num)) (in10 (2 * 2 + 1) (by norm_num)) (in3 1 (by norm_num)) (in9 1 2 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 2 (by norm_num) (by norm_num) (in10 (2 * 2) (by norm_num)) (in10 (2 * 2 + 1) (by norm_num)) (in3 0 (by norm_num)) (in9 0 2 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 2 1 (by norm_num) (by norm_num) (in10 (2 * 1) (by norm_num)) (in10 (2 * 1 + 1) (by norm_num)) (in3 2 (by norm_num)) (in9 2 1 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 1 (by norm_num) (by norm_num) (in10 (2 * 1) (by norm_num)) (in10 (2 * 1 + 1) (by norm_num)) (in3 1 (by norm_num)) (in9 1 1 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 1 (by norm_num) (by norm_num) (in10 (2 * 1) (by norm_num)) (in10 (2 * 1 + 1) (by norm_num)) (in3 0 (by norm_num)) (in9 0 1 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 2 0 (by norm_num) (by norm_num) (in10 (2 * 0) (by norm_num)) (in10 (2 * 0 + 1) (by norm_num)) (in3 2 (by norm_num)) (in9 2 0 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 0 (by norm_num) (by norm_num) (in10 (2 * 0) (by norm_num)) (in10 (2 * 0 + 1) (by norm_num)) (in3 1 (by norm_num)) (in9 1 0 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 0 (by norm_num) (by norm_num) (in10 (2 * 0) (by norm_num)) (in10 (2 * 0 + 1) (by norm_num)) (in3 0 (by norm_num)) (in9 0 0 (by norm_num) (by norm_num)) x)
  · have hy0 := (y 0).isLt
    have hy1 := (y 1).isLt
    change (y 0).val < 3072 at hy0
    change (y 1).val < 1024 at hy1
    unfold runB
    skip
    rcases (show (y 1).val / 256 = 0 ∨ (y 1).val / 256 = 1 ∨ (y 1).val / 256 = 2 ∨ (y 1).val / 256 = 3 by omega) with h1 | h1 | h1 | h1 <;>
      rcases (show (y 0).val / 1024 = 0 ∨ (y 0).val / 1024 = 1 ∨ (y 0).val / 1024 = 2 by omega) with h0 | h0 | h0
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_acc 0 0 (in9 0 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_acc 1 0 (in9 1 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_acc 2 0 (in9 2 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.head _)))))))), mem_acc 0 1 (in9 0 1 (by norm_num) (by norm_num)) y h0 h1⟩
    · exact ⟨_, List.Mem.tail _ (List.Mem.tail _ (List.Mem.tail _ (List.Mem.tail _ (List.Mem.tail _ (List.Mem.tail _ (List.Mem.tail _ (List.Mem.head _))))))), mem_acc 1 1 (in9 1 1 (by norm_num) (by norm_num)) y h0 h1⟩
    · exact ⟨_, List.Mem.tail _ (List.Mem.tail _ (List.Mem.tail _ (List.Mem.tail _ (List.Mem.tail _ (List.Mem.tail _ (List.Mem.head _)))))), mem_acc 2 1 (in9 2 1 (by norm_num) (by norm_num)) y h0 h1⟩
    · exact ⟨_, List.Mem.tail _ (List.Mem.tail _ (List.Mem.tail _ (List.Mem.tail _ (List.Mem.tail _ (List.Mem.head _))))), mem_acc 0 2 (in9 0 2 (by norm_num) (by norm_num)) y h0 h1⟩
    · exact ⟨_, List.Mem.tail _ (List.Mem.tail _ (List.Mem.tail _ (List.Mem.tail _ (List.Mem.head _)))), mem_acc 1 2 (in9 1 2 (by norm_num) (by norm_num)) y h0 h1⟩
    · exact ⟨_, List.Mem.tail _ (List.Mem.tail _ (List.Mem.tail _ (List.Mem.head _))), mem_acc 2 2 (in9 2 2 (by norm_num) (by norm_num)) y h0 h1⟩
    · exact ⟨_, List.Mem.tail _ (List.Mem.tail _ (List.Mem.head _)), mem_acc 0 3 (in9 0 3 (by norm_num) (by norm_num)) y h0 h1⟩
    · exact ⟨_, List.Mem.tail _ (List.Mem.head _), mem_acc 1 3 (in9 1 3 (by norm_num) (by norm_num)) y h0 h1⟩
    · exact ⟨_, List.Mem.head _, mem_acc 2 3 (in9 2 3 (by norm_num) (by norm_num)) y h0 h1⟩

theorem runC_acc (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (hg : ∀ r x, (arg2.view.readAt (Elt Ideal) r X2 x : BitVec 32).toNat < 128) (hz : ¬ condZ i) (hp : condP i) (hl : condL i) (y : S3072x1024.Idx) :
    arg9.view.read (Elt Ideal) (arg9.view.writes (Elt Ideal) arg9.view.junk (runC (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).2.2.1) y
      = arg9.view.read (Elt Ideal) f9 y + yAt (arg2.view.read (Elt Ideal) X2) (arg4.view.read (Elt Ideal) X4) (arg5.view.read (Elt Ideal) X5) (arg6.view.read (Elt Ideal) X6) (arg3.view.read (Elt Ideal) X3) (i 1) y := by
  have hs := scratch_read 𝒱 c bd q2 i arg2 harg2 arg3 harg3 arg4 harg4 arg5 harg5 arg6 harg6 arg7 harg7 arg8 harg8 arg9 harg9 arg10 harg10 (BitVec.ofNat 32 (i 1).val) X2 X4 X5 X6 hg f10
  rw [← trips_k0_t1] at hs
  refine View.read_writes_apply_of_pieces arg9.view arg9.view.junk (fun y => arg9.view.read (Elt Ideal) f9 y + yAt (arg2.view.read (Elt Ideal) X2) (arg4.view.read (Elt Ideal) X4) (arg5.view.read (Elt Ideal) X5) (arg6.view.read (Elt Ideal) X6) (arg3.view.read (Elt Ideal) X3) (i 1) y) _ ?_ y ?_
  · unfold runC
    unfold runC.sl.H9_12
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩
    · exact fun x => add_ok _ x rfl (mm_ok arg2 harg2 arg3 harg3 arg4 harg4 arg5 harg5 arg6 harg6 arg7 harg7 arg8 harg8 arg9 harg9 arg10 harg10 X3 _ _ _ _ _ (i 1) hs 2 3 (by norm_num) (by norm_num) (in10 (2 * 3) (by norm_num)) (in10 (2 * 3 + 1) (by norm_num)) (in3 2 (by norm_num)) (in9 2 3 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 3 (by norm_num) (by norm_num) (in10 (2 * 3) (by norm_num)) (in10 (2 * 3 + 1) (by norm_num)) (in3 1 (by norm_num)) (in9 1 3 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 3 (by norm_num) (by norm_num) (in10 (2 * 3) (by norm_num)) (in10 (2 * 3 + 1) (by norm_num)) (in3 0 (by norm_num)) (in9 0 3 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 2 2 (by norm_num) (by norm_num) (in10 (2 * 2) (by norm_num)) (in10 (2 * 2 + 1) (by norm_num)) (in3 2 (by norm_num)) (in9 2 2 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 2 (by norm_num) (by norm_num) (in10 (2 * 2) (by norm_num)) (in10 (2 * 2 + 1) (by norm_num)) (in3 1 (by norm_num)) (in9 1 2 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 2 (by norm_num) (by norm_num) (in10 (2 * 2) (by norm_num)) (in10 (2 * 2 + 1) (by norm_num)) (in3 0 (by norm_num)) (in9 0 2 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 2 1 (by norm_num) (by norm_num) (in10 (2 * 1) (by norm_num)) (in10 (2 * 1 + 1) (by norm_num)) (in3 2 (by norm_num)) (in9 2 1 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 1 (by norm_num) (by norm_num) (in10 (2 * 1) (by norm_num)) (in10 (2 * 1 + 1) (by norm_num)) (in3 1 (by norm_num)) (in9 1 1 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 1 (by norm_num) (by norm_num) (in10 (2 * 1) (by norm_num)) (in10 (2 * 1 + 1) (by norm_num)) (in3 0 (by norm_num)) (in9 0 1 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 2 0 (by norm_num) (by norm_num) (in10 (2 * 0) (by norm_num)) (in10 (2 * 0 + 1) (by norm_num)) (in3 2 (by norm_num)) (in9 2 0 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 1 0 (by norm_num) (by norm_num) (in10 (2 * 0) (by norm_num)) (in10 (2 * 0 + 1) (by norm_num)) (in3 1 (by norm_num)) (in9 1 0 (by norm_num) (by norm_num)) x)
    · exact fun x => add_ok _ x rfl (mm_ok arg2 harg2 arg3 harg3 arg4 harg4 arg5 harg5 arg6 harg6 arg7 harg7 arg8 harg8 arg9 harg9 arg10 harg10 X3 _ _ _ _ _ (i 1) hs 0 0 (by norm_num) (by norm_num) (in10 (2 * 0) (by norm_num)) (in10 (2 * 0 + 1) (by norm_num)) (in3 0 (by norm_num)) (in9 0 0 (by norm_num) (by norm_num)) x)
  · have hy0 := (y 0).isLt
    have hy1 := (y 1).isLt
    change (y 0).val < 3072 at hy0
    change (y 1).val < 1024 at hy1
    unfold runC
    unfold runC.sl.H9_12
    rcases (show (y 1).val / 256 = 0 ∨ (y 1).val / 256 = 1 ∨ (y 1).val / 256 = 2 ∨ (y 1).val / 256 = 3 by omega) with h1 | h1 | h1 | h1 <;>
      rcases (show (y 0).val / 1024 = 0 ∨ (y 0).val / 1024 = 1 ∨ (y 0).val / 1024 = 2 by omega) with h0 | h0 | h0
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_acc 0 0 (in9 0 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_acc 1 0 (in9 1 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_acc 2 0 (in9 2 0 (by norm_num) (by norm_num)) y h0 h1⟩
    · exact ⟨_, List.Mem.tail _ (List.Mem.tail _ (List.Mem.tail _ (List.Mem.tail _ (List.Mem.tail _ (List.Mem.tail _ (List.Mem.tail _ (List.Mem.tail _ (List.Mem.head _)))))))), mem_acc 0 1 (in9 0 1 (by norm_num) (by norm_num)) y h0 h1⟩
    · exact ⟨_, List.Mem.tail _ (List.Mem.tail _ (List.Mem.tail _ (List.Mem.tail _ (List.Mem.tail _ (List.Mem.tail _ (List.Mem.tail _ (List.Mem.head _))))))), mem_acc 1 1 (in9 1 1 (by norm_num) (by norm_num)) y h0 h1⟩
    · exact ⟨_, List.Mem.tail _ (List.Mem.tail _ (List.Mem.tail _ (List.Mem.tail _ (List.Mem.tail _ (List.Mem.tail _ (List.Mem.head _)))))), mem_acc 2 1 (in9 2 1 (by norm_num) (by norm_num)) y h0 h1⟩
    · exact ⟨_, List.Mem.tail _ (List.Mem.tail _ (List.Mem.tail _ (List.Mem.tail _ (List.Mem.tail _ (List.Mem.head _))))), mem_acc 0 2 (in9 0 2 (by norm_num) (by norm_num)) y h0 h1⟩
    · exact ⟨_, List.Mem.tail _ (List.Mem.tail _ (List.Mem.tail _ (List.Mem.tail _ (List.Mem.head _)))), mem_acc 1 2 (in9 1 2 (by norm_num) (by norm_num)) y h0 h1⟩
    · exact ⟨_, List.Mem.tail _ (List.Mem.tail _ (List.Mem.tail _ (List.Mem.head _))), mem_acc 2 2 (in9 2 2 (by norm_num) (by norm_num)) y h0 h1⟩
    · exact ⟨_, List.Mem.tail _ (List.Mem.tail _ (List.Mem.head _)), mem_acc 0 3 (in9 0 3 (by norm_num) (by norm_num)) y h0 h1⟩
    · exact ⟨_, List.Mem.tail _ (List.Mem.head _), mem_acc 1 3 (in9 1 3 (by norm_num) (by norm_num)) y h0 h1⟩
    · exact ⟨_, List.Mem.head _, mem_acc 2 3 (in9 2 3 (by norm_num) (by norm_num)) y h0 h1⟩

end Cert.Proof.KernelIdeal

end
-- ==== Proof.Expo.lean ====
/- The scale of a row of a block: the power of two found by comparing exponent fields, and by a logarithm over the reals. -/
module

public import Idealize.ShloMosaic.PureOps.Ideal
public import Idealize.ShloMosaic.Lib.IdealHost

@[expose] public section

set_option maxHeartbeats 1000000

noncomputable section

namespace Cert.Proof.Expo

open Idealize.ShloMosaic

/-- The number a bare exponent field denotes. -/
def val (n : ℕ) : EReal := Ideal.ofBits .f32 (BitVec.ofNat 32 n <<< 23)

theorem field_bits : ∀ n : Fin 256, (BitVec.ofNat 32 n.val <<< 23).extractLsb' 31 1 = 0#1 ∧ ((BitVec.ofNat 32 n.val <<< 23).extractLsb' 23 8).toNat = n.val
    ∧ ((BitVec.ofNat 32 n.val <<< 23).extractLsb' 0 23).toNat = 0 := by
  decide +kernel

theorem ofBits_ieee (w : BitVec 32) : Ideal.ofBits .f32 w = Ideal.ieee 8 23 w := by unfold Ideal.ofBits; rfl

theorem val_normal (n : ℕ) (h1 : 1 ≤ n) (h2 : n ≤ 254) : val n = (((2 : ℝ) ^ ((n : ℤ) - 127) : ℝ) : EReal) := by
  obtain ⟨a, b, c⟩ := field_bits ⟨n, by omega⟩
  dsimp only at a b c
  unfold val
  rw [ofBits_ieee]
  unfold Ideal.ieee
  simp only [Nat.reduceAdd, a, b, c]
  rw [if_neg (by norm_num; omega), if_neg (by omega)]
  refine congrArg (fun r : ℝ => (r : EReal)) ?_
  rw [if_neg (by decide)]
  have e : ((n : ℤ) - (2 ^ (8 - 1) - 1) - ((23 : ℕ) : ℤ)) = ((n : ℤ) - 127) - 23 := by norm_num
  rw [e, zpow_sub₀ (by norm_num : (2 : ℝ) ≠ 0)]
  norm_num
  ring

theorem val_top : val 255 = ⊤ := by
  obtain ⟨a, b, c⟩ := field_bits ⟨255, by omega⟩
  dsimp only at a b c
  unfold val
  rw [ofBits_ieee]
  unfold Ideal.ieee
  simp only [Nat.reduceAdd, a, b, c]
  norm_num

/-- One comparison of the search. -/
def step (x : EReal) (c b : BitVec 32) : BitVec 32 :=
  Scalar.select (Ideal.cmp .oge x (Ideal.ofBits .f32 (IntOp.shli .vector (IntOp.addi c b) 23#32))) (IntOp.addi c b) c

/-- The exponent field found, at most 252. -/
def field (x : EReal) : BitVec 32 :=
  IntOp.minsi (step x (step x (step x (step x (step x (step x (step x (step x 0#32 128#32) 64#32) 32#32) 16#32) 8#32) 4#32) 2#32) 1#32) 252#32

/-- The scale from the field. -/
def scale (x : EReal) : EReal :=
  Ideal.ofBits .f32 (IntOp.shli .vector (Scalar.select (IntOp.cmpi .eq (field x) 0#32) 127#32 (IntOp.addi (field x) 1#32)) 23#32)

/-- Its inverse from the field. -/
def inv (x : EReal) : EReal :=
  Ideal.ofBits .f32 (IntOp.shli .vector (Scalar.select (IntOp.cmpi .eq (field x) 0#32) 127#32 (IntOp.subi 253#32 (field x))) 23#32)

/-- The exponent by a logarithm. -/
def expo (x : EReal) : EReal :=
  Scalar.select (Ideal.cmp .olt x (Ideal.ofBits .f32 0x00800000#32)) (Ideal.ofBits .f32 0x00000000#32)
    (min (Ideal.liftRound Int.floor (Ideal.div (Ideal.log x) (Ideal.log (Ideal.ofBits .f32 0x40000000#32))) + Ideal.ofBits .f32 0x3F800000#32) (Ideal.ofBits .f32 0x42FC0000#32))

theorem shli_ofNat (n : ℕ) : Ideal.ofBits .f32 (IntOp.shli .vector (BitVec.ofNat 32 n) 23#32) = val n := rfl

theorem addi_ofNat (c b : ℕ) : IntOp.addi (BitVec.ofNat 32 c) (BitVec.ofNat 32 b) = BitVec.ofNat 32 (c + b) := by
  show BitVec.ofNat 32 c + BitVec.ofNat 32 b = _
  rw [BitVec.ofNat_add]

/-- What is known of a partial field `c` when the bits below `2 w` remain. -/
def Inv (x : EReal) (c w : ℕ) : Prop := c + w ≤ 256 ∧ (1 ≤ c → val c ≤ x) ∧ (c + w ≤ 255 → x < val (c + w))

theorem step_inv (x : EReal) (c b : ℕ) (h : Inv x c (2 * b)) : ∃ c', step x (BitVec.ofNat 32 c) (BitVec.ofNat 32 b) = BitVec.ofNat 32 c' ∧ Inv x c' b := by
  obtain ⟨h1, h2, h3⟩ := h
  unfold step
  rw [addi_ofNat, shli_ofNat]
  by_cases hx : val (c + b) ≤ x
  · refine ⟨c + b, ?_, by omega, fun _ => hx, fun h => ?_⟩
    · have : Ideal.cmp .oge x (val (c + b)) = 1#1 := by simp [Ideal.cmp, hx]
      rw [this]; rfl
    · have e : c + b + b = c + 2 * b := by omega
      rw [e] at h ⊢; exact h3 h
  · refine ⟨c, ?_, by omega, h2, fun _ => lt_of_not_ge hx⟩
    have : Ideal.cmp .oge x (val (c + b)) = 0#1 := by simp [Ideal.cmp, hx]
    rw [this]; rfl

theorem minsi_252 : ∀ f : Fin 256, IntOp.minsi (BitVec.ofNat 32 f.val) 252#32 = BitVec.ofNat 32 (min f.val 252) := by decide +kernel

theorem field_spec (x : EReal) : ∃ f, f ≤ 255 ∧ field x = BitVec.ofNat 32 (min f 252) ∧ (1 ≤ f → val f ≤ x) ∧ (f ≤ 254 → x < val (f + 1)) := by
  obtain ⟨c1, e1, i1⟩ := step_inv x 0 128 ⟨by omega, by omega, by omega⟩
  obtain ⟨c2, e2, i2⟩ := step_inv x c1 64 i1
  obtain ⟨c3, e3, i3⟩ := step_inv x c2 32 i2
  obtain ⟨c4, e4, i4⟩ := step_inv x c3 16 i3
  obtain ⟨c5, e5, i5⟩ := step_inv x c4 8 i4
  obtain ⟨c6, e6, i6⟩ := step_inv x c5 4 i5
  obtain ⟨c7, e7, i7⟩ := step_inv x c6 2 i6
  obtain ⟨c8, e8, i8⟩ := step_inv x c7 1 i7
  obtain ⟨h1, h2, h3⟩ := i8
  refine ⟨c8, by omega, ?_, h2, fun h => h3 (by omega)⟩
  unfold field
  rw [e1, e2, e3, e4, e5, e6, e7, e8]
  exact minsi_252 ⟨c8, by omega⟩

theorem sel_scale : ∀ f : Fin 253, Scalar.select (IntOp.cmpi .eq (BitVec.ofNat 32 f.val) 0#32) 127#32 (IntOp.addi (BitVec.ofNat 32 f.val) 1#32)
    = BitVec.ofNat 32 (if f.val = 0 then 127 else f.val + 1) := by decide +kernel

theorem sel_inv : ∀ f : Fin 253, Scalar.select (IntOp.cmpi .eq (BitVec.ofNat 32 f.val) 0#32) 127#32 (IntOp.subi 253#32 (BitVec.ofNat 32 f.val))
    = BitVec.ofNat 32 (if f.val = 0 then 127 else 253 - f.val) := by decide +kernel

theorem c_min : Ideal.ofBits .f32 0x00800000#32 = val 1 := rfl
theorem c_two : Ideal.ofBits .f32 0x40000000#32 = ((2 : ℝ) : EReal) := by
  have : Ideal.ofBits .f32 0x40000000#32 = val 128 := rfl
  rw [this, val_normal 128 (by norm_num) (by norm_num)]; norm_num
theorem c_zero : Ideal.ofBits .f32 0x00000000#32 = 0 := by simp [Ideal.ofBits, Ideal.ieee]
theorem c_one : Ideal.ofBits .f32 0x3F800000#32 = ((1 : ℝ) : EReal) := by
  have : Ideal.ofBits .f32 0x3F800000#32 = val 127 := rfl
  rw [this, val_normal 127 (by norm_num) (by norm_num)]; norm_num
theorem c_126 : Ideal.ofBits .f32 0x42FC0000#32 = ((126 : ℝ) : EReal) := by
  simp [Ideal.ofBits, Ideal.ieee, -EReal.coe_mul, -EReal.coe_add]; try norm_num

theorem log2_pos : 0 < Real.log 2 := Real.log_pos (by norm_num)

/-- The quotient of logarithms of a real, over the reals. -/
theorem floor_log (r : ℝ) (n : ℤ) (h0 : 0 < r) (h1 : (2 : ℝ) ^ n ≤ r) (h2 : r < (2 : ℝ) ^ (n + 1)) :
    Ideal.liftRound Int.floor (Ideal.div (Ideal.log (r : EReal)) (Ideal.log ((2 : ℝ) : EReal))) = ((n : ℝ) : EReal) := by
  have l2 := log2_pos
  rw [Ideal.log_coe, Ideal.log_coe, if_neg (not_le.2 h0), if_neg (by norm_num)]
  unfold Ideal.div
  rw [if_neg (by exact_mod_cast l2.ne'), ← EReal.coe_inv, ← EReal.coe_mul]
  show (((Int.floor (Real.log r * (Real.log 2)⁻¹) : ℤ) : ℝ) : EReal) = _
  have : Int.floor (Real.log r * (Real.log 2)⁻¹) = n := by
    rw [Int.floor_eq_iff, ← div_eq_mul_inv, le_div_iff₀ l2, div_lt_iff₀ l2]
    constructor
    · have := Real.log_le_log (by positivity) h1
      rwa [Real.log_zpow] at this
    · have := Real.log_lt_log h0 h2
      rw [Real.log_zpow] at this
      push_cast at this ⊢
      exact this
  rw [this]

theorem floor_log_top : Ideal.liftRound Int.floor (Ideal.div (Ideal.log ⊤) (Ideal.log ((2 : ℝ) : EReal))) = ⊤ := by
  have l2 := log2_pos
  rw [Ideal.log_coe, if_neg (by norm_num), Ideal.log_top]
  unfold Ideal.div
  rw [if_neg (by exact_mod_cast l2.ne'), ← EReal.coe_inv, EReal.top_mul_coe_of_pos (by positivity)]
  rfl

theorem exp2_int (n : ℤ) : Ideal.exp2 ((n : ℝ) : EReal) = (((2 : ℝ) ^ n : ℝ) : EReal) := by
  rw [Ideal.exp2_coe]
  congr 1
  exact Real.rpow_intCast 2 n

/-- The exponent is a number of the field. -/
theorem expo_spec (x : EReal) : ∃ g, g ≤ 252 ∧ field x = BitVec.ofNat 32 g ∧ expo x = (((if g = 0 then 0 else (g : ℤ) - 126 : ℤ) : ℝ) : EReal) := by
  obtain ⟨f, hf, ef, h1, h2⟩ := field_spec x
  refine ⟨min f 252, by omega, ef, ?_⟩
  unfold expo
  rw [c_min, c_zero, c_two, c_one, c_126]
  rcases Nat.eq_zero_or_pos f with rfl | hp
  · have : Ideal.cmp .olt x (val 1) = 1#1 := by simp [Ideal.cmp, h2 (by omega)]
    rw [this]
    simp [Scalar.select]
  have hx1 : val 1 ≤ x := by
    refine le_trans ?_ (h1 hp)
    by_cases h5 : f = 255
    · rw [h5, val_top]; exact le_top
    · rw [val_normal 1 (by norm_num) (by norm_num), val_normal f hp (by omega)]
      refine EReal.coe_le_coe_iff.2 (zpow_le_zpow_right₀ (by norm_num) (by omega))
  have : Ideal.cmp .olt x (val 1) = 0#1 := by simp [Ideal.cmp, not_lt.2 hx1]
  rw [this]
  show min _ _ = _
  have hg : min f 252 ≠ 0 := by omega
  rw [if_neg hg]
  by_cases h5 : f = 255
  · subst h5
    have hx : x = ⊤ := top_le_iff.1 (by have := h1 (by norm_num); rwa [val_top] at this)
    rw [hx, floor_log_top, EReal.top_add_coe, min_eq_right le_top]
    norm_num
  have hle := h1 hp
  rw [val_normal f hp (by omega)] at hle
  have hlt := h2 (by omega)
  have hne : x ≠ ⊤ := ne_top_of_lt hlt
  have hnb : x ≠ ⊥ := fun h => by rw [h] at hle; exact absurd hle (by simp)
  obtain ⟨r, rfl⟩ : ∃ r : ℝ, x = (r : EReal) := ⟨x.toReal, (EReal.coe_toReal hne hnb).symm⟩
  have hr : (2 : ℝ) ^ ((f : ℤ) - 127) ≤ r := EReal.coe_le_coe_iff.1 hle
  have r0 : 0 < r := lt_of_lt_of_le (by positivity) hr
  by_cases h4 : f = 254
  · subst h4
    obtain ⟨n, hn1, hn2⟩ := exists_mem_Ico_zpow (y := (2 : ℝ)) r0 (by norm_num)
    rw [floor_log r n r0 hn1 hn2, ← EReal.coe_add]
    have hn : (127 : ℤ) ≤ n := by
      by_contra hc
      have h6 : (2 : ℝ) ^ (n + 1) ≤ (2 : ℝ) ^ (127 : ℤ) := zpow_le_zpow_right₀ (by norm_num) (by omega)
      have h7 : (2 : ℝ) ^ (127 : ℤ) ≤ r := by simpa using hr
      linarith
    have hn' : (127 : ℝ) ≤ (n : ℝ) := by exact_mod_cast hn
    rw [min_eq_right (EReal.coe_le_coe_iff.2 (by linarith))]
    norm_num
  rw [val_normal (f + 1) (by omega) (by omega)] at hlt
  have hlt' : r < (2 : ℝ) ^ (((f : ℤ) - 127) + 1) := by
    have := EReal.coe_lt_coe_iff.1 hlt
    have e : ((f + 1 : ℕ) : ℤ) - 127 = ((f : ℤ) - 127) + 1 := by push_cast; ring
    rwa [e] at this
  rw [floor_log r _ r0 hr hlt', ← EReal.coe_add]
  by_cases h3 : f = 253
  · subst h3
    rw [min_eq_right (EReal.coe_le_coe_iff.2 (by norm_num))]
    norm_num
  · have hf' : (f : ℝ) ≤ 252 := by exact_mod_cast (show f ≤ 252 by omega)
    rw [min_eq_left (EReal.coe_le_coe_iff.2 (by push_cast; linarith)), min_eq_left (show f ≤ 252 by omega)]
    congr 1
    push_cast
    ring

theorem scale_eq (x : EReal) : scale x = Ideal.exp2 (expo x) := by
  obtain ⟨g, hg, ef, ee⟩ := expo_spec x
  unfold scale
  rw [ef, ee, sel_scale ⟨g, by omega⟩, shli_ofNat, exp2_int]
  by_cases h : g = 0
  · rw [if_pos h, if_pos h, val_normal _ (by norm_num) (by norm_num)]; norm_num
  · rw [if_neg h, if_neg h, val_normal _ (by omega) (by omega)]
    have e : ((g + 1 : ℕ) : ℤ) - 127 = (g : ℤ) - 126 := by push_cast; ring
    rw [← e]

theorem inv_eq (x : EReal) : inv x = Ideal.exp2 (Ideal.ofBits .f32 0x00000000#32 - expo x) := by
  obtain ⟨g, hg, ef, ee⟩ := expo_spec x
  unfold inv
  rw [ef, ee, sel_inv ⟨g, by omega⟩, shli_ofNat, c_zero, zero_sub, ← EReal.coe_neg, ← Int.cast_neg, exp2_int]
  by_cases h : g = 0
  · rw [if_pos h, if_pos h, val_normal _ (by norm_num) (by norm_num)]; norm_num
  · rw [if_neg h, if_neg h, val_normal _ (by omega) (by omega)]
    have e : ((253 - g : ℕ) : ℤ) - 127 = -((g : ℤ) - 126) := by omega
    rw [← e]

/-- The number a row of a block is scaled by before its exponent is taken: its largest magnitude over the largest code. -/
def rowX (f : Fin 128 → EReal) : EReal :=
  (Finset.univ : Finset (Fin 128)).fold max (Ideal.ofBits .f32 0xFF800000#32) (fun l => max (f l) (-f l)) * Ideal.ofBits .f32 0x3B124925#32

/-- The code of a value in a row scaled by `x`. -/
def code (v x : EReal) : EReal :=
  min (Ideal.ofBits .f32 0x43E00000#32) (max (Ideal.ofBits .f32 0xC3E00000#32) (v * inv x))

end Cert.Proof.Expo

end
-- ==== Proof.KernelIdeal.Quant.lean ====
/- The quantise loop: what its stores write, as codes and scales of the accumulator's rows. -/
module

public import proofs.«01_k».proof.Proof.KernelIdeal.Body
public import proofs.«01_k».proof.Proof.Expo
public import Idealize.ShloMosaic.Lib.Pointwise.Select
public import Idealize.ShloMosaic.Lib.Pipeline.Value
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Each row's number, as the body finds it. -/
def rowV (raw : FVec Ideal S256x128 .f32) : FVec Ideal S256x1 .f32 :=
  mulf (shapeCast S256x1 (multiReduction .maximumf [1] S256 (absf raw) 0xFF800000#32 reduces_S256x128_S256 (.inl rfl) rfl) shapeCasts_S256_S256x1) (broadcast S256x1 (Scalar.ofBits .f32 0x3B124925#32))

/-- One comparison of the search, on every row. -/
def stepV (x : FVec Ideal S256x1 .f32) (c : IVec S256x1 32) (b : BitVec 32) : IVec S256x1 32 :=
  select (cmpf .oge x (bitcastToFloat .f32 (shli (addi c (broadcast S256x1 b)) (broadcast S256x1 23#32)))) (addi c (broadcast S256x1 b)) c

/-- The exponent fields found. -/
def fieldV (x : FVec Ideal S256x1 .f32) : IVec S256x1 32 :=
  minsi (stepV x (stepV x (stepV x (stepV x (stepV x (stepV x (stepV x (stepV x (broadcast S256x1 0#32) 128#32) 64#32) 32#32) 16#32) 8#32) 4#32) 2#32) 1#32) (broadcast S256x1 252#32)

/-- Each row's scale. -/
def scaleV (raw : FVec Ideal S256x128 .f32) : FVec Ideal S256x1 .f32 :=
  bitcastToFloat .f32 (shli (select (cmpi .eq (fieldV (rowV raw)) (broadcast S256x1 0#32)) (broadcast S256x1 127#32) (addi (fieldV (rowV raw)) (broadcast S256x1 1#32))) (broadcast S256x1 23#32))

/-- Each row's inverse scale. -/
def invV (raw : FVec Ideal S256x128 .f32) : FVec Ideal S256x1 .f32 :=
  bitcastToFloat .f32 (shli (select (cmpi .eq (fieldV (rowV raw)) (broadcast S256x1 0#32)) (broadcast S256x1 127#32) (subi (broadcast S256x1 253#32) (fieldV (rowV raw)))) (broadcast S256x1 23#32))

theorem stepV_apply (x : FVec Ideal S256x1 .f32) (c : IVec S256x1 32) (b : BitVec 32) (j : S256x1.Idx) : stepV x c b j = Expo.step (x j) (c j) b := rfl

theorem fieldV_apply (x : FVec Ideal S256x1 .f32) (j : S256x1.Idx) : fieldV x j = Expo.field (x j) := by
  show IntOp.minsi (stepV _ _ _ j) 252#32 = _
  simp only [stepV_apply]
  rfl

theorem scaleV_apply (raw : FVec Ideal S256x128 .f32) (j : S256x1.Idx) : scaleV raw j = Expo.scale (rowV raw j) := by
  unfold Expo.scale
  rw [← fieldV_apply]
  rfl

theorem invV_apply (raw : FVec Ideal S256x128 .f32) (j : S256x1.Idx) : invV raw j = Expo.inv (rowV raw j) := by
  unfold Expo.inv
  rw [← fieldV_apply]
  rfl

/-- The codes. -/
def codesV (raw : FVec Ideal S256x128 .f32) : FVec Ideal S256x128 .fp8e4m3 :=
  truncf .fp8e4m3 (minimumf (broadcast S256x128 (Scalar.ofBits .f32 0x43E00000#32)) (maximumf (broadcast S256x128 (Scalar.ofBits .f32 0xC3E00000#32)) (mulf raw (broadcastTo S256x128 (invV raw) broadcasts_S256x1_S256x128)))) bitsLt_fp8e4m3_f32

theorem rowV_apply (raw : FVec Ideal S256x128 .f32) (r : Fin 256) : rowV raw (ix2 r 0) = Expo.rowX fun l => raw (ix2 r l) := by
  have e : shapeCast S256x1 (multiReduction .maximumf [1] S256 (absf raw) 0xFF800000#32 reduces_S256x128_S256 (.inl rfl) rfl) shapeCasts_S256_S256x1 (ix2 r 0)
      = multiReduction .maximumf [1] S256 (absf raw) 0xFF800000#32 reduces_S256x128_S256 (.inl rfl) rfl (ix1 r) := by
    refine shapeCast_apply _ _ _ _ ?_
    rw [Shape.rowMajor_val_two, Shape.rowMajor_val_one]
    show r.val = r.val * 1 + 0
    omega
  show _ * _ = _ * _
  refine congrArg₂ (· * ·) (e.trans ?_) rfl
  refine (Ideal.multiReduction_maximumf_single (s := S256x128) (t := S256) (a := 1) (absf raw) 0xFF800000#32 reduces_S256x128_S256 (.inl rfl) rfl (ix1 r)).trans ?_
  refine congrArg (fun f => Finset.fold max _ f (Finset.univ : Finset (Fin 128))) (funext fun l => ?_)
  show max (raw _) (-raw _) = max (raw _) (-raw _)
  have el : (reduces_S256x128_S256 : Shape.Reduces S256x128 [1] S256).lift (ix1 r) l = ix2 r l := by
    funext b
    match b with
    | ⟨0, _⟩ => rfl
    | ⟨1, _⟩ => rfl
  exact congrArg (fun z => max (raw z) (-raw z)) el

theorem codesV_apply (raw : FVec Ideal S256x128 .f32) (r : Fin 256) (l : Fin 128) :
    codesV raw (ix2 r l) = Expo.code (raw (ix2 r l)) (Expo.rowX fun l => raw (ix2 r l)) := by
  rw [← rowV_apply]
  have e : broadcastTo S256x128 (invV raw) broadcasts_S256x1_S256x128 (ix2 r l) = invV raw (ix2 r 0) := by
    refine broadcastTo_apply _ _ _ _ ?_
    intro b
    match b with
    | ⟨0, _⟩ => rfl
    | ⟨1, _⟩ => rfl
  show min _ (max _ (raw (ix2 r l) * _)) = min _ (max _ (raw (ix2 r l) * _))
  rw [e, invV_apply]
  rfl

/-- The codes of a block of sums. -/
def codeAt (Y : S3072x1024.Idx → EReal) (y : S3072x1024.Idx) : EReal :=
  Expo.code (Y y) (Expo.rowX fun l => Y (ix2 (y 0) ⟨128 * ((y 1).val / 128) + l.val, by have := (y 1).isLt; change (y 1).val < 1024 at this; have := l.isLt; omega⟩))

/-- The scales of a block of sums. -/
def scaleAt (Y : S3072x1024.Idx → EReal) (y : S1x3072x8.Idx) : EReal :=
  Expo.scale (Expo.rowX fun l => Y (ix2 (y 1) ⟨128 * (y 2).val + l.val, by have := (y 2).isLt; change (y 2).val < 8 at this; have := l.isLt; omega⟩))

theorem raw_apply (arg9 : Memref sig .tc .vmem S3072x1024 .f32) (X9 : BufTy.Contents (Elt Ideal) arg9.view.ty) (o : Fin 2 → ℕ) (h : ∀ b, o b + S256x128.size b ≤ S3072x1024.size b)
    (k m : ℕ) (ho : o = ![256 * k, 128 * m]) (hk : k < 12) (hm : m < 8) (r : Fin 256) (l : Fin 128) :
    arg9.view.readAt (Elt Ideal) (Rect.unit (s := S3072x1024) o S256x128.size h).toLoadRect X9 (ix2 r l)
      = arg9.view.read (Elt Ideal) X9 (ix2 ⟨256 * k + r.val, by have := r.isLt; omega⟩ ⟨128 * m + l.val, by have := l.isLt; omega⟩) := by
  subst ho
  refine congrArg (arg9.view.read (Elt Ideal) X9) (funext fun b => Fin.ext ?_)
  match b with
  | ⟨0, _⟩ => exact (show 256 * k + 1 * r.val = 256 * k + r.val by omega)
  | ⟨1, _⟩ => exact (show 128 * m + 1 * l.val = 128 * m + l.val by omega)

/-- A store of codes. -/
theorem code_ok (arg9 : Memref sig .tc .vmem S3072x1024 .f32) (X9 : BufTy.Contents (Elt Ideal) arg9.view.ty) (o : Fin 2 → ℕ) (h : ∀ b, o b + S256x128.size b ≤ S3072x1024.size b)
    (k m : ℕ) (ho : o = ![256 * k, 128 * m]) (hk : k < 12) (hm : m < 8) (x : S256x128.Idx) :
    codesV (arg9.view.readAt (Elt Ideal) (Rect.unit (s := S3072x1024) o S256x128.size h).toLoadRect X9) x
      = codeAt (arg9.view.read (Elt Ideal) X9) ((Rect.unit (s := S3072x1024) o S256x128.size h).emb x) := by
  obtain ⟨r, l, rfl⟩ : ∃ (r : Fin 256) (l : Fin 128), x = ix2 r l := ⟨x 0, x 1, by funext b; match b with | ⟨0, _⟩ => rfl | ⟨1, _⟩ => rfl⟩
  rw [codesV_apply, raw_apply arg9 X9 o h k m ho hk hm]
  simp only [raw_apply arg9 X9 o h k m ho hk hm]
  subst ho
  have hr := r.isLt
  have hl := l.isLt
  have e : (Rect.unit (s := S3072x1024) ![256 * k, 128 * m] S256x128.size h).emb (ix2 r l) = ix2 ⟨256 * k + r.val, by omega⟩ ⟨128 * m + l.val, by omega⟩ := by
    funext b
    match b with
    | ⟨0, _⟩ => exact Fin.ext (show 256 * k + 1 * r.val = 256 * k + r.val by omega)
    | ⟨1, _⟩ => exact Fin.ext (show 128 * m + 1 * l.val = 128 * m + l.val by omega)
  rw [e]
  unfold codeAt
  refine congrArg (fun f => Expo.code _ (Expo.rowX f)) (funext fun l' => congrArg (arg9.view.read (Elt Ideal) X9) (funext fun b => ?_))
  match b with
  | ⟨0, _⟩ => rfl
  | ⟨1, _⟩ => exact Fin.ext (show 128 * m + l'.val = 128 * ((128 * m + l.val) / 128) + l'.val by omega)

/-- Eight columns of scales. -/
def scalesV (s0 s1 s2 s3 s4 s5 s6 s7 : FVec Ideal S256x1 .f32) : FVec Ideal S1x256x8 .f32 :=
  shapeCast S1x256x8 (concatenate S256x8 1 [⟨S256x1, s0⟩, ⟨S256x1, s1⟩, ⟨S256x1, s2⟩, ⟨S256x1, s3⟩, ⟨S256x1, s4⟩, ⟨S256x1, s5⟩, ⟨S256x1, s6⟩, ⟨S256x1, s7⟩] concatenates_S256x1_S256x1_S256x1_S256x1_S256x1_S256x1_S256x1_S256x1_S256x8_d1) shapeCasts_S256x8_S1x256x8

theorem scalesV_apply (s : Fin 8 → FVec Ideal S256x1 .f32) (r : Fin 256) (m : Fin 8) :
    scalesV (s 0) (s 1) (s 2) (s 3) (s 4) (s 5) (s 6) (s 7) (ix3 0 r m) = s m (ix2 r 0) := by
  unfold scalesV
  refine (shapeCast_apply _ _ _ (ix2 r m) ?_).trans ?_
  · rw [Shape.rowMajor_val_two, Shape.rowMajor_val_three]
    show r.val * 8 + m.val = (0 * 256 + r.val) * 8 + m.val
    omega
  · refine (concatenate_ofFn_unit_apply' (t := S256x8) (s₁ := S256x1) (N := 8) 1 s concatenates_S256x1_S256x1_S256x1_S256x1_S256x1_S256x1_S256x1_S256x1_S256x8_d1 rfl (ix2 r m)).trans ?_
    refine congrArg (s m) (funext fun b => ?_)
    match b with
    | ⟨0, _⟩ => rfl
    | ⟨1, _⟩ => rfl

/-- A store of scales. -/
theorem scale_ok (arg9 : Memref sig .tc .vmem S3072x1024 .f32) (X9 : BufTy.Contents (Elt Ideal) arg9.view.ty) (o : Fin 8 → Fin 2 → ℕ) (h : ∀ m b, o m b + S256x128.size b ≤ S3072x1024.size b)
    (k : ℕ) (ho : ∀ m : Fin 8, o m = ![256 * k, 128 * m.val]) (hk : k < 12) (s : Fin 8 → FVec Ideal S256x1 .f32)
    (hs : ∀ m, s m = scaleV (arg9.view.readAt (Elt Ideal) (Rect.unit (s := S3072x1024) (o m) S256x128.size (h m)).toLoadRect X9))
    (o' : Fin 3 → ℕ) (h' : ∀ b, o' b + S1x256x8.size b ≤ S1x3072x8.size b) (ho' : o' = ![0, 256 * k, 0]) (x : S1x256x8.Idx) :
    scalesV (s 0) (s 1) (s 2) (s 3) (s 4) (s 5) (s 6) (s 7) x = scaleAt (arg9.view.read (Elt Ideal) X9) ((Rect.unit (s := S1x3072x8) o' S1x256x8.size h').emb x) := by
  obtain ⟨r, m, rfl⟩ : ∃ (r : Fin 256) (m : Fin 8), x = ix3 0 r m := ⟨x 1, x 2, by
    funext b
    match b with
    | ⟨0, _⟩ => exact Fin.ext (by have := (x 0).isLt; change (x 0).val < 1 at this; show (x 0).val = 0; omega)
    | ⟨1, _⟩ => rfl
    | ⟨2, _⟩ => rfl⟩
  rw [scalesV_apply, hs]
  rw [scaleV_apply, rowV_apply]
  simp only [raw_apply arg9 X9 (o m) (h m) k m.val (ho m) hk m.isLt]
  subst ho'
  have hr := r.isLt
  have e : (Rect.unit (s := S1x3072x8) ![0, 256 * k, 0] S1x256x8.size h').emb (ix3 0 r m) = ix3 0 ⟨256 * k + r.val, by omega⟩ m := by
    funext b
    match b with
    | ⟨0, _⟩ => exact Fin.ext (show 0 + 1 * 0 = 0 by omega)
    | ⟨1, _⟩ => exact Fin.ext (show 256 * k + 1 * r.val = 256 * k + r.val by omega)
    | ⟨2, _⟩ => exact Fin.ext (show 0 + 1 * m.val = m.val by omega)
  rw [e]
  rfl

theorem mem_code (k m : ℕ) (o : Fin 2 → ℕ) (ho : o = ![256 * k, 128 * m]) (h : ∀ b, o b + S256x128.size b ≤ S3072x1024.size b) (y : S3072x1024.Idx) (hk : (y 0).val / 256 = k) (hm : (y 1).val / 128 = m) :
    y ∈ (Rect.unit (s := S3072x1024) o S256x128.size h).set := by
  subst ho
  rw [Rect.mem_set_unit]
  intro b
  match b with
  | ⟨0, _⟩ => exact ⟨(show 256 * k ≤ (y 0).val by omega), (show (y 0).val < 256 * k + 256 by omega)⟩
  | ⟨1, _⟩ => exact ⟨(show 128 * m ≤ (y 1).val by omega), (show (y 1).val < 128 * m + 128 by omega)⟩

theorem mem_scale (k : ℕ) (o : Fin 3 → ℕ) (ho : o = ![0, 256 * k, 0]) (h : ∀ b, o b + S1x256x8.size b ≤ S1x3072x8.size b) (y : S1x3072x8.Idx) (hk : (y 1).val / 256 = k) :
    y ∈ (Rect.unit (s := S1x3072x8) o S1x256x8.size h).set := by
  subst ho
  have h0 := (y 0).isLt
  have h2 := (y 2).isLt
  change (y 0).val < 1 at h0
  change (y 2).val < 8 at h2
  rw [Rect.mem_set_unit]
  intro b
  match b with
  | ⟨0, _⟩ => exact ⟨(show 0 ≤ (y 0).val by omega), (show (y 0).val < 0 + 1 by omega)⟩
  | ⟨1, _⟩ => exact ⟨(show 256 * k ≤ (y 1).val by omega), (show (y 1).val < 256 * k + 256 by omega)⟩
  | ⟨2, _⟩ => exact ⟨(show 0 ≤ (y 2).val by omega), (show (y 2).val < 0 + 8 by omega)⟩

end Cert.Proof.KernelIdeal

end
-- ==== Proof.KernelIdeal.QuantRun.lean ====
/- The quantise loop's trips: the codes and scales its stores leave. -/
module

public import proofs.«01_k».proof.Proof.KernelIdeal.Quant
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem trips_k0_t2 : k0_t2_loop.trips = 12 := by decide +kernel

theorem trip_codes (𝒱 : Variants) (c : Dev nD) (bd : Option 𝒱.V) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (hl : k0_cond25 i = 1#1) (X9 : BufTy.Contents (Elt Ideal) arg9.view.ty) (k : Fin k0_t2_loop.trips) :
    (∀ p ∈ (tripL_k0_t2 (F := Ideal) 𝒱 c bd i arg2 harg2 arg3 harg3 arg4 harg4 arg5 harg5 arg6 harg6 arg7 harg7 arg8 harg8 arg9 harg9 arg10 harg10 hl X9 k).1, ∀ x, p.2 x = codeAt (arg9.view.read (Elt Ideal) X9) (p.1.emb x))
    ∧ (∀ y : S3072x1024.Idx, (y 0).val / 256 = k.val → ∃ p ∈ (tripL_k0_t2 (F := Ideal) 𝒱 c bd i arg2 harg2 arg3 harg3 arg4 harg4 arg5 harg5 arg6 harg6 arg7 harg7 arg8 harg8 arg9 harg9 arg10 harg10 hl X9 k).1, y ∈ p.1.set) := by
  have hk : k.val < 12 := Nat.lt_of_lt_of_eq k.isLt trips_k0_t2
  unfold tripL_k0_t2 trip_k0_t2
  dsimp only []
  refine ⟨?_, fun y hy => ?_⟩
  · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
    · exact fun x => code_ok arg9 X9 (k0_off201 k) (k0_off201_inb i k hl) k.val 7 (k0_off201_eq k) hk (by norm_num) x
    · exact fun x => code_ok arg9 X9 (k0_off200 k) (k0_off200_inb i k hl) k.val 6 (k0_off200_eq k) hk (by norm_num) x
    · exact fun x => code_ok arg9 X9 (k0_off199 k) (k0_off199_inb i k hl) k.val 5 (k0_off199_eq k) hk (by norm_num) x
    · exact fun x => code_ok arg9 X9 (k0_off198 k) (k0_off198_inb i k hl) k.val 4 (k0_off198_eq k) hk (by norm_num) x
    · exact fun x => code_ok arg9 X9 (k0_off197 k) (k0_off197_inb i k hl) k.val 3 (k0_off197_eq k) hk (by norm_num) x
    · exact fun x => code_ok arg9 X9 (k0_off196 k) (k0_off196_inb i k hl) k.val 2 (k0_off196_eq k) hk (by norm_num) x
    · exact fun x => code_ok arg9 X9 (k0_off195 k) (k0_off195_inb i k hl) k.val 1 (k0_off195_eq k) hk (by norm_num) x
    · exact fun x => code_ok arg9 X9 (k0_off194 k) (k0_off194_inb i k hl) k.val 0 (k0_off194_eq k) hk (by norm_num) x
  · have h1 := (y 1).isLt
    change (y 1).val < 1024 at h1
    rcases (show (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 by omega) with h | h | h | h | h | h | h | h
    · exact ⟨_, List.Mem.tail _ (List.Mem.tail _ (List.Mem.tail _ (List.Mem.tail _ (List.Mem.tail _ (List.Mem.tail _ (List.Mem.tail _ (List.Mem.head _))))))), mem_code k.val 0 (k0_off194 k) (k0_off194_eq k) (k0_off194_inb i k hl) y hy h⟩
    · exact ⟨_, List.Mem.tail _ (List.Mem.tail _ (List.Mem.tail _ (List.Mem.tail _ (List.Mem.tail _ (List.Mem.tail _ (List.Mem.head _)))))), mem_code k.val 1 (k0_off195 k) (k0_off195_eq k) (k0_off195_inb i k hl) y hy h⟩
    · exact ⟨_, List.Mem.tail _ (List.Mem.tail _ (List.Mem.tail _ (List.Mem.tail _ (List.Mem.tail _ (List.Mem.head _))))), mem_code k.val 2 (k0_off196 k) (k0_off196_eq k) (k0_off196_inb i k hl) y hy h⟩
    · exact ⟨_, List.Mem.tail _ (List.Mem.tail _ (List.Mem.tail _ (List.Mem.tail _ (List.Mem.head _)))), mem_code k.val 3 (k0_off197 k) (k0_off197_eq k) (k0_off197_inb i k hl) y hy h⟩
    · exact ⟨_, List.Mem.tail _ (List.Mem.tail _ (List.Mem.tail _ (List.Mem.head _))), mem_code k.val 4 (k0_off198 k) (k0_off198_eq k) (k0_off198_inb i k hl) y hy h⟩
    · exact ⟨_, List.Mem.tail _ (List.Mem.tail _ (List.Mem.head _)), mem_code k.val 5 (k0_off199 k) (k0_off199_eq k) (k0_off199_inb i k hl) y hy h⟩
    · exact ⟨_, List.Mem.tail _ (List.Mem.head _), mem_code k.val 6 (k0_off200 k) (k0_off200_eq k) (k0_off200_inb i k hl) y hy h⟩
    · exact ⟨_, List.Mem.head _, mem_code k.val 7 (k0_off201 k) (k0_off201_eq k) (k0_off201_inb i k hl) y hy h⟩

theorem trip_scales (𝒱 : Variants) (c : Dev nD) (bd : Option 𝒱.V) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (hl : k0_cond25 i = 1#1) (X9 : BufTy.Contents (Elt Ideal) arg9.view.ty) (k : Fin k0_t2_loop.trips) :
    (∀ p ∈ (tripL_k0_t2 (F := Ideal) 𝒱 c bd i arg2 harg2 arg3 harg3 arg4 harg4 arg5 harg5 arg6 harg6 arg7 harg7 arg8 harg8 arg9 harg9 arg10 harg10 hl X9 k).2, ∀ x, p.2 x = scaleAt (arg9.view.read (Elt Ideal) X9) (p.1.emb x))
    ∧ (∀ y : S1x3072x8.Idx, (y 1).val / 256 = k.val → ∃ p ∈ (tripL_k0_t2 (F := Ideal) 𝒱 c bd i arg2 harg2 arg3 harg3 arg4 harg4 arg5 harg5 arg6 harg6 arg7 harg7 arg8 harg8 arg9 harg9 arg10 harg10 hl X9 k).2, y ∈ p.1.set) := by
  have hk : k.val < 12 := Nat.lt_of_lt_of_eq k.isLt trips_k0_t2
  unfold tripL_k0_t2 trip_k0_t2
  dsimp only []
  refine ⟨List.forall_mem_cons.2 ⟨fun x => ?_, List.forall_mem_nil _⟩, fun y hy => ⟨_, List.Mem.head _, mem_scale k.val (k0_off202 k) (k0_off202_eq k) (k0_off202_inb i k hl) y hy⟩⟩
  have ho : ∀ m : Fin 8, (![k0_off194 k, k0_off195 k, k0_off196 k, k0_off197 k, k0_off198 k, k0_off199 k, k0_off200 k, k0_off201 k] : Fin 8 → Fin 2 → ℕ) m = ![256 * k.val, 128 * m.val] := by
    intro m
    match m with
    | 0 => exact k0_off194_eq k
    | 1 => exact k0_off195_eq k
    | 2 => exact k0_off196_eq k
    | 3 => exact k0_off197_eq k
    | 4 => exact k0_off198_eq k
    | 5 => exact k0_off199_eq k
    | 6 => exact k0_off200_eq k
    | 7 => exact k0_off201_eq k
  have h : ∀ (m : Fin 8) b, (![k0_off194 k, k0_off195 k, k0_off196 k, k0_off197 k, k0_off198 k, k0_off199 k, k0_off200 k, k0_off201 k] : Fin 8 → Fin 2 → ℕ) m b + S256x128.size b ≤ S3072x1024.size b := by
    intro m
    match m with
    | 0 => exact k0_off194_inb i k hl
    | 1 => exact k0_off195_inb i k hl
    | 2 => exact k0_off196_inb i k hl
    | 3 => exact k0_off197_inb i k hl
    | 4 => exact k0_off198_inb i k hl
    | 5 => exact k0_off199_inb i k hl
    | 6 => exact k0_off200_inb i k hl
    | 7 => exact k0_off201_inb i k hl
  exact scale_ok arg9 X9 ![k0_off194 k, k0_off195 k, k0_off196 k, k0_off197 k, k0_off198 k, k0_off199 k, k0_off200 k, k0_off201 k] h k.val ho hk
    (fun m => scaleV (arg9.view.readAt (Elt Ideal) (Rect.unit (s := S3072x1024) _ S256x128.size (h m)).toLoadRect X9)) (fun m => rfl) (k0_off202 k) (k0_off202_inb i k hl) (k0_off202_eq k) x

/-- All the trips. -/
theorem pb2_ok (𝒱 : Variants) (c : Dev nD) (bd : Option 𝒱.V) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (hl : k0_cond25 i = 1#1) (X9 : BufTy.Contents (Elt Ideal) arg9.view.ty) : ∀ n : ℕ, n ≤ 12 →
    (∀ p ∈ (pb_k0_t2 (F := Ideal) 𝒱 c bd i arg2 harg2 arg3 harg3 arg4 harg4 arg5 harg5 arg6 harg6 arg7 harg7 arg8 harg8 arg9 harg9 arg10 harg10 hl X9 n).1, ∀ x, p.2 x = codeAt (arg9.view.read (Elt Ideal) X9) (p.1.emb x))
    ∧ (∀ y : S3072x1024.Idx, (y 0).val < 256 * n → ∃ p ∈ (pb_k0_t2 (F := Ideal) 𝒱 c bd i arg2 harg2 arg3 harg3 arg4 harg4 arg5 harg5 arg6 harg6 arg7 harg7 arg8 harg8 arg9 harg9 arg10 harg10 hl X9 n).1, y ∈ p.1.set)
    ∧ (∀ p ∈ (pb_k0_t2 (F := Ideal) 𝒱 c bd i arg2 harg2 arg3 harg3 arg4 harg4 arg5 harg5 arg6 harg6 arg7 harg7 arg8 harg8 arg9 harg9 arg10 harg10 hl X9 n).2, ∀ x, p.2 x = scaleAt (arg9.view.read (Elt Ideal) X9) (p.1.emb x))
    ∧ (∀ y : S1x3072x8.Idx, (y 1).val < 256 * n → ∃ p ∈ (pb_k0_t2 (F := Ideal) 𝒱 c bd i arg2 harg2 arg3 harg3 arg4 harg4 arg5 harg5 arg6 harg6 arg7 harg7 arg8 harg8 arg9 harg9 arg10 harg10 hl X9 n).2, y ∈ p.1.set)
  | 0, _ => by
    refine ⟨fun p hp => absurd hp List.not_mem_nil, fun y hy => absurd hy (by omega), fun p hp => absurd hp List.not_mem_nil, fun y hy => absurd hy (by omega)⟩
  | n + 1, hn => by
    obtain ⟨h1, h2, h3, h4⟩ := pb2_ok 𝒱 c bd i arg2 harg2 arg3 harg3 arg4 harg4 arg5 harg5 arg6 harg6 arg7 harg7 arg8 harg8 arg9 harg9 arg10 harg10 hl X9 n (by omega)
    have hlt : n < k0_t2_loop.trips := by rw [trips_k0_t2]; omega
    obtain ⟨c1, c2⟩ := trip_codes 𝒱 c bd i arg2 harg2 arg3 harg3 arg4 harg4 arg5 harg5 arg6 harg6 arg7 harg7 arg8 harg8 arg9 harg9 arg10 harg10 hl X9 ⟨n, hlt⟩
    obtain ⟨s1, s2⟩ := trip_scales 𝒱 c bd i arg2 harg2 arg3 harg3 arg4 harg4 arg5 harg5 arg6 harg6 arg7 harg7 arg8 harg8 arg9 harg9 arg10 harg10 hl X9 ⟨n, hlt⟩
    have e := pb_k0_t2_succ (F := Ideal) 𝒱 c bd i arg2 harg2 arg3 harg3 arg4 harg4 arg5 harg5 arg6 harg6 arg7 harg7 arg8 harg8 arg9 harg9 arg10 harg10 hl X9 ⟨n, hlt⟩
    rw [e]
    refine ⟨fun p hp => ?_, fun y hy => ?_, fun p hp => ?_, fun y hy => ?_⟩
    · rcases List.mem_append.1 hp with hp | hp
      · exact c1 p hp
      · exact h1 p hp
    · by_cases hc : (y 0).val < 256 * n
      · obtain ⟨p, hp, hy⟩ := h2 y hc
        exact ⟨p, List.mem_append.2 (.inr hp), hy⟩
      · obtain ⟨p, hp, hy⟩ := c2 y (by show (y 0).val / 256 = n; omega)
        exact ⟨p, List.mem_append.2 (.inl hp), hy⟩
    · rcases List.mem_append.1 hp with hp | hp
      · exact s1 p hp
      · exact h3 p hp
    · by_cases hc : (y 1).val < 256 * n
      · obtain ⟨p, hp, hy⟩ := h4 y hc
        exact ⟨p, List.mem_append.2 (.inr hp), hy⟩
      · obtain ⟨p, hp, hy⟩ := s2 y (by show (y 1).val / 256 = n; omega)
        exact ⟨p, List.mem_append.2 (.inl hp), hy⟩

theorem codes_read (𝒱 : Variants) (c : Dev nD) (bd : Option 𝒱.V) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (hl : k0_cond25 i = 1#1) (X9 : BufTy.Contents (Elt Ideal) arg9.view.ty) (f7 : BufTy.Contents (Elt Ideal) arg7.view.ty) (y : S3072x1024.Idx) :
    arg7.view.read (Elt Ideal) (arg7.view.writes (Elt Ideal) f7 (pb_k0_t2 (F := Ideal) 𝒱 c bd i arg2 harg2 arg3 harg3 arg4 harg4 arg5 harg5 arg6 harg6 arg7 harg7 arg8 harg8 arg9 harg9 arg10 harg10 hl X9 12).1) y = codeAt (arg9.view.read (Elt Ideal) X9) y := by
  obtain ⟨h1, h2, h3, h4⟩ := pb2_ok 𝒱 c bd i arg2 harg2 arg3 harg3 arg4 harg4 arg5 harg5 arg6 harg6 arg7 harg7 arg8 harg8 arg9 harg9 arg10 harg10 hl X9 12 (le_refl _)
  exact View.read_writes_apply_of_pieces arg7.view f7 _ _ h1 y (h2 y (by have := (y 0).isLt; change (y 0).val < 3072 at this; omega))

theorem scales_read (𝒱 : Variants) (c : Dev nD) (bd : Option 𝒱.V) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (hl : k0_cond25 i = 1#1) (X9 : BufTy.Contents (Elt Ideal) arg9.view.ty) (f8 : BufTy.Contents (Elt Ideal) arg8.view.ty) (y : S1x3072x8.Idx) :
    arg8.view.read (Elt Ideal) (arg8.view.writes (Elt Ideal) f8 (pb_k0_t2 (F := Ideal) 𝒱 c bd i arg2 harg2 arg3 harg3 arg4 harg4 arg5 harg5 arg6 harg6 arg7 harg7 arg8 harg8 arg9 harg9 arg10 harg10 hl X9 12).2) y = scaleAt (arg9.view.read (Elt Ideal) X9) y := by
  obtain ⟨h1, h2, h3, h4⟩ := pb2_ok 𝒱 c bd i arg2 harg2 arg3 harg3 arg4 harg4 arg5 harg5 arg6 harg6 arg7 harg7 arg8 harg8 arg9 harg9 arg10 harg10 hl X9 12 (le_refl _)
  exact View.read_writes_apply_of_pieces arg8.view f8 _ _ h3 y (h4 y (by have := (y 1).isLt; change (y 1).val < 3072 at this; omega))

end Cert.Proof.KernelIdeal

end
-- ==== Proof.KernelIdeal.Point.lean ====
/- One grid point of `KernelIdeal` by values: what the accumulator and the output blocks hold after it. -/
module

public import proofs.«01_k».proof.Proof.KernelIdeal.AccRun
public import proofs.«01_k».proof.Proof.KernelIdeal.QuantRun
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

/-- The codes the last step leaves, from the accumulator it leaves. -/
theorem runC_codes (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (hg : ∀ r x, (arg2.view.readAt (Elt Ideal) r X2 x : BitVec 32).toNat < 128) (hz : ¬ condZ i) (hp : condP i) (hl : condL i) (y : S3072x1024.Idx) :
    arg7.view.read (Elt Ideal) (arg7.view.writes (Elt Ideal) f7 (runC (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).1) y
      = codeAt (arg9.view.read (Elt Ideal) (arg9.view.writes (Elt Ideal) arg9.view.junk (runC (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).2.2.1)) y := by
  unfold runC
  exact codes_read 𝒱 c bd i arg2 harg2 arg3 harg3 arg4 harg4 arg5 harg5 arg6 harg6 arg7 harg7 arg8 harg8 arg9 harg9 arg10 harg10 hl _ f7 y

/-- The scales the last step leaves, from the accumulator it leaves. -/
theorem runC_scales (𝒱 : Variants) (c : Dev nD) (bd : Option 𝒱.V) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (hg : ∀ r x, (arg2.view.readAt (Elt Ideal) r X2 x : BitVec 32).toNat < 128) (hz : ¬ condZ i) (hp : condP i) (hl : condL i) (y : S1x3072x8.Idx) :
    arg8.view.read (Elt Ideal) (arg8.view.writes (Elt Ideal) f8 (runC (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).2.1) y
      = scaleAt (arg9.view.read (Elt Ideal) (arg9.view.writes (Elt Ideal) arg9.view.junk (runC (F := Ideal) 𝒱 c bd q2 i arg2 harg2 arg3 harg3 arg4 harg4 arg5 harg5 arg6 harg6 arg7 harg7 arg8 harg8 arg9 harg9 arg10 harg10 X2 X3 X4 X5 X6 f7 f8 f9 f10 hg hz hp hl).2.2.1)) y := by
  unfold runC
  exact scales_read 𝒱 c bd i arg2 harg2 arg3 harg3 arg4 harg4 arg5 harg5 arg6 harg6 arg7 harg7 arg8 harg8 arg9 harg9 arg10 harg10 hl _ f8 y

theorem pointA (c : Dev nD) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty)
    (hg : ∀ r x, (arg2.view.readAt (Elt Ideal) r X2 x : BitVec 32).toNat < 128) (hz : condZ i) (hp : ¬ condP i) (hl : ¬ condL i) (x3 : S3072x1024.Idx → Elt Ideal .bf16) (x4 : S16x8x32x128.Idx → Elt Ideal .i8) (x5 : S128x1x8x128.Idx → Elt Ideal .bf16) (x6 : S128x1x8x128.Idx → Elt Ideal .bf16) (x7 : S3072x1024.Idx → Elt Ideal .fp8e4m3) (x8 : S1x3072x8.Idx → Elt Ideal .f32)  :
    (iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} f) ∗ (∃ f, arg10.view.loc (c : Thread nD τ) ↦[arg10.view.set]{fullShare} f)) : sProp 𝕄G)
    ⊢ wp frame (wpE (defs₀ (F := Ideal)) Variants.none (c : Thread nD τ) none) Set.univ (cc0__body (F := Ideal) i arg2 harg2 arg3 harg3 arg4 harg4 arg5 harg5 arg6 harg6 arg7 harg7 arg8 harg8 arg9 harg9 arg10 harg10)
      (fun _ => iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (yAt (arg2.view.read (Elt Ideal) X2) x4 x5 x6 x3 (i 1) : S3072x1024.Idx → Elt Ideal .f32) ∗ (∃ f, arg10.view.loc (c : Thread nD τ) ↦[arg10.view.set]{fullShare} f))) := by
  unfold owns
  iintro ⟨H2, ⟨%f3, %h3, H3⟩, ⟨%f4, %h4, H4⟩, ⟨%f5, %h5, H5⟩, ⟨%f6, %h6, H6⟩, ⟨%f7, %h7, H7⟩, ⟨%f8, %h8, H8⟩, ⟨%f9, H9⟩, ⟨%f10, H10⟩⟩
  have hacc := runA_acc Variants.none c none q2 i arg2 harg2 arg3 harg3 arg4 harg4 arg5 harg5 arg6 harg6 arg7 harg7 arg8 harg8 arg9 harg9 arg10 harg10 X2 f3 f4 f5 f6 f7 f8 f9 f10 hg hz hp hl
  rw [h3, h4, h5, h6] at hacc
  iapply (wp_wand_r Idealize.ShloMosaic.frame (wpE (defs₀ (F := Ideal)) Variants.none (c : Thread nD τ) none) Set.univ)
  isplitl [H2 H3 H4 H5 H6 H7 H8 H9 H10]
  · iapply ((runA (F := Ideal) Variants.none c none q2 i arg2 harg2 arg3 harg3 arg4 harg4 arg5 harg5 arg6 harg6 arg7 harg7 arg8 harg8 arg9 harg9 arg10 harg10 X2 f3 f4 f5 f6 f7 f8 f9 f10 hg hz hp hl).2.2 Set.univ)
    unfold PtRes
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · unfold PtRes
    iintro %_ ⟨H2, H3, H4, H5, H6, H7, H8, H9, H10⟩
    isplitl [H2]; · iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists _; isplitr; · ipureintro; exact h7
                    iexact H7
    isplitl [H8]; · iexists _; isplitr; · ipureintro; exact h8
                    iexact H8
    isplitl [H9]; · iexists _; isplitr; · ipureintro; exact funext hacc
                    iexact H9
    iexists _; iexact H10

theorem pointB (c : Dev nD) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty)
    (hg : ∀ r x, (arg2.view.readAt (Elt Ideal) r X2 x : BitVec 32).toNat < 128) (hz : ¬ condZ i) (hp : condP i) (hl : ¬ condL i) (x3 : S3072x1024.Idx → Elt Ideal .bf16) (x4 : S16x8x32x128.Idx → Elt Ideal .i8) (x5 : S128x1x8x128.Idx → Elt Ideal .bf16) (x6 : S128x1x8x128.Idx → Elt Ideal .bf16) (x7 : S3072x1024.Idx → Elt Ideal .fp8e4m3) (x8 : S1x3072x8.Idx → Elt Ideal .f32) (Y : S3072x1024.Idx → Elt Ideal .f32) :
    (iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (Y : S3072x1024.Idx → Elt Ideal .f32) ∗ (∃ f, arg10.view.loc (c : Thread nD τ) ↦[arg10.view.set]{fullShare} f)) : sProp 𝕄G)
    ⊢ wp frame (wpE (defs₀ (F := Ideal)) Variants.none (c : Thread nD τ) none) Set.univ (cc0__body (F := Ideal) i arg2 harg2 arg3 harg3 arg4 harg4 arg5 harg5 arg6 harg6 arg7 harg7 arg8 harg8 arg9 harg9 arg10 harg10)
      (fun _ => iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (fun y => Y y + yAt (arg2.view.read (Elt Ideal) X2) x4 x5 x6 x3 (i 1) y : S3072x1024.Idx → Elt Ideal .f32) ∗ (∃ f, arg10.view.loc (c : Thread nD τ) ↦[arg10.view.set]{fullShare} f))) := by
  unfold owns
  iintro ⟨H2, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, H10⟩⟩
  have hacc := runB_acc Variants.none c none q2 i arg2 harg2 arg3 harg3 arg4 harg4 arg5 harg5 arg6 harg6 arg7 harg7 arg8 harg8 arg9 harg9 arg10 harg10 X2 f3 f4 f5 f6 f7 f8 f9 f10 hg hz hp hl
  rw [h3, h4, h5, h6, h9] at hacc
  iapply (wp_wand_r Idealize.ShloMosaic.frame (wpE (defs₀ (F := Ideal)) Variants.none (c : Thread nD τ) none) Set.univ)
  isplitl [H2 H3 H4 H5 H6 H7 H8 H9 H10]
  · iapply ((runB (F := Ideal) Variants.none c none q2 i arg2 harg2 arg3 harg3 arg4 harg4 arg5 harg5 arg6 harg6 arg7 harg7 arg8 harg8 arg9 harg9 arg10 harg10 X2 f3 f4 f5 f6 f7 f8 f9 f10 hg hz hp hl).2.2 Set.univ)
    unfold PtRes
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · unfold PtRes
    iintro %_ ⟨H2, H3, H4, H5, H6, H7, H8, H9, H10⟩
    isplitl [H2]; · iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists _; isplitr; · ipureintro; exact h7
                    iexact H7
    isplitl [H8]; · iexists _; isplitr; · ipureintro; exact h8
                    iexact H8
    isplitl [H9]; · iexists _; isplitr; · ipureintro; exact funext hacc
                    iexact H9
    iexists _; iexact H10

theorem pointC (c : Dev nD) (q2 : PosShare TreeShare) (i : grid0.Coords) (arg2 : Memref sig .tc .smem S16384 .i32) (harg2 : arg2.IsWhole) (arg3 : Memref sig .tc .vmem S3072x1024 .bf16) (harg3 : arg3.IsWhole) (arg4 : Memref sig .tc .vmem S16x8x32x128 .i8) (harg4 : arg4.IsWhole) (arg5 : Memref sig .tc .vmem S128x1x8x128 .bf16) (harg5 : arg5.IsWhole) (arg6 : Memref sig .tc .vmem S128x1x8x128 .bf16) (harg6 : arg6.IsWhole) (arg7 : Memref sig .tc .vmem S3072x1024 .fp8e4m3) (harg7 : arg7.IsWhole) (arg8 : Memref sig .tc .vmem S1x3072x8 .f32) (harg8 : arg8.IsWhole) (arg9 : Memref sig .tc .vmem S3072x1024 .f32) (harg9 : arg9.IsWhole) (arg10 : Memref sig .tc .vmem S4128x2x128 .bf16) (harg10 : arg10.IsWhole) (X2 : BufTy.Contents (Elt Ideal) arg2.view.ty)
    (hg : ∀ r x, (arg2.view.readAt (Elt Ideal) r X2 x : BitVec 32).toNat < 128) (hz : ¬ condZ i) (hp : condP i) (hl : condL i) (x3 : S3072x1024.Idx → Elt Ideal .bf16) (x4 : S16x8x32x128.Idx → Elt Ideal .i8) (x5 : S128x1x8x128.Idx → Elt Ideal .bf16) (x6 : S128x1x8x128.Idx → Elt Ideal .bf16) (x7 : S3072x1024.Idx → Elt Ideal .fp8e4m3) (x8 : S1x3072x8.Idx → Elt Ideal .f32) (Y : S3072x1024.Idx → Elt Ideal .f32) :
    (iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (Y : S3072x1024.Idx → Elt Ideal .f32) ∗ (∃ f, arg10.view.loc (c : Thread nD τ) ↦[arg10.view.set]{fullShare} f)) : sProp 𝕄G)
    ⊢ wp frame (wpE (defs₀ (F := Ideal)) Variants.none (c : Thread nD τ) none) Set.univ (cc0__body (F := Ideal) i arg2 harg2 arg3 harg3 arg4 harg4 arg5 harg5 arg6 harg6 arg7 harg7 arg8 harg8 arg9 harg9 arg10 harg10)
      (fun _ => iprop((arg2.view.loc (c : Thread nD τ) ↦[arg2.view.set]{q2} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (codeAt (fun y => Y y + yAt (arg2.view.read (Elt Ideal) X2) x4 x5 x6 x3 (i 1) y) : S3072x1024.Idx → Elt Ideal .fp8e4m3) ∗ owns (c : Thread nD τ) arg8 fullShare (scaleAt (fun y => Y y + yAt (arg2.view.read (Elt Ideal) X2) x4 x5 x6 x3 (i 1) y) : S1x3072x8.Idx → Elt Ideal .f32) ∗ owns (c : Thread nD τ) arg9 fullShare (fun y => Y y + yAt (arg2.view.read (Elt Ideal) X2) x4 x5 x6 x3 (i 1) y : S3072x1024.Idx → Elt Ideal .f32) ∗ (∃ f, arg10.view.loc (c : Thread nD τ) ↦[arg10.view.set]{fullShare} f))) := by
  unfold owns
  iintro ⟨H2, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, H10⟩⟩
  have hacc := runC_acc Variants.none c none q2 i arg2 harg2 arg3 harg3 arg4 harg4 arg5 harg5 arg6 harg6 arg7 harg7 arg8 harg8 arg9 harg9 arg10 harg10 X2 f3 f4 f5 f6 f7 f8 f9 f10 hg hz hp hl
  rw [h3, h4, h5, h6, h9] at hacc
  have hcode := runC_codes Variants.none c none q2 i arg2 harg2 arg3 harg3 arg4 harg4 arg5 harg5 arg6 harg6 arg7 harg7 arg8 harg8 arg9 harg9 arg10 harg10 X2 f3 f4 f5 f6 f7 f8 f9 f10 hg hz hp hl
  have hscale := runC_scales Variants.none c none q2 i arg2 harg2 arg3 harg3 arg4 harg4 arg5 harg5 arg6 harg6 arg7 harg7 arg8 harg8 arg9 harg9 arg10 harg10 X2 f3 f4 f5 f6 f7 f8 f9 f10 hg hz hp hl
  have hacc' := funext hacc
  rw [hacc'] at hcode hscale
  iapply (wp_wand_r Idealize.ShloMosaic.frame (wpE (defs₀ (F := Ideal)) Variants.none (c : Thread nD τ) none) Set.univ)
  isplitl [H2 H3 H4 H5 H6 H7 H8 H9 H10]
  · iapply ((runC (F := Ideal) Variants.none c none q2 i arg2 harg2 arg3 harg3 arg4 harg4 arg5 harg5 arg6 harg6 arg7 harg7 arg8 harg8 arg9 harg9 arg10 harg10 X2 f3 f4 f5 f6 f7 f8 f9 f10 hg hz hp hl).2.2.2.2 Set.univ)
    unfold PtRes
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · unfold PtRes
    iintro %_ ⟨H2, H3, H4, H5, H6, H7, H8, H9, H10⟩
    isplitl [H2]; · iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    isplitl [H7]; · iexists _; isplitr; · ipureintro; exact funext hcode
                    iexact H7
    isplitl [H8]; · iexists _; isplitr; · ipureintro; exact funext hscale
                    iexact H8
    isplitl [H9]; · iexists _; isplitr; · ipureintro; exact funext hacc
                    iexact H9
    iexists _; iexact H10

end Cert.Proof.KernelIdeal

end
-- ==== Proof.KernelIdeal.Value.lean ====
/- The run of `KernelIdeal` by values: the accumulator point by point, and the output arrays block by block. -/
module

public import proofs.«01_k».proof.Proof.KernelIdeal.Point
public import proofs.«01_k».proof.Proof.KernelIdeal.Frame
public import Idealize.ShloMosaic.Lib.Pipeline.Value
public import Idealize.ShloMosaic.Lib.Tactic
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

open Idealize.ShloMosaic.Pipeline (Dat BodyObligationLoose)

variable (m : (ℓ : Loc nD τ sig) → Buf (Elt Ideal) ℓ) (ρ : Dev nD → PrngReg)

namespace Val

/-- The contraction step of a grid point. -/
theorem coord1 : ∀ t : Fin grid0.N, (grid0.coords t 1).val = t.val % 16 := by decide +kernel

/-- The output-column step of a grid point. -/
theorem coord0 : ∀ t : Fin grid0.N, (grid0.coords t 0).val = t.val / 16 := by decide +kernel

/-- What one grid point adds to the accumulator. -/
def addend (c : Dev nD) (t : Fin (cfgM m).N) : S3072x1024.Idx → EReal :=
  yAt (tbM.view.read (Elt Ideal) (tbW m)) (iblk m c 1 t) (iblk m c 2 t) (iblk m c 3 t) (iblk m c 0 t) ((cfgM m).grid.coords t 1)

/-- What the accumulator holds after `n` grid points. -/
def acc (c : Dev nD) : ℕ → S3072x1024.Idx → EReal
  | 0 => fun _ => 0
  | n + 1 => if h : n < (cfgM m).N then (if n % 16 = 0 then addend m c ⟨n, h⟩ else fun y => acc c n y + addend m c ⟨n, h⟩ y) else fun _ => 0

theorem acc_first (c : Dev nD) (t : Fin (cfgM m).N) (h : t.val % 16 = 0) : acc m c (t.val + 1) = addend m c t := by
  rw [acc, dif_pos t.isLt, if_pos h]

theorem acc_next (c : Dev nD) (t : Fin (cfgM m).N) (h : t.val % 16 ≠ 0) : acc m c (t.val + 1) = fun y => acc m c t.val y + addend m c t y := by
  rw [acc, dif_pos t.isLt, if_neg h]

abbrev scr9 : Memref sig .tc .vmem S3072x1024 .f32 := Memref.whole cc0_scratch0

/-- The invariant before point `n`: the accumulator holds its partial sums, unless the next point starts a new block. -/
def PhiN (c : Dev nD) (n : ℕ) : sProp 𝕄G :=
  iprop((((∃ f : Buf (Elt Ideal) ((c : Thread nD τ).loc cc0_scratch0), ⌜n % 16 ≠ 0 → scr9.view.read (Elt Ideal) f = acc m c n⌝ ∗ (((c : Thread nD τ).loc cc0_scratch0) ↦{fullShare} f)) ∗ (∃ f : Buf (Elt Ideal) ((c : Thread nD τ).loc cc0_scratch1), ((c : Thread nD τ).loc cc0_scratch1) ↦{fullShare} f)) ∗ ∃ r, prngReg c r) ∗ Pipeline.ΦT pre0 (tbl m) c)

def dats (_ : Fin 1) (c : Dev nD) : Dat τ (Elt Ideal) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codeAt (acc m c (t.val + 1))
    | ⟨5, _⟩ => scaleAt (acc m c (t.val + 1))
  Φ t := PhiN m c t.val
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := rfl
theorem before_0 (c : Dev nD) (t : Fin (cfgM m).N) (d) : (dats m 0 c).before 0 t d = iblk m c 0 t :=
  before_0_of m (dats m 0 c) (A_eq m c 0) (after_0 m c) t d
theorem after_1 (c : Dev nD) (t : Fin (cfgM m).N) : (dats m 0 c).after 1 t = iblk m c 1 t := rfl
theorem before_1 (c : Dev nD) (t : Fin (cfgM m).N) (d) : (dats m 0 c).before 1 t d = iblk m c 1 t :=
  before_1_of m (dats m 0 c) (A_eq m c 1) (after_1 m c) t d
theorem after_2 (c : Dev nD) (t : Fin (cfgM m).N) : (dats m 0 c).after 2 t = iblk m c 2 t := rfl
theorem before_2 (c : Dev nD) (t : Fin (cfgM m).N) (d) : (dats m 0 c).before 2 t d = iblk m c 2 t :=
  before_2_of m (dats m 0 c) (A_eq m c 2) (after_2 m c) t d
theorem after_3 (c : Dev nD) (t : Fin (cfgM m).N) : (dats m 0 c).after 3 t = iblk m c 3 t := rfl
theorem before_3 (c : Dev nD) (t : Fin (cfgM m).N) (d) : (dats m 0 c).before 3 t d = iblk m c 3 t :=
  before_3_of m (dats m 0 c) (A_eq m c 3) (after_3 m c) t d
theorem after_4 (c : Dev nD) (t : Fin (cfgM m).N) : (dats m 0 c).after 4 t = codeAt (acc m c (t.val + 1)) := rfl
theorem after_5 (c : Dev nD) (t : Fin (cfgM m).N) : (dats m 0 c).after 5 t = scaleAt (acc m c (t.val + 1)) := rfl

theorem step_val {α : Sort _} (S : ℕ → α) {N : ℕ} (t : Fin N) : S t.succ.val = S (t.val + 1) := rfl

theorem Phi_castSucc (c : Dev nD) (t : Fin (cfgM m).N) : (dats m 0 c).Φ t.castSucc = PhiN m c t.val :=
  Dat.Φ_castSucc (fun n _ => PhiN m c n) t
theorem Phi_succ (c : Dev nD) (t : Fin (cfgM m).N) : (dats m 0 c).Φ t.succ = PhiN m c (t.val + 1) := step_val (PhiN m c) t

theorem flush4 (t : Fin (cfgM m).N) : ((cfgM m).win 4).flush t = true ↔ t.val % 16 = 15 :=
  Pipeline.Window.flush_reads (G := grid0) ((cfgM m).win 4) rfl (0 : Fin 2) (show 1 < grid0.bound 0 by decide) (show grid0.fixedAfter reads0_4 0 = true by decide)
    (Pipeline.Window.sep_of_coord (G := grid0) cc0_transform_4 (0 : Fin 2) 1 (fun _ => rfl) (by decide)) (show grid0.stride 0 = 16 by decide) rfl t
theorem flush5 (t : Fin (cfgM m).N) : ((cfgM m).win 5).flush t = true ↔ t.val % 16 = 15 :=
  Pipeline.Window.flush_reads (G := grid0) ((cfgM m).win 5) rfl (0 : Fin 2) (show 1 < grid0.bound 0 by decide) (show grid0.fixedAfter reads0_5 0 = true by decide)
    (Pipeline.Window.sep_of_coord (G := grid0) cc0_transform_5 (0 : Fin 2) 0 (fun _ => rfl) (by decide)) (show grid0.stride 0 = 16 by decide) rfl t

theorem idle_of (w : Fin 6) (hw : w = 4 ∨ w = 5) (i : grid0.Coords) (h : ¬ condL i) : idle0 w i = true := by
  have h' : (k0_cond25 i == 1#1) = false := by
    rw [beq_eq_false_iff_ne]; exact h
  rcases hw with rfl | rfl <;> (show (!(k0_cond25 i == 1#1)) = true; rw [h']; rfl)
theorem busy_of (w : Fin 6) (hw : w = 4 ∨ w = 5) (i : grid0.Coords) (h : condL i) : idle0 w i = false := by
  have h' : (k0_cond25 i == 1#1) = true := by
    rw [beq_iff_eq]; exact h
  rcases hw with rfl | rfl <;> (show (!(k0_cond25 i == 1#1)) = false; rw [h']; rfl)

theorem leaves_rest (c : Dev nD) (t : Fin (cfgM m).N) (w : Fin (cfgM m).W) (hw : w = 4 ∨ w = 5) (h : ¬ condL ((cfgM m).grid.coords t)) (ht : t.val % 16 ≠ 15) :
    (dats m 0 c).leaves w t = iprop(∃ d, owns (c : Thread nD τ) (((cfgM m).win w).stage ((cfgM m).slots t w)) fullShare ((dats m 0 c).before w t d)) :=
  (dats m 0 c).leaves_idle w t (idle_of w hw _ h) (by
    rw [← Bool.not_eq_true]
    rcases hw with rfl | rfl
    · rw [flush4]; exact ht
    · rw [flush5]; exact ht)

theorem leaves_live {cfg : Pipeline.Cfg sig Λ₀} {c : Dev nD} (dat : Dat τ (Elt Ideal) Unit ℕ (UR sig nD τ) ℕ cfg c) (w : Fin cfg.W) (t : Fin cfg.N) (hi : cfg.idle w (cfg.grid.coords t) = false) (hl : cfg.loose w = false) :
    dat.leaves w t = owns (c : Thread nD τ) ((cfg.win w).stage (cfg.slots t w)) fullShare (dat.after w t) := by
  unfold Dat.leaves; rw [hi, hl]

theorem leaves_last (c : Dev nD) (t : Fin (cfgM m).N) (w : Fin (cfgM m).W) (hw : w = 4 ∨ w = 5) (h : condL ((cfgM m).grid.coords t)) :
    (dats m 0 c).leaves w t = owns (c : Thread nD τ) (((cfgM m).win w).stage ((cfgM m).slots t w)) fullShare ((dats m 0 c).after w t) :=
  leaves_live (dats m 0 c) w t (busy_of w hw _ h) (by rcases hw with rfl | rfl <;> rfl)

def bodyPre (c : Dev nD) (t : Fin (cfgM m).N) : sProp 𝕄G :=
  iprop((dats m 0 c).Φ t.castSucc ∗ (dats m 0 c).owesAt () t.castSucc
    ∗ (∃ d, owns (c : Thread nD τ) (((cfgM m).win 0).stage ((cfgM m).slots t 0)) fullShare ((dats m 0 c).before 0 t d)) ∗ (∃ d, owns (c : Thread nD τ) (((cfgM m).win 1).stage ((cfgM m).slots t 1)) fullShare ((dats m 0 c).before 1 t d)) ∗ (∃ d, owns (c : Thread nD τ) (((cfgM m).win 2).stage ((cfgM m).slots t 2)) fullShare ((dats m 0 c).before 2 t d)) ∗ (∃ d, owns (c : Thread nD τ) (((cfgM m).win 3).stage ((cfgM m).slots t 3)) fullShare ((dats m 0 c).before 3 t d)) ∗ (∃ d, owns (c : Thread nD τ) (((cfgM m).win 4).stage ((cfgM m).slots t 4)) fullShare ((dats m 0 c).before 4 t d)) ∗ (∃ d, owns (c : Thread nD τ) (((cfgM m).win 5).stage ((cfgM m).slots t 5)) fullShare ((dats m 0 c).before 5 t d)))

def bodyPost (c : Dev nD) (t : Fin (cfgM m).N) : sProp 𝕄G :=
  iprop((dats m 0 c).Φ t.succ ∗ (dats m 0 c).owesAt () t.succ
    ∗ owns (c : Thread nD τ) (((cfgM m).win 0).stage ((cfgM m).slots t 0)) fullShare ((dats m 0 c).after 0 t) ∗ owns (c : Thread nD τ) (((cfgM m).win 1).stage ((cfgM m).slots t 1)) fullShare ((dats m 0 c).after 1 t) ∗ owns (c : Thread nD τ) (((cfgM m).win 2).stage ((cfgM m).slots t 2)) fullShare ((dats m 0 c).after 2 t) ∗ owns (c : Thread nD τ) (((cfgM m).win 3).stage ((cfgM m).slots t 3)) fullShare ((dats m 0 c).after 3 t) ∗ (dats m 0 c).leaves 4 t ∗ (dats m 0 c).leaves 5 t)

theorem sound_body (hO : TbOK m) (c : Dev nD) (t : Fin (cfgM m).N) :
    bodyPre m c t ⊢ wp Idealize.ShloMosaic.frame (wpE (defs₀ (F := Ideal)) Variants.none c none) Set.univ (bodyAt m t) (fun _ => bodyPost m c t) := by
  unfold bodyPre bodyPost bodyAt
  simp only [before_0, before_1, before_2, before_3, after_0, after_1, after_2, after_3]
  rw [Phi_succ, Phi_castSucc, show (dats m 0 c).owesAt () t.succ = (dats m 0 c).owesAt () t.castSucc from rfl]
  unfold PhiN
  rw [PhiT_eq]
  iintro ⟨⟨⟨⟨⟨%f9, %h9, H9⟩, ⟨%f10, H10⟩⟩, Hr⟩, H2⟩, Ho, ⟨%d0, H3⟩, ⟨%d1, H4⟩, ⟨%d2, H5⟩, ⟨%d3, H6⟩, ⟨%d4, H7⟩, ⟨%d5, H8⟩⟩
  have hc1 : ((cfgM m).grid.coords t 1).val = t.val % 16 := coord1 t
  rcases cond_cases ((cfgM m).grid.coords t) with ⟨hk, hz, hp, hl⟩ | ⟨hk, hk', hz, hp, hl⟩ | ⟨hk, hz, hp, hl⟩
  · skip
    have hm : t.val % 16 = 0 := hc1.symm.trans hk
    have hacc := acc_first m c t hm
    rw [leaves_rest m c t 4 (.inl rfl) hl (by omega), leaves_rest m c t 5 (.inr rfl) hl (by omega)]
    unfold addend at hacc
    rw [hacc]
    iapply (wp_wand_r Idealize.ShloMosaic.frame (wpE (defs₀ (F := Ideal)) Variants.none (c : Thread nD τ) none) Set.univ)
    isplitl [H2 H3 H4 H5 H6 H7 H8 H9 H10]
    · iapply (pointA c fullShare.right ((cfgM m).grid.coords t) _ _ _ _ _ _ _ _ _ _ _ _ _ _ scr9 _ _ _ (tbW m) hO hz hp hl (iblk m c 0 t) (iblk m c 1 t) (iblk m c 2 t) (iblk m c 3 t) ((dats m 0 c).before 4 t d4) ((dats m 0 c).before 5 t d5))
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists f9; rw [show (Memref.whole cc0_scratch0).view.set = Finset.univ from View.set_whole _]; iexact H9
      iexists f10; rw [show (Memref.whole cc0_scratch1).view.set = Finset.univ from View.set_whole _]; iexact H10
    · iintro %_ ⟨H2, H3, H4, H5, H6, H7, H8, H9, ⟨%g10, H10⟩⟩
      unfold owns
      icases H9 with ⟨%g9, %hg9, H9⟩
      isplitl [H2 H9 H10 Hr]
      · isplitr [H2]
        · isplitr [Hr]
          · isplitl [H9]
            · iexists g9; isplitr; · ipureintro; exact fun _ => hg9
              rw [show (Memref.whole cc0_scratch0).view.set = Finset.univ from View.set_whole _]; iexact H9
            · iexists g10; rw [show (Memref.whole cc0_scratch1).view.set = Finset.univ from View.set_whole _]; iexact H10
          iexact Hr
        iexact H2
      isplitl [Ho]; · iexact Ho
      isplitl [H3]; · iexact H3
      isplitl [H4]; · iexact H4
      isplitl [H5]; · iexact H5
      isplitl [H6]; · iexact H6
      isplitl [H7]; · iexists d4; iexact H7
      iexists d5; iexact H8
  · skip
    have hm : t.val % 16 ≠ 0 := fun e => by omega
    have hacc := acc_next m c t hm
    rw [leaves_rest m c t 4 (.inl rfl) hl (by omega), leaves_rest m c t 5 (.inr rfl) hl (by omega)]
    unfold addend at hacc
    rw [hacc]
    iapply (wp_wand_r Idealize.ShloMosaic.frame (wpE (defs₀ (F := Ideal)) Variants.none (c : Thread nD τ) none) Set.univ)
    isplitl [H2 H3 H4 H5 H6 H7 H8 H9 H10]
    · iapply (pointB c fullShare.right ((cfgM m).grid.coords t) _ _ _ _ _ _ _ _ _ _ _ _ _ _ scr9 _ _ _ (tbW m) hO hz hp hl (iblk m c 0 t) (iblk m c 1 t) (iblk m c 2 t) (iblk m c 3 t) ((dats m 0 c).before 4 t d4) ((dats m 0 c).before 5 t d5) (acc m c t.val))
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · unfold owns; iexists f9; isplitr; · ipureintro; exact h9 hm
                      rw [show (Memref.whole cc0_scratch0).view.set = Finset.univ from View.set_whole _]; iexact H9
      iexists f10; rw [show (Memref.whole cc0_scratch1).view.set = Finset.univ from View.set_whole _]; iexact H10
    · iintro %_ ⟨H2, H3, H4, H5, H6, H7, H8, H9, ⟨%g10, H10⟩⟩
      unfold owns
      icases H9 with ⟨%g9, %hg9, H9⟩
      isplitl [H2 H9 H10 Hr]
      · isplitr [H2]
        · isplitr [Hr]
          · isplitl [H9]
            · iexists g9; isplitr; · ipureintro; exact fun _ => hg9
              rw [show (Memref.whole cc0_scratch0).view.set = Finset.univ from View.set_whole _]; iexact H9
            · iexists g10; rw [show (Memref.whole cc0_scratch1).view.set = Finset.univ from View.set_whole _]; iexact H10
          iexact Hr
        iexact H2
      isplitl [Ho]; · iexact Ho
      isplitl [H3]; · iexact H3
      isplitl [H4]; · iexact H4
      isplitl [H5]; · iexact H5
      isplitl [H6]; · iexact H6
      isplitl [H7]; · iexists d4; iexact H7
      iexists d5; iexact H8
  · skip
    have hm : t.val % 16 ≠ 0 := fun e => by omega
    have hacc := acc_next m c t hm
    rw [leaves_last m c t 4 (.inl rfl) hl, leaves_last m c t 5 (.inr rfl) hl, after_4, after_5]
    unfold addend at hacc
    rw [hacc]
    iapply (wp_wand_r Idealize.ShloMosaic.frame (wpE (defs₀ (F := Ideal)) Variants.none (c : Thread nD τ) none) Set.univ)
    isplitl [H2 H3 H4 H5 H6 H7 H8 H9 H10]
    · iapply (pointC c fullShare.right ((cfgM m).grid.coords t) _ _ _ _ _ _ _ _ _ _ _ _ _ _ scr9 _ _ _ (tbW m) hO hz hp hl (iblk m c 0 t) (iblk m c 1 t) (iblk m c 2 t) (iblk m c 3 t) ((dats m 0 c).before 4 t d4) ((dats m 0 c).before 5 t d5) (acc m c t.val))
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · unfold owns; iexists f9; isplitr; · ipureintro; exact h9 hm
                      rw [show (Memref.whole cc0_scratch0).view.set = Finset.univ from View.set_whole _]; iexact H9
      iexists f10; rw [show (Memref.whole cc0_scratch1).view.set = Finset.univ from View.set_whole _]; iexact H10
    · iintro %_ ⟨H2, H3, H4, H5, H6, H7, H8, H9, ⟨%g10, H10⟩⟩
      unfold owns
      icases H9 with ⟨%g9, %hg9, H9⟩
      isplitl [H2 H9 H10 Hr]
      · isplitr [H2]
        · isplitr [Hr]
          · isplitl [H9]
            · iexists g9; isplitr; · ipureintro; exact fun _ => hg9
              rw [show (Memref.whole cc0_scratch0).view.set = Finset.univ from View.set_whole _]; iexact H9
            · iexists g10; rw [show (Memref.whole cc0_scratch1).view.set = Finset.univ from View.set_whole _]; iexact H10
          iexact Hr
        iexact H2
      isplitl [Ho]; · iexact Ho
      isplitl [H3]; · iexact H3
      isplitl [H4]; · iexact H4
      isplitl [H5]; · iexact H5
      isplitl [H6]; · iexact H6
      isplitl [H7]; · iexact H7
      iexact H8

theorem loose_of {cfg : Pipeline.Cfg sig Λ₀} {c : Dev nD} (dat : Dat τ (Elt Ideal) Unit ℕ (UR sig nD τ) ℕ cfg c) (defs₀ : Defs nD τ sig (Elt Ideal) Λ₀)
    (h : ∀ t : Fin cfg.N, iprop(dat.Φ t.castSucc ∗ dat.owesAt () t.castSucc ∗ bigSep Finset.univ fun w : Fin cfg.W => iprop(∃ d, owns (c : Thread nD τ) ((cfg.win w).stage (cfg.slots t w)) fullShare (dat.before w t d)))
      ⊢ wp Idealize.ShloMosaic.frame (wpE defs₀ Variants.none (c : Thread nD τ) none) Set.univ (defs₀ .tc cfg.body (cfg.bodyArgs t (cfg.slots t))) fun _ => iprop(dat.Φ t.succ ∗ dat.owesAt () t.succ ∗ bigSep Finset.univ fun w : Fin cfg.W => dat.leaves w t)) :
    BodyObligationLoose dat defs₀ Variants.none () Set.univ := fun t => h t

theorem body_obligation (hO : TbOK m) (c : Dev nD) : BodyObligationLoose (dats m 0 c) (defs₀ (F := Ideal)) Variants.none () Set.univ := loose_of _ _ fun t => by
  rw [bigSep_W0, bigSep_W0, defs₀_row]
  exact triple_restated (sound_body m hO c t) rfl .rfl fun _ => .rfl

set_option backward.isDefEq.respectTransparency.types false in
/-- The run of the whole program: every window's array at its blocks, every other buffer as the launch leaves it, every counter zero. -/
theorem run_main (hO : TbOK m) : θ_run defs (onTc (τ := τ) (main (F := Ideal))) (s₀ m ρ) (fun r => Pipeline.FramePost (Pipeline.pin pcfgs (adms m)) (dats m) (0 : Fin 1) (V m) r ∧ r.2.sem = fun _ => 0) :=
  Pipeline.θ_run_frameP_track (Q' := _) pcfgs (adms m) (dats m) (0 : Fin 1) launch0 defs₀ Variants.none m ρ main
    (hbody := body_obligation m hO) (hshare := fun c => (dats m 0 c).share_full fun _ => rfl)
    (howed := fun _ _ => rfl) (V := V m) (hmain := hmain m Variants.none) (hA := A_eq m) (hpf := V_pre m)
    (hin := fun c => by
      rw [show (dats m 0 c).Φ 0 = PhiN m c 0 from rfl]
      unfold PhiN Pipeline.ΦA
      rw [scopedRest0_eq]
      iintro ⟨⟨⟨⟨%f9, H9⟩, H10⟩, Hr⟩, H2⟩
      isplitr [H2]
      · isplitr [Hr]
        · isplitl [H9]
          · iexists f9; isplitr; · ipureintro; exact fun h => absurd rfl h
            iexact H9
          iexact H10
        iexact Hr
      iexact H2)
    (hout := fun c => by
      rw [show (dats m 0 c).Φ (Fin.last (cfgM m).N) = PhiN m c (Fin.last (cfgM m).N).val from rfl]
      unfold PhiN Pipeline.ΦA
      rw [scopedRest0_eq]
      iintro ⟨⟨⟨⟨%f9, %h9, H9⟩, H10⟩, Hr⟩, H2⟩
      isplitr [Hr]
      · isplitl [H9]
        · iexists f9; iexact H9
        iexact H10
      iexact Hr)

end Val

end Cert.Proof.KernelIdeal

end
-- ==== Proof.KernelIdeal.Host.lean ====
/- What the arrays of the kernel call hold, element by element, as functions of the program's arguments. -/
module

public import proofs.«01_k».proof.Proof.KernelIdeal.Launch
public import proofs.«01_k».proof.Proof.KernelIdeal.Deq
public import Idealize.ShloMosaic.Lib.Claim
public import Idealize.ShloMosaic.Lib.Pipeline.Value
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

namespace Val

/-- The zero points as integers: the low halves of the packed rows, then the high halves. -/
def zInt (z : IVec S64x18432 8) : IVec S128x18432 32 :=
  concatenate S128x18432 0
    [⟨S64x18432, andi (extui 32 z natLt_8_32) (broadcastInDim S64x18432 ![] bcast_S_S64x18432 (constantI S_ 32 15#32))⟩,
      ⟨S64x18432, Host.shrsi (extui 32 z natLt_8_32) (broadcastInDim S64x18432 ![] bcast_S_S64x18432 (constantI S_ 32 4#32))⟩]
    concatenates_S64x18432_S64x18432_S128x18432_d0

/-- The arguments, at their own types. -/
abbrev aX (c : Dev nD) : S3072x1x16384.Idx → EReal := m ((c : Thread nD τ).loc main_arg0)
abbrev aQ (c : Dev nD) : S8192x18432.Idx → BitVec 8 := m ((c : Thread nD τ).loc main_arg1)
abbrev aS (c : Dev nD) : S128x18432.Idx → EReal := m ((c : Thread nD τ).loc main_arg2)
abbrev aZ (c : Dev nD) : S64x18432.Idx → BitVec 8 := m ((c : Thread nD τ).loc main_arg3)
abbrev aG (c : Dev nD) : S16384.Idx → BitVec 32 := m ((c : Thread nD τ).loc main_arg4)

theorem V_v0 (c : Dev nD) : V m c main_v0 = shapeCast S3072x16384 (aX m c) shapeCasts_S3072x1x16384_S3072x16384 := by
  unfold V
  after_results
  rfl

theorem V_v2 (c : Dev nD) : V m c main_v2 = transpose S256x144x32x128 [0, 2, 1, 3]
    (shapeCast S256x32x144x128 (aQ m c) shapeCasts_S8192x18432_S256x32x144x128) transposes_S256x32x144x128_S256x144x32x128_0_2_1_3 := by
  unfold V
  after_results
  rfl

theorem V_v12 (c : Dev nD) : V m c main_v12 = shapeCast S128x18x8x128 (aS m c) shapeCasts_S128x18432_S128x18x8x128 := by
  unfold V
  after_results
  rfl

theorem V_v13 (c : Dev nD) : V m c main_v13 = shapeCast S128x18x8x128
    (addf (F := Ideal) (sitofp FTy.bf16 (zInt (aZ m c))) (broadcastInDim S128x18432 ![] bcast_S_S128x18432 (constant (F := Ideal) S_ FTy.bf16 17152#16)))
    shapeCasts_S128x18432_S128x18x8x128 := by
  unfold V
  after_results
  rfl

theorem v0_apply (c : Dev nD) (r : Fin 3072) (i : Fin 16384) : (V m c main_v0 : S3072x16384.Idx → EReal) (ix2 r i) = aX m c (ix3 r 0 i) := by
  rw [V_v0]
  refine shapeCast_apply _ _ _ _ ?_
  rw [Shape.rowMajor_val_two, Shape.rowMajor_val_three]
  show (r.val * 1 + 0) * 16384 + i.val = r.val * 16384 + i.val
  omega

theorem v2_apply (c : Dev nD) (R : Fin 256) (C : Fin 144) (i : Fin 32) (l : Fin 128) :
    (V m c main_v2 : S256x144x32x128.Idx → BitVec 8) (ix4 R C i l) = aQ m c (ix2 ⟨32 * R.val + i.val, by omega⟩ ⟨128 * C.val + l.val, by omega⟩) := by
  rw [V_v2]
  refine (transpose_apply _ _ _ _ (ix4 R i C l : S256x32x144x128.Idx) ?_).trans (shapeCast_apply _ _ _ _ ?_)
  · intro b
    match b with
    | ⟨0, _⟩ => rfl
    | ⟨1, _⟩ => rfl
    | ⟨2, _⟩ => rfl
    | ⟨3, _⟩ => rfl
  · rw [Shape.rowMajor_val_two, Shape.rowMajor_val_four]
    show (32 * R.val + i.val) * 18432 + (128 * C.val + l.val) = ((R.val * 32 + i.val) * 144 + C.val) * 128 + l.val
    omega

theorem tab_apply {α : Type} (x : S128x18432.Idx → α) (h : S128x18432.ShapeCasts S128x18x8x128) (g : Fin 128) (n : Fin 18) (a : Fin 8) (l : Fin 128) :
    shapeCast S128x18x8x128 x h (ix4 g n a l) = x (ix2 g ⟨1024 * n.val + 128 * a.val + l.val, by omega⟩) := by
  refine shapeCast_apply _ _ _ _ ?_
  rw [Shape.rowMajor_val_two, Shape.rowMajor_val_four]
  show g.val * 18432 + (1024 * n.val + 128 * a.val + l.val) = ((g.val * 18 + n.val) * 8 + a.val) * 128 + l.val
  omega

theorem v12_apply (c : Dev nD) (g : Fin 128) (n : Fin 18) (a : Fin 8) (l : Fin 128) :
    (V m c main_v12 : S128x18x8x128.Idx → EReal) (ix4 g n a l) = aS m c (ix2 g ⟨1024 * n.val + 128 * a.val + l.val, by omega⟩) := by
  rw [V_v12]
  exact tab_apply _ _ g n a l

theorem v13_apply (c : Dev nD) (g : Fin 128) (n : Fin 18) (a : Fin 8) (l : Fin 128) :
    (V m c main_v13 : S128x18x8x128.Idx → EReal) (ix4 g n a l)
      = (((zInt (aZ m c) (ix2 g ⟨1024 * n.val + 128 * a.val + l.val, by omega⟩)).toInt : ℝ) : EReal) + ((128 : ℝ) : EReal) := by
  rw [V_v13]
  refine (tab_apply _ _ g n a l).trans ?_
  refine congrArg₂ (· + ·) rfl ?_
  have e := ofBits_code 0#16 (by decide)
  refine Eq.trans ?_ (e.trans ?_)
  · rfl
  · exact congrArg (fun r : ℝ => (r : EReal)) (by simp)

end Val

end Cert.Proof.KernelIdeal
-- ==== Proof.Common.lean ====
/- What both programs compute, as functions of plain row and column numbers: the product with the dequantised weights, and
   its quantisation block by block. -/
module

public import proofs.«01_k».proof.Proof.Expo
public import Idealize.ShloMosaic.PureOps.Ideal

@[expose] public section

noncomputable section

namespace Cert.Proof.Common

open Idealize.ShloMosaic

/-- The dequantised weight of packed code `b`, half `h`, at zero point `z` and scale `s`. -/
def weight (b : BitVec 8) (h : ℕ) (z : ℤ) (s : EReal) : EReal :=
  ((((b.toNat / 16 ^ h % 16 : ℕ) : ℝ) : EReal) - ((z : ℝ) : EReal)) * s

/-- One term of the product: activation `i` of row `r` times the weight at row `i`, column `n`. -/
def term (X : Fin 3072 → Fin 16384 → EReal) (Q : Fin 8192 → Fin 18432 → BitVec 8) (S : Fin 128 → Fin 18432 → EReal)
    (Z : Fin 128 → Fin 18432 → ℤ) (G : Fin 16384 → Fin 128) (r : Fin 3072) (n : Fin 18432) (i : Fin 16384) : EReal :=
  X r i * weight (Q ⟨i.val / 2, by omega⟩ n) (i.val % 2) (Z (G i) n) (S (G i) n)

/-- The product of the activations with the dequantised weights. -/
def prod (X : Fin 3072 → Fin 16384 → EReal) (Q : Fin 8192 → Fin 18432 → BitVec 8) (S : Fin 128 → Fin 18432 → EReal)
    (Z : Fin 128 → Fin 18432 → ℤ) (G : Fin 16384 → Fin 128) (r : Fin 3072) (n : Fin 18432) : EReal :=
  ∑ i : Fin 16384, term X Q S Z G r n i

/-- The code of row `r`, column `n`. -/
def codes (Y : Fin 3072 → Fin 18432 → EReal) (r : Fin 3072) (n : Fin 18432) : EReal :=
  Expo.code (Y r n) (Expo.rowX fun l => Y r ⟨128 * (n.val / 128) + l.val, by omega⟩)

/-- The scale of block `s` of column group `b` in row `r`. -/
def scales (Y : Fin 3072 → Fin 18432 → EReal) (b : Fin 18) (r : Fin 3072) (s : Fin 8) : EReal :=
  Expo.scale (Expo.rowX fun l => Y r ⟨1024 * b.val + 128 * s.val + l.val, by omega⟩)

/-- Adding 128 to the code and to the zero point changes no weight. -/
theorem weight_shift (c : ℕ) (z : ℤ) :
    ((128 + (c : ℝ) : ℝ) : EReal) - (((z : ℝ) : EReal) + ((128 : ℝ) : EReal)) = ((c : ℝ) : EReal) - ((z : ℝ) : EReal) := by
  rw [← EReal.coe_add, ← EReal.coe_sub, ← EReal.coe_sub]
  exact congrArg (fun r : ℝ => (r : EReal)) (by ring)

/-- A sum over the 16384 rows, block of 1024 by block. -/
theorem sum_blocks (f : Fin 16384 → EReal) :
    ∑ i, f i = ∑ k : Fin 16, ∑ j : Fin 1024, f ⟨1024 * k.val + j.val, by omega⟩ := by
  rw [← Fintype.sum_prod_type']
  refine (Fintype.sum_equiv (finProdFinEquiv (m := 16) (n := 1024)) _ _ fun p => ?_).symm
  refine congrArg f (Fin.ext ?_)
  show 1024 * p.1.val + p.2.val = p.2.val + 1024 * p.1.val
  omega

end Cert.Proof.Common
-- ==== Proof.KernelIdeal.Blocks.lean ====
/- Where the blocks of each grid point lie in the arrays, and what the point adds, as a function of the program's arguments. -/
module

public import proofs.«01_k».proof.Proof.KernelIdeal.Value
public import proofs.«01_k».proof.Proof.KernelIdeal.Host
public import proofs.«01_k».proof.Proof.Common
public import Idealize.ShloMosaic.Lib.Pipeline.Value
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ)

namespace Val

theorem index_0 : ∀ t : Fin grid0.N, cc0_transform_0 (grid0.coords t) = ![0, t.val % 16] := by decide +kernel
theorem index_1 : ∀ t : Fin grid0.N, cc0_transform_1 (grid0.coords t) = ![t.val % 16, t.val / 16, 0, 0] := by decide +kernel
theorem index_2 : ∀ t : Fin grid0.N, cc0_transform_2 (grid0.coords t) = ![0, t.val / 16, 0, 0] := by decide +kernel
theorem index_3 : ∀ t : Fin grid0.N, cc0_transform_3 (grid0.coords t) = ![0, t.val / 16, 0, 0] := by decide +kernel
theorem index_4 : ∀ t : Fin grid0.N, cc0_transform_4 (grid0.coords t) = ![0, t.val / 16] := by decide +kernel
theorem index_5 : ∀ t : Fin grid0.N, cc0_transform_5 (grid0.coords t) = ![t.val / 16, 0, 0] := by decide +kernel

theorem N_lt (t : Fin grid0.N) : t.val < 288 := t.isLt

theorem iblk_0 (c : Dev nD) (t : Fin grid0.N) (r : Fin 3072) (i : Fin 1024) :
    (iblk m c 0 t : S3072x1024.Idx → EReal) (ix2 r i) = (V m c main_v0 : S3072x16384.Idx → EReal) (ix2 r ⟨1024 * (t.val % 16) + i.val, by omega⟩) := by
  refine congrArg (V m c main_v0 : S3072x16384.Idx → EReal) (funext fun a => Fin.ext ?_)
  match a with
  | ⟨0, _⟩ =>
    show cc0_transform_0 (grid0.coords t) 0 * 3072 + 1 * r.val = r.val
    rw [index_0]; show 0 * 3072 + 1 * r.val = r.val; omega
  | ⟨1, _⟩ =>
    show cc0_transform_0 (grid0.coords t) 1 * 1024 + 1 * i.val = 1024 * (t.val % 16) + i.val
    rw [index_0]; show t.val % 16 * 1024 + 1 * i.val = 1024 * (t.val % 16) + i.val; omega

theorem iblk_1 (c : Dev nD) (t : Fin grid0.N) (R : Fin 16) (a : Fin 8) (i : Fin 32) (l : Fin 128) :
    (iblk m c 1 t : S16x8x32x128.Idx → BitVec 8) (ix4 R a i l)
      = (V m c main_v2 : S256x144x32x128.Idx → BitVec 8) (ix4 ⟨16 * (t.val % 16) + R.val, by omega⟩ ⟨8 * (t.val / 16) + a.val, by have := N_lt t; omega⟩ i l) := by
  refine congrArg (V m c main_v2 : S256x144x32x128.Idx → BitVec 8) (funext fun b => Fin.ext ?_)
  match b with
  | ⟨0, _⟩ =>
    show cc0_transform_1 (grid0.coords t) 0 * 16 + 1 * R.val = 16 * (t.val % 16) + R.val
    rw [index_1]; show t.val % 16 * 16 + 1 * R.val = 16 * (t.val % 16) + R.val; omega
  | ⟨1, _⟩ =>
    show cc0_transform_1 (grid0.coords t) 1 * 8 + 1 * a.val = 8 * (t.val / 16) + a.val
    rw [index_1]; show t.val / 16 * 8 + 1 * a.val = 8 * (t.val / 16) + a.val; omega
  | ⟨2, _⟩ =>
    show cc0_transform_1 (grid0.coords t) 2 * 32 + 1 * i.val = i.val
    rw [index_1]; show 0 * 32 + 1 * i.val = i.val; omega
  | ⟨3, _⟩ =>
    show cc0_transform_1 (grid0.coords t) 3 * 128 + 1 * l.val = l.val
    rw [index_1]; show 0 * 128 + 1 * l.val = l.val; omega

theorem iblk_2 (c : Dev nD) (t : Fin grid0.N) (g : Fin 128) (a : Fin 8) (l : Fin 128) :
    (iblk m c 2 t : S128x1x8x128.Idx → EReal) (ix4 g 0 a l) = (V m c main_v12 : S128x18x8x128.Idx → EReal) (ix4 g ⟨t.val / 16, by have := N_lt t; omega⟩ a l) := by
  refine congrArg (V m c main_v12 : S128x18x8x128.Idx → EReal) (funext fun b => Fin.ext ?_)
  match b with
  | ⟨0, _⟩ =>
    show cc0_transform_2 (grid0.coords t) 0 * 128 + 1 * g.val = g.val
    rw [index_2]; show 0 * 128 + 1 * g.val = g.val; omega
  | ⟨1, _⟩ =>
    show cc0_transform_2 (grid0.coords t) 1 * 1 + 1 * 0 = t.val / 16
    rw [index_2]; show t.val / 16 * 1 + 1 * 0 = t.val / 16; omega
  | ⟨2, _⟩ =>
    show cc0_transform_2 (grid0.coords t) 2 * 8 + 1 * a.val = a.val
    rw [index_2]; show 0 * 8 + 1 * a.val = a.val; omega
  | ⟨3, _⟩ =>
    show cc0_transform_2 (grid0.coords t) 3 * 128 + 1 * l.val = l.val
    rw [index_2]; show 0 * 128 + 1 * l.val = l.val; omega

theorem iblk_3 (c : Dev nD) (t : Fin grid0.N) (g : Fin 128) (a : Fin 8) (l : Fin 128) :
    (iblk m c 3 t : S128x1x8x128.Idx → EReal) (ix4 g 0 a l) = (V m c main_v13 : S128x18x8x128.Idx → EReal) (ix4 g ⟨t.val / 16, by have := N_lt t; omega⟩ a l) := by
  refine congrArg (V m c main_v13 : S128x18x8x128.Idx → EReal) (funext fun b => Fin.ext ?_)
  match b with
  | ⟨0, _⟩ =>
    show cc0_transform_3 (grid0.coords t) 0 * 128 + 1 * g.val = g.val
    rw [index_3]; show 0 * 128 + 1 * g.val = g.val; omega
  | ⟨1, _⟩ =>
    show cc0_transform_3 (grid0.coords t) 1 * 1 + 1 * 0 = t.val / 16
    rw [index_3]; show t.val / 16 * 1 + 1 * 0 = t.val / 16; omega
  | ⟨2, _⟩ =>
    show cc0_transform_3 (grid0.coords t) 2 * 8 + 1 * a.val = a.val
    rw [index_3]; show 0 * 8 + 1 * a.val = a.val; omega
  | ⟨3, _⟩ =>
    show cc0_transform_3 (grid0.coords t) 3 * 128 + 1 * l.val = l.val
    rw [index_3]; show 0 * 128 + 1 * l.val = l.val; omega

/-- The table of group numbers is the argument. -/
theorem table (c : Dev nD) : (tbM.view.read (Elt Ideal) (tbW m) : S16384.Idx → BitVec 32) = aG m c := by
  obtain rfl : c = 0 := Subsingleton.elim _ _
  exact V_main_arg4 m 0

/-- The arguments by row and column numbers. -/
def fX (c : Dev nD) (r : Fin 3072) (i : Fin 16384) : EReal := aX m c (ix3 r 0 i)
def fQ (c : Dev nD) (p : Fin 8192) (n : Fin 18432) : BitVec 8 := aQ m c (ix2 p n)
def fS (c : Dev nD) (g : Fin 128) (n : Fin 18432) : EReal := aS m c (ix2 g n)
def fZ (c : Dev nD) (g : Fin 128) (n : Fin 18432) : ℤ := (zInt (aZ m c) (ix2 g n)).toInt
def fG (c : Dev nD) (i : Fin 16384) : Fin 128 := ⟨(aG m c (ix1 i)).toNat % 128, Nat.mod_lt _ (by norm_num)⟩

/-- One weight of the scratch, as a function of the arguments. -/
theorem wScr_eq (c : Dev nD) (t : Fin grid0.N) (a : Fin 8) (r : Fin 512) (h : Fin 2) (l : Fin 128) (p : Fin 8192) (n : Fin 18432) (i : Fin 16384)
    (hp : p.val = 512 * (t.val % 16) + r.val) (hn : n.val = 1024 * (t.val / 16) + 128 * a.val + l.val) (hi : i.val = 1024 * (t.val % 16) + 2 * r.val + h.val) :
    wScr (tbM.view.read (Elt Ideal) (tbW m)) (iblk m c 1 t) (iblk m c 2 t) (iblk m c 3 t) (grid0.coords t 1) a r h l
      = Common.weight (fQ m c p n) h.val (fZ m c (fG m c i) n) (fS m c (fG m c i) n) := by
  unfold wScr
  rw [table m c]
  have hk := coord1 t
  have eg : (⟨(aG m c (ix1 ⟨1024 * (grid0.coords t 1).val + 2 * r.val + h.val, by have := (grid0.coords t 1).isLt; change (grid0.coords t 1).val < 16 at this; have := r.isLt; have := h.isLt; omega⟩)).toNat % 128, Nat.mod_lt _ (by norm_num)⟩ : Fin 128) = fG m c i := by
    refine congrArg (fG m c) (Fin.ext ?_)
    show 1024 * (grid0.coords t 1).val + 2 * r.val + h.val = i.val
    rw [hk, hi]
  dsimp only
  erw [eg]
  have eB : (iblk m c 1 t : S16x8x32x128.Idx → BitVec 8) (ix4 ⟨r.val / 32, by have := r.isLt; omega⟩ a ⟨r.val % 32, Nat.mod_lt _ (by norm_num)⟩ l) = fQ m c p n := by
    rw [iblk_1, v2_apply]
    refine congrArg₂ (fQ m c) (Fin.ext ?_) (Fin.ext ?_)
    · show 32 * (16 * (t.val % 16) + r.val / 32) + r.val % 32 = p.val
      omega
    · show 128 * (8 * (t.val / 16) + a.val) + l.val = n.val
      omega
  have en : (⟨1024 * (t.val / 16) + 128 * a.val + l.val, by have := N_lt t; omega⟩ : Fin 18432) = n := Fin.ext hn.symm
  have eS : (iblk m c 2 t : S128x1x8x128.Idx → EReal) (ix4 (fG m c i) 0 a l) = fS m c (fG m c i) n := by
    rw [iblk_2, v12_apply]
    exact congrArg (fS m c (fG m c i)) en
  have eZ : (iblk m c 3 t : S128x1x8x128.Idx → EReal) (ix4 (fG m c i) 0 a l) = (((fZ m c (fG m c i) n : ℤ) : ℝ) : EReal) + ((128 : ℝ) : EReal) := by
    rw [iblk_3, v13_apply]
    exact congrArg (fun k : Fin 18432 => (((fZ m c (fG m c i) k : ℤ) : ℝ) : EReal) + ((128 : ℝ) : EReal)) en
  refine congrArg₂ (· * ·) ?_ eS
  refine (congrArg₂ (fun (b : BitVec 8) (z : EReal) => ((128 + (nib b h.val : ℝ) : ℝ) : EReal) - z) eB eZ).trans ?_
  exact Common.weight_shift _ _

/-- What a grid point adds, as a function of the arguments. -/
theorem addend_eq (c : Dev nD) (t : Fin grid0.N) (r : Fin 3072) (q : Fin 1024) (n : Fin 18432) (hn : n.val = 1024 * (t.val / 16) + q.val) :
    addend m c t (ix2 r q) = ∑ j : Fin 1024, Common.term (fX m c) (fQ m c) (fS m c) (fZ m c) (fG m c) r n ⟨1024 * (t.val % 16) + j.val, by omega⟩ := by
  unfold addend yAt
  refine Finset.sum_congr rfl fun j _ => ?_
  unfold Common.term
  refine congrArg₂ (· * ·) ((iblk_0 m c t r j).trans (v0_apply m c r _)) ?_
  refine (wScr_eq m c t _ _ _ _ ⟨(1024 * (t.val % 16) + j.val) / 2, by omega⟩ n ⟨1024 * (t.val % 16) + j.val, by omega⟩ ?_ ?_ ?_).trans ?_
  · show (1024 * (t.val % 16) + j.val) / 2 = 512 * (t.val % 16) + j.val / 2
    omega
  · show n.val = 1024 * (t.val / 16) + 128 * (q.val / 128) + q.val % 128
    omega
  · show 1024 * (t.val % 16) + j.val = 1024 * (t.val % 16) + 2 * (j.val / 2) + j.val % 2
    omega
  · have e : j.val % 2 = (1024 * (t.val % 16) + j.val) % 2 := by omega
    exact congrArg (fun h => Common.weight _ h _ _) e

/-- The product of the two arguments. -/
def Y (c : Dev nD) : Fin 3072 → Fin 18432 → EReal := Common.prod (fX m c) (fQ m c) (fS m c) (fZ m c) (fG m c)

/-- The partial sums after `k` points of a column block. -/
theorem acc_sum (c : Dev nD) (b : Fin 18) (r : Fin 3072) (q : Fin 1024) (k : ℕ) (hk : k < 16) :
    acc m c (16 * b.val + k + 1) (ix2 r q) = ∑ s ∈ Finset.range (k + 1), if h : s < 16 then addend m c (⟨16 * b.val + s, by show _ < 288; omega⟩ : Fin grid0.N) (ix2 r q) else 0 := by
  induction k with
  | zero =>
    rw [Finset.sum_range_one, dif_pos (by norm_num)]
    exact congrFun (acc_first m c (⟨16 * b.val + 0, by show _ < 288; omega⟩ : Fin grid0.N) (by show (16 * b.val + 0) % 16 = 0; omega)) _
  | succ k ih =>
    rw [Finset.sum_range_succ, ← ih (by omega), dif_pos hk]
    exact congrFun (acc_next m c (⟨16 * b.val + (k + 1), by show _ < 288; omega⟩ : Fin grid0.N) (by show (16 * b.val + (k + 1)) % 16 ≠ 0; omega)) _

/-- The accumulator at the end of a column block holds the product. -/
theorem acc_last (c : Dev nD) (b : Fin 18) (r : Fin 3072) (q : Fin 1024) :
    acc m c (16 * b.val + 15 + 1) (ix2 r q) = Y m c r ⟨1024 * b.val + q.val, by omega⟩ := by
  rw [acc_sum m c b r q 15 (by norm_num), Finset.sum_range]
  unfold Y Common.prod
  rw [Common.sum_blocks]
  refine Finset.sum_congr rfl fun s _ => ?_
  rw [dif_pos s.isLt, addend_eq m c _ r q ⟨1024 * b.val + q.val, by omega⟩ (by show 1024 * b.val + q.val = 1024 * ((16 * b.val + s.val) / 16) + q.val; omega)]
  refine Finset.sum_congr rfl fun j _ => congrArg (Common.term (fX m c) (fQ m c) (fS m c) (fZ m c) (fG m c) r _) (Fin.ext ?_)
  show 1024 * ((16 * b.val + s.val) % 16) + j.val = 1024 * s.val + j.val
  omega

end Val

end Cert.Proof.KernelIdeal
-- ==== Proof.KernelIdeal.Out.lean ====
/- The two result arrays of `KernelIdeal`, element by element, as functions of the program's arguments. -/
module

public import proofs.«01_k».proof.Proof.KernelIdeal.Blocks
public import Idealize.ShloMosaic.Lib.Pipeline.ValueKit
public import Idealize.ShloMosaic.PureOps.Ideal

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat)

variable (m : (ℓ : Loc nD τ sig) → Buf (Elt Ideal) ℓ) (ρ : Dev nD → PrngReg)

namespace Val

/-- The codes. -/
def outCodes (c : Dev nD) : S3072x18432.Idx → EReal := fun x => Common.codes (Y m c) (x 0) (x 1)

/-- The scales. -/
def outScales (c : Dev nD) : S18x3072x8.Idx → EReal := fun x => Common.scales (Y m c) (x 0) (x 1) (x 2)

theorem codes_last (c : Dev nD) (b : Fin 18) (r : Fin 3072) (q : Fin 1024) :
    codeAt (acc m c (16 * b.val + 15 + 1)) (ix2 r q) = Common.codes (Y m c) r ⟨1024 * b.val + q.val, by omega⟩ := by
  unfold codeAt Common.codes
  refine congrArg₂ Expo.code (acc_last m c b r q) (congrArg Expo.rowX (funext fun l => ?_))
  refine (acc_last m c b r _).trans (congrArg (Y m c r) (Fin.ext ?_))
  show 1024 * b.val + (128 * (q.val / 128) + l.val) = 128 * ((1024 * b.val + q.val) / 128) + l.val
  omega

theorem scales_last (c : Dev nD) (b : Fin 18) (r : Fin 3072) (s : Fin 8) :
    scaleAt (acc m c (16 * b.val + 15 + 1)) (ix3 0 r s) = Common.scales (Y m c) b r s := by
  unfold scaleAt Common.scales
  refine congrArg Expo.scale (congrArg Expo.rowX (funext fun l => ?_))
  refine (acc_last m c b r _).trans (congrArg (Y m c r) (Fin.ext ?_))
  show 1024 * b.val + (128 * s.val + l.val) = 1024 * b.val + 128 * s.val + l.val
  omega

theorem emb_4 (t : Fin grid0.N) (r : Fin 3072) (q : Fin 1024) :
    ((((cfgM m).win 4).blk t).view.emb (ix2 r q : S3072x1024.Idx) : S3072x18432.Idx) = ix2 r ⟨1024 * (t.val / 16) + q.val, by have := N_lt t; omega⟩ := by
  refine funext fun a => Fin.ext ?_
  match a with
  | ⟨0, _⟩ =>
    show cc0_transform_4 (grid0.coords t) 0 * 3072 + 1 * r.val = r.val
    rw [index_4]; show 0 * 3072 + 1 * r.val = r.val; omega
  | ⟨1, _⟩ =>
    show cc0_transform_4 (grid0.coords t) 1 * 1024 + 1 * q.val = 1024 * (t.val / 16) + q.val
    rw [index_4]; show t.val / 16 * 1024 + 1 * q.val = 1024 * (t.val / 16) + q.val; omega

theorem emb_5 (t : Fin grid0.N) (r : Fin 3072) (s : Fin 8) :
    ((((cfgM m).win 5).blk t).view.emb (ix3 0 r s : S1x3072x8.Idx) : S18x3072x8.Idx) = ix3 ⟨t.val / 16, by have := N_lt t; omega⟩ r s := by
  refine funext fun a => Fin.ext ?_
  match a with
  | ⟨0, _⟩ =>
    show cc0_transform_5 (grid0.coords t) 0 * 1 + 1 * 0 = t.val / 16
    rw [index_5]; show t.val / 16 * 1 + 1 * 0 = t.val / 16; omega
  | ⟨1, _⟩ =>
    show cc0_transform_5 (grid0.coords t) 1 * 3072 + 1 * r.val = r.val
    rw [index_5]; show 0 * 3072 + 1 * r.val = r.val; omega
  | ⟨2, _⟩ =>
    show cc0_transform_5 (grid0.coords t) 2 * 8 + 1 * s.val = s.val
    rw [index_5]; show 0 * 8 + 1 * s.val = s.val; omega

theorem split_blk4 (y : S3072x1024.Idx) : ∃ (r : Fin 3072) (q : Fin 1024), y = ix2 r q :=
  ⟨y 0, y 1, by funext b; match b with | ⟨0, _⟩ => rfl | ⟨1, _⟩ => rfl⟩
theorem split_arr4 (y : S3072x18432.Idx) : ∃ (r : Fin 3072) (n : Fin 18432), y = ix2 r n :=
  ⟨y 0, y 1, by funext b; match b with | ⟨0, _⟩ => rfl | ⟨1, _⟩ => rfl⟩
theorem split_blk5 (y : S1x3072x8.Idx) : ∃ (r : Fin 3072) (s : Fin 8), y = ix3 0 r s :=
  ⟨y 1, y 2, by funext b; match b with | ⟨0, _⟩ => exact Subsingleton.elim (α := Fin 1) _ _ | ⟨1, _⟩ => rfl | ⟨2, _⟩ => rfl⟩
theorem split_arr5 (y : S18x3072x8.Idx) : ∃ (b : Fin 18) (r : Fin 3072) (s : Fin 8), y = ix3 b r s :=
  ⟨y 0, y 1, y 2, by funext b; match b with | ⟨0, _⟩ => rfl | ⟨1, _⟩ => rfl | ⟨2, _⟩ => rfl⟩

theorem last_eq (t : Fin grid0.N) (h : t.val % 16 = 15) : t.val + 1 = 16 * (t.val / 16) + 15 + 1 := by omega

theorem arr_4 (c : Dev nD) : (dats m 0 c).arrAt 4 (cfgM m).N = outCodes m c := by
  refine (dats m 0 c).arrAt_eq_of_emb 4 (outCodes m c) (fun t hf y => ?_) (fun i => ?_)
  · have ht := (flush4 m t).1 hf
    obtain ⟨r, q, rfl⟩ := split_blk4 y
    refine Eq.trans ?_ (congrArg (outCodes m c) (emb_4 m t r q)).symm
    show codeAt (acc m c (t.val + 1)) (ix2 r q) = Common.codes (Y m c) r ⟨1024 * (t.val / 16) + q.val, _⟩
    rw [last_eq t ht]
    exact codes_last m c ⟨t.val / 16, by have := N_lt t; omega⟩ r q
  · obtain ⟨r, n, rfl⟩ := split_arr4 i
    have hN : 16 * (n.val / 1024) + 15 < 288 := by omega
    refine ⟨(⟨16 * (n.val / 1024) + 15, hN⟩ : Fin grid0.N), (flush4 m _).2 (by show (16 * (n.val / 1024) + 15) % 16 = 15; omega), ?_⟩
    have e := emb_4 m (⟨16 * (n.val / 1024) + 15, hN⟩ : Fin grid0.N) r ⟨n.val % 1024, by omega⟩
    have e2 : (ix2 r n : S3072x18432.Idx) = ix2 r ⟨1024 * ((16 * (n.val / 1024) + 15) / 16) + n.val % 1024, by omega⟩ :=
      congrArg (ix2 r) (Fin.ext (by show n.val = 1024 * ((16 * (n.val / 1024) + 15) / 16) + n.val % 1024; omega))
    rw [e2]
    exact e ▸ View.emb_mem_set _ _

theorem arr_5 (c : Dev nD) : (dats m 0 c).arrAt 5 (cfgM m).N = outScales m c := by
  refine (dats m 0 c).arrAt_eq_of_emb 5 (outScales m c) (fun t hf y => ?_) (fun i => ?_)
  · have ht := (flush5 m t).1 hf
    obtain ⟨r, s, rfl⟩ := split_blk5 y
    refine Eq.trans ?_ (congrArg (outScales m c) (emb_5 m t r s)).symm
    show scaleAt (acc m c (t.val + 1)) (ix3 0 r s) = Common.scales (Y m c) ⟨t.val / 16, _⟩ r s
    rw [last_eq t ht]
    exact scales_last m c ⟨t.val / 16, by have := N_lt t; omega⟩ r s
  · obtain ⟨b, r, s, rfl⟩ := split_arr5 i
    have hN : 16 * b.val + 15 < 288 := by omega
    refine ⟨(⟨16 * b.val + 15, hN⟩ : Fin grid0.N), (flush5 m _).2 (by show (16 * b.val + 15) % 16 = 15; omega), ?_⟩
    have e := emb_5 m (⟨16 * b.val + 15, hN⟩ : Fin grid0.N) r s
    have e2 : (ix3 b r s : S18x3072x8.Idx) = ix3 ⟨(16 * b.val + 15) / 16, by omega⟩ r s :=
      congrArg (fun k => ix3 k r s) (Fin.ext (by show b.val = (16 * b.val + 15) / 16; omega))
    rw [e2]
    exact e ▸ View.emb_mem_set _ _

/-- The run of `KernelIdeal`: the results as functions of the arguments, the arguments unchanged. -/
theorem run_values (hO : TbOK m) : θ_run defs (onTc (τ := τ) (main (F := Ideal))) (s₀ m ρ) (fun r => ∀ c : Dev nD,
    r.2.mem ((c.tc : Thread nD τ).loc main_v14_0) = outCodes m c ∧ r.2.mem ((c.tc : Thread nD τ).loc main_v14_1) = outScales m c
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main m ρ hO)
  obtain ⟨h1, h2⟩ := h.1 c
  refine ⟨(h1 4).trans (arr_4 m c), (h1 5).trans (arr_5 m c), ?_, ?_, ?_, ?_, ?_⟩
  · exact (h2 main_arg0 (rest_arg0)).trans (V_main_arg0 m c)
  · exact (h2 main_arg1 (rest_arg1)).trans (V_main_arg1 m c)
  · exact (h2 main_arg2 (rest_arg2)).trans (V_main_arg2 m c)
  · exact (h2 main_arg3 (rest_arg3)).trans (V_main_arg3 m c)
  · exact (h2 main_arg4 (rest_arg4)).trans (V_main_arg4 m c)

end Val

end Cert.Proof.KernelIdeal
-- ==== Proof.ReferenceIdeal.Host.lean ====
/- What the reference's host operations compute, in stages: the sorting permutation, the permuted codes, the weights, the product. -/
module

public import proofs.«01_k».proof.Proof.Gen.ReferenceIdeal.Frame
public import Idealize.ShloMosaic.Lib.Claim
public import Idealize.ShloMosaic.PureOps.Ideal

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- The zero points as integers: the low halves of the packed rows, then the high halves. -/
def zInt (z : IVec S64x18432 8) : IVec S128x18432 32 :=
  concatenate S128x18432 0
    [⟨S64x18432, andi (extui 32 z natLt_8_32) (broadcastInDim S64x18432 ![] bcast_S_S64x18432 (constantI S_ 32 15#32))⟩,
      ⟨S64x18432, Host.shrsi (extui 32 z natLt_8_32) (broadcastInDim S64x18432 ![] bcast_S_S64x18432 (constantI S_ 32 4#32))⟩]
    concatenates_S64x18432_S64x18432_S128x18432_d0

/-- The sorting permutation. -/
def rPerm (g : IVec S16384 32) : IVec S16384 32 := (Host.sort2 S16384 0 comparator_i32_i32_d0 g (iotaInDim S16384 32 0)).2

/-- The packed rows in sorted order. -/
def rPacked (q : IVec S8192x18432 8) (g : IVec S16384 32) : IVec S16384x18432 8 :=
  Host.gather gather_S8192x18432_S16384x1_S16384x18432_1_0_n_n_0_1_118432 q
    (broadcastInDim S16384x1 ![0] bcast_S16384_S16384x1_0 (Host.divsi (rPerm g) (broadcastInDim S16384 ![] bcast_S_S16384 (constantI S_ 32 2#32))))

/-- Which sorted rows are high halves. -/
def rHigh (g : IVec S16384 32) : IVec S16384x18432 1 :=
  broadcastInDim S16384x18432 ![0, 1] bcast_S16384x1_S16384x18432_0_1
    (broadcastInDim S16384x1 ![0] bcast_S16384_S16384x1_0
      (cmpi .eq (Host.remsi (rPerm g) (broadcastInDim S16384 ![] bcast_S_S16384 (constantI S_ 32 2#32)))
        (broadcastInDim S16384 ![] bcast_S_S16384 (constantI S_ 32 1#32))))

/-- The codes in sorted order. -/
def rCode (q : IVec S8192x18432 8) (g : IVec S16384 32) : IVec S16384x18432 32 :=
  select (rHigh g)
    (Host.shrsi (extui 32 (rPacked q g) natLt_8_32) (broadcastInDim S16384x18432 ![] bcast_S_S16384x18432 (constantI S_ 32 4#32)))
    (andi (extui 32 (rPacked q g) natLt_8_32) (broadcastInDim S16384x18432 ![] bcast_S_S16384x18432 (constantI S_ 32 15#32)))

/-- A table row per group, repeated over the group's rows. -/
def rTab (x : FVec Ideal S128x18432 .bf16) : FVec Ideal S128x128x18432 .bf16 :=
  broadcastInDim S128x128x18432 ![0, 1, 2] bcast_S128x1x18432_S128x128x18432_0_1_2 (broadcastInDim S128x1x18432 ![0, 2] bcast_S128x18432_S128x1x18432_0_2 x)

/-- The weights in sorted order. -/
def rW (q : IVec S8192x18432 8) (s : FVec Ideal S128x18432 .bf16) (z : IVec S64x18432 8) (g : IVec S16384 32) : FVec Ideal S16384x18432 .bf16 :=
  shapeCast S16384x18432
    (mulf (subf (shapeCast S128x128x18432 (sitofp (F := Ideal) .bf16 (rCode q g)) shapeCasts_S16384x18432_S128x128x18432) (rTab (sitofp (F := Ideal) .bf16 (zInt z)))) (rTab s))
    shapeCasts_S128x128x18432_S16384x18432

/-- The activations in sorted order. -/
def rX (x : FVec Ideal S3072x1x16384 .bf16) (g : IVec S16384 32) : FVec Ideal S3072x1x16384 .bf16 :=
  Host.gather gather_S3072x1x16384_S16384x1_S3072x1x16384_01_2_n_n_2_1_307211 x (broadcastInDim S16384x1 ![0] bcast_S16384_S16384x1_0 (rPerm g))

/-- The product. -/
def rY (x : FVec Ideal S3072x1x16384 .bf16) (q : IVec S8192x18432 8) (s : FVec Ideal S128x18432 .bf16) (z : IVec S64x18432 8) (g : IVec S16384 32) :
    FVec Ideal S3072x1x18432 .f32 :=
  Host.dotGeneral dot_S3072x1x16384_S16384x18432_S3072x1x18432_2_0_01_1_n_n none (rX x g) (rW q s z g)

/-- The arguments, at their own types. -/
abbrev aX (c : Dev nD) : S3072x1x16384.Idx → EReal := m ((c : Thread nD τ).loc main_arg0)
abbrev aQ (c : Dev nD) : S8192x18432.Idx → BitVec 8 := m ((c : Thread nD τ).loc main_arg1)
abbrev aS (c : Dev nD) : S128x18432.Idx → EReal := m ((c : Thread nD τ).loc main_arg2)
abbrev aZ (c : Dev nD) : S64x18432.Idx → BitVec 8 := m ((c : Thread nD τ).loc main_arg3)
abbrev aG (c : Dev nD) : S16384.Idx → BitVec 32 := m ((c : Thread nD τ).loc main_arg4)

theorem V_v33 (c : Dev nD) : V m c main_v33 = shapeCast S3072x144x128 (rY (aX m c) (aQ m c) (aS m c) (aZ m c) (aG m c)) shapeCasts_S3072x1x18432_S3072x144x128 := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results
  simp -implicitDefEqProofs only [StableHlo.TRef.toBuf, StableHlo.TRef.ofBuf, cast_cast, cast_eq]
  unfold rY rX rW rTab rCode rHigh rPacked rPerm zInt
  rfl

end Cert.Proof.ReferenceIdeal
-- ==== Proof.ReferenceIdeal.Weights.lean ====
/- The reference's host stages read at an index: the product is the sum over the rows in sorted order, hence in any order. -/
module

public import proofs.«01_k».proof.Proof.ReferenceIdeal.Host
public import proofs.«01_k».proof.Proof.Balanced
public import proofs.«01_k».proof.Proof.Common
public import Idealize.ShloMosaic.Lib.Routing.Ops
public import Idealize.ShloMosaic.Lib.StackMember
public import Idealize.ShloMosaic.Lib.Pointwise.Select
public import Idealize.ShloMosaic.Lib.StableHlo.Predicate
public import Idealize.ShloMosaic.Lib.Pipeline.Value
public import Idealize.ShloMosaic.PureOps.Ideal

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.TcCoe Idealize.ShloMosaic.Tactic
open Idealize.ShloMosaic.StableHlo.Predicate (ixP)
open Idealize.ShloMosaic.ValueIdx (contrEquiv1 contrEquiv1_symm_val)

variable [Cert.Pre_balanced.Facts]

/-- Where the sort puts the positions. -/
abbrev perm (g : IVec S16384 32) : Fin 16384 → Fin 16384 := Balanced.perm g

theorem rPerm_apply (g : IVec S16384 32) (k : Fin 16384) : rPerm g (Balanced.at1 k) = BitVec.ofNat 32 (perm g k).val :=
  Balanced.argsort_apply (F := Ideal) g k

theorem divsi_two (p : ℕ) (hp : p < 16384) : IntOp.divsi .host (BitVec.ofNat 32 p) 2#32 = BitVec.ofNat 32 (p / 2) := by
  have hcorner : ¬ IntOp.SDivCorner (BitVec.ofNat 32 p) 2#32 := by
    intro hc; rcases hc with hc | ⟨_, hc⟩ <;> exact absurd hc (by decide)
  have hn : (BitVec.ofNat 32 p).toNat = p := by rw [BitVec.toNat_ofNat]; omega
  have hm : (BitVec.ofNat 32 p).msb = false := BitVec.msb_eq_false_iff_two_mul_lt.mpr (by rw [hn]; omega)
  refine BitVec.eq_of_toNat_eq ?_
  simp only [IntOp.divsi, if_neg hcorner, BitVec.sdiv_eq, hm, show (2#32 : BitVec 32).msb = false from by decide, BitVec.udiv_eq,
    BitVec.toNat_udiv, hn, BitVec.toNat_ofNat]
  show p / 2 = p / 2 % 4294967296
  omega

theorem remsi_two (p : ℕ) (hp : p < 16384) : IntOp.remsi .host (BitVec.ofNat 32 p) 2#32 = BitVec.ofNat 32 (p % 2) := by
  have hcorner : ¬ IntOp.SDivCorner (BitVec.ofNat 32 p) 2#32 := by
    intro hc; rcases hc with hc | ⟨_, hc⟩ <;> exact absurd hc (by decide)
  have hn : (BitVec.ofNat 32 p).toNat = p := by rw [BitVec.toNat_ofNat]; omega
  have hm : (BitVec.ofNat 32 p).msb = false := BitVec.msb_eq_false_iff_two_mul_lt.mpr (by rw [hn]; omega)
  refine BitVec.eq_of_toNat_eq ?_
  simp only [IntOp.remsi, if_neg hcorner, BitVec.srem_eq, hm, show (2#32 : BitVec 32).msb = false from by decide, BitVec.umod_eq,
    BitVec.toNat_umod, hn, BitVec.toNat_ofNat]
  show p % 2 = p % 2 % 4294967296
  omega

/-- Row `p` of a one-column array. -/
theorem ixP_eq {n : ℕ} (p : Fin n) : (ixP p : (⟨2, ![n, 1]⟩ : Shape).Idx) = ix2 p (0 : Fin 1) := by
  funext b
  match b with
  | ⟨0, _⟩ => rfl
  | ⟨1, _⟩ => rfl

theorem col_apply {α : Type} (h : S16384.BroadcastsInDim S16384x1 (![0] : Fin 1 → Fin S16384x1.rank)) (v : S16384.Idx → α) (k : Fin 16384) :
    broadcastInDim S16384x1 ![0] h v (ix2 k (0 : Fin 1)) = v (Balanced.at1 k) := by
  rw [← ixP_eq]
  exact StableHlo.Predicate.bcast_col1 h v k

/-- The library's two spellings of an index of a matrix. -/
theorem ix2_eq {a b : ℕ} (i : Fin a) (j : Fin b) : ix2 i j = ValueIdx.ix2 i j := by
  funext c
  match c with
  | ⟨0, _⟩ => rfl
  | ⟨1, _⟩ => rfl

/-- The library's two spellings of an index of a vector. -/
theorem ix1_eq {n : ℕ} (p : Fin n) : ix1 p = Shape.Idx.ofFin p := by
  funext b
  match b with
  | ⟨0, _⟩ => rfl

theorem rPacked_apply (q : IVec S8192x18432 8) (g : IVec S16384 32) (k : Fin 16384) (n : Fin 18432) :
    rPacked q g (ix2 k n) = q (ix2 ⟨(perm g k).val / 2, by have := (perm g k).isLt; omega⟩ n) := by
  unfold rPacked
  rw [ix2_eq k n, ix2_eq _ n]
  refine Routing.gather_row _ rfl rfl rfl rfl rfl q _ k n ⟨(perm g k).val / 2, by have := (perm g k).isLt; omega⟩ ?_ (by norm_num)
  rw [← ix2_eq]
  refine (col_apply _ _ k).trans ?_
  show IntOp.divsi .host (rPerm g (Balanced.at1 k)) 2#32 = _
  rw [rPerm_apply]
  exact divsi_two _ (perm g k).isLt

theorem rHigh_apply (g : IVec S16384 32) (k : Fin 16384) (n : Fin 18432) :
    rHigh g (ix2 k n) = IntOp.cmpi .eq (BitVec.ofNat 32 ((perm g k).val % 2)) 1#32 := by
  unfold rHigh
  refine (broadcastInDim_apply _ _ _ _ (ix2 k (0 : Fin 1)) ?_).trans ((col_apply _ _ k).trans ?_)
  · intro a
    match a with
    | ⟨0, _⟩ => rfl
    | ⟨1, _⟩ => rfl
  · show IntOp.cmpi .eq (IntOp.remsi .host (rPerm g (Balanced.at1 k)) 2#32) 1#32 = _
    rw [rPerm_apply, remsi_two _ (perm g k).isLt]

theorem code_byte : ∀ (b : BitVec 8) (h : Fin 2),
    (Scalar.select (IntOp.cmpi .eq (BitVec.ofNat 32 h.val) 1#32) (IntOp.shrsi .host (b.setWidth 32) 4#32) (IntOp.andi (b.setWidth 32) 15#32)).toInt
      = ((b.toNat / 16 ^ h.val % 16 : ℕ) : ℤ) := by
  decide +kernel

theorem rCode_apply (q : IVec S8192x18432 8) (g : IVec S16384 32) (k : Fin 16384) (n : Fin 18432) :
    (rCode q g (ix2 k n)).toInt = (((q (ix2 ⟨(perm g k).val / 2, by have := (perm g k).isLt; omega⟩ n)).toNat / 16 ^ ((perm g k).val % 2) % 16 : ℕ) : ℤ) := by
  refine Eq.trans ?_ (code_byte (q (ix2 ⟨(perm g k).val / 2, by have := (perm g k).isLt; omega⟩ n)) ⟨(perm g k).val % 2, by omega⟩)
  show (Scalar.select (rHigh g (ix2 k n)) (IntOp.shrsi .host ((rPacked q g (ix2 k n)).setWidth 32) 4#32) (IntOp.andi ((rPacked q g (ix2 k n)).setWidth 32) 15#32)).toInt = _
  rw [rHigh_apply, rPacked_apply]

theorem rTab_apply (x : FVec Ideal S128x18432 .bf16) (a b : Fin 128) (n : Fin 18432) : rTab x (ix3 a b n) = x (ix2 a n) := by
  unfold rTab
  refine (broadcastInDim_apply _ _ _ _ (ix3 a (0 : Fin 1) n) ?_).trans (broadcastInDim_apply _ _ _ _ (ix2 a n) ?_)
  · intro a
    match a with
    | ⟨0, _⟩ => rfl
    | ⟨1, _⟩ => rfl
    | ⟨2, _⟩ => rfl
  · intro a
    match a with
    | ⟨0, _⟩ => rfl
    | ⟨1, _⟩ => rfl

theorem rW_apply (q : IVec S8192x18432 8) (s : FVec Ideal S128x18432 .bf16) (z : IVec S64x18432 8) (g : IVec S16384 32) (k : Fin 16384) (n : Fin 18432) :
    rW q s z g (ix2 k n) = Common.weight (q (ix2 ⟨(perm g k).val / 2, by have := (perm g k).isLt; omega⟩ n)) ((perm g k).val % 2)
      (zInt z (ix2 (⟨k.val / 128, by omega⟩ : Fin 128) n)).toInt (s (ix2 (⟨k.val / 128, by omega⟩ : Fin 128) n)) := by
  unfold rW Common.weight
  refine (shapeCast_apply _ _ _ (ix3 (⟨k.val / 128, by omega⟩ : Fin 128) (⟨k.val % 128, by omega⟩ : Fin 128) n) ?_).trans ?_
  · rw [Shape.rowMajor_val_two, Shape.rowMajor_val_three]
    show ((k.val / 128) * 128 + k.val % 128) * 18432 + n.val = k.val * 18432 + n.val
    omega
  · have e : shapeCast S128x128x18432 (sitofp (F := Ideal) .bf16 (rCode q g)) shapeCasts_S16384x18432_S128x128x18432
        (ix3 (⟨k.val / 128, by omega⟩ : Fin 128) (⟨k.val % 128, by omega⟩ : Fin 128) n) = sitofp (F := Ideal) .bf16 (rCode q g) (ix2 k n) := by
      refine shapeCast_apply _ _ _ _ ?_
      rw [Shape.rowMajor_val_two, Shape.rowMajor_val_three]
      show k.val * 18432 + n.val = ((k.val / 128) * 128 + k.val % 128) * 18432 + n.val
      omega
    show (_ - rTab _ (ix3 _ _ n)) * rTab _ (ix3 _ _ n) = _
    rw [e, rTab_apply, rTab_apply]
    refine congrArg₂ (· * ·) (congrArg₂ (· - ·) ?_ rfl) rfl
    show (((rCode q g (ix2 k n)).toInt : ℝ) : EReal) = _
    rw [rCode_apply, Int.cast_natCast]

theorem rX_apply (x : FVec Ideal S3072x1x16384 .bf16) (g : IVec S16384 32) (r : Fin 3072) (k : Fin 16384) :
    rX x g (ix3 r (0 : Fin 1) k) = x (ix3 r (0 : Fin 1) (perm g k)) := by
  unfold rX Host.gather
  refine congrArg x (funext fun a => Fin.ext ?_)
  have hidx := (col_apply bcast_S16384_S16384x1_0 (rPerm g) k).trans (rPerm_apply g k)
  generalize broadcastInDim S16384x1 ![0] bcast_S16384_S16384x1_0 (rPerm g) = idx at hidx
  have hp := (perm g k).isLt
  match a with
  | ⟨0, _⟩ =>
    show GatherDims.start gather_S3072x1x16384_S16384x1_S3072x1x16384_01_2_n_n_2_1_307211 (ix3 r (0 : Fin 1) k) idx (0 : Fin 3) + GatherDims.batchCoord gather_S3072x1x16384_S16384x1_S3072x1x16384_01_2_n_n_2_1_307211 (ix3 r (0 : Fin 1) k) (0 : Fin 3) + GatherDims.offCoord gather_S3072x1x16384_S16384x1_S3072x1x16384_01_2_n_n_2_1_307211 (ix3 r (0 : Fin 1) k) (0 : Fin 3) = r.val
    rw [GatherDims.batchCoord_eq_zero _ _ _ List.not_mem_nil, Nat.add_zero]
    unfold GatherDims.start GatherDims.offCoord
    rw [dif_neg (by decide), dif_pos ((GatherDims.mem_sKept _ _).2 ⟨by decide, List.not_mem_nil⟩), Nat.zero_add]
    rfl
  | ⟨1, _⟩ =>
    show GatherDims.start gather_S3072x1x16384_S16384x1_S3072x1x16384_01_2_n_n_2_1_307211 (ix3 r (0 : Fin 1) k) idx (1 : Fin 3) + GatherDims.batchCoord gather_S3072x1x16384_S16384x1_S3072x1x16384_01_2_n_n_2_1_307211 (ix3 r (0 : Fin 1) k) (1 : Fin 3) + GatherDims.offCoord gather_S3072x1x16384_S16384x1_S3072x1x16384_01_2_n_n_2_1_307211 (ix3 r (0 : Fin 1) k) (1 : Fin 3) = 0
    rw [GatherDims.batchCoord_eq_zero _ _ _ List.not_mem_nil, Nat.add_zero]
    unfold GatherDims.start GatherDims.offCoord
    rw [dif_neg (by decide), dif_pos ((GatherDims.mem_sKept _ _).2 ⟨by decide, List.not_mem_nil⟩), Nat.zero_add]
    rfl
  | ⟨2, _⟩ =>
    show GatherDims.start gather_S3072x1x16384_S16384x1_S3072x1x16384_01_2_n_n_2_1_307211 (ix3 r (0 : Fin 1) k) idx (2 : Fin 3) + GatherDims.batchCoord gather_S3072x1x16384_S16384x1_S3072x1x16384_01_2_n_n_2_1_307211 (ix3 r (0 : Fin 1) k) (2 : Fin 3) + GatherDims.offCoord gather_S3072x1x16384_S16384x1_S3072x1x16384_01_2_n_n_2_1_307211 (ix3 r (0 : Fin 1) k) (2 : Fin 3) = (perm g k).val
    rw [GatherDims.batchCoord_eq_zero _ _ _ List.not_mem_nil,
      GatherDims.offCoord_eq_zero _ _ _ (fun h => ((GatherDims.mem_sKept _ _).1 h).1 (List.mem_singleton.2 rfl))]
    simp only [Nat.add_zero]
    unfold GatherDims.start
    have hm : (2 : Fin 3) ∈ gather_S3072x1x16384_S16384x1_S3072x1x16384_01_2_n_n_2_1_307211.startIndexMap := List.mem_singleton.2 rfl
    rw [dif_pos hm]
    have hsi : gather_S3072x1x16384_S16384x1_S3072x1x16384_01_2_n_n_2_1_307211.siIdx (ix3 r (0 : Fin 1) k)
        ⟨List.idxOf (2 : Fin 3) gather_S3072x1x16384_S16384x1_S3072x1x16384_01_2_n_n_2_1_307211.startIndexMap, List.idxOf_lt_length_iff.2 hm⟩ = ix2 k (0 : Fin 1) := by
      funext b
      refine Fin.ext ?_
      match b with
      | ⟨0, _⟩ => rfl
      | ⟨1, _⟩ => rfl
    rw [hsi, hidx, StableHlo.Predicate.toInt_ofNat_small _ (by omega)]
    show min ((perm g k).val : ℤ).toNat (16384 - 1) = (perm g k).val
    omega

theorem rY_apply (x : FVec Ideal S3072x1x16384 .bf16) (q : IVec S8192x18432 8) (s : FVec Ideal S128x18432 .bf16) (z : IVec S64x18432 8) (g : IVec S16384 32)
    (r : Fin 3072) (n : Fin 18432) :
    rY x q s z g (ix3 r (0 : Fin 1) n) = ∑ k : Fin 16384, rX x g (ix3 r (0 : Fin 1) k) * rW q s z g (ix2 k n) := by
  unfold rY
  generalize rX x g = A
  generalize rW q s z g = B
  show FloatOps.dotGeneral _ _ _ A B (ix3 r (0 : Fin 1) n) = _
  rw [Ideal.dotGeneral_apply, ← Equiv.sum_comp (contrEquiv1 dot_S3072x1x16384_S16384x18432_S3072x1x18432_2_0_01_1_n_n 16384 rfl rfl).symm]
  refine Finset.sum_congr rfl fun k _ => ?_
  have c3 := contrEquiv1_symm_val dot_S3072x1x16384_S16384x18432_S3072x1x18432_2_0_01_1_n_n 16384 rfl rfl k
  have l3 : dot_S3072x1x16384_S16384x18432_S3072x1x18432_2_0_01_1_n_n.lhsIdx (ix3 r (0 : Fin 1) n) ((contrEquiv1 _ 16384 rfl rfl).symm k) = ix3 r (0 : Fin 1) k := by
    funext ax; apply Fin.ext
    match ax with
    | ⟨0, _⟩ => rfl
    | ⟨1, _⟩ => rfl
    | ⟨2, _⟩ => exact c3
  have r3 : dot_S3072x1x16384_S16384x18432_S3072x1x18432_2_0_01_1_n_n.rhsIdx (ix3 r (0 : Fin 1) n) ((contrEquiv1 _ 16384 rfl rfl).symm k) = ix2 k n := by
    funext ax; apply Fin.ext
    match ax with
    | ⟨0, _⟩ => exact c3
    | ⟨1, _⟩ => rfl
  rw [l3, r3]

/-- The product over the rows in sorted order is the product over the rows. -/
theorem rY_eq (x : FVec Ideal S3072x1x16384 .bf16) (q : IVec S8192x18432 8) (s : FVec Ideal S128x18432 .bf16) (z : IVec S64x18432 8) (g : IVec S16384 32)
    (h : ∀ k, (g (Balanced.at1 (perm g k))).toNat = k.val / 128) (r : Fin 3072) (n : Fin 18432) :
    rY x q s z g (ix3 r (0 : Fin 1) n) = Common.prod (fun r i => x (ix3 r (0 : Fin 1) i)) (fun p n => q (ix2 p n)) (fun a n => s (ix2 a n))
      (fun a n => (zInt z (ix2 a n)).toInt) (fun i => ⟨(g (ix1 i)).toNat % 128, Nat.mod_lt _ (by norm_num)⟩) r n := by
  rw [rY_apply]
  unfold Common.prod
  refine Eq.trans ?_ (Function.Bijective.sum_comp (Balanced.perm_bijective g) _)
  refine Finset.sum_congr rfl fun k _ => ?_
  rw [rX_apply, rW_apply]
  have e1 : (ix1 (perm g k) : S16384.Idx) = Balanced.at1 (perm g k) := ix1_eq _
  have hk := k.isLt
  have e : (g (ix1 (perm g k))).toNat % 128 = k.val / 128 := by
    rw [e1, h k]
    omega
  refine congrArg (fun a : Fin 128 => x (ix3 r (0 : Fin 1) (perm g k)) * Common.weight (q (ix2 ⟨(perm g k).val / 2, by have := (perm g k).isLt; omega⟩ n))
    ((perm g k).val % 2) (zInt z (ix2 a n)).toInt (s (ix2 a n))) (Fin.ext e).symm

end Cert.Proof.ReferenceIdeal
-- ==== Proof.ReferenceIdeal.Quant.lean ====
/- The reference's quantisation read at an index: the code of an element and the scale of a row of a block. -/
module

public import proofs.«01_k».proof.Proof.Gen.ReferenceIdeal.Frame
public import proofs.«01_k».proof.Proof.Expo
public import Idealize.ShloMosaic.Lib.Pointwise.Select
public import Idealize.ShloMosaic.Lib.Pipeline.Value
public import Idealize.ShloMosaic.Lib.Pipeline.ValueKit
public import Idealize.ShloMosaic.PureOps.Ideal

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.TcCoe Idealize.ShloMosaic.Tactic

theorem pay1_eq (v : FVec Ideal S3072x144x128 .f32) : k0_pay1 (F := Ideal) v = v := by
  funext j
  exact shapeCast_apply _ _ _ _ rfl

/-- Where the reduction reads. -/
theorem lift_eq (h : Shape.Reduces S3072x144x128 [2] S3072x144) (r : Fin 3072) (b : Fin 144) (l : Fin 128) : h.lift (ix2 r b) l = ix3 r b l := by
  funext c
  match c with
  | ⟨0, _⟩ => rfl
  | ⟨1, _⟩ => rfl
  | ⟨2, _⟩ => rfl

/-- Each row's largest magnitude. -/
def maxV (v : FVec Ideal S3072x144x128 .f32) : FVec Ideal S3072x144 .f32 :=
  multiReduction .maximumf [2] S3072x144 v 0xFF800000#32 reduces_S3072x144x128_S3072x144 (.inl rfl) rfl

theorem maxV_apply (v : FVec Ideal S3072x144x128 .f32) (r : Fin 3072) (b : Fin 144) :
    maxV v (ix2 r b) = (Finset.univ : Finset (Fin 128)).fold max (Ideal.ofBits .f32 0xFF800000#32) (fun l => v (ix3 r b l)) := by
  unfold maxV
  refine (Ideal.multiReduction_maximumf_single (s := S3072x144x128) (t := S3072x144) (a := 2) v 0xFF800000#32 reduces_S3072x144x128_S3072x144 (.inl rfl) rfl (ix2 r b)).trans ?_
  exact congrArg (fun f => Finset.fold max _ f (Finset.univ : Finset (Fin 128))) (funext fun l => congrArg v (lift_eq _ r b l))

section
variable {s : Shape}

/-- Magnitudes. -/
theorem absf_at (x : FVec Ideal s .f32) (j : s.Idx) : absf x j = max (x j) (-(x j)) := rfl

/-- A row's number from its largest magnitude. -/
def numV (x : FVec Ideal s .f32) : FVec Ideal s .f32 := mulf x (broadcast s (Scalar.ofBits .f32 0x3B124925#32))
theorem numV_at (x : FVec Ideal s .f32) (j : s.Idx) : numV x j = x j * Ideal.ofBits .f32 0x3B124925#32 := rfl

/-- The exponents of the rows' numbers. -/
def expoV (x : FVec Ideal s .f32) : FVec Ideal s .f32 :=
  select (cmpf .olt x (broadcast s (Scalar.ofBits .f32 0x00800000#32))) (broadcast s (Scalar.ofBits .f32 0x00000000#32))
    (minimumf (addf (floor (divf (log x) (log (broadcast s (Scalar.ofBits .f32 0x40000000#32))))) (broadcast s (Scalar.ofBits .f32 0x3F800000#32))) (broadcast s (Scalar.ofBits .f32 0x42FC0000#32)))
theorem expoV_at (x : FVec Ideal s .f32) (j : s.Idx) : expoV x j = Expo.expo (x j) := rfl

theorem exp2_at (x : FVec Ideal s .f32) (j : s.Idx) : exp2 x j = Ideal.exp2 (x j) := rfl

/-- The inverse scales from the exponents. -/
def invV (x : FVec Ideal s .f32) : FVec Ideal s .f32 := exp2 (subf (broadcast s (Scalar.ofBits .f32 0x00000000#32)) x)
theorem invV_at (x : FVec Ideal s .f32) (j : s.Idx) : invV x j = Ideal.exp2 (Ideal.ofBits .f32 0x00000000#32 - x j) := rfl

/-- The codes from the values and their inverse scales. -/
def codeV (y i : FVec Ideal s .f32) : FVec Ideal s .fp8e4m3 :=
  truncf .fp8e4m3 (minimumf (broadcast s (Scalar.ofBits .f32 0x43E00000#32)) (maximumf (broadcast s (Scalar.ofBits .f32 0xC3E00000#32)) (mulf y i))) bitsLt_fp8e4m3_f32
theorem codeV_at (y i : FVec Ideal s .f32) (j : s.Idx) :
    codeV y i j = min (Ideal.ofBits .f32 0x43E00000#32) (max (Ideal.ofBits .f32 0xC3E00000#32) (y j * i j)) := rfl

end

theorem rowV_apply (v : FVec Ideal S3072x144x128 .f32) (r : Fin 3072) (b : Fin 144) : numV (maxV (absf v)) (ix2 r b) = Expo.rowX fun l => v (ix3 r b l) := by
  rw [numV_at, maxV_apply]
  unfold Expo.rowX
  simp only [absf_at]

theorem pay2_eq (v : FVec Ideal S3072x144x128 .f32) : k0_pay2 (F := Ideal) v = expoV (numV (maxV (absf v))) := by
  unfold k0_pay2 expoV numV maxV
  rw [pay1_eq]

theorem pay3_apply (v : FVec Ideal S3072x144x128 .f32) (r : Fin 3072) (b : Fin 144) : k0_pay3 (F := Ideal) v (ix2 r b) = Expo.scale (Expo.rowX fun l => v (ix3 r b l)) := by
  unfold k0_pay3
  rw [exp2_at, pay2_eq, expoV_at, rowV_apply, Expo.scale_eq]

theorem spread_apply (x : FVec Ideal S3072x144 .f32) (r : Fin 3072) (b : Fin 144) (l : Fin 128) :
    broadcastTo S3072x144x128 (shapeCast S3072x144x1 x shapeCasts_S3072x144_S3072x144x1) broadcasts_S3072x144x1_S3072x144x128 (ix3 r b l) = x (ix2 r b) := by
  refine (broadcastTo_apply _ _ _ (ix3 r b (0 : Fin 1)) ?_).trans (shapeCast_apply _ _ _ _ ?_)
  · intro a
    match a with
    | ⟨0, _⟩ => rfl
    | ⟨1, _⟩ => rfl
    | ⟨2, _⟩ => rfl
  · rw [Shape.rowMajor_val_two, Shape.rowMajor_val_three]
    show r.val * 144 + b.val = (r.val * 144 + b.val) * 1 + 0
    omega

theorem pay4_eq (v : FVec Ideal S3072x144x128 .f32) : k0_pay4 (F := Ideal) v
    = codeV v (broadcastTo S3072x144x128 (shapeCast S3072x144x1 (invV (k0_pay2 (F := Ideal) v)) shapeCasts_S3072x144_S3072x144x1) broadcasts_S3072x144x1_S3072x144x128) := by
  unfold k0_pay4 codeV invV
  rw [pay1_eq]

theorem pay4_apply (v : FVec Ideal S3072x144x128 .f32) (r : Fin 3072) (b : Fin 144) (l : Fin 128) :
    k0_pay4 (F := Ideal) v (ix3 r b l) = Expo.code (v (ix3 r b l)) (Expo.rowX fun l => v (ix3 r b l)) := by
  rw [pay4_eq, codeV_at, spread_apply, invV_at, pay2_eq, expoV_at, rowV_apply]
  unfold Expo.code
  rw [Expo.inv_eq]

theorem out1_eq (v : FVec Ideal S3072x144x128 .f32) : out0_1 (F := Ideal) v = k0_pay4 (F := Ideal) v := by
  unfold out0_1
  simp (disch := decide) only [View.canon_cons_unit_lit, View.ld_unit_lit]

theorem out2_eq (v : FVec Ideal S3072x144x128 .f32) : out0_2 (F := Ideal) v = k0_pay3 (F := Ideal) v := by
  unfold out0_2
  simp (disch := decide) only [View.canon_cons_unit_lit, View.ld_unit_lit]

variable (m : (ℓ : Loc nD τ sig) → Buf (Elt Ideal) ℓ)

/-- The block the kernel reads is the whole product. -/
theorem iblk_eq (c : Dev nD) : (iblk m c 0 t0_0 : S3072x144x128.Idx → EReal) = V m c main_v33 := by
  unfold iblk
  generalize V m c (Pipeline.arrRef spec0 0) = X
  funext y
  refine congrArg X (funext fun a => Fin.ext ?_)
  match a with
  | ⟨0, _⟩ => exact (show 0 * 3072 + 1 * (y 0).val = (y 0).val by omega)
  | ⟨1, _⟩ => exact (show 0 * 144 + 1 * (y 1).val = (y 1).val by omega)
  | ⟨2, _⟩ => exact (show 0 * 128 + 1 * (y 2).val = (y 2).val by omega)

theorem arr_1 (c : Dev nD) : (dats m 0 c).arrAt 1 cfg0.N = k0_pay4 (F := Ideal) (V m c main_v33 : S3072x144x128.Idx → EReal) := by
  refine (dats m 0 c).arrAt_eq_of_after_last 1 t0_0 (by decide +kernel) _ fun j => ?_
  blk_simp
  rw [after0_1, iblk_eq, out1_eq]

theorem arr_2 (c : Dev nD) : (dats m 0 c).arrAt 2 cfg0.N = k0_pay3 (F := Ideal) (V m c main_v33 : S3072x144x128.Idx → EReal) := by
  refine (dats m 0 c).arrAt_eq_of_after_last 2 t0_0 (by decide +kernel) _ fun j => ?_
  blk_simp
  rw [after0_2, iblk_eq, out2_eq]

end Cert.Proof.ReferenceIdeal
-- ==== Proof.ReferenceIdeal.Out.lean ====
/- The two results of `ReferenceIdeal`, element by element, as functions of the program's arguments. -/
module

public import proofs.«01_k».proof.Proof.ReferenceIdeal.Weights
public import proofs.«01_k».proof.Proof.ReferenceIdeal.Quant
public import proofs.«01_k».proof.Proof.Gen.ReferenceIdeal.Frame
public import Idealize.ShloMosaic.Lib.Claim
public import Idealize.ShloMosaic.PureOps.Ideal

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The buffers after the region. -/
abbrev V1 (c : Dev nD) : Valuation τ sig (Elt Ideal) := Pipeline.withArrays (cfgs 0).spec c (V0 m c) fun w => (dats m 0 c).arrAt w (cfgs 0).N

theorem V1_34_0 (c : Dev nD) : V1 m c (Proc.devRef .tc main_v34_0) = k0_pay4 (F := Ideal) (V m c main_v33 : S3072x144x128.Idx → EReal) :=
  (Pipeline.withArrays_arr (cfgs 0).spec launch0.win.arr_inj c (V0 m c) (fun w => (dats m 0 c).arrAt w (cfgs 0).N) 1).trans (arr_1 m c)

theorem V1_34_1 (c : Dev nD) : V1 m c (Proc.devRef .tc main_v34_1) = k0_pay3 (F := Ideal) (V m c main_v33 : S3072x144x128.Idx → EReal) :=
  (Pipeline.withArrays_arr (cfgs 0).spec launch0.win.arr_inj c (V0 m c) (fun w => (dats m 0 c).arrAt w (cfgs 0).N) 2).trans (arr_2 m c)

theorem tail_35 (c : Dev nD) : Pipeline.afterTail₀ cfgs (dats m) 0 (V0 m) [hostOps1] c main_v35
    = shapeCast S3072x18432 (k0_pay4 (F := Ideal) (V m c main_v33 : S3072x144x128.Idx → EReal)) shapeCasts_S3072x144x128_S3072x18432 := by
  rw [← V1_34_0]
  unfold Pipeline.afterTail₀
  simp only [hostOps1, List.flatten_cons, List.flatten_nil, List.append_nil]
  after_results
  rfl

theorem tail_37 (c : Dev nD) : Pipeline.afterTail₀ cfgs (dats m) 0 (V0 m) [hostOps1] c main_v37
    = transpose S18x3072x8 [1, 0, 2] (shapeCast S3072x18x8 (k0_pay3 (F := Ideal) (V m c main_v33 : S3072x144x128.Idx → EReal)) shapeCasts_S3072x144_S3072x18x8)
      transposes_S3072x18x8_S18x3072x8_1_0_2 := by
  rw [← V1_34_1]
  unfold Pipeline.afterTail₀
  simp only [hostOps1, List.flatten_cons, List.flatten_nil, List.append_nil]
  after_results
  rfl

/-- The product by row and column. -/
def Y (c : Dev nD) (r : Fin 3072) (n : Fin 18432) : EReal := rY (aX m c) (aQ m c) (aS m c) (aZ m c) (aG m c) (ix3 r (0 : Fin 1) n)

theorem v33_apply (c : Dev nD) (r : Fin 3072) (b : Fin 144) (l : Fin 128) :
    (V m c main_v33 : S3072x144x128.Idx → EReal) (ix3 r b l) = Y m c r ⟨128 * b.val + l.val, by omega⟩ := by
  rw [V_v33]
  refine shapeCast_apply _ _ _ _ ?_
  rw [Shape.rowMajor_val_three, Shape.rowMajor_val_three]
  show (r.val * 1 + 0) * 18432 + (128 * b.val + l.val) = (r.val * 144 + b.val) * 128 + l.val
  omega

theorem res_35 (c : Dev nD) (r : Fin 3072) (n : Fin 18432) :
    (Pipeline.afterTail₀ cfgs (dats m) 0 (V0 m) [hostOps1] c main_v35 : S3072x18432.Idx → EReal) (ix2 r n) = Common.codes (Y m c) r n := by
  rw [tail_35]
  refine (shapeCast_apply _ _ _ (ix3 r (⟨n.val / 128, by omega⟩ : Fin 144) (⟨n.val % 128, by omega⟩ : Fin 128)) ?_).trans ?_
  · rw [Shape.rowMajor_val_two, Shape.rowMajor_val_three]
    show (r.val * 144 + n.val / 128) * 128 + n.val % 128 = r.val * 18432 + n.val
    omega
  · have e : (⟨128 * (n.val / 128) + n.val % 128, by omega⟩ : Fin 18432) = n := Fin.ext (by show 128 * (n.val / 128) + n.val % 128 = n.val; omega)
    refine (pay4_apply _ _ _ _).trans ((congrArg₂ Expo.code (v33_apply m c _ _ _) (congrArg Expo.rowX (funext fun l => v33_apply m c _ _ l))).trans ?_)
    exact congrArg (fun k => Expo.code (Y m c r k) _) e

theorem res_37 (c : Dev nD) (b : Fin 18) (r : Fin 3072) (s : Fin 8) :
    (Pipeline.afterTail₀ cfgs (dats m) 0 (V0 m) [hostOps1] c main_v37 : S18x3072x8.Idx → EReal) (ix3 b r s) = Common.scales (Y m c) b r s := by
  rw [tail_37]
  refine (transpose_apply _ _ _ _ (ix3 r b s : S3072x18x8.Idx) ?_).trans ((shapeCast_apply _ _ _ (ix2 r (⟨8 * b.val + s.val, by omega⟩ : Fin 144)) ?_).trans ?_)
  · intro a
    match a with
    | ⟨0, _⟩ => rfl
    | ⟨1, _⟩ => rfl
    | ⟨2, _⟩ => rfl
  · rw [Shape.rowMajor_val_two, Shape.rowMajor_val_three]
    show r.val * 144 + (8 * b.val + s.val) = (r.val * 18 + b.val) * 8 + s.val
    omega
  · refine (pay3_apply _ _ _).trans ((congrArg Expo.scale (congrArg Expo.rowX (funext fun l => v33_apply m c _ _ l))).trans ?_)
    unfold Common.scales
    refine congrArg Expo.scale (congrArg Expo.rowX (funext fun l => congrArg (Y m c r) (Fin.ext ?_)))
    show 128 * (8 * b.val + s.val) + l.val = 1024 * b.val + 128 * s.val + l.val
    omega

/-- The codes. -/
def outCodes (c : Dev nD) : S3072x18432.Idx → EReal := fun x => Common.codes (Y m c) (x 0) (x 1)

/-- The scales. -/
def outScales (c : Dev nD) : S18x3072x8.Idx → EReal := fun x => Common.scales (Y m c) (x 0) (x 1) (x 2)

theorem codes_eq (c : Dev nD) : (Pipeline.afterTail₀ cfgs (dats m) 0 (V0 m) [hostOps1] c main_v35 : S3072x18432.Idx → EReal) = outCodes m c := by
  funext x
  obtain ⟨r, n, rfl⟩ : ∃ (r : Fin 3072) (n : Fin 18432), x = ix2 r n := ⟨x 0, x 1, by funext b; match b with | ⟨0, _⟩ => rfl | ⟨1, _⟩ => rfl⟩
  exact res_35 m c r n

theorem scales_eq (c : Dev nD) : (Pipeline.afterTail₀ cfgs (dats m) 0 (V0 m) [hostOps1] c main_v37 : S18x3072x8.Idx → EReal) = outScales m c := by
  funext x
  obtain ⟨b, r, s, rfl⟩ : ∃ (b : Fin 18) (r : Fin 3072) (s : Fin 8), x = ix3 b r s :=
    ⟨x 0, x 1, x 2, by funext b; match b with | ⟨0, _⟩ => rfl | ⟨1, _⟩ => rfl | ⟨2, _⟩ => rfl⟩
  exact res_37 m c b r s

/-- The run of `ReferenceIdeal`: the results as functions of the arguments, the arguments unchanged. -/
theorem run_values : θ_run defs (onTc (τ := τ) (main (F := Ideal))) ⟨m, fun _ => 0, ρ⟩ (fun r => ∀ c : Dev nD,
    r.2.mem ((c.tc : Thread nD τ).loc main_v35) = outCodes m c ∧ r.2.mem ((c.tc : Thread nD τ).loc main_v37) = outScales m c
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (run_main m ρ)
  have h2 := (h c).2
  exact ⟨(h2 main_v35 (Pipeline.mem_restRefs_of main_v35 (by decide) (by decide))).trans (codes_eq m c),
    (h2 main_v37 (Pipeline.mem_restRefs_of main_v37 (by decide) (by decide))).trans (scales_eq m c),
    (h2 main_arg0 (Pipeline.mem_restRefs_of main_arg0 (by decide) (by decide))).trans (W_main_arg0 m (dats m) c),
    (h2 main_arg1 (Pipeline.mem_restRefs_of main_arg1 (by decide) (by decide))).trans (W_main_arg1 m (dats m) c),
    (h2 main_arg2 (Pipeline.mem_restRefs_of main_arg2 (by decide) (by decide))).trans (W_main_arg2 m (dats m) c),
    (h2 main_arg3 (Pipeline.mem_restRefs_of main_arg3 (by decide) (by decide))).trans (W_main_arg3 m (dats m) c),
    (h2 main_arg4 (Pipeline.mem_restRefs_of main_arg4 (by decide) (by decide))).trans (W_main_arg4 m (dats m) c)⟩

end Cert.Proof.ReferenceIdeal
-- ==== Proof.lean ====
/- The proof of the certificate's claims. -/
module

public import proofs.«01_k».proof.Defs
public import proofs.«01_k».proof.Proof.Kernel.Frame
public import proofs.«01_k».proof.Proof.KernelIdeal.Frame
public import proofs.«01_k».proof.Proof.Gen.ReferenceIdeal.Frame
public import proofs.«01_k».proof.Proof.Gen.Pre_in_range
public import proofs.«01_k».proof.Proof.InRange
public import proofs.«01_k».proof.Proof.Balanced
public import proofs.«01_k».proof.Proof.KernelIdeal.Out
public import proofs.«01_k».proof.Proof.ReferenceIdeal.Out
public import Idealize.ShloMosaic.Lib.Bf16PairInverse
public import Idealize.ShloMosaic.Adequacy
public import Idealize.ShloMosaic.Init

@[expose] public section

noncomputable section

namespace Cert.Proof

open Idealize.ShloMosaic Idealize.SL.Sem

/-- The facts of the programs and of the precondition. -/
local instance : Cert.Pre_in_range.Facts := Cert.Pre_in_range.Gen.facts

/-- Every word of the kernel's table is a group index. -/
theorem tbOK_Kernel (m : (ℓ : Loc Cert.Kernel.nD Cert.Kernel.τ Cert.Kernel.sig) → Buf (Elt Bits) ℓ) (h : Cert.Pre_Kernel m) :
    Kernel.TbOK (F := Bits) m := fun r x => by
  have e := InRange.lt_128 (h 0)
  rw [← Kernel.V_main_arg4 m 0] at e
  exact e _

theorem tbOK_KernelIdeal (m : (ℓ : Loc Cert.KernelIdeal.nD Cert.KernelIdeal.τ Cert.KernelIdeal.sig) → Buf (Elt Ideal) ℓ) (h : Cert.Pre_KernelIdeal m) :
    KernelIdeal.TbOK (F := Ideal) m := fun r x => by
  have e := InRange.lt_128 (h 0)
  rw [← KernelIdeal.V_main_arg4 m 0] at e
  exact e _

theorem preserves : Cert.preserves_Kernel_KernelIdeal :=
  ⟨IdealRules.bf16_pair.bufferStatement _ _, IdealRules.bf16_pair.halfStatement _, IdealRules.bf16_pair.statement _ _,
    IdealRules.bf16_pair.statement _ _, IdealRules.bf16_pair.statement _ _, IdealRules.bf16_pair.statement _ _⟩

/-- The side conditions of the precondition `balanced`. -/
theorem facts_balanced : Cert.Pre_balanced.Facts where
  bcast_S16384_S16384x1_0 := by decide
  bcast_S_S16384 := by decide
  gather_S16384_S16384x1_S16384_n_0_n_n_0_1_1_wf := by decide

local instance : Cert.Pre_balanced.Facts := facts_balanced

/-- A balanced group table holds group indices. -/
theorem tbOK_balanced (m : (ℓ : Loc Cert.KernelIdeal.nD Cert.KernelIdeal.τ Cert.KernelIdeal.sig) → Buf (Elt Ideal) ℓ) (h : Cert.Pre_KernelIdeal_balanced m) :
    KernelIdeal.TbOK (F := Ideal) m := fun r x => by
  have e := Balanced.lt_128 (h 0)
  rw [← KernelIdeal.V_main_arg4 m 0] at e
  exact e _

section Algebraic

open Cert.Proof.ReferenceIdeal (aX aQ aS aZ aG)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Over equal arguments with a balanced group table the two programs compute one product. -/
theorem product_eq (c : Dev Cert.KernelIdeal.nD) (h : Cert.Pre_KernelIdeal_balanced m)
    (e0 : aX m' c = KernelIdeal.Val.aX m c) (e1 : aQ m' c = KernelIdeal.Val.aQ m c) (e2 : aS m' c = KernelIdeal.Val.aS m c)
    (e3 : aZ m' c = KernelIdeal.Val.aZ m c) (e4 : aG m' c = KernelIdeal.Val.aG m c) :
    ReferenceIdeal.Y m' c = KernelIdeal.Val.Y m c := by
  funext r n
  unfold ReferenceIdeal.Y
  rw [e0, e1, e2, e3, e4]
  exact ReferenceIdeal.rY_eq _ _ _ _ _ (Balanced.perm_spec (h c)) r n

theorem algebraic : Cert.algebraic_KernelIdeal_ReferenceIdeal_pre_balanced := by
  intro m g m' g' h heq
  have hY : ∀ c, ReferenceIdeal.Y m' c = KernelIdeal.Val.Y m c := fun c =>
    product_eq m m' c h (heq c).1 (heq c).2.1 (heq c).2.2.1 (heq c).2.2.2.1 (heq c).2.2.2.2
  refine ⟨KernelIdeal.Val.outCodes m, KernelIdeal.Val.outScales m, KernelIdeal.Val.run_values m g (tbOK_balanced m h), ?_⟩
  refine (θ_run _ _ _).mono (fun r hr c => ?_) (ReferenceIdeal.run_values m' g')
  refine ⟨(hr c).1.trans ?_, (hr c).2.1.trans ?_, (hr c).2.2⟩
  · exact congrArg (fun (Y : Fin 3072 → Fin 18432 → EReal) (x : Cert.ReferenceIdeal.S3072x18432.Idx) => Common.codes Y (x 0) (x 1)) (hY c)
  · exact congrArg (fun (Y : Fin 3072 → Fin 18432 → EReal) (x : Cert.ReferenceIdeal.S18x3072x8.Idx) => Common.scales Y (x 0) (x 1) (x 2)) (hY c)

end Algebraic

theorem claim : Cert.Claim := ⟨Cert.Kernel.Gen.facts, Cert.KernelIdeal.Gen.facts, Cert.ReferenceIdeal.Gen.facts, Cert.Pre_in_range.Gen.facts, facts_balanced,
  fun m ρ h => Kernel.frame m ρ (tbOK_Kernel m h), fun m ρ h => KernelIdeal.frame m ρ (tbOK_KernelIdeal m h),
  fun m ρ h => KernelIdeal.frame m ρ (tbOK_balanced m h),
  fun m ρ _ => Cert.ReferenceIdeal.Gen.frame m ρ, fun m ρ _ => Cert.ReferenceIdeal.Gen.frame m ρ, preserves, algebraic⟩

end Cert.Proof

end
